-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_logits [hPre_finite_logits : Cert.Pre_finite_logits.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_logits.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_logits [hPre_finite_logits : Cert.Pre_finite_logits.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_logits.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))) = (fun _ => 1#1)

def Pre_RetentionIn (m : (ℓ : Loc Cert.RetentionIn.nD Cert.RetentionIn.τ Cert.RetentionIn.sig) → Buf (Elt Bits) ℓ) : Prop :=
  True

def Pre_RetentionInIdeal (m : (ℓ : Loc Cert.RetentionInIdeal.nD Cert.RetentionInIdeal.τ Cert.RetentionInIdeal.sig) → Buf (Elt Ideal) ℓ) : Prop :=
  True

def Pre_RetentionInReferenceIdeal (m : (ℓ : Loc Cert.RetentionInReferenceIdeal.nD Cert.RetentionInReferenceIdeal.τ Cert.RetentionInReferenceIdeal.sig) → Buf (Elt Ideal) ℓ) : Prop :=
  True

def Pre_RetentionOut (m : (ℓ : Loc Cert.RetentionOut.nD Cert.RetentionOut.τ Cert.RetentionOut.sig) → Buf (Elt Bits) ℓ) : Prop :=
  True

def Pre_RetentionOutIdeal (m : (ℓ : Loc Cert.RetentionOutIdeal.nD Cert.RetentionOutIdeal.τ Cert.RetentionOutIdeal.sig) → Buf (Elt Ideal) ℓ) : Prop :=
  True

def Pre_RetentionOutReferenceIdeal (m : (ℓ : Loc Cert.RetentionOutReferenceIdeal.nD Cert.RetentionOutReferenceIdeal.τ Cert.RetentionOutReferenceIdeal.sig) → Buf (Elt Ideal) ℓ) : Prop :=
  True

def Pre_AttentionIn (m : (ℓ : Loc Cert.AttentionIn.nD Cert.AttentionIn.τ Cert.AttentionIn.sig) → Buf (Elt Bits) ℓ) : Prop :=
  True

def Pre_AttentionInIdeal (m : (ℓ : Loc Cert.AttentionInIdeal.nD Cert.AttentionInIdeal.τ Cert.AttentionInIdeal.sig) → Buf (Elt Ideal) ℓ) : Prop :=
  True

def Pre_AttentionInReferenceIdeal (m : (ℓ : Loc Cert.AttentionInReferenceIdeal.nD Cert.AttentionInReferenceIdeal.τ Cert.AttentionInReferenceIdeal.sig) → Buf (Elt Ideal) ℓ) : Prop :=
  True

def Pre_AttentionOut (m : (ℓ : Loc Cert.AttentionOut.nD Cert.AttentionOut.τ Cert.AttentionOut.sig) → Buf (Elt Bits) ℓ) : Prop :=
  True

def Pre_AttentionOutIdeal (m : (ℓ : Loc Cert.AttentionOutIdeal.nD Cert.AttentionOutIdeal.τ Cert.AttentionOutIdeal.sig) → Buf (Elt Ideal) ℓ) : Prop :=
  True

def Pre_AttentionOutReferenceIdeal (m : (ℓ : Loc Cert.AttentionOutReferenceIdeal.nD Cert.AttentionOutReferenceIdeal.τ Cert.AttentionOutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_logits [hAttentionIdeal : Cert.AttentionIdeal.Facts] [hPre_finite_logits : Cert.Pre_finite_logits.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_logits m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_AttentionReferenceIdeal_pre_finite_logits [hAttentionReferenceIdeal : Cert.AttentionReferenceIdeal.Facts] [hPre_finite_logits : Cert.Pre_finite_logits.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_logits m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_RetentionIn [hRetentionIn : Cert.RetentionIn.Facts] : Prop :=
  ∀ (m : (ℓ : Loc Cert.RetentionIn.nD Cert.RetentionIn.τ Cert.RetentionIn.sig) → Buf (Elt Bits) ℓ) (g : Dev Cert.RetentionIn.nD → PrngReg), Pre_RetentionIn m →
    θ_run (Cert.RetentionIn.defs (F := Bits)) (onTc (τ := Cert.RetentionIn.τ) (Cert.RetentionIn.main (F := Bits))) ⟨m, fun _ => 0, g⟩ (fun r => (∀ c : Dev Cert.RetentionIn.nD,
      r.2.mem ((c.tc : Thread Cert.RetentionIn.nD Cert.RetentionIn.τ).loc Cert.RetentionIn.main_arg0) = m ((c.tc : Thread Cert.RetentionIn.nD Cert.RetentionIn.τ).loc Cert.RetentionIn.main_arg0)
      ∧ r.2.mem ((c.tc : Thread Cert.RetentionIn.nD Cert.RetentionIn.τ).loc Cert.RetentionIn.main_arg1) = m ((c.tc : Thread Cert.RetentionIn.nD Cert.RetentionIn.τ).loc Cert.RetentionIn.main_arg1)
      ∧ r.2.mem ((c.tc : Thread Cert.RetentionIn.nD Cert.RetentionIn.τ).loc Cert.RetentionIn.main_arg2) = m ((c.tc : Thread Cert.RetentionIn.nD Cert.RetentionIn.τ).loc Cert.RetentionIn.main_arg2))
      ∧ r.2.sem = fun _ => 0)

def quiescent_RetentionInIdeal [hRetentionInIdeal : Cert.RetentionInIdeal.Facts] : Prop :=
  ∀ (m : (ℓ : Loc Cert.RetentionInIdeal.nD Cert.RetentionInIdeal.τ Cert.RetentionInIdeal.sig) → Buf (Elt Ideal) ℓ) (g : Dev Cert.RetentionInIdeal.nD → PrngReg), Pre_RetentionInIdeal m →
    θ_run (Cert.RetentionInIdeal.defs (F := Ideal)) (onTc (τ := Cert.RetentionInIdeal.τ) (Cert.RetentionInIdeal.main (F := Ideal))) ⟨m, fun _ => 0, g⟩ (fun r => (∀ c : Dev Cert.RetentionInIdeal.nD,
      r.2.mem ((c.tc : Thread Cert.RetentionInIdeal.nD Cert.RetentionInIdeal.τ).loc Cert.RetentionInIdeal.main_arg0) = m ((c.tc : Thread Cert.RetentionInIdeal.nD Cert.RetentionInIdeal.τ).loc Cert.RetentionInIdeal.main_arg0)
      ∧ r.2.mem ((c.tc : Thread Cert.RetentionInIdeal.nD Cert.RetentionInIdeal.τ).loc Cert.RetentionInIdeal.main_arg1) = m ((c.tc : Thread Cert.RetentionInIdeal.nD Cert.RetentionInIdeal.τ).loc Cert.RetentionInIdeal.main_arg1)
      ∧ r.2.mem ((c.tc : Thread Cert.RetentionInIdeal.nD Cert.RetentionInIdeal.τ).loc Cert.RetentionInIdeal.main_arg2) = m ((c.tc : Thread Cert.RetentionInIdeal.nD Cert.RetentionInIdeal.τ).loc Cert.RetentionInIdeal.main_arg2))
      ∧ r.2.sem = fun _ => 0)

def quiescent_RetentionInReferenceIdeal [hRetentionInReferenceIdeal : Cert.RetentionInReferenceIdeal.Facts] : Prop :=
  ∀ (m : (ℓ : Loc Cert.RetentionInReferenceIdeal.nD Cert.RetentionInReferenceIdeal.τ Cert.RetentionInReferenceIdeal.sig) → Buf (Elt Ideal) ℓ) (g : Dev Cert.RetentionInReferenceIdeal.nD → PrngReg), Pre_RetentionInReferenceIdeal m →
    θ_run (Cert.RetentionInReferenceIdeal.defs (F := Ideal)) (onTc (τ := Cert.RetentionInReferenceIdeal.τ) (Cert.RetentionInReferenceIdeal.main (F := Ideal))) ⟨m, fun _ => 0, g⟩ (fun r => (∀ c : Dev Cert.RetentionInReferenceIdeal.nD,
      r.2.mem ((c.tc : Thread Cert.RetentionInReferenceIdeal.nD Cert.RetentionInReferenceIdeal.τ).loc Cert.RetentionInReferenceIdeal.main_arg0) = m ((c.tc : Thread Cert.RetentionInReferenceIdeal.nD Cert.RetentionInReferenceIdeal.τ).loc Cert.RetentionInReferenceIdeal.main_arg0)
      ∧ r.2.mem ((c.tc : Thread Cert.RetentionInReferenceIdeal.nD Cert.RetentionInReferenceIdeal.τ).loc Cert.RetentionInReferenceIdeal.main_arg1) = m ((c.tc : Thread Cert.RetentionInReferenceIdeal.nD Cert.RetentionInReferenceIdeal.τ).loc Cert.RetentionInReferenceIdeal.main_arg1)
      ∧ r.2.mem ((c.tc : Thread Cert.RetentionInReferenceIdeal.nD Cert.RetentionInReferenceIdeal.τ).loc Cert.RetentionInReferenceIdeal.main_arg2) = m ((c.tc : Thread Cert.RetentionInReferenceIdeal.nD Cert.RetentionInReferenceIdeal.τ).loc Cert.RetentionInReferenceIdeal.main_arg2))
      ∧ r.2.sem = fun _ => 0)

def quiescent_RetentionOut [hRetentionOut : Cert.RetentionOut.Facts] : Prop :=
  ∀ (m : (ℓ : Loc Cert.RetentionOut.nD Cert.RetentionOut.τ Cert.RetentionOut.sig) → Buf (Elt Bits) ℓ) (g : Dev Cert.RetentionOut.nD → PrngReg), Pre_RetentionOut m →
    θ_run (Cert.RetentionOut.defs (F := Bits)) (onTc (τ := Cert.RetentionOut.τ) (Cert.RetentionOut.main (F := Bits))) ⟨m, fun _ => 0, g⟩ (fun r => (∀ c : Dev Cert.RetentionOut.nD,
      r.2.mem ((c.tc : Thread Cert.RetentionOut.nD Cert.RetentionOut.τ).loc Cert.RetentionOut.main_arg0) = m ((c.tc : Thread Cert.RetentionOut.nD Cert.RetentionOut.τ).loc Cert.RetentionOut.main_arg0)
      ∧ r.2.mem ((c.tc : Thread Cert.RetentionOut.nD Cert.RetentionOut.τ).loc Cert.RetentionOut.main_arg1) = m ((c.tc : Thread Cert.RetentionOut.nD Cert.RetentionOut.τ).loc Cert.RetentionOut.main_arg1)
      ∧ r.2.mem ((c.tc : Thread Cert.RetentionOut.nD Cert.RetentionOut.τ).loc Cert.RetentionOut.main_arg2) = m ((c.tc : Thread Cert.RetentionOut.nD Cert.RetentionOut.τ).loc Cert.RetentionOut.main_arg2))
      ∧ r.2.sem = fun _ => 0)

def quiescent_RetentionOutIdeal [hRetentionOutIdeal : Cert.RetentionOutIdeal.Facts] : Prop :=
  ∀ (m : (ℓ : Loc Cert.RetentionOutIdeal.nD Cert.RetentionOutIdeal.τ Cert.RetentionOutIdeal.sig) → Buf (Elt Ideal) ℓ) (g : Dev Cert.RetentionOutIdeal.nD → PrngReg), Pre_RetentionOutIdeal m →
    θ_run (Cert.RetentionOutIdeal.defs (F := Ideal)) (onTc (τ := Cert.RetentionOutIdeal.τ) (Cert.RetentionOutIdeal.main (F := Ideal))) ⟨m, fun _ => 0, g⟩ (fun r => (∀ c : Dev Cert.RetentionOutIdeal.nD,
      r.2.mem ((c.tc : Thread Cert.RetentionOutIdeal.nD Cert.RetentionOutIdeal.τ).loc Cert.RetentionOutIdeal.main_arg0) = m ((c.tc : Thread Cert.RetentionOutIdeal.nD Cert.RetentionOutIdeal.τ).loc Cert.RetentionOutIdeal.main_arg0)
      ∧ r.2.mem ((c.tc : Thread Cert.RetentionOutIdeal.nD Cert.RetentionOutIdeal.τ).loc Cert.RetentionOutIdeal.main_arg1) = m ((c.tc : Thread Cert.RetentionOutIdeal.nD Cert.RetentionOutIdeal.τ).loc Cert.RetentionOutIdeal.main_arg1)
      ∧ r.2.mem ((c.tc : Thread Cert.RetentionOutIdeal.nD Cert.RetentionOutIdeal.τ).loc Cert.RetentionOutIdeal.main_arg2) = m ((c.tc : Thread Cert.RetentionOutIdeal.nD Cert.RetentionOutIdeal.τ).loc Cert.RetentionOutIdeal.main_arg2))
      ∧ r.2.sem = fun _ => 0)

def quiescent_RetentionOutReferenceIdeal [hRetentionOutReferenceIdeal : Cert.RetentionOutReferenceIdeal.Facts] : Prop :=
  ∀ (m : (ℓ : Loc Cert.RetentionOutReferenceIdeal.nD Cert.RetentionOutReferenceIdeal.τ Cert.RetentionOutReferenceIdeal.sig) → Buf (Elt Ideal) ℓ) (g : Dev Cert.RetentionOutReferenceIdeal.nD → PrngReg), Pre_RetentionOutReferenceIdeal m →
    θ_run (Cert.RetentionOutReferenceIdeal.defs (F := Ideal)) (onTc (τ := Cert.RetentionOutReferenceIdeal.τ) (Cert.RetentionOutReferenceIdeal.main (F := Ideal))) ⟨m, fun _ => 0, g⟩ (fun r => (∀ c : Dev Cert.RetentionOutReferenceIdeal.nD,
      r.2.mem ((c.tc : Thread Cert.RetentionOutReferenceIdeal.nD Cert.RetentionOutReferenceIdeal.τ).loc Cert.RetentionOutReferenceIdeal.main_arg0) = m ((c.tc : Thread Cert.RetentionOutReferenceIdeal.nD Cert.RetentionOutReferenceIdeal.τ).loc Cert.RetentionOutReferenceIdeal.main_arg0)
      ∧ r.2.mem ((c.tc : Thread Cert.RetentionOutReferenceIdeal.nD Cert.RetentionOutReferenceIdeal.τ).loc Cert.RetentionOutReferenceIdeal.main_arg1) = m ((c.tc : Thread Cert.RetentionOutReferenceIdeal.nD Cert.RetentionOutReferenceIdeal.τ).loc Cert.RetentionOutReferenceIdeal.main_arg1)
      ∧ r.2.mem ((c.tc : Thread Cert.RetentionOutReferenceIdeal.nD Cert.RetentionOutReferenceIdeal.τ).loc Cert.RetentionOutReferenceIdeal.main_arg2) = m ((c.tc : Thread Cert.RetentionOutReferenceIdeal.nD Cert.RetentionOutReferenceIdeal.τ).loc Cert.RetentionOutReferenceIdeal.main_arg2))
      ∧ r.2.sem = fun _ => 0)

def quiescent_AttentionIn [hAttentionIn : Cert.AttentionIn.Facts] : Prop :=
  ∀ (m : (ℓ : Loc Cert.AttentionIn.nD Cert.AttentionIn.τ Cert.AttentionIn.sig) → Buf (Elt Bits) ℓ) (g : Dev Cert.AttentionIn.nD → PrngReg), Pre_AttentionIn m →
    θ_run (Cert.AttentionIn.defs (F := Bits)) (onTc (τ := Cert.AttentionIn.τ) (Cert.AttentionIn.main (F := Bits))) ⟨m, fun _ => 0, g⟩ (fun r => (∀ c : Dev Cert.AttentionIn.nD,
      r.2.mem ((c.tc : Thread Cert.AttentionIn.nD Cert.AttentionIn.τ).loc Cert.AttentionIn.main_arg0) = m ((c.tc : Thread Cert.AttentionIn.nD Cert.AttentionIn.τ).loc Cert.AttentionIn.main_arg0)
      ∧ r.2.mem ((c.tc : Thread Cert.AttentionIn.nD Cert.AttentionIn.τ).loc Cert.AttentionIn.main_arg1) = m ((c.tc : Thread Cert.AttentionIn.nD Cert.AttentionIn.τ).loc Cert.AttentionIn.main_arg1))
      ∧ r.2.sem = fun _ => 0)

def quiescent_AttentionInIdeal [hAttentionInIdeal : Cert.AttentionInIdeal.Facts] : Prop :=
  ∀ (m : (ℓ : Loc Cert.AttentionInIdeal.nD Cert.AttentionInIdeal.τ Cert.AttentionInIdeal.sig) → Buf (Elt Ideal) ℓ) (g : Dev Cert.AttentionInIdeal.nD → PrngReg), Pre_AttentionInIdeal m →
    θ_run (Cert.AttentionInIdeal.defs (F := Ideal)) (onTc (τ := Cert.AttentionInIdeal.τ) (Cert.AttentionInIdeal.main (F := Ideal))) ⟨m, fun _ => 0, g⟩ (fun r => (∀ c : Dev Cert.AttentionInIdeal.nD,
      r.2.mem ((c.tc : Thread Cert.AttentionInIdeal.nD Cert.AttentionInIdeal.τ).loc Cert.AttentionInIdeal.main_arg0) = m ((c.tc : Thread Cert.AttentionInIdeal.nD Cert.AttentionInIdeal.τ).loc Cert.AttentionInIdeal.main_arg0)
      ∧ r.2.mem ((c.tc : Thread Cert.AttentionInIdeal.nD Cert.AttentionInIdeal.τ).loc Cert.AttentionInIdeal.main_arg1) = m ((c.tc : Thread Cert.AttentionInIdeal.nD Cert.AttentionInIdeal.τ).loc Cert.AttentionInIdeal.main_arg1))
      ∧ r.2.sem = fun _ => 0)

def quiescent_AttentionInReferenceIdeal [hAttentionInReferenceIdeal : Cert.AttentionInReferenceIdeal.Facts] : Prop :=
  ∀ (m : (ℓ : Loc Cert.AttentionInReferenceIdeal.nD Cert.AttentionInReferenceIdeal.τ Cert.AttentionInReferenceIdeal.sig) → Buf (Elt Ideal) ℓ) (g : Dev Cert.AttentionInReferenceIdeal.nD → PrngReg), Pre_AttentionInReferenceIdeal m →
    θ_run (Cert.AttentionInReferenceIdeal.defs (F := Ideal)) (onTc (τ := Cert.AttentionInReferenceIdeal.τ) (Cert.AttentionInReferenceIdeal.main (F := Ideal))) ⟨m, fun _ => 0, g⟩ (fun r => (∀ c : Dev Cert.AttentionInReferenceIdeal.nD,
      r.2.mem ((c.tc : Thread Cert.AttentionInReferenceIdeal.nD Cert.AttentionInReferenceIdeal.τ).loc Cert.AttentionInReferenceIdeal.main_arg0) = m ((c.tc : Thread Cert.AttentionInReferenceIdeal.nD Cert.AttentionInReferenceIdeal.τ).loc Cert.AttentionInReferenceIdeal.main_arg0)
      ∧ r.2.mem ((c.tc : Thread Cert.AttentionInReferenceIdeal.nD Cert.AttentionInReferenceIdeal.τ).loc Cert.AttentionInReferenceIdeal.main_arg1) = m ((c.tc : Thread Cert.AttentionInReferenceIdeal.nD Cert.AttentionInReferenceIdeal.τ).loc Cert.AttentionInReferenceIdeal.main_arg1))
      ∧ r.2.sem = fun _ => 0)

def quiescent_AttentionOut [hAttentionOut : Cert.AttentionOut.Facts] : Prop :=
  ∀ (m : (ℓ : Loc Cert.AttentionOut.nD Cert.AttentionOut.τ Cert.AttentionOut.sig) → Buf (Elt Bits) ℓ) (g : Dev Cert.AttentionOut.nD → PrngReg), Pre_AttentionOut m →
    θ_run (Cert.AttentionOut.defs (F := Bits)) (onTc (τ := Cert.AttentionOut.τ) (Cert.AttentionOut.main (F := Bits))) ⟨m, fun _ => 0, g⟩ (fun r => (∀ c : Dev Cert.AttentionOut.nD,
      r.2.mem ((c.tc : Thread Cert.AttentionOut.nD Cert.AttentionOut.τ).loc Cert.AttentionOut.main_arg0) = m ((c.tc : Thread Cert.AttentionOut.nD Cert.AttentionOut.τ).loc Cert.AttentionOut.main_arg0)
      ∧ r.2.mem ((c.tc : Thread Cert.AttentionOut.nD Cert.AttentionOut.τ).loc Cert.AttentionOut.main_arg1) = m ((c.tc : Thread Cert.AttentionOut.nD Cert.AttentionOut.τ).loc Cert.AttentionOut.main_arg1)
      ∧ r.2.mem ((c.tc : Thread Cert.AttentionOut.nD Cert.AttentionOut.τ).loc Cert.AttentionOut.main_arg2) = m ((c.tc : Thread Cert.AttentionOut.nD Cert.AttentionOut.τ).loc Cert.AttentionOut.main_arg2))
      ∧ r.2.sem = fun _ => 0)

def quiescent_AttentionOutIdeal [hAttentionOutIdeal : Cert.AttentionOutIdeal.Facts] : Prop :=
  ∀ (m : (ℓ : Loc Cert.AttentionOutIdeal.nD Cert.AttentionOutIdeal.τ Cert.AttentionOutIdeal.sig) → Buf (Elt Ideal) ℓ) (g : Dev Cert.AttentionOutIdeal.nD → PrngReg), Pre_AttentionOutIdeal m →
    θ_run (Cert.AttentionOutIdeal.defs (F := Ideal)) (onTc (τ := Cert.AttentionOutIdeal.τ) (Cert.AttentionOutIdeal.main (F := Ideal))) ⟨m, fun _ => 0, g⟩ (fun r => (∀ c : Dev Cert.AttentionOutIdeal.nD,
      r.2.mem ((c.tc : Thread Cert.AttentionOutIdeal.nD Cert.AttentionOutIdeal.τ).loc Cert.AttentionOutIdeal.main_arg0) = m ((c.tc : Thread Cert.AttentionOutIdeal.nD Cert.AttentionOutIdeal.τ).loc Cert.AttentionOutIdeal.main_arg0)
      ∧ r.2.mem ((c.tc : Thread Cert.AttentionOutIdeal.nD Cert.AttentionOutIdeal.τ).loc Cert.AttentionOutIdeal.main_arg1) = m ((c.tc : Thread Cert.AttentionOutIdeal.nD Cert.AttentionOutIdeal.τ).loc Cert.AttentionOutIdeal.main_arg1)
      ∧ r.2.mem ((c.tc : Thread Cert.AttentionOutIdeal.nD Cert.AttentionOutIdeal.τ).loc Cert.AttentionOutIdeal.main_arg2) = m ((c.tc : Thread Cert.AttentionOutIdeal.nD Cert.AttentionOutIdeal.τ).loc Cert.AttentionOutIdeal.main_arg2))
      ∧ r.2.sem = fun _ => 0)

def quiescent_AttentionOutReferenceIdeal [hAttentionOutReferenceIdeal : Cert.AttentionOutReferenceIdeal.Facts] : Prop :=
  ∀ (m : (ℓ : Loc Cert.AttentionOutReferenceIdeal.nD Cert.AttentionOutReferenceIdeal.τ Cert.AttentionOutReferenceIdeal.sig) → Buf (Elt Ideal) ℓ) (g : Dev Cert.AttentionOutReferenceIdeal.nD → PrngReg), Pre_AttentionOutReferenceIdeal m →
    θ_run (Cert.AttentionOutReferenceIdeal.defs (F := Ideal)) (onTc (τ := Cert.AttentionOutReferenceIdeal.τ) (Cert.AttentionOutReferenceIdeal.main (F := Ideal))) ⟨m, fun _ => 0, g⟩ (fun r => (∀ c : Dev Cert.AttentionOutReferenceIdeal.nD,
      r.2.mem ((c.tc : Thread Cert.AttentionOutReferenceIdeal.nD Cert.AttentionOutReferenceIdeal.τ).loc Cert.AttentionOutReferenceIdeal.main_arg0) = m ((c.tc : Thread Cert.AttentionOutReferenceIdeal.nD Cert.AttentionOutReferenceIdeal.τ).loc Cert.AttentionOutReferenceIdeal.main_arg0)
      ∧ r.2.mem ((c.tc : Thread Cert.AttentionOutReferenceIdeal.nD Cert.AttentionOutReferenceIdeal.τ).loc Cert.AttentionOutReferenceIdeal.main_arg1) = m ((c.tc : Thread Cert.AttentionOutReferenceIdeal.nD Cert.AttentionOutReferenceIdeal.τ).loc Cert.AttentionOutReferenceIdeal.main_arg1)
      ∧ r.2.mem ((c.tc : Thread Cert.AttentionOutReferenceIdeal.nD Cert.AttentionOutReferenceIdeal.τ).loc Cert.AttentionOutReferenceIdeal.main_arg2) = m ((c.tc : Thread Cert.AttentionOutReferenceIdeal.nD Cert.AttentionOutReferenceIdeal.τ).loc Cert.AttentionOutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6))
      ∧ r.2.sem = fun _ => 0)

def preserves_Kernel_KernelIdeal : Prop :=
  True

def algebraic_KernelIdeal_ReferenceIdeal_on_live_rows [hKernelIdeal : Cert.KernelIdeal.Facts] [hReferenceIdeal : Cert.ReferenceIdeal.Facts] [hPre_experts_in_range : Cert.Pre_experts_in_range.Facts] [hOn_live_rows : Cert.On_live_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![36864, 2048]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![36864, 2048]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v171) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Attention_AttentionIdeal : Prop :=
  IdealRules.named_const.Statement Cert.AttentionIdeal.κ "mask" .f32 0xF149F2CA#32 ⊥

def algebraic_AttentionIdeal_AttentionReferenceIdeal_pre_finite_logits [hAttentionIdeal : Cert.AttentionIdeal.Facts] [hAttentionReferenceIdeal : Cert.AttentionReferenceIdeal.Facts] [hPre_finite_logits : Cert.Pre_finite_logits.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_logits m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v8_0)) (v1 : (c : Dev Cert.AttentionIdeal.nD) → Buf (Elt Ideal) ((c.tc : Thread Cert.AttentionIdeal.nD Cert.AttentionIdeal.τ).loc Cert.AttentionIdeal.main_v8_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v8_0) = v0 c
          ∧ r.2.mem ((c.tc : Thread Cert.AttentionIdeal.nD Cert.AttentionIdeal.τ).loc Cert.AttentionIdeal.main_v8_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v88) = v0 c
          ∧ r.2.mem ((c.tc : Thread Cert.AttentionReferenceIdeal.nD Cert.AttentionReferenceIdeal.τ).loc Cert.AttentionReferenceIdeal.main_v89) = v1 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def preserves_RetentionIn_RetentionInIdeal : Prop :=
  True

def algebraic_RetentionInIdeal_RetentionInReferenceIdeal [hRetentionInIdeal : Cert.RetentionInIdeal.Facts] [hRetentionInReferenceIdeal : Cert.RetentionInReferenceIdeal.Facts] : Prop :=
  ∀ (m : (ℓ : Loc Cert.RetentionInIdeal.nD Cert.RetentionInIdeal.τ Cert.RetentionInIdeal.sig) → Buf (Elt Ideal) ℓ) (g : Dev Cert.RetentionInIdeal.nD → PrngReg)
    (m' : (ℓ : Loc Cert.RetentionInReferenceIdeal.nD Cert.RetentionInReferenceIdeal.τ Cert.RetentionInReferenceIdeal.sig) → Buf (Elt Ideal) ℓ) (g' : Dev Cert.RetentionInReferenceIdeal.nD → PrngReg), Pre_RetentionInIdeal m →
    (∀ c : Dev Cert.RetentionInIdeal.nD,
      m' ((c.tc : Thread Cert.RetentionInReferenceIdeal.nD Cert.RetentionInReferenceIdeal.τ).loc Cert.RetentionInReferenceIdeal.main_arg0) = m ((c.tc : Thread Cert.RetentionInIdeal.nD Cert.RetentionInIdeal.τ).loc Cert.RetentionInIdeal.main_arg0)
      ∧ m' ((c.tc : Thread Cert.RetentionInReferenceIdeal.nD Cert.RetentionInReferenceIdeal.τ).loc Cert.RetentionInReferenceIdeal.main_arg1) = m ((c.tc : Thread Cert.RetentionInIdeal.nD Cert.RetentionInIdeal.τ).loc Cert.RetentionInIdeal.main_arg1)
      ∧ m' ((c.tc : Thread Cert.RetentionInReferenceIdeal.nD Cert.RetentionInReferenceIdeal.τ).loc Cert.RetentionInReferenceIdeal.main_arg2) = m ((c.tc : Thread Cert.RetentionInIdeal.nD Cert.RetentionInIdeal.τ).loc Cert.RetentionInIdeal.main_arg2)) →
    ∃ (v0 : (c : Dev Cert.RetentionInIdeal.nD) → Buf (Elt Ideal) ((c.tc : Thread Cert.RetentionInIdeal.nD Cert.RetentionInIdeal.τ).loc Cert.RetentionInIdeal.main_v3_0)) (v1 : (c : Dev Cert.RetentionInIdeal.nD) → Buf (Elt Ideal) ((c.tc : Thread Cert.RetentionInIdeal.nD Cert.RetentionInIdeal.τ).loc Cert.RetentionInIdeal.main_v3_1)),
      θ_run (Cert.RetentionInIdeal.defs (F := Ideal)) (onTc (τ := Cert.RetentionInIdeal.τ) (Cert.RetentionInIdeal.main (F := Ideal))) ⟨m, fun _ => 0, g⟩ (fun r => ∀ c : Dev Cert.RetentionInIdeal.nD,
          r.2.mem ((c.tc : Thread Cert.RetentionInIdeal.nD Cert.RetentionInIdeal.τ).loc Cert.RetentionInIdeal.main_v3_0) = v0 c
          ∧ r.2.mem ((c.tc : Thread Cert.RetentionInIdeal.nD Cert.RetentionInIdeal.τ).loc Cert.RetentionInIdeal.main_v3_1) = v1 c
          ∧ r.2.mem ((c.tc : Thread Cert.RetentionInIdeal.nD Cert.RetentionInIdeal.τ).loc Cert.RetentionInIdeal.main_arg0) = m ((c.tc : Thread Cert.RetentionInIdeal.nD Cert.RetentionInIdeal.τ).loc Cert.RetentionInIdeal.main_arg0)
          ∧ r.2.mem ((c.tc : Thread Cert.RetentionInIdeal.nD Cert.RetentionInIdeal.τ).loc Cert.RetentionInIdeal.main_arg1) = m ((c.tc : Thread Cert.RetentionInIdeal.nD Cert.RetentionInIdeal.τ).loc Cert.RetentionInIdeal.main_arg1)
          ∧ r.2.mem ((c.tc : Thread Cert.RetentionInIdeal.nD Cert.RetentionInIdeal.τ).loc Cert.RetentionInIdeal.main_arg2) = m ((c.tc : Thread Cert.RetentionInIdeal.nD Cert.RetentionInIdeal.τ).loc Cert.RetentionInIdeal.main_arg2))
      ∧ θ_run (Cert.RetentionInReferenceIdeal.defs (F := Ideal)) (onTc (τ := Cert.RetentionInReferenceIdeal.τ) (Cert.RetentionInReferenceIdeal.main (F := Ideal))) ⟨m', fun _ => 0, g'⟩ (fun r => ∀ c : Dev Cert.RetentionInReferenceIdeal.nD,
          r.2.mem ((c.tc : Thread Cert.RetentionInReferenceIdeal.nD Cert.RetentionInReferenceIdeal.τ).loc Cert.RetentionInReferenceIdeal.main_v6) = v0 c
          ∧ r.2.mem ((c.tc : Thread Cert.RetentionInReferenceIdeal.nD Cert.RetentionInReferenceIdeal.τ).loc Cert.RetentionInReferenceIdeal.main_v7) = v1 c
          ∧ r.2.mem ((c.tc : Thread Cert.RetentionInReferenceIdeal.nD Cert.RetentionInReferenceIdeal.τ).loc Cert.RetentionInReferenceIdeal.main_arg0) = m' ((c.tc : Thread Cert.RetentionInReferenceIdeal.nD Cert.RetentionInReferenceIdeal.τ).loc Cert.RetentionInReferenceIdeal.main_arg0)
          ∧ r.2.mem ((c.tc : Thread Cert.RetentionInReferenceIdeal.nD Cert.RetentionInReferenceIdeal.τ).loc Cert.RetentionInReferenceIdeal.main_arg1) = m' ((c.tc : Thread Cert.RetentionInReferenceIdeal.nD Cert.RetentionInReferenceIdeal.τ).loc Cert.RetentionInReferenceIdeal.main_arg1)
          ∧ r.2.mem ((c.tc : Thread Cert.RetentionInReferenceIdeal.nD Cert.RetentionInReferenceIdeal.τ).loc Cert.RetentionInReferenceIdeal.main_arg2) = m' ((c.tc : Thread Cert.RetentionInReferenceIdeal.nD Cert.RetentionInReferenceIdeal.τ).loc Cert.RetentionInReferenceIdeal.main_arg2))

def preserves_RetentionOut_RetentionOutIdeal : Prop :=
  True

def algebraic_RetentionOutIdeal_RetentionOutReferenceIdeal [hRetentionOutIdeal : Cert.RetentionOutIdeal.Facts] [hRetentionOutReferenceIdeal : Cert.RetentionOutReferenceIdeal.Facts] : Prop :=
  ∀ (m : (ℓ : Loc Cert.RetentionOutIdeal.nD Cert.RetentionOutIdeal.τ Cert.RetentionOutIdeal.sig) → Buf (Elt Ideal) ℓ) (g : Dev Cert.RetentionOutIdeal.nD → PrngReg)
    (m' : (ℓ : Loc Cert.RetentionOutReferenceIdeal.nD Cert.RetentionOutReferenceIdeal.τ Cert.RetentionOutReferenceIdeal.sig) → Buf (Elt Ideal) ℓ) (g' : Dev Cert.RetentionOutReferenceIdeal.nD → PrngReg), Pre_RetentionOutIdeal m →
    (∀ c : Dev Cert.RetentionOutIdeal.nD,
      m' ((c.tc : Thread Cert.RetentionOutReferenceIdeal.nD Cert.RetentionOutReferenceIdeal.τ).loc Cert.RetentionOutReferenceIdeal.main_arg0) = m ((c.tc : Thread Cert.RetentionOutIdeal.nD Cert.RetentionOutIdeal.τ).loc Cert.RetentionOutIdeal.main_arg0)
      ∧ m' ((c.tc : Thread Cert.RetentionOutReferenceIdeal.nD Cert.RetentionOutReferenceIdeal.τ).loc Cert.RetentionOutReferenceIdeal.main_arg1) = m ((c.tc : Thread Cert.RetentionOutIdeal.nD Cert.RetentionOutIdeal.τ).loc Cert.RetentionOutIdeal.main_arg1)
      ∧ m' ((c.tc : Thread Cert.RetentionOutReferenceIdeal.nD Cert.RetentionOutReferenceIdeal.τ).loc Cert.RetentionOutReferenceIdeal.main_arg2) = m ((c.tc : Thread Cert.RetentionOutIdeal.nD Cert.RetentionOutIdeal.τ).loc Cert.RetentionOutIdeal.main_arg2)) →
    ∃ (v0 : (c : Dev Cert.RetentionOutIdeal.nD) → Buf (Elt Ideal) ((c.tc : Thread Cert.RetentionOutIdeal.nD Cert.RetentionOutIdeal.τ).loc Cert.RetentionOutIdeal.main_v1)),
      θ_run (Cert.RetentionOutIdeal.defs (F := Ideal)) (onTc (τ := Cert.RetentionOutIdeal.τ) (Cert.RetentionOutIdeal.main (F := Ideal))) ⟨m, fun _ => 0, g⟩ (fun r => ∀ c : Dev Cert.RetentionOutIdeal.nD,
          r.2.mem ((c.tc : Thread Cert.RetentionOutIdeal.nD Cert.RetentionOutIdeal.τ).loc Cert.RetentionOutIdeal.main_v1) = v0 c
          ∧ r.2.mem ((c.tc : Thread Cert.RetentionOutIdeal.nD Cert.RetentionOutIdeal.τ).loc Cert.RetentionOutIdeal.main_arg0) = m ((c.tc : Thread Cert.RetentionOutIdeal.nD Cert.RetentionOutIdeal.τ).loc Cert.RetentionOutIdeal.main_arg0)
          ∧ r.2.mem ((c.tc : Thread Cert.RetentionOutIdeal.nD Cert.RetentionOutIdeal.τ).loc Cert.RetentionOutIdeal.main_arg1) = m ((c.tc : Thread Cert.RetentionOutIdeal.nD Cert.RetentionOutIdeal.τ).loc Cert.RetentionOutIdeal.main_arg1)
          ∧ r.2.mem ((c.tc : Thread Cert.RetentionOutIdeal.nD Cert.RetentionOutIdeal.τ).loc Cert.RetentionOutIdeal.main_arg2) = m ((c.tc : Thread Cert.RetentionOutIdeal.nD Cert.RetentionOutIdeal.τ).loc Cert.RetentionOutIdeal.main_arg2))
      ∧ θ_run (Cert.RetentionOutReferenceIdeal.defs (F := Ideal)) (onTc (τ := Cert.RetentionOutReferenceIdeal.τ) (Cert.RetentionOutReferenceIdeal.main (F := Ideal))) ⟨m', fun _ => 0, g'⟩ (fun r => ∀ c : Dev Cert.RetentionOutReferenceIdeal.nD,
          r.2.mem ((c.tc : Thread Cert.RetentionOutReferenceIdeal.nD Cert.RetentionOutReferenceIdeal.τ).loc Cert.RetentionOutReferenceIdeal.main_v3) = v0 c
          ∧ r.2.mem ((c.tc : Thread Cert.RetentionOutReferenceIdeal.nD Cert.RetentionOutReferenceIdeal.τ).loc Cert.RetentionOutReferenceIdeal.main_arg0) = m' ((c.tc : Thread Cert.RetentionOutReferenceIdeal.nD Cert.RetentionOutReferenceIdeal.τ).loc Cert.RetentionOutReferenceIdeal.main_arg0)
          ∧ r.2.mem ((c.tc : Thread Cert.RetentionOutReferenceIdeal.nD Cert.RetentionOutReferenceIdeal.τ).loc Cert.RetentionOutReferenceIdeal.main_arg1) = m' ((c.tc : Thread Cert.RetentionOutReferenceIdeal.nD Cert.RetentionOutReferenceIdeal.τ).loc Cert.RetentionOutReferenceIdeal.main_arg1)
          ∧ r.2.mem ((c.tc : Thread Cert.RetentionOutReferenceIdeal.nD Cert.RetentionOutReferenceIdeal.τ).loc Cert.RetentionOutReferenceIdeal.main_arg2) = m' ((c.tc : Thread Cert.RetentionOutReferenceIdeal.nD Cert.RetentionOutReferenceIdeal.τ).loc Cert.RetentionOutReferenceIdeal.main_arg2))

def preserves_AttentionIn_AttentionInIdeal : Prop :=
  True

def algebraic_AttentionInIdeal_AttentionInReferenceIdeal [hAttentionInIdeal : Cert.AttentionInIdeal.Facts] [hAttentionInReferenceIdeal : Cert.AttentionInReferenceIdeal.Facts] : Prop :=
  ∀ (m : (ℓ : Loc Cert.AttentionInIdeal.nD Cert.AttentionInIdeal.τ Cert.AttentionInIdeal.sig) → Buf (Elt Ideal) ℓ) (g : Dev Cert.AttentionInIdeal.nD → PrngReg)
    (m' : (ℓ : Loc Cert.AttentionInReferenceIdeal.nD Cert.AttentionInReferenceIdeal.τ Cert.AttentionInReferenceIdeal.sig) → Buf (Elt Ideal) ℓ) (g' : Dev Cert.AttentionInReferenceIdeal.nD → PrngReg), Pre_AttentionInIdeal m →
    (∀ c : Dev Cert.AttentionInIdeal.nD,
      m' ((c.tc : Thread Cert.AttentionInReferenceIdeal.nD Cert.AttentionInReferenceIdeal.τ).loc Cert.AttentionInReferenceIdeal.main_arg0) = m ((c.tc : Thread Cert.AttentionInIdeal.nD Cert.AttentionInIdeal.τ).loc Cert.AttentionInIdeal.main_arg0)
      ∧ m' ((c.tc : Thread Cert.AttentionInReferenceIdeal.nD Cert.AttentionInReferenceIdeal.τ).loc Cert.AttentionInReferenceIdeal.main_arg1) = m ((c.tc : Thread Cert.AttentionInIdeal.nD Cert.AttentionInIdeal.τ).loc Cert.AttentionInIdeal.main_arg1)) →
    ∃ (v0 : (c : Dev Cert.AttentionInIdeal.nD) → Buf (Elt Ideal) ((c.tc : Thread Cert.AttentionInIdeal.nD Cert.AttentionInIdeal.τ).loc Cert.AttentionInIdeal.main_v1)),
      θ_run (Cert.AttentionInIdeal.defs (F := Ideal)) (onTc (τ := Cert.AttentionInIdeal.τ) (Cert.AttentionInIdeal.main (F := Ideal))) ⟨m, fun _ => 0, g⟩ (fun r => ∀ c : Dev Cert.AttentionInIdeal.nD,
          r.2.mem ((c.tc : Thread Cert.AttentionInIdeal.nD Cert.AttentionInIdeal.τ).loc Cert.AttentionInIdeal.main_v1) = v0 c
          ∧ r.2.mem ((c.tc : Thread Cert.AttentionInIdeal.nD Cert.AttentionInIdeal.τ).loc Cert.AttentionInIdeal.main_arg0) = m ((c.tc : Thread Cert.AttentionInIdeal.nD Cert.AttentionInIdeal.τ).loc Cert.AttentionInIdeal.main_arg0)
          ∧ r.2.mem ((c.tc : Thread Cert.AttentionInIdeal.nD Cert.AttentionInIdeal.τ).loc Cert.AttentionInIdeal.main_arg1) = m ((c.tc : Thread Cert.AttentionInIdeal.nD Cert.AttentionInIdeal.τ).loc Cert.AttentionInIdeal.main_arg1))
      ∧ θ_run (Cert.AttentionInReferenceIdeal.defs (F := Ideal)) (onTc (τ := Cert.AttentionInReferenceIdeal.τ) (Cert.AttentionInReferenceIdeal.main (F := Ideal))) ⟨m', fun _ => 0, g'⟩ (fun r => ∀ c : Dev Cert.AttentionInReferenceIdeal.nD,
          r.2.mem ((c.tc : Thread Cert.AttentionInReferenceIdeal.nD Cert.AttentionInReferenceIdeal.τ).loc Cert.AttentionInReferenceIdeal.main_v3) = v0 c
          ∧ r.2.mem ((c.tc : Thread Cert.AttentionInReferenceIdeal.nD Cert.AttentionInReferenceIdeal.τ).loc Cert.AttentionInReferenceIdeal.main_arg0) = m' ((c.tc : Thread Cert.AttentionInReferenceIdeal.nD Cert.AttentionInReferenceIdeal.τ).loc Cert.AttentionInReferenceIdeal.main_arg0)
          ∧ r.2.mem ((c.tc : Thread Cert.AttentionInReferenceIdeal.nD Cert.AttentionInReferenceIdeal.τ).loc Cert.AttentionInReferenceIdeal.main_arg1) = m' ((c.tc : Thread Cert.AttentionInReferenceIdeal.nD Cert.AttentionInReferenceIdeal.τ).loc Cert.AttentionInReferenceIdeal.main_arg1))

def preserves_AttentionOut_AttentionOutIdeal : Prop :=
  True

def algebraic_AttentionOutIdeal_AttentionOutReferenceIdeal [hAttentionOutIdeal : Cert.AttentionOutIdeal.Facts] [hAttentionOutReferenceIdeal : Cert.AttentionOutReferenceIdeal.Facts] : Prop :=
  ∀ (m : (ℓ : Loc Cert.AttentionOutIdeal.nD Cert.AttentionOutIdeal.τ Cert.AttentionOutIdeal.sig) → Buf (Elt Ideal) ℓ) (g : Dev Cert.AttentionOutIdeal.nD → PrngReg)
    (m' : (ℓ : Loc Cert.AttentionOutReferenceIdeal.nD Cert.AttentionOutReferenceIdeal.τ Cert.AttentionOutReferenceIdeal.sig) → Buf (Elt Ideal) ℓ) (g' : Dev Cert.AttentionOutReferenceIdeal.nD → PrngReg), Pre_AttentionOutIdeal m →
    (∀ c : Dev Cert.AttentionOutIdeal.nD,
      m' ((c.tc : Thread Cert.AttentionOutReferenceIdeal.nD Cert.AttentionOutReferenceIdeal.τ).loc Cert.AttentionOutReferenceIdeal.main_arg0) = m ((c.tc : Thread Cert.AttentionOutIdeal.nD Cert.AttentionOutIdeal.τ).loc Cert.AttentionOutIdeal.main_arg0)
      ∧ m' ((c.tc : Thread Cert.AttentionOutReferenceIdeal.nD Cert.AttentionOutReferenceIdeal.τ).loc Cert.AttentionOutReferenceIdeal.main_arg1) = m ((c.tc : Thread Cert.AttentionOutIdeal.nD Cert.AttentionOutIdeal.τ).loc Cert.AttentionOutIdeal.main_arg1)
      ∧ m' ((c.tc : Thread Cert.AttentionOutReferenceIdeal.nD Cert.AttentionOutReferenceIdeal.τ).loc Cert.AttentionOutReferenceIdeal.main_arg2) = m ((c.tc : Thread Cert.AttentionOutIdeal.nD Cert.AttentionOutIdeal.τ).loc Cert.AttentionOutIdeal.main_arg2)) →
    ∃ (v0 : (c : Dev Cert.AttentionOutIdeal.nD) → Buf (Elt Ideal) ((c.tc : Thread Cert.AttentionOutIdeal.nD Cert.AttentionOutIdeal.τ).loc Cert.AttentionOutIdeal.main_v1)),
      θ_run (Cert.AttentionOutIdeal.defs (F := Ideal)) (onTc (τ := Cert.AttentionOutIdeal.τ) (Cert.AttentionOutIdeal.main (F := Ideal))) ⟨m, fun _ => 0, g⟩ (fun r => ∀ c : Dev Cert.AttentionOutIdeal.nD,
          r.2.mem ((c.tc : Thread Cert.AttentionOutIdeal.nD Cert.AttentionOutIdeal.τ).loc Cert.AttentionOutIdeal.main_v1) = v0 c
          ∧ r.2.mem ((c.tc : Thread Cert.AttentionOutIdeal.nD Cert.AttentionOutIdeal.τ).loc Cert.AttentionOutIdeal.main_arg0) = m ((c.tc : Thread Cert.AttentionOutIdeal.nD Cert.AttentionOutIdeal.τ).loc Cert.AttentionOutIdeal.main_arg0)
          ∧ r.2.mem ((c.tc : Thread Cert.AttentionOutIdeal.nD Cert.AttentionOutIdeal.τ).loc Cert.AttentionOutIdeal.main_arg1) = m ((c.tc : Thread Cert.AttentionOutIdeal.nD Cert.AttentionOutIdeal.τ).loc Cert.AttentionOutIdeal.main_arg1)
          ∧ r.2.mem ((c.tc : Thread Cert.AttentionOutIdeal.nD Cert.AttentionOutIdeal.τ).loc Cert.AttentionOutIdeal.main_arg2) = m ((c.tc : Thread Cert.AttentionOutIdeal.nD Cert.AttentionOutIdeal.τ).loc Cert.AttentionOutIdeal.main_arg2))
      ∧ θ_run (Cert.AttentionOutReferenceIdeal.defs (F := Ideal)) (onTc (τ := Cert.AttentionOutReferenceIdeal.τ) (Cert.AttentionOutReferenceIdeal.main (F := Ideal))) ⟨m', fun _ => 0, g'⟩ (fun r => ∀ c : Dev Cert.AttentionOutReferenceIdeal.nD,
          r.2.mem ((c.tc : Thread Cert.AttentionOutReferenceIdeal.nD Cert.AttentionOutReferenceIdeal.τ).loc Cert.AttentionOutReferenceIdeal.main_v3) = v0 c
          ∧ r.2.mem ((c.tc : Thread Cert.AttentionOutReferenceIdeal.nD Cert.AttentionOutReferenceIdeal.τ).loc Cert.AttentionOutReferenceIdeal.main_arg0) = m' ((c.tc : Thread Cert.AttentionOutReferenceIdeal.nD Cert.AttentionOutReferenceIdeal.τ).loc Cert.AttentionOutReferenceIdeal.main_arg0)
          ∧ r.2.mem ((c.tc : Thread Cert.AttentionOutReferenceIdeal.nD Cert.AttentionOutReferenceIdeal.τ).loc Cert.AttentionOutReferenceIdeal.main_arg1) = m' ((c.tc : Thread Cert.AttentionOutReferenceIdeal.nD Cert.AttentionOutReferenceIdeal.τ).loc Cert.AttentionOutReferenceIdeal.main_arg1)
          ∧ r.2.mem ((c.tc : Thread Cert.AttentionOutReferenceIdeal.nD Cert.AttentionOutReferenceIdeal.τ).loc Cert.AttentionOutReferenceIdeal.main_arg2) = m' ((c.tc : Thread Cert.AttentionOutReferenceIdeal.nD Cert.AttentionOutReferenceIdeal.τ).loc Cert.AttentionOutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v16) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v14_0)) (v1 : (c : Dev Cert.DenseIdeal.nD) → Buf (Elt Ideal) ((c.tc : Thread Cert.DenseIdeal.nD Cert.DenseIdeal.τ).loc Cert.DenseIdeal.main_v14_1)) (v2 : (c : Dev Cert.DenseIdeal.nD) → Buf (Elt Ideal) ((c.tc : Thread Cert.DenseIdeal.nD Cert.DenseIdeal.τ).loc Cert.DenseIdeal.main_v14_2)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v14_0) = v0 c
          ∧ r.2.mem ((c.tc : Thread Cert.DenseIdeal.nD Cert.DenseIdeal.τ).loc Cert.DenseIdeal.main_v14_1) = v1 c
          ∧ r.2.mem ((c.tc : Thread Cert.DenseIdeal.nD Cert.DenseIdeal.τ).loc Cert.DenseIdeal.main_v14_2) = v2 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v23) = v0 c
          ∧ r.2.mem ((c.tc : Thread Cert.DenseReferenceIdeal.nD Cert.DenseReferenceIdeal.τ).loc Cert.DenseReferenceIdeal.main_v41) = v1 c
          ∧ r.2.mem ((c.tc : Thread Cert.DenseReferenceIdeal.nD Cert.DenseReferenceIdeal.τ).loc Cert.DenseReferenceIdeal.main_v42) = v2 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hRetentionIn : Cert.RetentionIn.Facts) (hRetentionInIdeal : Cert.RetentionInIdeal.Facts) (hRetentionInReferenceIdeal : Cert.RetentionInReferenceIdeal.Facts) (hRetentionOut : Cert.RetentionOut.Facts) (hRetentionOutIdeal : Cert.RetentionOutIdeal.Facts) (hRetentionOutReferenceIdeal : Cert.RetentionOutReferenceIdeal.Facts) (hAttentionIn : Cert.AttentionIn.Facts) (hAttentionInIdeal : Cert.AttentionInIdeal.Facts) (hAttentionInReferenceIdeal : Cert.AttentionInReferenceIdeal.Facts) (hAttentionOut : Cert.AttentionOut.Facts) (hAttentionOutIdeal : Cert.AttentionOutIdeal.Facts) (hAttentionOutReferenceIdeal : Cert.AttentionOutReferenceIdeal.Facts) (hNorm : Cert.Norm.Facts) (hNormIdeal : Cert.NormIdeal.Facts) (hNormReferenceIdeal : Cert.NormReferenceIdeal.Facts) (hDense : Cert.Dense.Facts) (hDenseIdeal : Cert.DenseIdeal.Facts) (hDenseReferenceIdeal : Cert.DenseReferenceIdeal.Facts) (hPre_experts_in_range : Cert.Pre_experts_in_range.Facts) (hPre_finite_logits : Cert.Pre_finite_logits.Facts) (hOn_live_rows : Cert.On_live_rows.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_Attention (hAttention := hAttention)
    ∧ quiescent_AttentionIdeal (hAttentionIdeal := hAttentionIdeal)
    ∧ quiescent_AttentionIdeal_pre_finite_logits (hAttentionIdeal := hAttentionIdeal) (hPre_finite_logits := hPre_finite_logits)
    ∧ quiescent_AttentionReferenceIdeal (hAttentionReferenceIdeal := hAttentionReferenceIdeal)
    ∧ quiescent_AttentionReferenceIdeal_pre_finite_logits (hAttentionReferenceIdeal := hAttentionReferenceIdeal) (hPre_finite_logits := hPre_finite_logits)
    ∧ quiescent_RetentionIn (hRetentionIn := hRetentionIn)
    ∧ quiescent_RetentionInIdeal (hRetentionInIdeal := hRetentionInIdeal)
    ∧ quiescent_RetentionInReferenceIdeal (hRetentionInReferenceIdeal := hRetentionInReferenceIdeal)
    ∧ quiescent_RetentionOut (hRetentionOut := hRetentionOut)
    ∧ quiescent_RetentionOutIdeal (hRetentionOutIdeal := hRetentionOutIdeal)
    ∧ quiescent_RetentionOutReferenceIdeal (hRetentionOutReferenceIdeal := hRetentionOutReferenceIdeal)
    ∧ quiescent_AttentionIn (hAttentionIn := hAttentionIn)
    ∧ quiescent_AttentionInIdeal (hAttentionInIdeal := hAttentionInIdeal)
    ∧ quiescent_AttentionInReferenceIdeal (hAttentionInReferenceIdeal := hAttentionInReferenceIdeal)
    ∧ quiescent_AttentionOut (hAttentionOut := hAttentionOut)
    ∧ quiescent_AttentionOutIdeal (hAttentionOutIdeal := hAttentionOutIdeal)
    ∧ quiescent_AttentionOutReferenceIdeal (hAttentionOutReferenceIdeal := hAttentionOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal_on_live_rows (hKernelIdeal := hKernelIdeal) (hReferenceIdeal := hReferenceIdeal) (hPre_experts_in_range := hPre_experts_in_range) (hOn_live_rows := hOn_live_rows)
    ∧ preserves_Attention_AttentionIdeal
    ∧ algebraic_AttentionIdeal_AttentionReferenceIdeal_pre_finite_logits (hAttentionIdeal := hAttentionIdeal) (hAttentionReferenceIdeal := hAttentionReferenceIdeal) (hPre_finite_logits := hPre_finite_logits)
    ∧ preserves_RetentionIn_RetentionInIdeal
    ∧ algebraic_RetentionInIdeal_RetentionInReferenceIdeal (hRetentionInIdeal := hRetentionInIdeal) (hRetentionInReferenceIdeal := hRetentionInReferenceIdeal)
    ∧ preserves_RetentionOut_RetentionOutIdeal
    ∧ algebraic_RetentionOutIdeal_RetentionOutReferenceIdeal (hRetentionOutIdeal := hRetentionOutIdeal) (hRetentionOutReferenceIdeal := hRetentionOutReferenceIdeal)
    ∧ preserves_AttentionIn_AttentionInIdeal
    ∧ algebraic_AttentionInIdeal_AttentionInReferenceIdeal (hAttentionInIdeal := hAttentionInIdeal) (hAttentionInReferenceIdeal := hAttentionInReferenceIdeal)
    ∧ preserves_AttentionOut_AttentionOutIdeal
    ∧ algebraic_AttentionOutIdeal_AttentionOutReferenceIdeal (hAttentionOutIdeal := hAttentionOutIdeal) (hAttentionOutReferenceIdeal := hAttentionOutReferenceIdeal)
    ∧ preserves_Norm_NormIdeal
    ∧ algebraic_NormIdeal_NormReferenceIdeal (hNormIdeal := hNormIdeal) (hNormReferenceIdeal := hNormReferenceIdeal)
    ∧ preserves_Dense_DenseIdeal
    ∧ algebraic_DenseIdeal_DenseReferenceIdeal (hDenseIdeal := hDenseIdeal) (hDenseReferenceIdeal := hDenseReferenceIdeal)
-- ==== On_live_rows.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S512 : Shape := ⟨1, ![512]⟩
abbrev S1x512 : Shape := ⟨2, ![1, 512]⟩
abbrev S72x1 : Shape := ⟨2, ![72, 1]⟩
abbrev S72x512 : Shape := ⟨2, ![72, 512]⟩
abbrev S1x1 : Shape := ⟨2, ![1, 1]⟩
abbrev S36864 : Shape := ⟨1, ![36864]⟩
abbrev S36864x1 : Shape := ⟨2, ![36864, 1]⟩

class Facts : Prop where
  bcast_S512_S1x512_1 : S512.BroadcastsInDim S1x512 (![1] : Fin 1 → Fin S1x512.rank)
  bcast_S72_S72x1_0 : S72.BroadcastsInDim S72x1 (![0] : Fin 1 → Fin S72x1.rank)
  bcast_S1x512_S72x512_0_1 : S1x512.BroadcastsInDim S72x512 (![0, 1] : Fin 2 → Fin S72x512.rank)
  bcast_S72x1_S72x512_0_1 : S72x1.BroadcastsInDim S72x512 (![0, 1] : Fin 2 → Fin S72x512.rank)
  bcast_S1_S1x1_1 : S1.BroadcastsInDim S1x1 (![1] : Fin 1 → Fin S1x1.rank)
  bcast_S1x1_S72x1_0_1 : S1x1.BroadcastsInDim S72x1 (![0, 1] : Fin 2 → Fin S72x1.rank)
  shapeCasts_S72x512_S36864 : S72x512.ShapeCasts S36864
  bcast_S36864_S36864x1_0 : S36864.BroadcastsInDim S36864x1 (![0] : Fin 1 → Fin S36864x1.rank)
  bcast_S36864x1_S36864x2048_0_1 : S36864x1.BroadcastsInDim S36864x2048 (![0, 1] : Fin 2 → Fin S36864x2048.rank)

variable [Facts]

def fn {F : FTy → Type} [FloatOps F] (main_arg0 : FVec F S36864x2048 .f32) (main_arg1 : FVec F S8x2048x7168 .bf16) (main_arg2 : FVec F S8x2048x7168 .bf16) (main_arg3 : FVec F S8x7168x2048 .bf16) (main_arg4 : IVec S72 32) (main_arg5 : IVec S1 32) (main_arg6 : IVec S72 32) : IVec S36864x2048 1 :=
  let main_v0 : IVec S72 32 := iotaInDim S72 32 0
  let main_v1 : IVec S512 32 := iotaInDim S512 32 0
  let main_v2 : IVec S1x512 32 := broadcastInDim S1x512 ![1] bcast_S512_S1x512_1 main_v1
  let main_v3 : IVec S72x1 32 := broadcastInDim S72x1 ![0] bcast_S72_S72x1_0 main_arg6
  let main_v4 : IVec S72x512 32 := broadcastInDim S72x512 ![0, 1] bcast_S1x512_S72x512_0_1 main_v2
  let main_v5 : IVec S72x512 32 := broadcastInDim S72x512 ![0, 1] bcast_S72x1_S72x512_0_1 main_v3
  let main_v6 : IVec S72x512 1 := cmpi .slt main_v4 main_v5
  let main_v7 : IVec S72x1 32 := broadcastInDim S72x1 ![0] bcast_S72_S72x1_0 main_v0
  let main_v8 : IVec S1x1 32 := broadcastInDim S1x1 ![1] bcast_S1_S1x1_1 main_arg5
  let main_v9 : IVec S72x1 32 := broadcastInDim S72x1 ![0, 1] bcast_S1x1_S72x1_0_1 main_v8
  let main_v10 : IVec S72x1 1 := cmpi .slt main_v7 main_v9
  let main_v11 : IVec S72x512 1 := broadcastInDim S72x512 ![0, 1] bcast_S72x1_S72x512_0_1 main_v10
  let main_v12 : IVec S72x512 1 := andi main_v6 main_v11
  let main_v13 : IVec S36864 1 := shapeCast S36864 main_v12 shapeCasts_S72x512_S36864
  let main_v14 : IVec S36864x1 1 := broadcastInDim S36864x1 ![0] bcast_S36864_S36864x1_0 main_v13
  let main_v15 : IVec S36864x2048 1 := broadcastInDim S36864x2048 ![0, 1] bcast_S36864x1_S36864x2048_0_1 main_v14
  main_v15
-- ==== Pre_experts_in_range.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x2048 .f32) (main_arg1 : FVec F S8x2048x7168 .bf16) (main_arg2 : FVec F S8x2048x7168 .bf16) (main_arg3 : FVec F S8x7168x2048 .bf16) (main_arg4 : IVec S72 32) (main_arg5 : IVec S1 32) (main_arg6 : IVec S72 32) : IVec S_ 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg4 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  main_v6
-- ==== Pre_finite_logits.lean ====
abbrev S8x2048x6144 : Shape := ⟨3, ![8, 2048, 6144]⟩
abbrev S1x16x257 : Shape := ⟨3, ![1, 16, 257]⟩
abbrev S1x8x2048x14336 : Shape := ⟨4, ![1, 8, 2048, 14336]⟩
abbrev S8x2048x4096 : Shape := ⟨3, ![8, 2048, 4096]⟩
abbrev S_ : Shape := ⟨0, ![]⟩

class Facts : Prop where
  slices_S8x2048x6144_S8x2048x4096_0_0_0 : S8x2048x6144.Slices ![0, 0, 0] S8x2048x4096
  bitsLt_bf16_f32 : FTy.bits .bf16 < FTy.bits .f32
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1x16x257 : S_.BroadcastsInDim S1x16x257 (![] : Fin 0 → Fin S1x16x257.rank)
  reducesTo_S1x16x257_S_d0_1_2 : S1x16x257.ReducesTo [0, 1, 2] S_

variable [Facts]

def fn {F : FTy → Type} [FloatOps F] (main_arg0 : FVec F S8x2048x6144 .bf16) (main_arg1 : FVec F S1x16x257 .f32) (main_arg2 : FVec F S1x8x2048x14336 .f32) : IVec S_ 1 :=
  let main_v0 : FVec F S8x2048x4096 .bf16 := (extractStridedSlice S8x2048x4096 ![0, 0, 0] · slices_S8x2048x6144_S8x2048x4096_0_0_0) main_arg0
  let main_v1 : FVec F S8x2048x4096 .f32 := (extf .f32 · bitsLt_bf16_f32) main_v0
  let main_v2 : FVec F S8x2048x4096 .f32 := Host.absf main_v1
  let main_cst : FVec F S_ .f32 := constant S_ .f32 0x7F800000#32
  let main_v3 : FVec F S8x2048x4096 .f32 := broadcastInDim S8x2048x4096 ![] bcast_S_S8x2048x4096 main_cst
  let main_v4 : IVec S8x2048x4096 1 := cmpf .olt main_v2 main_v3
  let main_c : IVec S_ 1 := constantI S_ 1 1#1
  let main_v5 : IVec S_ 1 := (fun x v => Host.reduce IntOp.andi x v reducesTo_S8x2048x4096_S_d0_1_2 h_S_) main_v4 main_c
  let main_v6 : FVec F S1x16x257 .f32 := Host.absf main_arg1
  let main_cst_0 : FVec F S_ .f32 := constant S_ .f32 0x7F800000#32
  let main_v7 : FVec F S1x16x257 .f32 := broadcastInDim S1x16x257 ![] bcast_S_S1x16x257 main_cst_0
  let main_v8 : IVec S1x16x257 1 := cmpf .olt main_v6 main_v7
  let main_c_1 : IVec S_ 1 := constantI S_ 1 1#1
  let main_v9 : IVec S_ 1 := (fun x v => Host.reduce IntOp.andi x v reducesTo_S1x16x257_S_d0_1_2 h_S_) main_v8 main_c_1
  let main_v10 : IVec S_ 1 := andi main_v5 main_v9
  main_v10
-- ==== Kernel.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S256x2048 : Shape := ⟨2, ![256, 2048]⟩
abbrev S256x1024 : Shape := ⟨2, ![256, 1024]⟩

abbrev nBuf : Space → Nat
  | .hbm => 5
  | .vmem => 11
  | .smem => 3
  | _ => 0

abbrev bufTy : (tb : Table) → Fin (tcTables nBuf tb) → BufTy
  | .hbm, ⟨0, _⟩ => ⟨S36864x2048, .f32⟩
  | .hbm, ⟨1, _⟩ => ⟨S8x2048x7168, .bf16⟩
  | .hbm, ⟨2, _⟩ => ⟨S8x2048x7168, .bf16⟩
  | .hbm, ⟨3, _⟩ => ⟨S8x7168x2048, .bf16⟩
  | .hbm, ⟨4, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨3, ![main_arg4.idx, main_arg5.idx, main_arg6.idx], fun | 0 => main_arg4.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c256_i32 : BitVec 32 := 256#32
  let v5 : BitVec 1 := Scalar.cmpi .sgt v4 c256_i32
  let v6 : BitVec 32 := Scalar.extui v5
  let c0_i32_1 : BitVec 32 := 0#32
  let v7 : BitVec 1 := Scalar.cmpi .ne v6 c0_i32_1
  v7

def k0_cond3 (v4 : BitVec 32) : BitVec 1 :=
  let c0_i32_2 : BitVec 32 := 0#32
  let v8 : BitVec 1 := Scalar.cmpi .sgt v4 c0_i32_2
  let c256_i32_3 : BitVec 32 := 256#32
  let v9 : BitVec 1 := Scalar.cmpi .sle v4 c256_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x2048 : Shape := ⟨2, ![36864, 2048]⟩
abbrev S8x2048x7168 : Shape := ⟨3, ![8, 2048, 7168]⟩
abbrev S8x7168x2048 : Shape := ⟨3, ![8, 7168, 2048]⟩
abbrev S72 : Shape := ⟨1, ![72]⟩
abbrev S1 : Shape := ⟨1, ![1]⟩
abbrev S72x1 : Shape := ⟨2, ![72, 1]⟩
abbrev S72x512 : Shape := ⟨2, ![72, 512]⟩
abbrev S36864 : Shape := ⟨1, ![36864]⟩
abbrev S_ : Shape := ⟨0, ![]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S36864x7168 : Shape := ⟨2, ![36864, 7168]⟩
abbrev S36864x1 : Shape := ⟨2, ![36864, 1]⟩

abbrev nBuf : Space → Nat
  | .hbm => 252
  | .vmem => 0
  | .smem => 0
  | _ => 0

abbrev hbmTy0_0 (i : Nat) : BufTy := match i % 128 with
  | 0 => ⟨S36864x2048, .f32⟩
  | 1 => ⟨S8x2048x7168, .bf16⟩
  | 2 => ⟨S8x2048x7168, .bf16⟩
  | 3 => ⟨S8x7168x2048, .bf16⟩
  | 4 => ⟨S72, .i32⟩
  | 5 => ⟨S1, .i32⟩
  | 6 => ⟨S72, .i32⟩
  | 7 => ⟨S72x1, .i32⟩
  | 8 => ⟨S72x512, .i32⟩
  | 9 => ⟨S36864, .i32⟩
  | 10 => ⟨S_, .f32⟩
  | 11 => ⟨S36864x2048, .f32⟩
  | 12 => ⟨S1x2048x7168, .bf16⟩
  | 13 => ⟨S2048x7168, .bf16⟩
  | 14 => ⟨S2048x7168, .f32⟩
  | 15 => ⟨S1x2048x7168, .bf16⟩
  | 16 => ⟨S2048x7168, .bf16⟩
  | 17 => ⟨S2048x7168, .f32⟩
  | 18 => ⟨S1x7168x2048, .bf16⟩
  | 19 => ⟨S7168x2048, .bf16⟩
  | 20 => ⟨S7168x2048, .f32⟩
  | 21 => ⟨S36864x7168, .f32⟩
  | 22 => ⟨S36864x7168, .f32⟩
  | 23 => ⟨S36864x7168, .f32⟩
  | 24 => ⟨S36864x7168, .f32⟩
  | 25 => ⟨S_, .f32⟩
  | 26 => ⟨S36864x7168, .f32⟩
  | 27 => ⟨S36864x7168, .f32⟩
  | 28 => ⟨S_, .f32⟩
  | 29 => ⟨S36864x7168, .f32⟩
  | 30 => ⟨S36864x7168, .f32⟩
  | 31 => ⟨S36864x7168, .f32⟩
  | 32 => ⟨S36864x7168, .f32⟩
  | 33 => ⟨S36864x2048, .f32⟩
  | 34 => ⟨S_, .i32⟩
  | 35 => ⟨S36864, .i32⟩
  | 36 => ⟨S36864, .i1⟩
  | 37 => ⟨S36864, .f32⟩
  | 38 => ⟨S36864x1, .f32⟩
  | 39 => ⟨S36864x2048, .f32⟩
  | 40 => ⟨S36864x2048, .f32⟩
  | 41 => ⟨S36864x2048, .f32⟩
  | 42 => ⟨S1x2048x7168, .bf16⟩
  | 43 => ⟨S2048x7168, .bf16⟩
  | 44 => ⟨S2048x7168, .f32⟩
  | 45 => ⟨S1x2048x7168, .bf16⟩
  | 46 => ⟨S2048x7168, .bf16⟩
  | 47 => ⟨S2048x7168, .f32⟩
  | 48 => ⟨S1x7168x2048, .bf16⟩
  | 49 => ⟨S7168x2048, .bf16⟩
  | 50 => ⟨S7168x2048, .f32⟩
  | 51 => ⟨S36864x7168, .f32⟩
  | 52 => ⟨S36864x7168, .f32⟩
  | 53 => ⟨S36864x7168, .f32⟩
  | 54 => ⟨S36864x7168, .f32⟩
  | 55 => ⟨S_, .f32⟩
  | 56 => ⟨S36864x7168, .f32⟩
  | 57 => ⟨S36864x7168, .f32⟩
  | 58 => ⟨S_, .f32⟩
  | 59 => ⟨S36864x7168, .f32⟩
  | 60 => ⟨S36864x7168, .f32⟩
  | 61 => ⟨S36864x7168, .f32⟩
  | 62 => ⟨S36864x7168, .f32⟩
  | 63 => ⟨S36864x2048, .f32⟩
  | 64 => ⟨S_, .i32⟩
  | 65 => ⟨S36864, .i32⟩
  | 66 => ⟨S36864, .i1⟩
  | 67 => ⟨S36864, .f32⟩
  | 68 => ⟨S36864x1, .f32⟩
  | 69 => ⟨S36864x2048, .f32⟩
  | 70 => ⟨S36864x2048, .f32⟩
  | 71 => ⟨S36864x2048, .f32⟩
  | 72 => ⟨S1x2048x7168, .bf16⟩
  | 73 => ⟨S2048x7168, .bf16⟩
  | 74 => ⟨S2048x7168, .f32⟩
  | 75 => ⟨S1x2048x7168, .bf16⟩
  | 76 => ⟨S2048x7168, .bf16⟩
  | 77 => ⟨S2048x7168, .f32⟩
  | 78 => ⟨S1x7168x2048, .bf16⟩
  | 79 => ⟨S7168x2048, .bf16⟩
  | 80 => ⟨S7168x2048, .f32⟩
  | 81 => ⟨S36864x7168, .f32⟩
  | 82 => ⟨S36864x7168, .f32⟩
  | 83 => ⟨S36864x7168, .f32⟩
  | 84 => ⟨S36864x7168, .f32⟩
  | 85 => ⟨S_, .f32⟩
  | 86 => ⟨S36864x7168, .f32⟩
  | 87 => ⟨S36864x7168, .f32⟩
  | 88 => ⟨S_, .f32⟩
  | 89 => ⟨S36864x7168, .f32⟩
  | 90 => ⟨S36864x7168, .f32⟩
  | 91 => ⟨S36864x7168, .f32⟩
  | 92 => ⟨S36864x7168, .f32⟩
  | 93 => ⟨S36864x2048, .f32⟩
  | 94 => ⟨S_, .i32⟩
  | 95 => ⟨S36864, .i32⟩
  | 96 => ⟨S36864, .i1⟩
  | 97 => ⟨S36864, .f32⟩
  | 98 => ⟨S36864x1, .f32⟩
  | 99 => ⟨S36864x2048, .f32⟩
  | 100 => ⟨S36864x2048, .f32⟩
  | 101 => ⟨S36864x2048, .f32⟩
  | 102 => ⟨S1x2048x7168, .bf16⟩
  | 103 => ⟨S2048x7168, .bf16⟩
  | 104 => ⟨S2048x7168, .f32⟩
  | 105 => ⟨S1x2048x7168, .bf16⟩
  | 106 => ⟨S2048x7168, .bf16⟩
  | 107 => ⟨S2048x7168, .f32⟩
  | 108 => ⟨S1x7168x2048, .bf16⟩
  | 109 => ⟨S7168x2048, .bf16⟩
  | 110 => ⟨S7168x2048, .f32⟩
  | 111 => ⟨S36864x7168, .f32⟩
  | 112 => ⟨S36864x7168, .f32⟩
  | 113 => ⟨S36864x7168, .f32⟩
  | 114 => ⟨S36864x7168, .f32⟩
  | 115 => ⟨S_, .f32⟩
  | 116 => ⟨S36864x7168, .f32⟩
  | 117 => ⟨S36864x7168, .f32⟩
  | 118 => ⟨S_, .f32⟩
  | 119 => ⟨S36864x7168, .f32⟩
  | 120 => ⟨S36864x7168, .f32⟩
  | 121 => ⟨S36864x7168, .f32⟩
  | 122 => ⟨S36864x7168, .f32⟩
  | 123 => ⟨S36864x2048, .f32⟩
  | 124 => ⟨S_, .i32⟩
  | 125 => ⟨S36864, .i32⟩
  | 126 => ⟨S36864, .i1⟩
  | 127 => ⟨S36864, .f32⟩
  | _ => ⟨S36864x2048, .f32⟩

abbrev hbmTy0_1 (i : Nat) : BufTy := match i % 128 with
  | 0 => ⟨S36864x1, .f32⟩
  | 1 => ⟨S36864x2048, .f32⟩
  | 2 => ⟨S36864x2048, .f32⟩
  | 3 => ⟨S36864x2048, .f32⟩
  | 4 => ⟨S1x2048x7168, .bf16⟩
  | 5 => ⟨S2048x7168, .bf16⟩
  | 6 => ⟨S2048x7168, .f32⟩
  | 7 => ⟨S1x2048x7168, .bf16⟩
  | 8 => ⟨S2048x7168, .bf16⟩
  | 9 => ⟨S2048x7168, .f32⟩
  | 10 => ⟨S1x7168x2048, .bf16⟩
  | 11 => ⟨S7168x2048, .bf16⟩
  | 12 => ⟨S7168x2048, .f32⟩
  | 13 => ⟨S36864x7168, .f32⟩
  | 14 => ⟨S36864x7168, .f32⟩
  | 15 => ⟨S36864x7168, .f32⟩
  | 16 => ⟨S36864x7168, .f32⟩
  | 17 => ⟨S_, .f32⟩
  | 18 => ⟨S36864x7168, .f32⟩
  | 19 => ⟨S36864x7168, .f32⟩
  | 20 => ⟨S_, .f32⟩
  | 21 => ⟨S36864x7168, .f32⟩
  | 22 => ⟨S36864x7168, .f32⟩
  | 23 => ⟨S36864x7168, .f32⟩
  | 24 => ⟨S36864x7168, .f32⟩
  | 25 => ⟨S36864x2048, .f32⟩
  | 26 => ⟨S_, .i32⟩
  | 27 => ⟨S36864, .i32⟩
  | 28 => ⟨S36864, .i1⟩
  | 29 => ⟨S36864, .f32⟩
  | 30 => ⟨S36864x1, .f32⟩
  | 31 => ⟨S36864x2048, .f32⟩
  | 32 => ⟨S36864x2048, .f32⟩
  | 33 => ⟨S36864x2048, .f32⟩
  | 34 => ⟨S1x2048x7168, .bf16⟩
  | 35 => ⟨S2048x7168, .bf16⟩
  | 36 => ⟨S2048x7168, .f32⟩
  | 37 => ⟨S1x2048x7168, .bf16⟩
  | 38 => ⟨S2048x7168, .bf16⟩
  | 39 => ⟨S2048x7168, .f32⟩
  | 40 => ⟨S1x7168x2048, .bf16⟩
  | 41 => ⟨S7168x2048, .bf16⟩
  | 42 => ⟨S7168x2048, .f32⟩
  | 43 => ⟨S36864x7168, .f32⟩
  | 44 => ⟨S36864x7168, .f32⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S_, .f32⟩
  | 51 => ⟨S36864x7168, .f32⟩
  | 52 => ⟨S36864x7168, .f32⟩
  | 53 => ⟨S36864x7168, .f32⟩
  | 54 => ⟨S36864x7168, .f32⟩
  | 55 => ⟨S36864x2048, .f32⟩
  | 56 => ⟨S_, .i32⟩
  | 57 => ⟨S36864, .i32⟩
  | 58 => ⟨S36864, .i1⟩
  | 59 => ⟨S36864, .f32⟩
  | 60 => ⟨S36864x1, .f32⟩
  | 61 => ⟨S36864x2048, .f32⟩
  | 62 => ⟨S36864x2048, .f32⟩
  | 63 => ⟨S36864x2048, .f32⟩
  | 64 => ⟨S1x2048x7168, .bf16⟩
  | 65 => ⟨S2048x7168, .bf16⟩
  | 66 => ⟨S2048x7168, .f32⟩
  | 67 => ⟨S1x2048x7168, .bf16⟩
  | 68 => ⟨S2048x7168, .bf16⟩
  | 69 => ⟨S2048x7168, .f32⟩
  | 70 => ⟨S1x7168x2048, .bf16⟩
  | 71 => ⟨S7168x2048, .bf16⟩
  | 72 => ⟨S7168x2048, .f32⟩
  | 73 => ⟨S36864x7168, .f32⟩
  | 74 => ⟨S36864x7168, .f32⟩
  | 75 => ⟨S36864x7168, .f32⟩
  | 76 => ⟨S36864x7168, .f32⟩
  | 77 => ⟨S_, .f32⟩
  | 78 => ⟨S36864x7168, .f32⟩
  | 79 => ⟨S36864x7168, .f32⟩
  | 80 => ⟨S_, .f32⟩
  | 81 => ⟨S36864x7168, .f32⟩
  | 82 => ⟨S36864x7168, .f32⟩
  | 83 => ⟨S36864x7168, .f32⟩
  | 84 => ⟨S36864x7168, .f32⟩
  | 85 => ⟨S36864x2048, .f32⟩
  | 86 => ⟨S_, .i32⟩
  | 87 => ⟨S36864, .i32⟩
  | 88 => ⟨S36864, .i1⟩
  | 89 => ⟨S36864, .f32⟩
  | 90 => ⟨S36864x1, .f32⟩
  | 91 => ⟨S36864x2048, .f32⟩
  | 92 => ⟨S36864x2048, .f32⟩
  | 93 => ⟨S36864x2048, .f32⟩
  | 94 => ⟨S1x2048x7168, .bf16⟩
  | 95 => ⟨S2048x7168, .bf16⟩
  | 96 => ⟨S2048x7168, .f32⟩
  | 97 => ⟨S1x2048x7168, .bf16⟩
  | 98 => ⟨S2048x7168, .bf16⟩
  | 99 => ⟨S2048x7168, .f32⟩
  | 100 => ⟨S1x7168x2048, .bf16⟩
  | 101 => ⟨S7168x2048, .bf16⟩
  | 102 => ⟨S7168x2048, .f32⟩
  | 103 => ⟨S36864x7168, .f32⟩
  | 104 => ⟨S36864x7168, .f32⟩
  | 105 => ⟨S36864x7168, .f32⟩
  | 106 => ⟨S36864x7168, .f32⟩
  | 107 => ⟨S_, .f32⟩
  | 108 => ⟨S36864x7168, .f32⟩
  | 109 => ⟨S36864x7168, .f32⟩
  | 110 => ⟨S_, .f32⟩
  | 111 => ⟨S36864x7168, .f32⟩
  | 112 => ⟨S36864x7168, .f32⟩
  | 113 => ⟨S36864x7168, .f32⟩
  | 114 => ⟨S36864x7168, .f32⟩
  | 115 => ⟨S36864x2048, .f32⟩
  | 116 => ⟨S_, .i32⟩
  | 117 => ⟨S36864, .i32⟩
  | 118 => ⟨S36864, .i1⟩
  | 119 => ⟨S36864, .f32⟩
  | 120 => ⟨S36864x1, .f32⟩
  | 121 => ⟨S36864x2048, .f32⟩
  | 122 => ⟨S36864x2048, .f32⟩
  | 123 => ⟨S36864x2048, .f32⟩
  | _ => ⟨S36864x2048, .f32⟩

abbrev hbmTy (i : Nat) : BufTy := match i / 128 with
  | 0 => hbmTy0_0 i
  | 1 => hbmTy0_1 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_1 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_2 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_3 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_call5_v0 : Ref sig .tc := ⟨.hbm, 173, rfl⟩
abbrev main_call5_v1 : Ref sig .tc := ⟨.hbm, 174, rfl⟩
abbrev main_call5_cst : Ref sig .tc := ⟨.hbm, 175, rfl⟩
abbrev main_call5_v2 : Ref sig .tc := ⟨.hbm, 176, rfl⟩
abbrev main_call5_v3 : Ref sig .tc := ⟨.hbm, 177, rfl⟩
abbrev main_call5_cst_0 : Ref sig .tc := ⟨.hbm, 178, rfl⟩
abbrev main_call5_v4 : Ref sig .tc := ⟨.hbm, 179, rfl⟩
abbrev main_call5_v5 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_c_4 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_call6_v0 : Ref sig .tc := ⟨.hbm, 203, rfl⟩
abbrev main_call6_v1 : Ref sig .tc := ⟨.hbm, 204, rfl⟩
abbrev main_call6_cst : Ref sig .tc := ⟨.hbm, 205, rfl⟩
abbrev main_call6_v2 : Ref sig .tc := ⟨.hbm, 206, rfl⟩
abbrev main_call6_v3 : Ref sig .tc := ⟨.hbm, 207, rfl⟩
abbrev main_call6_cst_0 : Ref sig .tc := ⟨.hbm, 208, rfl⟩
abbrev main_call6_v4 : Ref sig .tc := ⟨.hbm, 209, rfl⟩
abbrev main_call6_v5 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_c_5 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_call7_v0 : Ref sig .tc := ⟨.hbm, 233, rfl⟩
abbrev main_call7_v1 : Ref sig .tc := ⟨.hbm, 234, rfl⟩
abbrev main_call7_cst : Ref sig .tc := ⟨.hbm, 235, rfl⟩
abbrev main_call7_v2 : Ref sig .tc := ⟨.hbm, 236, rfl⟩
abbrev main_call7_v3 : Ref sig .tc := ⟨.hbm, 237, rfl⟩
abbrev main_call7_cst_0 : Ref sig .tc := ⟨.hbm, 238, rfl⟩
abbrev main_call7_v4 : Ref sig .tc := ⟨.hbm, 239, rfl⟩
abbrev main_call7_v5 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_c_6 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩

abbrev nD : Nat := 1
abbrev τ : Topo := Topo.v7x

variable {F : FTy → Type} [FloatOps F]
-- ==== Attention.lean ====
abbrev S8x2048x6144 : Shape := ⟨3, ![8, 2048, 6144]⟩
abbrev S1x16x257 : Shape := ⟨3, ![1, 16, 257]⟩
abbrev S1x8x2048x14336 : Shape := ⟨4, ![1, 8, 2048, 14336]⟩
abbrev S8x2048x14336 : Shape := ⟨3, ![8, 2048, 14336]⟩
abbrev S16384x14336 : Shape := ⟨2, ![16384, 14336]⟩
abbrev S16x257 : Shape := ⟨2, ![16, 257]⟩
abbrev S_ : Shape := ⟨0, ![]⟩
abbrev S16x8x384 : Shape := ⟨3, ![16, 8, 384]⟩
abbrev S1 : Shape := ⟨1, ![1]⟩
abbrev S2 : Shape := ⟨1, ![2]⟩
abbrev S8x2048x2048 : Shape := ⟨3, ![8, 2048, 2048]⟩
abbrev S16384x7168 : Shape := ⟨2, ![16384, 7168]⟩
abbrev S1x2048x256 : Shape := ⟨3, ![1, 2048, 256]⟩
abbrev S2x8x384 : Shape := ⟨3, ![2, 8, 384]⟩
abbrev S256x7168 : Shape := ⟨2, ![256, 7168]⟩
abbrev S2x256x768 : Shape := ⟨3, ![2, 256, 768]⟩
abbrev S384x1024 : Shape := ⟨2, ![384, 1024]⟩
abbrev S256x1024 : Shape := ⟨2, ![256, 1024]⟩
abbrev S256x768 : Shape := ⟨2, ![256, 768]⟩
abbrev S1x8x384 : Shape := ⟨3, ![1, 8, 384]⟩
abbrev S8x384 : Shape := ⟨2, ![8, 384]⟩
abbrev S8x1024 : Shape := ⟨2, ![8, 1024]⟩
abbrev S1x1024 : Shape := ⟨2, ![1, 1024]⟩
abbrev S1x256x768 : Shape := ⟨3, ![1, 256, 768]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S1x768x128 : Shape := ⟨3, ![1, 768, 128]⟩
abbrev S768x128 : Shape := ⟨2, ![768, 128]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x6144, .bf16⟩
  | .hbm, ⟨1, _⟩ => ⟨S1x16x257, .f32⟩
  | .hbm, ⟨2, _⟩ => ⟨S1x8x2048x14336, .f32⟩
  | .hbm, ⟨3, _⟩ => ⟨S8x2048x14336, .f32⟩
  | .hbm, ⟨4, _⟩ => ⟨S16384x14336, .f32⟩
  | .hbm, ⟨5, _⟩ => ⟨S16x257, .f32⟩
  | .hbm, ⟨6, _⟩ => ⟨S_, .f32⟩
  | .hbm, ⟨7, _⟩ => ⟨S16x8x384, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S16x8x384, .f32⟩
  | .hbm, ⟨14, _⟩ => ⟨S8x2048x2048, .bf16⟩
  | .hbm, ⟨15, _⟩ => ⟨S16384x7168, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2x8x384, .f32⟩
  | .local _ .vmem, ⟨7, _⟩ => ⟨S2x8x384, .f32⟩
  | .local _ .vmem, ⟨8, _⟩ => ⟨S256x7168, .f32⟩
  | .local _ .vmem, ⟨9, _⟩ => ⟨S256x7168, .f32⟩
  | .local _ .vmem, ⟨10, _⟩ => ⟨S1x2048x256, .bf16⟩
  | .local _ .vmem, ⟨11, _⟩ => ⟨S1x2048x256, .bf16⟩
  | .local _ .vmem, ⟨12, _⟩ => ⟨S256x7168, .bf16⟩
  | .local _ .vmem, ⟨13, _⟩ => ⟨S256x7168, .bf16⟩
  | .local _ .vmem, ⟨14, _⟩ => ⟨S2x256x768, .f32⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c64_i32_0 : BitVec 32 := 64#32
  let v3 : BitVec 32 := Scalar.divsi v2 c64_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let c0_i32_6 : BitVec 32 := 0#32
  ![v19.toNat, c1_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c64_i32_0 : BitVec 32 := 64#32
  let v3 : BitVec 32 := Scalar.divsi v2 c64_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttentionIdeal.lean ====
variable {F : FTy → Type} [FloatOps F] [Named F]
def κ : String → Option EReal := fun
  | "mask" => some ⊥
  | _ => none
-- ==== AttentionReferenceIdeal.lean ====
abbrev S8x2048x6144 : Shape := ⟨3, ![8, 2048, 6144]⟩
abbrev S1x16x257 : Shape := ⟨3, ![1, 16, 257]⟩
abbrev S1x8x2048x14336 : Shape := ⟨4, ![1, 8, 2048, 14336]⟩
abbrev S16x257 : Shape := ⟨2, ![16, 257]⟩
abbrev S8x2048x2048 : Shape := ⟨3, ![8, 2048, 2048]⟩
abbrev S8x32x64x16x128 : Shape := ⟨5, ![8, 32, 64, 16, 128]⟩
abbrev S8x2048x16x128 : Shape := ⟨4, ![8, 2048, 16, 128]⟩
abbrev S_ : Shape := ⟨0, ![]⟩
abbrev S8x2560x16x128 : Shape := ⟨4, ![8, 2560, 16, 128]⟩
abbrev S8x40x64x16x128 : Shape := ⟨5, ![8, 40, 64, 16, 128]⟩
abbrev S8x32x576x16x128 : Shape := ⟨5, ![8, 32, 576, 16, 128]⟩
abbrev S576 : Shape := ⟨1, ![576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32 : Shape := ⟨1, ![32]⟩
abbrev S32x1 : Shape := ⟨2, ![32, 1]⟩
abbrev S32x576 : Shape := ⟨2, ![32, 576]⟩
abbrev S8x32x16x64x576 : Shape := ⟨5, ![8, 32, 16, 64, 576]⟩
abbrev S1x1x16x64x576 : Shape := ⟨5, ![1, 1, 16, 64, 576]⟩
abbrev S1x32x1x1x576 : Shape := ⟨5, ![1, 32, 1, 1, 576]⟩
abbrev S8x32x16x64 : Shape := ⟨4, ![8, 32, 16, 64]⟩
abbrev S8x32x16x64x1 : Shape := ⟨5, ![8, 32, 16, 64, 1]⟩
abbrev S8x32x16x128x64 : Shape := ⟨5, ![8, 32, 16, 128, 64]⟩
abbrev S8x2048x14336 : Shape := ⟨3, ![8, 2048, 14336]⟩
abbrev S8x2048x7168 : Shape := ⟨3, ![8, 2048, 7168]⟩
abbrev S16384x7168 : Shape := ⟨2, ![16384, 7168]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x6144, .bf16⟩
  | .hbm, ⟨1, _⟩ => ⟨S1x16x257, .f32⟩
  | .hbm, ⟨2, _⟩ => ⟨S1x8x2048x14336, .f32⟩
  | .hbm, ⟨3, _⟩ => ⟨S16x257, .f32⟩
  | .hbm, ⟨4, _⟩ => ⟨S8x2048x6144, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x32x64x16x128, .f32⟩
  | .hbm, ⟨9, _⟩ => ⟨S8x2048x16x128, .f32⟩
  | .hbm, ⟨10, _⟩ => ⟨S8x2048x16x128, .f32⟩
  | .hbm, ⟨11, _⟩ => ⟨S_, .i32⟩
  | .hbm, ⟨12, _⟩ => ⟨S_, .f32⟩
  | .hbm, ⟨13, _⟩ => ⟨S8x2560x16x128, .f32⟩
  | .hbm, ⟨14, _⟩ => ⟨S_, .i32⟩
  | .hbm, ⟨15, _⟩ => ⟨S_, .f32⟩
  | .hbm, ⟨16, _⟩ => ⟨S8x2560x16x128, .f32⟩
  | .hbm, ⟨17, _⟩ => ⟨S8x40x64x16x128, .f32⟩
  | .hbm, ⟨18, _⟩ => ⟨S8x32x64x16x128, .f32⟩
  | .hbm, ⟨19, _⟩ => ⟨S8x32x64x16x128, .f32⟩
  | .hbm, ⟨20, _⟩ => ⟨S8x32x64x16x128, .f32⟩
  | .hbm, ⟨21, _⟩ => ⟨S8x32x64x16x128, .f32⟩
  | .hbm, ⟨22, _⟩ => ⟨S8x32x64x16x128, .f32⟩
  | .hbm, ⟨23, _⟩ => ⟨S8x32x64x16x128, .f32⟩
  | .hbm, ⟨24, _⟩ => ⟨S8x32x64x16x128, .f32⟩
  | .hbm, ⟨25, _⟩ => ⟨S8x32x64x16x128, .f32⟩
  | .hbm, ⟨26, _⟩ => ⟨S8x32x64x16x128, .f32⟩
  | .hbm, ⟨27, _⟩ => ⟨S8x32x576x16x128, .f32⟩
  | .hbm, ⟨28, _⟩ => ⟨S8x40x64x16x128, .f32⟩
  | .hbm, ⟨29, _⟩ => ⟨S8x32x64x16x128, .f32⟩
  | .hbm, ⟨30, _⟩ => ⟨S8x32x64x16x128, .f32⟩
  | .hbm, ⟨31, _⟩ => ⟨S8x32x64x16x128, .f32⟩
  | .hbm, ⟨32, _⟩ => ⟨S8x32x64x16x128, .f32⟩
  | .hbm, ⟨33, _⟩ => ⟨S8x32x64x16x128, .f32⟩
  | .hbm, ⟨34, _⟩ => ⟨S8x32x64x16x128, .f32⟩
  | .hbm, ⟨35, _⟩ => ⟨S8x32x64x16x128, .f32⟩
  | .hbm, ⟨36, _⟩ => ⟨S8x32x64x16x128, .f32⟩
  | .hbm, ⟨37, _⟩ => ⟨S8x32x64x16x128, .f32⟩
  | .hbm, ⟨38, _⟩ => ⟨S8x32x576x16x128, .f32⟩
  | .hbm, ⟨39, _⟩ => ⟨S576, .i32⟩
  | .hbm, ⟨40, _⟩ => ⟨S64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S1x576, .i32⟩
  | .hbm, ⟨46, _⟩ => ⟨S64x576, .i32⟩
  | .hbm, ⟨47, _⟩ => ⟨S64x576, .i32⟩
  | .hbm, ⟨48, _⟩ => ⟨S64x576, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S16x64x576, .f32⟩
  | .hbm, ⟨69, _⟩ => ⟨S32, .i32⟩
  | .hbm, ⟨70, _⟩ => ⟨S32x1, .i32⟩
  | .hbm, ⟨71, _⟩ => ⟨S_, .i32⟩
  | .hbm, ⟨72, _⟩ => ⟨S32x1, .i32⟩
  | .hbm, ⟨73, _⟩ => ⟨S32x1, .i32⟩
  | .hbm, ⟨74, _⟩ => ⟨S_, .i32⟩
  | .hbm, ⟨75, _⟩ => ⟨S32x1, .i32⟩
  | .hbm, ⟨76, _⟩ => ⟨S32x1, .i32⟩
  | .hbm, ⟨77, _⟩ => ⟨S1x576, .i32⟩
  | .hbm, ⟨78, _⟩ => ⟨S32x576, .i32⟩
  | .hbm, ⟨79, _⟩ => ⟨S32x576, .i32⟩
  | .hbm, ⟨80, _⟩ => ⟨S32x576, .i32⟩
  | .hbm, ⟨81, _⟩ => ⟨S_, .i32⟩
  | .hbm, ⟨82, _⟩ => ⟨S32x576, .i32⟩
  | .hbm, ⟨83, _⟩ => ⟨S32x576, .i1⟩
  | .hbm, ⟨84, _⟩ => ⟨S8x32x16x64x576, .f32⟩
  | .hbm, ⟨85, _⟩ => ⟨S_, .f32⟩
  | .hbm, ⟨86, _⟩ => ⟨S8x32x16x64x576, .f32⟩
  | .hbm, ⟨87, _⟩ => ⟨S8x32x16x64x576, .f32⟩
  | .hbm, ⟨88, _⟩ => ⟨S1x1x16x64x576, .f32⟩
  | .hbm, ⟨89, _⟩ => ⟨S8x32x16x64x576, .f32⟩
  | .hbm, ⟨90, _⟩ => ⟨S8x32x16x64x576, .f32⟩
  | .hbm, ⟨91, _⟩ => ⟨S1x32x1x1x576, .i1⟩
  | .hbm, ⟨92, _⟩ => ⟨S_, .f32⟩
  | .hbm, ⟨93, _⟩ => ⟨S_, .f32⟩
  | .hbm, ⟨94, _⟩ => ⟨S8x32x16x64x576, .i1⟩
  | .hbm, ⟨95, _⟩ => ⟨S8x32x16x64x576, .f32⟩
  | .hbm, ⟨96, _⟩ => ⟨S8x32x16x64x576, .f32⟩
  | .hbm, ⟨97, _⟩ => ⟨S_, .f32⟩
  | .hbm, ⟨98, _⟩ => ⟨S8x32x16x64, .f32⟩
  | .hbm, ⟨99, _⟩ => ⟨S_, .f32⟩
  | .hbm, ⟨100, _⟩ => ⟨S8x32x16x64, .f32⟩
  | .hbm, ⟨101, _⟩ => ⟨S8x32x16x64, .f32⟩
  | .hbm, ⟨102, _⟩ => ⟨S8x32x16x64x1, .f32⟩
  | .hbm, ⟨103, _⟩ => ⟨S8x32x16x64x576, .f32⟩
  | .hbm, ⟨104, _⟩ => ⟨S8x32x16x64x576, .f32⟩
  | .hbm, ⟨105, _⟩ => ⟨S8x32x16x64x576, .f32⟩
  | .hbm, ⟨106, _⟩ => ⟨S_, .f32⟩
  | .hbm, ⟨107, _⟩ => ⟨S8x32x16x64, .f32⟩
  | .hbm, ⟨108, _⟩ => ⟨S8x32x16x64x1, .f32⟩
  | .hbm, ⟨109, _⟩ => ⟨S8x32x16x64x576, .f32⟩
  | .hbm, ⟨110, _⟩ => ⟨S8x32x16x64x576, .f32⟩
  | .hbm, ⟨111, _⟩ => ⟨S8x32x16x128x64, .f32⟩
  | .hbm, ⟨112, _⟩ => ⟨S8x32x64x16x128, .f32⟩
  | .hbm, ⟨113, _⟩ => ⟨S8x2048x2048, .f32⟩
  | .hbm, ⟨114, _⟩ => ⟨S8x2048x14336, .f32⟩
  | .hbm, ⟨115, _⟩ => ⟨S8x2048x7168, .f32⟩
  | .hbm, ⟨116, _⟩ => ⟨S16384x7168, .f32⟩
  | .hbm, ⟨117, _⟩ => ⟨S8x2048x2048, .bf16⟩
  | .hbm, ⟨118, _⟩ => ⟨S16384x7168, .bf16⟩
  | _, _ => ⟨S8x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_2 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== RetentionIn.lean ====
abbrev S16384x2048 : Shape := ⟨2, ![16384, 2048]⟩
abbrev S1x2048x12288 : Shape := ⟨3, ![1, 2048, 12288]⟩
abbrev S1x8x2048x14336 : Shape := ⟨4, ![1, 8, 2048, 14336]⟩
abbrev S8x2048x14336 : Shape := ⟨3, ![8, 2048, 14336]⟩
abbrev S16384x14336 : Shape := ⟨2, ![16384, 14336]⟩
abbrev S2048x12288 : Shape := ⟨2, ![2048, 12288]⟩
abbrev S16384x12288 : Shape := ⟨2, ![16384, 12288]⟩
abbrev S16384x7168 : Shape := ⟨2, ![16384, 7168]⟩
abbrev S1024x2048 : Shape := ⟨2, ![1024, 2048]⟩
abbrev S2048x1024 : Shape := ⟨2, ![2048, 1024]⟩
abbrev S128x7168 : Shape := ⟨2, ![128, 7168]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S1x8x2048x14336, .f32⟩
  | .hbm, ⟨3, _⟩ => ⟨S8x2048x14336, .f32⟩
  | .hbm, ⟨4, _⟩ => ⟨S16384x14336, .f32⟩
  | .hbm, ⟨5, _⟩ => ⟨S2048x12288, .f32⟩
  | .hbm, ⟨6, _⟩ => ⟨S16384x12288, .bf16⟩
  | .hbm, ⟨7, _⟩ => ⟨S16384x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S128x7168, .f32⟩
  | .local _ .vmem, ⟨5, _⟩ => ⟨S128x7168, .f32⟩
  | .local _ .vmem, ⟨6, _⟩ => ⟨S1024x1024, .bf16⟩
  | .local _ .vmem, ⟨7, _⟩ => ⟨S1024x1024, .bf16⟩
  | .local _ .vmem, ⟨8, _⟩ => ⟨S128x7168, .bf16⟩
  | .local _ .vmem, ⟨9, _⟩ => ⟨S128x7168, .bf16⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c128_i32 : BitVec 32 := 128#32
  let v2 : BitVec 32 := Scalar.muli v1 c128_i32
  let c192_i32 : BitVec 32 := 192#32
  let v3 : BitVec 32 := Scalar.divsi v2 c192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c192_i32 c0_i32_1
  let v10 : BitVec 32 := Scalar.extui v9
  let c0_i32_2 : BitVec 32 := 0#32
  let v11 : BitVec 1 := Scalar.cmpi .slt c192_i32 c0_i32_2
  let v12 : BitVec 32 := Scalar.extui v11
  let v13 : BitVec 32 := Scalar.subi v10 v12
  let v14 : BitVec 1 := Scalar.cmpi .ne v8 v13
  let v15 : BitVec 32 := Scalar.remsi v2 c192_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c128_i32 : BitVec 32 := 128#32
  let v2 : BitVec 32 := Scalar.muli v1 c128_i32
  let c192_i32 : BitVec 32 := 192#32
  let v3 : BitVec 32 := Scalar.divsi v2 c192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c192_i32 c0_i32_1
  let v10 : BitVec 32 := Scalar.extui v9
  let c0_i32_2 : BitVec 32 := 0#32
  let v11 : BitVec 1 := Scalar.cmpi .slt c192_i32 c0_i32_2
  let v12 : BitVec 32 := Scalar.extui v11
  let v13 : BitVec 32 := Scalar.subi v10 v12
  let v14 : BitVec 1 := Scalar.cmpi .ne v8 v13
  let v15 : BitVec 32 := Scalar.remsi v2 c192_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetentionInReferenceIdeal.lean ====
abbrev S16384x2048 : Shape := ⟨2, ![16384, 2048]⟩
abbrev S1x2048x12288 : Shape := ⟨3, ![1, 2048, 12288]⟩
abbrev S1x8x2048x14336 : Shape := ⟨4, ![1, 8, 2048, 14336]⟩
abbrev S2048x12288 : Shape := ⟨2, ![2048, 12288]⟩
abbrev S16384x12288 : Shape := ⟨2, ![16384, 12288]⟩
abbrev S8x2048x14336 : Shape := ⟨3, ![8, 2048, 14336]⟩
abbrev S8x2048x7168 : Shape := ⟨3, ![8, 2048, 7168]⟩
abbrev S16384x7168 : Shape := ⟨2, ![16384, 7168]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12288, .f32⟩
  | .hbm, ⟨2, _⟩ => ⟨S1x8x2048x14336, .f32⟩
  | .hbm, ⟨3, _⟩ => ⟨S16384x2048, .f32⟩
  | .hbm, ⟨4, _⟩ => ⟨S2048x12288, .f32⟩
  | .hbm, ⟨5, _⟩ => ⟨S16384x12288, .f32⟩
  | .hbm, ⟨6, _⟩ => ⟨S8x2048x14336, .f32⟩
  | .hbm, ⟨7, _⟩ => ⟨S8x2048x7168, .f32⟩
  | .hbm, ⟨8, _⟩ => ⟨S16384x7168, .f32⟩
  | .hbm, ⟨9, _⟩ => ⟨S16384x12288, .bf16⟩
  | .hbm, ⟨10, _⟩ => ⟨S16384x7168, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RetentionOut.lean ====
abbrev S16384x4096 : Shape := ⟨2, ![16384, 4096]⟩
abbrev S1x4096x2048 : Shape := ⟨3, ![1, 4096, 2048]⟩
abbrev S16384x2048 : Shape := ⟨2, ![16384, 2048]⟩
abbrev S4096x2048 : Shape := ⟨2, ![4096, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S4096x2048, .f32⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetentionOutReferenceIdeal.lean ====
abbrev S16384x4096 : Shape := ⟨2, ![16384, 4096]⟩
abbrev S1x4096x2048 : Shape := ⟨3, ![1, 4096, 2048]⟩
abbrev S16384x2048 : Shape := ⟨2, ![16384, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S16384x4096, .f32⟩
  | .hbm, ⟨4, _⟩ => ⟨S4096x2048, .f32⟩
  | .hbm, ⟨5, _⟩ => ⟨S16384x2048, .f32⟩
  | .hbm, ⟨6, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttentionIn.lean ====
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S2048x6144, .f32⟩
  | .hbm, ⟨3, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttentionInReferenceIdeal.lean ====
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S16384x2048, .f32⟩
  | .hbm, ⟨3, _⟩ => ⟨S2048x6144, .f32⟩
  | .hbm, ⟨4, _⟩ => ⟨S16384x6144, .f32⟩
  | .hbm, ⟨5, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttentionOut.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionOutReferenceIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8x2048x2048 : Shape := ⟨3, ![8, 2048, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8x2048x2048 : Shape := ⟨3, ![8, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S16384x2048, .f32⟩
  | .hbm, ⟨21, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Dense.lean ====
abbrev S16384x2048 : Shape := ⟨2, ![16384, 2048]⟩
abbrev S2x2048 : Shape := ⟨2, ![2, 2048]⟩
abbrev S2048x5632 : Shape := ⟨2, ![2048, 5632]⟩
abbrev S5632x2048 : Shape := ⟨2, ![5632, 2048]⟩
abbrev S1x8x7168x2048 : Shape := ⟨4, ![1, 8, 7168, 2048]⟩
abbrev S8x7168x2048 : Shape := ⟨3, ![8, 7168, 2048]⟩
abbrev S57344x2048 : Shape := ⟨2, ![57344, 2048]⟩
abbrev S1x2048 : Shape := ⟨2, ![1, 2048]⟩
abbrev S2048 : Shape := ⟨1, ![2048]⟩
abbrev S1x2048x5632 : Shape := ⟨3, ![1, 2048, 5632]⟩
abbrev S1x5632x2048 : Shape := ⟨3, ![1, 5632, 2048]⟩
abbrev S_ : Shape := ⟨0, ![]⟩
abbrev S32 : Shape := ⟨1, ![32]⟩
abbrev S1 : Shape := ⟨1, ![1]⟩
abbrev S512x2048 : Shape := ⟨2, ![512, 2048]⟩
abbrev S1x2048x512 : Shape := ⟨3, ![1, 2048, 512]⟩
abbrev S1x512x2048 : Shape := ⟨3, ![1, 512, 2048]⟩
abbrev S224x2048 : Shape := ⟨2, ![224, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 24
  | .vmem => 19
  | .smem => 3
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x8x7168x2048, .f32⟩
  | .hbm, ⟨7, _⟩ => ⟨S8x7168x2048, .f32⟩
  | .hbm, ⟨8, _⟩ => ⟨S57344x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048x5632, .bf16⟩
  | .hbm, ⟨14, _⟩ => ⟨S1x2048x5632, .bf16⟩
  | .hbm, ⟨15, _⟩ => ⟨S1x5632x2048, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .bf16⟩
  | .hbm, ⟨23, _⟩ => ⟨S57344x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S224x2048, .f32⟩
  | .local _ .vmem, ⟨11, _⟩ => ⟨S224x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S224x2048, .bf16⟩
  | .local _ .vmem, ⟨17, _⟩ => ⟨S224x2048, .bf16⟩
  | .local _ .vmem, ⟨18, _⟩ => ⟨S512x2048, .bf16⟩
  | .local _ .smem, ⟨0, _⟩ => ⟨S32, .i32⟩
  | .local _ .smem, ⟨1, _⟩ => ⟨S1, .i32⟩
  | .local _ .smem, ⟨2, _⟩ => ⟨S32, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v9 : Ref sig .tc := ⟨.smem, 0, rfl⟩
abbrev main_v10 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

abbrev pre0 : Pipeline.Prefetch sig := ⟨3, ![main_v9.idx, main_v10.idx, main_v11.idx], fun | 0 => main_v9.names | 1 => main_v10.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (v8 : BitVec 32) : BitVec 1 :=
  let c0_i32_4 : BitVec 32 := 0#32
  let v9 : BitVec 1 := Scalar.cmpi .sgt v8 c0_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_6 : BitVec 32 := 0#32
  let v14 : BitVec 1 := Scalar.cmpi .ne v13 c0_i32_6
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S32.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c256_i32 : BitVec 32 := 256#32
  let v2 : BitVec 32 := Scalar.muli v1 c256_i32
  let c352_i32 : BitVec 32 := 352#32
  let v3 : BitVec 32 := Scalar.divsi v2 c352_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c352_i32 c0_i32_1
  let v10 : BitVec 32 := Scalar.extui v9
  let c0_i32_2 : BitVec 32 := 0#32
  let v11 : BitVec 1 := Scalar.cmpi .slt c352_i32 c0_i32_2
  let v12 : BitVec 32 := Scalar.extui v11
  let v13 : BitVec 32 := Scalar.subi v10 v12
  let v14 : BitVec 1 := Scalar.cmpi .ne v8 v13
  let v15 : BitVec 32 := Scalar.remsi v2 c352_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c256_i32 : BitVec 32 := 256#32
  let v2 : BitVec 32 := Scalar.muli v1 c256_i32
  let c352_i32 : BitVec 32 := 352#32
  let v3 : BitVec 32 := Scalar.divsi v2 c352_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c352_i32 c0_i32_1
  let v10 : BitVec 32 := Scalar.extui v9
  let c0_i32_2 : BitVec 32 := 0#32
  let v11 : BitVec 1 := Scalar.cmpi .slt c352_i32 c0_i32_2
  let v12 : BitVec 32 := Scalar.extui v11
  let v13 : BitVec 32 := Scalar.subi v10 v12
  let v14 : BitVec 1 := Scalar.cmpi .ne v8 v13
  let v15 : BitVec 32 := Scalar.remsi v2 c352_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S224x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S224x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DenseReferenceIdeal.lean ====
abbrev S16384x2048 : Shape := ⟨2, ![16384, 2048]⟩
abbrev S2x2048 : Shape := ⟨2, ![2, 2048]⟩
abbrev S2048x5632 : Shape := ⟨2, ![2048, 5632]⟩
abbrev S5632x2048 : Shape := ⟨2, ![5632, 2048]⟩
abbrev S1x8x7168x2048 : Shape := ⟨4, ![1, 8, 7168, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S8x7168x2048 : Shape := ⟨3, ![8, 7168, 2048]⟩
abbrev S57344x2048 : Shape := ⟨2, ![57344, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x8x7168x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x5632, .f32⟩
  | .hbm, ⟨26, _⟩ => ⟨S16384x5632, .f32⟩
  | .hbm, ⟨27, _⟩ => ⟨S2048x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S8x7168x2048, .f32⟩
  | .hbm, ⟨61, _⟩ => ⟨S57344x2048, .f32⟩
  | .hbm, ⟨62, _⟩ => ⟨S16384x2048, .bf16⟩
  | .hbm, ⟨63, _⟩ => ⟨S57344x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Proof.Tables.lean ====
module

public import proofs.«01_k».proof.Defs
public import proofs.«01_k».proof.Proof.Gen.Pre_experts_in_range
public import proofs.«01_k».proof.Proof.Gen.On_live_rows
public import Idealize.ShloMosaic.Lib.ReduceAll
public import Idealize.ShloMosaic.Lib.Affine
public import Idealize.ShloMosaic.Lib.Pipeline.Value
public import Idealize.ShloMosaic.Lib.ValueIdx

@[expose] public section

set_option maxRecDepth 16384
set_option Elab.async false

noncomputable section
namespace Cert.Tables

open Idealize.ShloMosaic
open Idealize.ShloMosaic.ValueIdx

variable {F : FTy → Type} [FloatOps F]

section Pre
open Cert.Pre_experts_in_range Cert.Pre_experts_in_range.Gen

/-- Under the precondition every tile's expert is one of the eight. -/
theorem experts_lt (x0 : FVec F S36864x2048 .f32) (x1 x2 : FVec F S8x2048x7168 .bf16) (x3 : FVec F S8x7168x2048 .bf16) (te : IVec S72 32) (nu : IVec S1 32)
    (tr : IVec S72 32) (i : S_.Idx) (h : Cert.Pre_experts_in_range.fn (F := F) x0 x1 x2 x3 te nu tr i = 1#1) (j : S72.Idx) : (te j).toNat < 8 := by
  unfold Cert.Pre_experts_in_range.fn at h
  have : Subsingleton S_.Idx := ⟨fun a b => funext fun k => k.elim0⟩
  obtain ⟨h1, h2⟩ := IntOp.andi_eq_one.1 h
  have g1 := Host.reduce_andi_all _ _ _ _ _ h1 j
  have g2 := Host.reduce_andi_all _ _ _ _ _ h2 j
  have k1 : (0#32 : BitVec 32).toInt ≤ (te j).toInt := IntOp.cmpi_sge.1 g1
  have k2 : (te j).toInt < (8#32 : BitVec 32).toInt := IntOp.cmpi_slt.1 g2
  rw [show (0#32 : BitVec 32).toInt = 0 from by decide] at k1
  rw [show (8#32 : BitVec 32).toInt = 8 from by decide] at k2
  rw [BitVec.toInt_eq_toNat_cond] at k1 k2
  have := (te j).isLt
  split at k1 <;> omega

end Pre

section Mask
open Cert.On_live_rows Cert.On_live_rows.Gen

/-- The mask's ones: a row below its tile's count, in a used tile. -/
theorem live_row (x0 : FVec F S36864x2048 .f32) (x1 x2 : FVec F S8x2048x7168 .bf16) (x3 : FVec F S8x7168x2048 .bf16) (te : IVec S72 32) (nu : IVec S1 32)
    (tr : IVec S72 32) (n : Fin 36864) (d : Fin 2048) (h : Cert.On_live_rows.fn (F := F) x0 x1 x2 x3 te nu tr (ix2 n d) = 1#1) :
    ((n.val % 512 : ℕ) : ℤ) < (tr (ix1 ⟨n.val / 512, by omega⟩)).toInt ∧ ((n.val / 512 : ℕ) : ℤ) < (nu (ix1 0)).toInt := by
  unfold Cert.On_live_rows.fn at h
  have e1 := broadcastInDim_apply ![0, 1] Facts.bcast_S36864x1_S36864x2048_0_1 (broadcastInDim S36864x1 ![0] Facts.bcast_S36864_S36864x1_0 (shapeCast S36864
    (andi (cmpi .slt (broadcastInDim S72x512 ![0, 1] Facts.bcast_S1x512_S72x512_0_1 (broadcastInDim S1x512 ![1] Facts.bcast_S512_S1x512_1 (iotaInDim S512 32 0)))
        (broadcastInDim S72x512 ![0, 1] Facts.bcast_S72x1_S72x512_0_1 (broadcastInDim S72x1 ![0] Facts.bcast_S72_S72x1_0 tr)))
      (broadcastInDim S72x512 ![0, 1] Facts.bcast_S72x1_S72x512_0_1 (cmpi .slt (broadcastInDim S72x1 ![0] Facts.bcast_S72_S72x1_0 (iotaInDim S72 32 0))
        (broadcastInDim S72x1 ![0, 1] Facts.bcast_S1x1_S72x1_0_1 (broadcastInDim S1x1 ![1] Facts.bcast_S1_S1x1_1 nu))))) Facts.shapeCasts_S72x512_S36864))
    (ix2 n d) (ix2 n 0) (fun a => by match a with | ⟨0, _⟩ => rfl | ⟨1, _⟩ => rfl)
  rw [e1] at h
  rw [broadcastInDim_apply _ _ _ (ix2 n 0) (ix1 n) (fun a => by match a with | ⟨0, _⟩ => rfl)] at h
  rw [shapeCast_apply _ _ (ix1 n) (ix2 ⟨n.val / 512, by omega⟩ ⟨n.val % 512, by omega⟩) (by
    rw [Shape.rowMajor_val_two, Shape.rowMajor_val_one]; show n.val / 512 * 512 + n.val % 512 = n.val; omega)] at h
  obtain ⟨h1, h2⟩ := IntOp.andi_eq_one.1 h
  have g1 := IntOp.cmpi_slt.1 h1
  rw [broadcastInDim_apply _ _ _ _ (ix2 ⟨n.val / 512, by omega⟩ 0) (fun a => by match a with | ⟨0, _⟩ => rfl | ⟨1, _⟩ => rfl)] at h2
  have g2 := IntOp.cmpi_slt.1 h2
  rw [broadcastInDim_apply _ _ _ _ (ix2 0 ⟨n.val % 512, by omega⟩) (fun a => by match a with | ⟨0, _⟩ => rfl | ⟨1, _⟩ => rfl),
    broadcastInDim_apply _ _ _ _ (ix1 ⟨n.val % 512, by omega⟩) (fun a => by match a with | ⟨0, _⟩ => rfl),
    broadcastInDim_apply _ _ _ _ (ix2 ⟨n.val / 512, by omega⟩ 0) (fun a => by match a with | ⟨0, _⟩ => rfl | ⟨1, _⟩ => rfl),
    broadcastInDim_apply _ _ _ _ (ix1 ⟨n.val / 512, by omega⟩) (fun a => by match a with | ⟨0, _⟩ => rfl)] at g1
  rw [broadcastInDim_apply _ _ _ _ (ix1 ⟨n.val / 512, by omega⟩) (fun a => by match a with | ⟨0, _⟩ => rfl),
    broadcastInDim_apply _ _ _ _ (ix2 0 0) (fun a => by match a with | ⟨0, _⟩ => rfl | ⟨1, _⟩ => rfl),
    broadcastInDim_apply _ _ _ _ (ix1 0) (fun a => by match a with | ⟨0, _⟩ => rfl)] at g2
  have hw : ∀ k : ℕ, k < 1000 → (BitVec.ofNat 32 k).toInt = k := fun k hk => by
    rw [BitVec.toInt_eq_toNat_of_lt (by rw [BitVec.toNat_ofNat]; omega), BitVec.toNat_ofNat]; omega
  have w1 : ((BitVec.ofNat 32 (n.val % 512)).toInt : ℤ) < _ := g1
  have w2 : ((BitVec.ofNat 32 (n.val / 512)).toInt : ℤ) < _ := g2
  rw [hw _ (by omega)] at w1 w2
  exact ⟨w1, w2⟩

end Mask

end Cert.Tables

end
-- ==== Proof.Swiglu.lean ====
module

public import Idealize.ShloMosaic.PureOps.Ideal.Laws
public import Idealize.ShloMosaic.Lib.ValueIdx
public import Idealize.ShloMosaic.Lib.MatmulPlain
public import Idealize.ShloMosaic.Lib.Pointwise

@[expose] public section

set_option maxRecDepth 16384
set_option Elab.async false

noncomputable section
namespace Cert.Swiglu

open Idealize.ShloMosaic hiding ix1 ix2 ix3
open Idealize.ShloMosaic.ValueIdx
open scoped BigOperators

/-- The gate's sigmoid-weighted value times the other product. -/
def gated (g u : EReal) : EReal := g * Ideal.div 1 (1 + Ideal.exp (-g)) * u

/-- The word of one. -/
theorem one_bits : (FloatOps.ofBits (F := Ideal) .f32 0x3F800000#32 : EReal) = 1 := by
  show Ideal.ofBits .f32 0x3F800000#32 = 1
  simp [Ideal.ofBits, Ideal.ieee, -EReal.coe_mul]
  norm_num

/-- The word of zero. -/
theorem zero_bits : (FloatOps.ofBits (F := Ideal) .f32 0x00000000#32 : EReal) = 0 := by
  show Ideal.ofBits .f32 0x00000000#32 = 0
  simp [Ideal.ofBits, Ideal.ieee, -EReal.coe_mul]

/-- A product from a zero accumulator, read at a row and a column. -/
theorem prod_apply {M K N : ℕ} {φ₁ φ₂ : FTy} (l : FVec Ideal ⟨2, ![M, K]⟩ φ₁) (w : FVec Ideal ⟨2, ![K, N]⟩ φ₂) (a : Fin M) (b : Fin N) :
    matmul (F := Ideal) (DotDims.plain M K N) none l w (constant ⟨2, ![M, N]⟩ .f32 0x00000000#32) (ix2 a b) = ∑ c : Fin K, l (ix2 a c) * w (ix2 c b) := by
  unfold matmul
  rw [Ideal.matmul_plain_apply]
  refine Eq.trans (congrArg (· + _) zero_bits) ?_
  exact zero_add _

/-- A sum over 7168 columns is the sum over seven steps of 1024 columns. -/
theorem sum_steps (f : Fin 7168 → EReal) :
    ∑ k : Fin 7168, f k = ∑ s : Fin 7, ∑ k : Fin 1024, f ⟨s.val * 1024 + k.val, by omega⟩ := by
  rw [← Equiv.sum_comp (finProdFinEquiv (m := 7) (n := 1024)), Fintype.sum_prod_type]
  refine Finset.sum_congr rfl fun s _ => Finset.sum_congr rfl fun k _ => ?_
  refine congrArg f (Fin.ext ?_)
  show k.val + 1024 * s.val = s.val * 1024 + k.val
  omega

/-- One term of a row's result: hidden column `f` of the row, gated, times its row of the last weights. -/
def term (x : (⟨2, ![36864, 2048]⟩ : Shape).Idx → EReal) (wg wu : (⟨3, ![8, 2048, 7168]⟩ : Shape).Idx → EReal) (wo : (⟨3, ![8, 7168, 2048]⟩ : Shape).Idx → EReal)
    (e : Fin 8) (n : Fin 36864) (d : Fin 2048) (f : Fin 7168) : EReal :=
  gated (∑ k : Fin 2048, x (ix2 n k) * wg (ix3 e k f)) (∑ k : Fin 2048, x (ix2 n k) * wu (ix3 e k f)) * wo (ix3 e f d)

end Cert.Swiglu

end
-- ==== Proof.RefValue.lean ====
module

public import proofs.«01_k».proof.Defs
public import proofs.«01_k».proof.Proof.Swiglu
public import proofs.«01_k».proof.Proof.Gen.ReferenceIdeal.Run
public import proofs.«01_k».proof.Proof.Gen.ReferenceIdeal.Read
public import Idealize.ShloMosaic.Lib.StackMember
public import Idealize.ShloMosaic.Lib.Quiescent
public import Idealize.ShloMosaic.Lib.Affine
public import Idealize.ShloMosaic.Lib.Pipeline.Value

@[expose] public section

set_option maxRecDepth 16384
set_option Elab.async false

noncomputable section
namespace Cert.ReferenceIdeal.Expert

open Cert.ReferenceIdeal Cert.ReferenceIdeal.Gen Cert.ReferenceIdeal.Read Cert.Swiglu
open Idealize.ShloMosaic hiding ix1 ix2 ix3
open Idealize.ShloMosaic.ValueIdx
open scoped BigOperators

/-- An expert's weights, cut from the eight. -/
theorem cut_apply {α : Type} {E A B : ℕ} (e : Fin E) (x : (⟨3, ![E, A, B]⟩ : Shape).Idx → α) (hs : (⟨3, ![E, A, B]⟩ : Shape).Slices ![e.val, 0, 0] ⟨3, ![1, A, B]⟩)
    (hc : (⟨3, ![1, A, B]⟩ : Shape).ShapeCasts ⟨2, ![A, B]⟩) (i : Fin A) (j : Fin B) :
    shapeCast ⟨2, ![A, B]⟩ (extractStridedSlice ⟨3, ![1, A, B]⟩ ![e.val, 0, 0] x hs) hc (ix2 i j) = x (ix3 e i j) := by
  rw [shapeCast_apply _ hc (ix2 i j) (ix3 0 i j) (by
    rw [Shape.rowMajor_val_three, Shape.rowMajor_val_two]; show (0 * A + i.val) * B + j.val = i.val * B + j.val; rw [Nat.zero_mul, Nat.zero_add])]
  exact extractStridedSlice_apply _ x hs _ _ fun a => by
    match a with
    | ⟨0, _⟩ => rfl
    | ⟨1, _⟩ => exact (Nat.zero_add _).symm
    | ⟨2, _⟩ => exact (Nat.zero_add _).symm

/-- The gated product of one weight set, over all rows. -/
theorem swiglu_apply {M K N D : ℕ} (x : FVec Ideal ⟨2, ![M, K]⟩ .f32) (g u : FVec Ideal ⟨2, ![K, N]⟩ .f32) (w : FVec Ideal ⟨2, ![N, D]⟩ .f32)
    (one : FVec Ideal ⟨2, ![M, N]⟩ .f32) (h1 : ∀ i, one i = 1) (n : Fin M) (d : Fin D) :
    Host.dotGeneral (DotDims.plain M N D) none
        (mulf (mulf (Host.dotGeneral (DotDims.plain M K N) none x g) (Host.divf one (addf one (Host.exp (Host.negf (Host.dotGeneral (DotDims.plain M K N) none x g))))))
          (Host.dotGeneral (DotDims.plain M K N) none x u)) w (ix2 n d)
      = ∑ f : Fin N, gated (∑ c : Fin K, x (ix2 n c) * g (ix2 c f)) (∑ c : Fin K, x (ix2 n c) * u (ix2 c f)) * w (ix2 f d) := by
  rw [StackMember.dotGeneral_plain_apply]
  refine Finset.sum_congr rfl fun f _ => congrArg (· * w (ix2 f d)) ?_
  rw [← StackMember.dotGeneral_plain_apply (φ₁ := .f32) (φ₂ := .f32) none x g n f, ← StackMember.dotGeneral_plain_apply (φ₁ := .f32) (φ₂ := .f32) none x u n f]
  generalize Host.dotGeneral (F := Ideal) (DotDims.plain M K N) none x g = a
  generalize Host.dotGeneral (F := Ideal) (DotDims.plain M K N) none x u = b
  show a (ix2 n f) * Ideal.div (one (ix2 n f)) (one (ix2 n f) + Ideal.exp (-(a (ix2 n f)))) * b (ix2 n f) = _
  rw [h1]
  rfl

/-- One expert's product over all rows, from the eight experts' weights. -/
theorem part_apply (e : Fin 8) (x0 : FVec Ideal S36864x2048 .f32) (x1 x2 : FVec Ideal S8x2048x7168 .bf16) (x3 : FVec Ideal S8x7168x2048 .bf16)
    (hg : S8x2048x7168.Slices ![e.val, 0, 0] S1x2048x7168) (hw : S8x7168x2048.Slices ![e.val, 0, 0] S1x7168x2048)
    (cg : S1x2048x7168.ShapeCasts S2048x7168) (cw : S1x7168x2048.ShapeCasts S7168x2048) (b : S_.BroadcastsInDim S36864x7168 (![] : Fin 0 → Fin S36864x7168.rank))
    (l : FTy.bits .bf16 < FTy.bits .f32) (n : Fin 36864) (d : Fin 2048) :
    Host.dotGeneral (F := Ideal) (DotDims.plain 36864 7168 2048) none
        (mulf (mulf (Host.dotGeneral (DotDims.plain 36864 2048 7168) none x0 (extf .f32 (shapeCast S2048x7168 (extractStridedSlice S1x2048x7168 ![e.val, 0, 0] x1 hg) cg) l))
            (Host.divf (broadcastInDim S36864x7168 ![] b (constant S_ .f32 0x3F800000#32)) (addf (broadcastInDim S36864x7168 ![] b (constant S_ .f32 0x3F800000#32))
              (Host.exp (Host.negf (Host.dotGeneral (DotDims.plain 36864 2048 7168) none x0 (extf .f32 (shapeCast S2048x7168 (extractStridedSlice S1x2048x7168 ![e.val, 0, 0] x1 hg) cg) l)))))))
          (Host.dotGeneral (DotDims.plain 36864 2048 7168) none x0 (extf .f32 (shapeCast S2048x7168 (extractStridedSlice S1x2048x7168 ![e.val, 0, 0] x2 hg) cg) l)))
        (extf .f32 (shapeCast S7168x2048 (extractStridedSlice S1x7168x2048 ![e.val, 0, 0] x3 hw) cw) l) (ix2 n d)
      = ∑ f : Fin 7168, term x0 x1 x2 x3 e n d f := by
  refine (swiglu_apply x0 _ _ _ _ (fun i => one_bits) n d).trans (Finset.sum_congr rfl fun f _ => ?_)
  have h1 : ∀ (y : FVec Ideal S8x2048x7168 .bf16) c, (extf (F := Ideal) .f32 (shapeCast S2048x7168 (extractStridedSlice S1x2048x7168 ![e.val, 0, 0] y hg) cg) l) (ix2 c f) = y (ix3 e c f) :=
    fun y c => cut_apply e y hg cg c f
  have h3 : (extf (F := Ideal) .f32 (shapeCast S7168x2048 (extractStridedSlice S1x7168x2048 ![e.val, 0, 0] x3 hw) cw) l) (ix2 f d) = x3 (ix3 e f d) := cut_apply e x3 hw cw f d
  unfold term
  rw [h3]
  simp only [h1]

/-- An expert's column of ones and zeros: one where the row's tile is the expert's. -/
theorem mask_apply (k : BitVec 32) (te : IVec S72 32) (n : Fin 36864) (d : Fin 2048) (h1 : S72.BroadcastsInDim S72x1 (![0] : Fin 1 → Fin S72x1.rank))
    (h2 : S72x1.BroadcastsInDim S72x512 (![0, 1] : Fin 2 → Fin S72x512.rank)) (hc : S72x512.ShapeCasts S36864) (hk : S_.BroadcastsInDim S36864 (![] : Fin 0 → Fin S36864.rank))
    (h3 : S36864.BroadcastsInDim S36864x1 (![0] : Fin 1 → Fin S36864x1.rank)) (h4 : S36864x1.BroadcastsInDim S36864x2048 (![0, 1] : Fin 2 → Fin S36864x2048.rank)) :
    broadcastInDim S36864x2048 ![0, 1] h4 (broadcastInDim S36864x1 ![0] h3 (uitofp (F := Ideal) .f32 (cmpi .eq
        (shapeCast S36864 (broadcastInDim S72x512 ![0, 1] h2 (broadcastInDim S72x1 ![0] h1 te)) hc) (broadcastInDim S36864 ![] hk (constantI S_ 32 k))))) (ix2 n d)
      = if te (ix1 ⟨n.val / 512, by omega⟩) = k then (1 : EReal) else 0 := by
  rw [broadcastInDim_apply _ h4 _ (ix2 n d) (ix2 n 0) (fun a => by match a with | ⟨0, _⟩ => rfl | ⟨1, _⟩ => rfl),
    broadcastInDim_apply _ h3 _ (ix2 n 0) (ix1 n) (fun a => by match a with | ⟨0, _⟩ => rfl)]
  have hs : shapeCast S36864 (broadcastInDim S72x512 ![0, 1] h2 (broadcastInDim S72x1 ![0] h1 te)) hc (ix1 n) = te (ix1 ⟨n.val / 512, by omega⟩) := by
    rw [shapeCast_apply _ _ (ix1 n) (ix2 ⟨n.val / 512, by omega⟩ ⟨n.val % 512, by omega⟩) (by
        rw [Shape.rowMajor_val_two, Shape.rowMajor_val_one]; show n.val / 512 * 512 + n.val % 512 = n.val; omega),
      broadcastInDim_apply _ _ _ _ (ix2 ⟨n.val / 512, by omega⟩ 0) (fun a => by match a with | ⟨0, _⟩ => rfl | ⟨1, _⟩ => rfl),
      broadcastInDim_apply _ _ _ _ (ix1 ⟨n.val / 512, by omega⟩) (fun a => by match a with | ⟨0, _⟩ => rfl)]
  show FloatOps.uitofp (F := Ideal) .f32 (IntOp.cmpi .eq (shapeCast S36864 (broadcastInDim S72x512 ![0, 1] h2 (broadcastInDim S72x1 ![0] h1 te)) hc (ix1 n)) k) = _
  rw [hs]
  by_cases h : te (ix1 ⟨n.val / 512, by omega⟩) = k
  · rw [if_pos h, IntOp.cmpi_eq.2 h]
    show (((1#1 : BitVec 1).toNat : ℝ) : EReal) = 1
    simp
  · have h0 : IntOp.cmpi .eq (te (ix1 ⟨n.val / 512, by omega⟩)) k = 0#1 := by
      have key : ∀ b : BitVec 1, b ≠ 1#1 → b = 0#1 := by decide
      exact key _ fun h1 => h (IntOp.cmpi_eq.1 h1)
    rw [if_neg h, h0]
    show (((0#1 : BitVec 1).toNat : ℝ) : EReal) = 0
    simp

/-- Of eight masked summands one is kept. -/
theorem pick (p : Fin 8 → EReal) (e : Fin 8) (w : BitVec 32) (hw : w.toNat = e.val) :
    (((((((((0 : EReal) + (if w = 0#32 then 1 else 0) * p 0) + (if w = 1#32 then 1 else 0) * p 1) + (if w = 2#32 then 1 else 0) * p 2) + (if w = 3#32 then 1 else 0) * p 3)
      + (if w = 4#32 then 1 else 0) * p 4) + (if w = 5#32 then 1 else 0) * p 5) + (if w = 6#32 then 1 else 0) * p 6) + (if w = 7#32 then 1 else 0) * p 7) = p e := by
  have h : w = BitVec.ofNat 32 e.val := by apply BitVec.eq_of_toNat_eq; rw [hw, BitVec.toNat_ofNat]; omega
  subst h
  fin_cases e <;> simp

variable (x0 : FVec Ideal S36864x2048 .f32) (x1 x2 : FVec Ideal S8x2048x7168 .bf16) (x3 : FVec Ideal S8x7168x2048 .bf16) (te : IVec S72 32) (n : Fin 36864) (d : Fin 2048)

theorem part0 : val_main_v17 (F := Ideal) x0 x1 x2 x3 (ix2 n d) = ∑ f : Fin 7168, term x0 x1 x2 x3 0 n d f :=
  part_apply 0 x0 x1 x2 x3 slices_S8x2048x7168_S1x2048x7168_0_0_0 slices_S8x7168x2048_S1x7168x2048_0_0_0 _ _ _ _ n d
theorem part1 : val_main_v38 (F := Ideal) x0 x1 x2 x3 (ix2 n d) = ∑ f : Fin 7168, term x0 x1 x2 x3 1 n d f :=
  part_apply 1 x0 x1 x2 x3 slices_S8x2048x7168_S1x2048x7168_1_0_0 slices_S8x7168x2048_S1x7168x2048_1_0_0 _ _ _ _ n d
theorem part2 : val_main_v59 (F := Ideal) x0 x1 x2 x3 (ix2 n d) = ∑ f : Fin 7168, term x0 x1 x2 x3 2 n d f :=
  part_apply 2 x0 x1 x2 x3 slices_S8x2048x7168_S1x2048x7168_2_0_0 slices_S8x7168x2048_S1x7168x2048_2_0_0 _ _ _ _ n d
theorem part3 : val_main_v80 (F := Ideal) x0 x1 x2 x3 (ix2 n d) = ∑ f : Fin 7168, term x0 x1 x2 x3 3 n d f :=
  part_apply 3 x0 x1 x2 x3 slices_S8x2048x7168_S1x2048x7168_3_0_0 slices_S8x7168x2048_S1x7168x2048_3_0_0 _ _ _ _ n d
theorem part4 : val_main_v101 (F := Ideal) x0 x1 x2 x3 (ix2 n d) = ∑ f : Fin 7168, term x0 x1 x2 x3 4 n d f :=
  part_apply 4 x0 x1 x2 x3 slices_S8x2048x7168_S1x2048x7168_4_0_0 slices_S8x7168x2048_S1x7168x2048_4_0_0 _ _ _ _ n d
theorem part5 : val_main_v122 (F := Ideal) x0 x1 x2 x3 (ix2 n d) = ∑ f : Fin 7168, term x0 x1 x2 x3 5 n d f :=
  part_apply 5 x0 x1 x2 x3 slices_S8x2048x7168_S1x2048x7168_5_0_0 slices_S8x7168x2048_S1x7168x2048_5_0_0 _ _ _ _ n d
theorem part6 : val_main_v143 (F := Ideal) x0 x1 x2 x3 (ix2 n d) = ∑ f : Fin 7168, term x0 x1 x2 x3 6 n d f :=
  part_apply 6 x0 x1 x2 x3 slices_S8x2048x7168_S1x2048x7168_6_0_0 slices_S8x7168x2048_S1x7168x2048_6_0_0 _ _ _ _ n d
theorem part7 : val_main_v164 (F := Ideal) x0 x1 x2 x3 (ix2 n d) = ∑ f : Fin 7168, term x0 x1 x2 x3 7 n d f :=
  part_apply 7 x0 x1 x2 x3 slices_S8x2048x7168_S1x2048x7168_7_0_0 slices_S8x7168x2048_S1x7168x2048_7_0_0 _ _ _ _ n d
theorem mask0 : val_main_v22 (F := Ideal) te (ix2 n d) = if te (ix1 ⟨n.val / 512, by omega⟩) = 0#32 then (1 : EReal) else 0 :=
  mask_apply 0#32 te n d _ _ _ _ _ _
theorem mask1 : val_main_v43 (F := Ideal) te (ix2 n d) = if te (ix1 ⟨n.val / 512, by omega⟩) = 1#32 then (1 : EReal) else 0 :=
  mask_apply 1#32 te n d _ _ _ _ _ _
theorem mask2 : val_main_v64 (F := Ideal) te (ix2 n d) = if te (ix1 ⟨n.val / 512, by omega⟩) = 2#32 then (1 : EReal) else 0 :=
  mask_apply 2#32 te n d _ _ _ _ _ _
theorem mask3 : val_main_v85 (F := Ideal) te (ix2 n d) = if te (ix1 ⟨n.val / 512, by omega⟩) = 3#32 then (1 : EReal) else 0 :=
  mask_apply 3#32 te n d _ _ _ _ _ _
theorem mask4 : val_main_v106 (F := Ideal) te (ix2 n d) = if te (ix1 ⟨n.val / 512, by omega⟩) = 4#32 then (1 : EReal) else 0 :=
  mask_apply 4#32 te n d _ _ _ _ _ _
theorem mask5 : val_main_v127 (F := Ideal) te (ix2 n d) = if te (ix1 ⟨n.val / 512, by omega⟩) = 5#32 then (1 : EReal) else 0 :=
  mask_apply 5#32 te n d _ _ _ _ _ _
theorem mask6 : val_main_v148 (F := Ideal) te (ix2 n d) = if te (ix1 ⟨n.val / 512, by omega⟩) = 6#32 then (1 : EReal) else 0 :=
  mask_apply 6#32 te n d _ _ _ _ _ _
theorem mask7 : val_main_v169 (F := Ideal) te (ix2 n d) = if te (ix1 ⟨n.val / 512, by omega⟩) = 7#32 then (1 : EReal) else 0 :=
  mask_apply 7#32 te n d _ _ _ _ _ _

theorem sum0 : val_main_v24 (F := Ideal) x0 x1 x2 x3 te (ix2 n d)
    = 0 + (if te (ix1 ⟨n.val / 512, by omega⟩) = 0#32 then (1 : EReal) else 0) * ∑ f : Fin 7168, term x0 x1 x2 x3 0 n d f := by
  rw [← mask0 te n d, ← part0 x0 x1 x2 x3 n d]
  exact congrArg (· + val_main_v22 (F := Ideal) te (ix2 n d) * val_main_v17 (F := Ideal) x0 x1 x2 x3 (ix2 n d)) zero_bits
theorem sum1 : val_main_v45 (F := Ideal) x0 x1 x2 x3 te (ix2 n d)
    = val_main_v24 (F := Ideal) x0 x1 x2 x3 te (ix2 n d) + (if te (ix1 ⟨n.val / 512, by omega⟩) = 1#32 then (1 : EReal) else 0) * ∑ f : Fin 7168, term x0 x1 x2 x3 1 n d f := by
  rw [← mask1 te n d, ← part1 x0 x1 x2 x3 n d]
  exact congrArg (· + val_main_v43 (F := Ideal) te (ix2 n d) * val_main_v38 (F := Ideal) x0 x1 x2 x3 (ix2 n d)) rfl
theorem sum2 : val_main_v66 (F := Ideal) x0 x1 x2 x3 te (ix2 n d)
    = val_main_v45 (F := Ideal) x0 x1 x2 x3 te (ix2 n d) + (if te (ix1 ⟨n.val / 512, by omega⟩) = 2#32 then (1 : EReal) else 0) * ∑ f : Fin 7168, term x0 x1 x2 x3 2 n d f := by
  rw [← mask2 te n d, ← part2 x0 x1 x2 x3 n d]
  exact congrArg (· + val_main_v64 (F := Ideal) te (ix2 n d) * val_main_v59 (F := Ideal) x0 x1 x2 x3 (ix2 n d)) rfl
theorem sum3 : val_main_v87 (F := Ideal) x0 x1 x2 x3 te (ix2 n d)
    = val_main_v66 (F := Ideal) x0 x1 x2 x3 te (ix2 n d) + (if te (ix1 ⟨n.val / 512, by omega⟩) = 3#32 then (1 : EReal) else 0) * ∑ f : Fin 7168, term x0 x1 x2 x3 3 n d f := by
  rw [← mask3 te n d, ← part3 x0 x1 x2 x3 n d]
  exact congrArg (· + val_main_v85 (F := Ideal) te (ix2 n d) * val_main_v80 (F := Ideal) x0 x1 x2 x3 (ix2 n d)) rfl
theorem sum4 : val_main_v108 (F := Ideal) x0 x1 x2 x3 te (ix2 n d)
    = val_main_v87 (F := Ideal) x0 x1 x2 x3 te (ix2 n d) + (if te (ix1 ⟨n.val / 512, by omega⟩) = 4#32 then (1 : EReal) else 0) * ∑ f : Fin 7168, term x0 x1 x2 x3 4 n d f := by
  rw [← mask4 te n d, ← part4 x0 x1 x2 x3 n d]
  exact congrArg (· + val_main_v106 (F := Ideal) te (ix2 n d) * val_main_v101 (F := Ideal) x0 x1 x2 x3 (ix2 n d)) rfl
theorem sum5 : val_main_v129 (F := Ideal) x0 x1 x2 x3 te (ix2 n d)
    = val_main_v108 (F := Ideal) x0 x1 x2 x3 te (ix2 n d) + (if te (ix1 ⟨n.val / 512, by omega⟩) = 5#32 then (1 : EReal) else 0) * ∑ f : Fin 7168, term x0 x1 x2 x3 5 n d f := by
  rw [← mask5 te n d, ← part5 x0 x1 x2 x3 n d]
  exact congrArg (· + val_main_v127 (F := Ideal) te (ix2 n d) * val_main_v122 (F := Ideal) x0 x1 x2 x3 (ix2 n d)) rfl
theorem sum6 : val_main_v150 (F := Ideal) x0 x1 x2 x3 te (ix2 n d)
    = val_main_v129 (F := Ideal) x0 x1 x2 x3 te (ix2 n d) + (if te (ix1 ⟨n.val / 512, by omega⟩) = 6#32 then (1 : EReal) else 0) * ∑ f : Fin 7168, term x0 x1 x2 x3 6 n d f := by
  rw [← mask6 te n d, ← part6 x0 x1 x2 x3 n d]
  exact congrArg (· + val_main_v148 (F := Ideal) te (ix2 n d) * val_main_v143 (F := Ideal) x0 x1 x2 x3 (ix2 n d)) rfl
theorem sum7 : val_main_v171 (F := Ideal) x0 x1 x2 x3 te (ix2 n d)
    = val_main_v150 (F := Ideal) x0 x1 x2 x3 te (ix2 n d) + (if te (ix1 ⟨n.val / 512, by omega⟩) = 7#32 then (1 : EReal) else 0) * ∑ f : Fin 7168, term x0 x1 x2 x3 7 n d f := by
  rw [← mask7 te n d, ← part7 x0 x1 x2 x3 n d]
  exact congrArg (· + val_main_v169 (F := Ideal) te (ix2 n d) * val_main_v164 (F := Ideal) x0 x1 x2 x3 (ix2 n d)) rfl

/-- The reference's result at an element: the product of the row's tile's expert. -/
theorem value (e : Fin 8) (he : (te (ix1 ⟨n.val / 512, by omega⟩)).toNat = e.val) :
    val_main_v171 (F := Ideal) x0 x1 x2 x3 te (ix2 n d) = ∑ f : Fin 7168, term x0 x1 x2 x3 e n d f := by
  rw [sum7, sum6, sum5, sum4, sum3, sum2, sum1, sum0]
  exact pick (fun e => ∑ f : Fin 7168, term x0 x1 x2 x3 e n d f) e _ he

end Cert.ReferenceIdeal.Expert

end
-- ==== Proof.KernelIdeal.Body.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Pipeline.ValueKit
public import Idealize.ShloMosaic.Lib.WordCmp
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Expert

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The prefetched tables and the scratch buffer, whole. -/
abbrev tileExpert : Memref sig .tc .smem S72 .i32 := Memref.whole main_arg4
abbrev usedTiles : Memref sig .tc .smem S1 .i32 := Memref.whole main_arg5
abbrev tileRows : Memref sig .tc .smem S72 .i32 := Memref.whole main_arg6
abbrev xsRounded : Memref sig .tc .vmem S512x2048 .bf16 := Memref.whole cc0_scratch0

/-- The upper half of a block of rows. -/
abbrev topHalf : Rect S512x2048 := Rect.unit (s := S512x2048) ![0, 0] S256x2048.size inb_S512x2048_S256x2048_0_0

/-- The word of the row counts that the body reads at a grid point. -/
abbrev rowsAt (i : grid0.Coords) (T2 : S72.Idx → Elt F .i32) : Elt F .i32 :=
  View.readAt (Elt F) (tileRows).view (Rect.unit (s := S72) (k0_off1 i) S1.size (k0_off1_inb i)).toLoadRect T2 (Shape.Idx.first (numel1_S1.symm ▸ Nat.one_pos))

/-- The rounded rows a grid point works with: rounded afresh at the first column step, kept at the others. -/
def newXb (i : grid0.Coords) (x0 : S512x2048.Idx → Elt F .f32) (xb : S512x2048.Idx → Elt F .bf16) : S512x2048.Idx → Elt F .bf16 :=
  if k0_cond1 i = 1#1 then k0_pay1 x0 else xb

/-- The running sum a grid point adds to: zero at the first column step. -/
def oldAcc (i : grid0.Coords) (y : S512x2048.Idx → Elt F .f32) : S512x2048.Idx → Elt F .f32 :=
  if k0_cond1 i = 1#1 then k0_pay2 (F := F) else y

/-- One column step on a block: all 512 rows, the upper 256, or none, as the count of rows says. -/
def addChunk (v4 : Elt F .i32) (xb : S512x2048.Idx → Elt F .bf16) (x1 x2 : S1x2048x1024.Idx → Elt F .bf16)
    (x3 : S1x1024x2048.Idx → Elt F .bf16) (acc : S512x2048.Idx → Elt F .f32) : S512x2048.Idx → Elt F .f32 :=
  if k0_cond2 v4 = 1#1 then k0_pay3 xb x1 x2 acc x3
  else if k0_cond3 v4 = 1#1 then topHalf.overlay acc (k0_pay4 (View.ld xb topHalf) x1 x2 (View.ld acc topHalf) x3)
  else acc

/-- What a grid point leaves in the output block that held `y`. -/
def newOut (i : grid0.Coords) (v4 : Elt F .i32) (x0 : S512x2048.Idx → Elt F .f32) (x1 x2 : S1x2048x1024.Idx → Elt F .bf16)
    (x3 : S1x1024x2048.Idx → Elt F .bf16) (y : S512x2048.Idx → Elt F .f32) (xb : S512x2048.Idx → Elt F .bf16) : S512x2048.Idx → Elt F .f32 :=
  addChunk v4 (newXb i x0 xb) x1 x2 x3 (oldAcc i y)

/-- A flag widened to a word and compared with zero is the flag. -/
theorem flag_word (b : BitVec 1) : Scalar.cmpi .ne (Scalar.extui b) 0#32 = b := by
  revert b; decide

/-- The first branch runs at the first column step. -/
theorem cond1_iff (i : grid0.Coords) : k0_cond1 i = 1#1 ↔ (i 1).val = 0 := by
  have h7 : (i 1).val < 7 := (i 1).isLt
  show Scalar.cmpi .ne (Scalar.extui (Scalar.cmpi .eq (BitVec.ofNat 32 (i 1).val) 0#32)) 0#32 = 1#1 ↔ _
  rw [flag_word]
  show IntOp.cmpi .eq (BitVec.ofNat 32 (i 1).val) (BitVec.ofNat 32 0) = 1#1 ↔ _
  exact WordCmp.cmpi_eq_ofNat_eq_one_iff (by omega) (by omega)

/-- The second branch runs where the count is above 256. -/
theorem cond2_iff (v : BitVec 32) : k0_cond2 v = 1#1 ↔ 256 < v.toInt := by
  show Scalar.cmpi .ne (Scalar.extui (Scalar.cmpi .sgt v 256#32)) 0#32 = 1#1 ↔ _
  rw [flag_word]
  show BitVec.ofBool (decide ((256#32 : BitVec 32).toInt < v.toInt)) = 1#1 ↔ _
  rw [show (256#32 : BitVec 32).toInt = 256 from by decide]
  by_cases h : 256 < v.toInt <;> simp [h]

/-- The third branch runs where the count is positive and at most 256. -/
theorem cond3_iff (v : BitVec 32) : k0_cond3 v = 1#1 ↔ 0 < v.toInt ∧ v.toInt ≤ 256 := by
  show Scalar.cmpi .ne (Scalar.extui (Scalar.andi (Scalar.cmpi .sgt v 0#32) (Scalar.cmpi .sle v 256#32))) 0#32 = 1#1 ↔ _
  rw [flag_word]
  show BitVec.ofBool (decide ((0#32 : BitVec 32).toInt < v.toInt)) &&& BitVec.ofBool (decide (v.toInt ≤ (256#32 : BitVec 32).toInt)) = 1#1 ↔ _
  rw [show (256#32 : BitVec 32).toInt = 256 from by decide, show (0#32 : BitVec 32).toInt = 0 from by decide]
  by_cases h : 0 < v.toInt <;> by_cases h' : v.toInt ≤ 256 <;> simp [h, h']

/-- The two branches on the count of rows exclude each other. -/
theorem not_half_of_full (v : BitVec 32) (h : k0_cond2 v = 1#1) : ¬ k0_cond3 v = 1#1 := by
  rw [cond2_iff] at h; rw [cond3_iff]; omega

/-- The six ways through the body. -/
theorem paths (i : grid0.Coords) (v : BitVec 32) :
    (k0_cond1 i = 1#1 ∧ k0_cond2 v = 1#1 ∧ ¬ k0_cond3 v = 1#1) ∨ (k0_cond1 i = 1#1 ∧ ¬ k0_cond2 v = 1#1 ∧ k0_cond3 v = 1#1)
      ∨ (k0_cond1 i = 1#1 ∧ ¬ k0_cond2 v = 1#1 ∧ ¬ k0_cond3 v = 1#1) ∨ (¬ k0_cond1 i = 1#1 ∧ k0_cond2 v = 1#1 ∧ ¬ k0_cond3 v = 1#1)
      ∨ (¬ k0_cond1 i = 1#1 ∧ ¬ k0_cond2 v = 1#1 ∧ k0_cond3 v = 1#1) ∨ (¬ k0_cond1 i = 1#1 ∧ ¬ k0_cond2 v = 1#1 ∧ ¬ k0_cond3 v = 1#1) := by
  have h := not_half_of_full v
  generalize k0_cond1 i = a at *
  generalize k0_cond2 v = b at *
  generalize k0_cond3 v = d at *
  by_cases h1 : a = 1#1 <;> by_cases h2 : b = 1#1 <;> by_cases h3 : d = 1#1 <;> simp_all

/-- No offset. -/
theorem zero2 : ∀ a : Fin 2, (![0, 0] : Fin 2 → Nat) a = 0 := by decide

theorem zero3 : ∀ a : Fin 3, (![0, 0, 0] : Fin 3 → Nat) a = 0 := by decide

/-- The whole block of rows, as the body's loads and stores name it. -/
abbrev wholeBlock : Rect S512x2048 := Rect.unit (s := S512x2048) ![0, 0] S512x2048.size inb_S512x2048_S512x2048_0_0

theorem canon_block {e : EltTy} (w : S512x2048.Idx → Elt F e) (L : List (View.Piece (Elt F) S512x2048 e)) :
    View.canon ((⟨wholeBlock, w⟩ : View.Piece (Elt F) S512x2048 e) :: L) = w :=
  View.canon_cons_unit_lit (S := S512x2048) inb_S512x2048_S512x2048_0_0 w L zero2

theorem ld_block {e : EltTy} (X : S512x2048.Idx → Elt F e) : View.ld X wholeBlock = X :=
  View.ld_unit_lit (S := S512x2048) inb_S512x2048_S512x2048_0_0 X zero2

/-- A load of the whole block reads what the buffer holds; likewise for the weights' blocks. -/
theorem ld_rep {sp : Space} {e : EltTy} (v : View sig .tc sp S512x2048 e) (X : S512x2048.Idx → Elt F e) :
    View.readAt (Elt F) v wholeBlock.toLoadRect (v.rep X) = X := by
  rw [View.readAt_eq_ld, View.read_rep, ld_block]

theorem ld_rep1 {sp : Space} {e : EltTy} (v : View sig .tc sp S1x2048x1024 e) (X : S1x2048x1024.Idx → Elt F e) :
    View.readAt (Elt F) v (Rect.unit (s := S1x2048x1024) ![0, 0, 0] S1x2048x1024.size inb_S1x2048x1024_S1x2048x1024_0_0_0).toLoadRect (v.rep X) = X := by
  rw [View.readAt_eq_ld, View.read_rep]
  exact View.ld_unit_lit (S := S1x2048x1024) _ X zero3

theorem ld_rep3 {sp : Space} {e : EltTy} (v : View sig .tc sp S1x1024x2048 e) (X : S1x1024x2048.Idx → Elt F e) :
    View.readAt (Elt F) v (Rect.unit (s := S1x1024x2048) ![0, 0, 0] S1x1024x2048.size inb_S1x1024x2048_S1x1024x2048_0_0_0).toLoadRect (v.rep X) = X := by
  rw [View.readAt_eq_ld, View.read_rep]
  exact View.ld_unit_lit (S := S1x1024x2048) _ X zero3

/-- The upper half of a block stored whole. -/
theorem readCov_top {sp : Space} {e : EltTy} (v : View sig .tc sp S512x2048 e) (w : S512x2048.Idx → Elt F e) :
    v.readCov [(⟨wholeBlock, w⟩ : View.Piece (Elt F) S512x2048 e)] topHalf.toLoadRect = View.ld w topHalf := by
  rw [View.readCov_eq_canon']
  funext j
  rw [canon_block]

theorem ld_unread {sp : Space} {e : EltTy} {a : Memref sig .tc sp S512x2048 e} (ha : a.IsWhole) (X : S512x2048.Idx → Elt F e) :
    View.readAt (Elt F) a.view wholeBlock.toLoadRect (ha.unread X) = X := by
  rw [View.readAt_eq_ld, ha.read_unread, ld_block]

theorem ld_unread_top {sp : Space} {e : EltTy} {a : Memref sig .tc sp S512x2048 e} (ha : a.IsWhole) (X : S512x2048.Idx → Elt F e) :
    View.readAt (Elt F) a.view topHalf.toLoadRect (ha.unread X) = View.ld X topHalf := by
  rw [View.readAt_eq_ld, ha.read_unread]

theorem full_args {a a' : S512x2048.Idx → Elt F .bf16} {b b' d d' : S1x2048x1024.Idx → Elt F .bf16} {g g' : S512x2048.Idx → Elt F .f32}
    {k k' : S1x1024x2048.Idx → Elt F .bf16} (ha : a = a') (hb : b = b') (hd : d = d') (hg : g = g') (hk : k = k') :
    k0_pay3 a b d g k = k0_pay3 a' b' d' g' k' := by
  rw [ha, hb, hd, hg, hk]

theorem half_args {acc : S512x2048.Idx → Elt F .f32} {a a' : S256x2048.Idx → Elt F .bf16} {b b' d d' : S1x2048x1024.Idx → Elt F .bf16} {g g' : S256x2048.Idx → Elt F .f32}
    {k k' : S1x1024x2048.Idx → Elt F .bf16} (ha : a = a') (hb : b = b') (hd : d = d') (hg : g = g') (hk : k = k') :
    topHalf.overlay acc (k0_pay4 a b d g k) = topHalf.overlay acc (k0_pay4 a' b' d' g' k') := by
  rw [ha, hb, hd, hg, hk]

/-- A store to the upper half of a block replaces it and leaves the rest. -/
theorem read_write_top {sp : Space} {e : EltTy} (v : View sig .tc sp S512x2048 e) (f : v.ty.Contents (Elt F)) (w : S256x2048.Idx → Elt F e) :
    v.read (Elt F) (v.writes (Elt F) f [(⟨topHalf, w⟩ : View.Piece (Elt F) S512x2048 e)]) = topHalf.overlay (v.read (Elt F) f) w := by
  funext y
  by_cases hy : y ∈ topHalf.set
  · obtain ⟨x, rfl⟩ : ∃ x, topHalf.emb x = y := topHalf.exists_idx_of_mem hy
    rw [View.read_writes_cons_emb, Rect.overlay_emb]
  · have hy' : y ∉ Finset.univ.map topHalf.emb := by rwa [Rect.map_emb_univ]
    rw [View.writes_cons, View.read_slice_write_of_not_mem topHalf _ _ _ hy', Rect.overlay_of_not_mem _ _ _ hy, View.writes_nil]

set_option backward.proofsInPublic true in
set_option maxHeartbeats 2000000 in
theorem body_run (c : Dev nD) (i : grid0.Coords) (arg5 : Memref sig .tc .vmem S512x2048 .f32) (harg5 : arg5.IsWhole) (arg6 : Memref sig .tc .vmem S1x2048x1024 .bf16) (harg6 : arg6.IsWhole) (arg7 : Memref sig .tc .vmem S1x2048x1024 .bf16) (harg7 : arg7.IsWhole) (arg8 : Memref sig .tc .vmem S1x1024x2048 .bf16) (harg8 : arg8.IsWhole) (arg9 : Memref sig .tc .vmem S512x2048 .f32) (harg9 : arg9.IsWhole) (T0 : (S72.Idx → Elt F .i32)) (T1 : (S1.Idx → Elt F .i32)) (T2 : (S72.Idx → Elt F .i32))
     (x0 : (S512x2048.Idx → Elt F .f32)) (x1 : (S1x2048x1024.Idx → Elt F .bf16)) (x2 : (S1x2048x1024.Idx → Elt F .bf16)) (x3 : (S1x1024x2048.Idx → Elt F .bf16)) (y : S512x2048.Idx → Elt F .f32) (xb : S512x2048.Idx → Elt F .bf16)
    (K : PUnit → sProp 𝕄) :
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tileExpert.view.loc (c : Thread nD τ) ↦{fullShare.right} T0)
          ∗ (usedTiles.view.loc (c : Thread nD τ) ↦{fullShare.right} T1)
          ∗ (tileRows.view.loc (c : Thread nD τ) ↦{fullShare.right} T2)
          ∗ owns (c : Thread nD τ) arg9 fullShare y
          ∗ owns (c : Thread nD τ) xsRounded fullShare xb
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tileExpert.view.loc (c : Thread nD τ) ↦{fullShare.right} T0)
          ∗ (usedTiles.view.loc (c : Thread nD τ) ↦{fullShare.right} T1)
          ∗ (tileRows.view.loc (c : Thread nD τ) ↦{fullShare.right} T2)
          ∗ owns (c : Thread nD τ) arg9 fullShare (newOut i (rowsAt i T2) x0 x1 x2 x3 y xb)
          ∗ owns (c : Thread nD τ) xsRounded fullShare (newXb i x0 xb)) -∗ K ⟨⟩))
          ⊢ wp frame (wpE (defs₀ (F := F)) Variants.none c none) Set.univ (cc0_expert_swiglu i tileExpert (Memref.isWhole_whole _) usedTiles (Memref.isWhole_whole _) tileRows (Memref.isWhole_whole _) arg5 harg5 arg6 harg6 arg7 harg7 arg8 harg8 arg9 harg9 xsRounded (Memref.isWhole_whole _)) K := by
    unfold owns
    rw [cc0_expert_swiglu_eq_skeleton]; unfold cc0_expert_swiglu_skel
    have hS0 : xsRounded.IsWhole := Memref.isWhole_whole _
    have hT0 : tileExpert.IsWhole := Memref.isWhole_whole _
    have hT1 : usedTiles.IsWhole := Memref.isWhole_whole _
    have hT2 : tileRows.IsWhole := Memref.isWhole_whole _
    iintro ⟨H0, H1, H2, H3, HT0, HT1, HT2, ⟨%f4, %hf4, HO4⟩, ⟨%fs, %hfs, HS0⟩, Hk⟩
    obtain rfl := harg9.eq_unread hf4
    obtain rfl := hS0.eq_unread hfs
    rcases paths i (rowsAt i T2) with ⟨k0_h1, k0_h2, k0_h3⟩ | ⟨k0_h1, k0_h2, k0_h3⟩ | ⟨k0_h1, k0_h2, k0_h3⟩ | ⟨k0_h1, k0_h2, k0_h3⟩ | ⟨k0_h1, k0_h2, k0_h3⟩ | ⟨k0_h1, k0_h2, k0_h3⟩
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        sl_unfold_run_names
        rw [View.read_writes_junk_eq_canon, canon_block]; exact full_args (by rw [View.readCov_cons_toLoadRect, ld_rep]) (ld_rep1 _ _) (ld_rep1 _ _) (View.readCov_cons_toLoadRect _ _ _ _) (ld_rep3 _ _)
      iexists _; isplitr; swap
      · iexact HS0
      ipureintro
      simp only [newXb, k0_h1, if_true, if_false]
      sl_unfold_run_names
      rw [View.read_writes_junk_eq_canon, canon_block, View.readAt_eq_ld, View.read_rep, ld_block]
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        sl_unfold_run_names
        rw [View.read_writes_junk_eq_canon, View.canon_cons, canon_block]; exact half_args (by rw [readCov_top, ld_rep]) (ld_rep1 _ _) (ld_rep1 _ _) (readCov_top _ _) (ld_rep3 _ _)
      iexists _; isplitr; swap
      · iexact HS0
      ipureintro
      simp only [newXb, k0_h1, if_true, if_false]
      sl_unfold_run_names
      rw [View.read_writes_junk_eq_canon, canon_block, View.readAt_eq_ld, View.read_rep, ld_block]
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        sl_unfold_run_names
        rw [View.read_writes_junk_eq_canon, canon_block]
      iexists _; isplitr; swap
      · iexact HS0
      ipureintro
      simp only [newXb, k0_h1, if_true, if_false]
      sl_unfold_run_names
      rw [View.read_writes_junk_eq_canon, canon_block, View.readAt_eq_ld, View.read_rep, ld_block]
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        sl_unfold_run_names
        rw [View.read_writes_junk_eq_canon, canon_block]; exact full_args (ld_unread hS0 _) (ld_rep1 _ _) (ld_rep1 _ _) (ld_unread harg9 _) (ld_rep3 _ _)
      iexists _; isplitr; swap
      · iexact HS0
      ipureintro
      simp only [newXb, k0_h1, if_true, if_false]
      exact hS0.read_unread _
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        sl_unfold_run_names
        rw [read_write_top, harg9.read_unread]; exact half_args (ld_unread_top hS0 _) (ld_rep1 _ _) (ld_rep1 _ _) (ld_unread_top harg9 _) (ld_rep3 _ _)
      iexists _; isplitr; swap
      · iexact HS0
      ipureintro
      simp only [newXb, k0_h1, if_true, if_false]
      exact hS0.read_unread _
    · sl_exec! (disch := first | (guard_target = k0_cond1 _ = _; exact k0_h1) | (guard_target = ¬(k0_cond1 _ = _); exact k0_h1) | (guard_target = ¬(k0_cond2 _ = _); exact k0_h2) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [HO4]
      · iexists _; isplitr; swap; · iexact HO4
        ipureintro
        simp only [newOut, newXb, oldAcc, addChunk, k0_h1, k0_h2, k0_h3, if_true, if_false]
        exact harg9.read_unread _
      iexists _; isplitr; swap
      · iexact HS0
      ipureintro
      simp only [newXb, k0_h1, if_true, if_false]
      exact hS0.read_unread _

end Cert.KernelIdeal.Expert

end
-- ==== Proof.KernelIdeal.Pipe.lean ====
module

public import proofs.«01_k».proof.Defs
public import proofs.«01_k».proof.Proof.KernelIdeal.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Pipeline.ValueKit
public import Idealize.ShloMosaic.Lib.WordCmp
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Expert

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)

/-- The pipeline at tables `a`. -/
abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

/-- The coordinates of a point, and the staging buffers the windows use there. -/
abbrev crd (t : Fin (cfgA a).N) : grid0.Coords := (cfgA a).grid.coords t
abbrev ms0_0 (t : Fin (cfgA a).N) : Memref sig .tc .vmem S512x2048 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x2048x1024 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x2048x1024 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1024x2048 .bf16 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x2048 .f32 := spec0_4.stage ((cfgA a).slots t (4 : Fin 5))
abbrev hs0_4 (t : Fin (cfgA a).N) : (ms0_4 a t).IsWhole := hstage0_4 (((cfgA a).slots t (4 : Fin 5)).cast nbuf0_4)

/-- A window's block at a point, read off its array. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- The inputs' blocks, with their shapes written out. -/
abbrev rowsBlk (c : Dev nD) (t : Fin (cfgA a).N) : S512x2048.Idx → Elt F .f32 := iblk a m c (0 : Fin 5) t
abbrev gateBlk (c : Dev nD) (t : Fin (cfgA a).N) : S1x2048x1024.Idx → Elt F .bf16 := iblk a m c (1 : Fin 5) t
abbrev upBlk (c : Dev nD) (t : Fin (cfgA a).N) : S1x2048x1024.Idx → Elt F .bf16 := iblk a m c (2 : Fin 5) t
abbrev outBlk (c : Dev nD) (t : Fin (cfgA a).N) : S1x1024x2048.Idx → Elt F .bf16 := iblk a m c (3 : Fin 5) t

/-- The count of rows a point reads. -/
abbrev rows (t : Fin (cfgA a).N) : Elt F .i32 := rowsAt (crd a t) (a.1 2)

/-- The coordinates of point `t`: tile `t / 7`, column step `t % 7`. -/
theorem crd_tile (t : Fin (cfgA a).N) : ((crd a t) 0).val = t.val / 7 := by
  have h : t.val < 504 := t.isLt
  show t.val / grid0.stride 0 % 72 = _
  rw [show grid0.stride 0 = 7 from by decide +kernel]
  omega

theorem crd_step (t : Fin (cfgA a).N) : ((crd a t) 1).val = t.val % 7 := by
  have h : t.val < 504 := t.isLt
  show t.val / grid0.stride 1 % 7 = _
  rw [show grid0.stride 1 = 1 from by decide +kernel]
  omega

theorem first_iff (t : Fin (cfgA a).N) : k0_cond1 (crd a t) = 1#1 ↔ t.val % 7 = 0 := by
  rw [cond1_iff, crd_step]

/-- A row block does not change within a tile. -/
theorem rowsBlk_next (c : Dev nD) (t : Fin (cfgA a).N) (h : t.val + 1 < (cfgA a).N) (h7 : (t.val + 1) % 7 ≠ 0) :
    rowsBlk a m c ⟨t.val + 1, h⟩ = rowsBlk a m c t := by
  have hi : ((cfgA a).win (0 : Fin 5)).index ⟨t.val + 1, h⟩ = ((cfgA a).win (0 : Fin 5)).index t := by
    refine hreads0_0 a.1 _ _ fun ax hax => ?_
    have h0 : ax = 0 := by revert hax; revert ax; decide
    subst h0
    apply Fin.ext
    rw [crd_tile, crd_tile]
    show (t.val + 1) / 7 = t.val / 7
    omega
  funext x
  unfold rowsBlk iblk
  rw [View.read_apply, View.read_apply]
  congr 1
  refine congrArg _ ?_
  funext ax
  apply Fin.ext
  refine (((cfgA a).win (0 : Fin 5)).rect_emb_val _ x ax).trans (Eq.trans ?_ (((cfgA a).win (0 : Fin 5)).rect_emb_val _ x ax).symm)
  rw [hi]

/-- The rounded rows of the tile at hand. -/
def xbAt (c : Dev nD) (t : Fin (cfgA a).N) : S512x2048.Idx → Elt F .bf16 := k0_pay1 (rowsBlk a m c t)

/-- One point's addition to the sum `y` left by the point before. -/
def step (c : Dev nD) (t : Fin (cfgA a).N) (y : S512x2048.Idx → Elt F .f32) : S512x2048.Idx → Elt F .f32 :=
  addChunk (rows a t) (xbAt a m c t) (gateBlk a m c t) (upBlk a m c t) (outBlk a m c t) (oldAcc (crd a t) y)

/-- The output block after point `n`. -/
def accAt (c : Dev nD) : (n : ℕ) → n < (cfgA a).N → S512x2048.Idx → Elt F .f32
  | 0, h => step a m c ⟨0, h⟩ k0_pay2
  | n + 1, h => step a m c ⟨n + 1, h⟩ (accAt c n (Nat.lt_of_succ_lt h))

/-- The output block before point `t` (anything before the first). -/
def accBefore (c : Dev nD) (t : Fin (cfgA a).N) : S512x2048.Idx → Elt F .f32 :=
  if h : t.val = 0 then k0_pay2 else accAt a m c (t.val - 1) (by omega)

theorem accAt_eq (c : Dev nD) (t : Fin (cfgA a).N) : accAt a m c t.val t.isLt = step a m c t (accBefore a m c t) := by
  obtain ⟨n, hn⟩ := t
  cases n with
  | zero => rfl
  | succ n => unfold accBefore; simp only [Nat.add_one_ne_zero, dif_neg, not_false_eq_true]; rfl

/-- At a tile's first point the sum before does not matter. -/
theorem step_first (c : Dev nD) (t : Fin (cfgA a).N) (h : t.val % 7 = 0) (y y' : S512x2048.Idx → Elt F .f32) :
    step a m c t y = step a m c t y' := by
  unfold step oldAcc
  rw [if_pos ((first_iff a t).2 h), if_pos ((first_iff a t).2 h)]

/-- What the body leaves is the step, where the scratch holds the tile's rounded rows. -/
theorem newOut_eq_step (c : Dev nD) (t : Fin (cfgA a).N) (y : S512x2048.Idx → Elt F .f32) (xb : S512x2048.Idx → Elt F .bf16)
    (hxb : t.val % 7 ≠ 0 → xb = xbAt a m c t) :
    newXb (crd a t) (rowsBlk a m c t) xb = xbAt a m c t
      ∧ newOut (crd a t) (rows a t) (rowsBlk a m c t) (gateBlk a m c t) (upBlk a m c t) (outBlk a m c t) y xb = step a m c t y := by
  have h : newXb (crd a t) (rowsBlk a m c t) xb = xbAt a m c t := by
    unfold newXb
    by_cases h1 : k0_cond1 (crd a t) = 1#1
    · rw [if_pos h1]; rfl
    · rw [if_neg h1, hxb fun h0 => h1 ((first_iff a t).2 h0)]
  exact ⟨h, by unfold newOut step; rw [h]⟩

/-- The invariant before point `t`: inside a tile the scratch holds its rounded rows; the body's halves of the tables. -/
def Phi (c : Dev nD) (t : Fin ((cfgA a).N + 1)) : sProp 𝕄 :=
  iprop((∃ X, ⌜∀ h : t.val < (cfgA a).N, t.val % 7 ≠ 0 → X = xbAt a m c ⟨t.val, h⟩⌝ ∗ owns (c : Thread nD τ) xsRounded fullShare X)
    ∗ (tileExpert.view.loc (c : Thread nD τ) ↦{fullShare.right} a.1 0) ∗ (usedTiles.view.loc (c : Thread nD τ) ↦{fullShare.right} a.1 1)
    ∗ (tileRows.view.loc (c : Thread nD τ) ↦{fullShare.right} a.1 2))

/-- The pipeline's data on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => accAt a m c t.val t.isLt
  Φ t := Phi a m c t
  q _ := fullShare
  owed _ := 0

theorem after0_0 (c : Dev nD) (t : Fin (cfgA a).N) : (dats a m 0 c).after (0 : Fin 5) t = iblk a m c (0 : Fin 5) t := rfl
theorem after0_1 (c : Dev nD) (t : Fin (cfgA a).N) : (dats a m 0 c).after (1 : Fin 5) t = iblk a m c (1 : Fin 5) t := rfl
theorem after0_2 (c : Dev nD) (t : Fin (cfgA a).N) : (dats a m 0 c).after (2 : Fin 5) t = iblk a m c (2 : Fin 5) t := rfl
theorem after0_3 (c : Dev nD) (t : Fin (cfgA a).N) : (dats a m 0 c).after (3 : Fin 5) t = iblk a m c (3 : Fin 5) t := rfl
theorem after0_4 (c : Dev nD) (t : Fin (cfgA a).N) : (dats a m 0 c).after (4 : Fin 5) t = accAt a m c t.val t.isLt := rfl

/-- An input's staging buffer holds its block when the body runs. -/
theorem before0_0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output is written back at a tile's last point. -/
theorem flush_eq (t : Fin (cfgA a).N) : ((cfgA a).win (4 : Fin 5)).flush t = decide ((t.val + 1) % 7 = 0) := by
  have hN : t.val < 504 := t.isLt
  have hix : ∀ s : Fin (cfgA a).N, ((cfgA a).win (4 : Fin 5)).index s 0 = s.val / 7 := fun s => by
    have hs : s.val < 504 := s.isLt
    show (BitVec.ofNat 32 ((crd a s) 0).val).toNat = _
    rw [crd_tile, BitVec.toNat_ofNat]; omega
  have hix1 : ∀ s : Fin (cfgA a).N, ((cfgA a).win (4 : Fin 5)).index s 1 = 0 := fun s => rfl
  unfold Window.flush
  rw [show ((cfgA a).win (4 : Fin 5)).isOut = true from rfl, Bool.true_and]
  by_cases h7 : (t.val + 1) % 7 = 0
  · simp only [h7, decide_true]
    by_cases hl : t.val + 1 = (cfgA a).N
    · simp [hl]
    · have hl' : t.val + 1 < 504 := Nat.lt_of_le_of_ne hN hl
      rw [Bool.or_eq_true]; right
      rw [decide_eq_true_eq]
      refine ⟨hl', fun e => ?_⟩
      have := congrFun e 0
      rw [hix, hix] at this
      simp only at this
      omega
  · simp only [h7, decide_false]
    rw [Bool.or_eq_false_iff]
    refine ⟨decide_eq_false fun e => h7 (by
      have e' : t.val + 1 = 504 := e
      rw [e']), decide_eq_false ?_⟩
    rintro ⟨hl, hne⟩
    refine hne (funext fun ax => ?_)
    match ax with
    | ⟨0, _⟩ => exact (hix _).trans (Eq.trans (by show (t.val + 1) / 7 = t.val / 7; omega) (hix t).symm)
    | ⟨1, _⟩ => exact (hix1 _).trans (hix1 t).symm

/-- Where the body leaves the output idle, it takes none of the three branches. -/
theorem idle_conds (t : Fin (cfgA a).N) (h : (cfgA a).idle (4 : Fin 5) ((cfgA a).grid.coords t) = true) :
    ¬ k0_cond1 (crd a t) = 1#1 ∧ ¬ k0_cond2 (rows a t) = 1#1 ∧ ¬ k0_cond3 (rows a t) = 1#1 := by
  have hr : Pipeline.Prefetch.Contents.atD a.1 2 (k0_off1 (crd a t)) = rows a t := by
    unfold Pipeline.Prefetch.Contents.atD
    have hin : ∀ ax : Fin 1, k0_off1 (crd a t) ax + 1 ≤ S72.size ax := fun ax => by
      match ax with
      | ⟨0, _⟩ => exact k0_off1_inb (crd a t) 0
    refine (dif_pos hin).trans ?_
    show a.1 2 _ = a.1 2 _
    congr 1
  have h' : (!(k0_cond1 (crd a t) == 1#1) && !(k0_cond2 (Pipeline.Prefetch.Contents.atD a.1 2 (k0_off1 (crd a t))) == 1#1)
      && !(k0_cond3 (Pipeline.Prefetch.Contents.atD a.1 2 (k0_off1 (crd a t))) == 1#1)) = true := h
  rw [hr] at h'
  simp only [Bool.and_eq_true, Bool.not_eq_true', beq_eq_false_iff_ne, ne_eq] at h'
  exact ⟨h'.1.1, h'.1.2, h'.2⟩

theorem idle_step (c : Dev nD) (t : Fin (cfgA a).N) (h : (cfgA a).idle (4 : Fin 5) ((cfgA a).grid.coords t) = true) (y : S512x2048.Idx → Elt F .f32) :
    step a m c t y = y := by
  obtain ⟨h1, h2, h3⟩ := idle_conds a t h
  unfold step addChunk oldAcc
  rw [if_neg h1, if_neg h2, if_neg h3]

theorem idle_first (t : Fin (cfgA a).N) (h : t.val % 7 = 0) : (cfgA a).idle (4 : Fin 5) ((cfgA a).grid.coords t) = false := by
  by_contra hc
  rw [Bool.not_eq_false] at hc
  exact (idle_conds a t hc).1 ((first_iff a t).2 h)

/-- The output block holds nothing exactly before a tile's first point. -/
theorem fresh_eq (t : Fin (cfgA a).N) : (cfgA a).fresh (4 : Fin 5) t.val = decide (t.val % 7 = 0) :=
  Pipeline.Cfg.fresh_tab (cfgA a) (4 : Fin 5) (fun n => decide (n % 7 = 0)) rfl (fun t => by
    rw [flush_eq]
    by_cases h : t.val % 7 = 0
    · rw [idle_first a t h, Bool.false_and, Bool.or_false]
    · simp [h]) t.val (Nat.le_of_lt t.isLt)

theorem hcarry0_4 (c : Dev nD) : ∀ (t : Fin (cfgA a).N) (ht : t.val ≠ 0), (cfgA a).idle (4 : Fin 5) ((cfgA a).grid.coords t) = true → (cfgA a).fresh (4 : Fin 5) t.val = false →
    (dats a m 0 c).after (4 : Fin 5) t = (dats a m 0 c).after (4 : Fin 5) ⟨t.val - 1, by omega⟩ := by
  intro t ht hi hf
  rw [after0_4, after0_4, accAt_eq, idle_step a m c t hi]
  unfold accBefore; rw [dif_neg ht]

/-- The output's staging buffer holds the running sum when the body runs, or anything at a tile's first point. -/
theorem before0_4 (c : Dev nD) (t : Fin (cfgA a).N) (d) :
    (dats a m 0 c).before (4 : Fin 5) t d = if t.val % 7 = 0 then d else accBefore a m c t := by
  rw [(dats a m 0 c).before_out_traj (4 : Fin 5) rfl (fun _ _ => rfl) (hcarry0_4 a m c) t.val t rfl d, fresh_eq]
  by_cases h : t.val % 7 = 0
  · simp only [h, decide_true, ↓reduceIte]
  · have h0 : t.val ≠ 0 := fun h0 => h (by rw [h0])
    simp only [h, decide_false, Bool.false_eq_true, ↓reduceIte, after0_4]; unfold accBefore; rw [dif_neg h0]

/-- The step on what the buffer holds is the step on the running sum. -/
theorem step_before (c : Dev nD) (t : Fin (cfgA a).N) (d) :
    step a m c t ((dats a m 0 c).before (4 : Fin 5) t d) = accAt a m c t.val t.isLt := by
  rw [before0_4, accAt_eq]
  by_cases h : t.val % 7 = 0
  · exact step_first a m c t h _ _
  · rw [if_neg h]

/-- The body at point `t`, as the pipeline calls it. -/
abbrev bodyAt0 (t : Fin (cfgA a).N) : Prog (TpuEff nD τ sig (Elt F) Λ₀ .tc) PUnit :=
  cc0_expert_swiglu (crd a t) tileExpert (Memref.isWhole_whole _) usedTiles (Memref.isWhole_whole _) tileRows (Memref.isWhole_whole _) (ms0_0 a t) (hs0_0 a t) (ms0_1 a t) (hs0_1 a t) (ms0_2 a t) (hs0_2 a t) (ms0_3 a t) (hs0_3 a t) (ms0_4 a t) (hs0_4 a t) xsRounded (Memref.isWhole_whole _)

set_option maxHeartbeats 4000000 in
/-- The body's obligation at a point. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 5) t d))
        ∗ (∃ d, owns (c : Thread nD τ) (ms0_1 a t) fullShare ((dats a m 0 c).before (1 : Fin 5) t d))
        ∗ (∃ d, owns (c : Thread nD τ) (ms0_2 a t) fullShare ((dats a m 0 c).before (2 : Fin 5) t d))
        ∗ (∃ d, owns (c : Thread nD τ) (ms0_3 a t) fullShare ((dats a m 0 c).before (3 : Fin 5) t d))
        ∗ (∃ d, owns (c : Thread nD τ) (ms0_4 a t) fullShare ((dats a m 0 c).before (4 : Fin 5) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hpost : ∀ d, (owns (c : Thread nD τ) (ms0_4 a t) fullShare (step a m c t ((dats a m 0 c).before (4 : Fin 5) t d)) : sProp 𝕄)
      ⊢ match (cfgA a).idle (4 : Fin 5) ((cfgA a).grid.coords t) with
                | true =>
                  match ((cfgA a).win (4 : Fin 5)).flush t with
                  | false => iprop(∃ d, owns (c : Thread nD τ) (((cfgA a).win (4 : Fin 5)).stage ((cfgA a).slots t (4 : Fin 5))) fullShare ((dats a m 0 c).before (4 : Fin 5) t d))
                  | true => owns (c : Thread nD τ) (((cfgA a).win (4 : Fin 5)).stage ((cfgA a).slots t (4 : Fin 5))) fullShare ((dats a m 0 c).after (4 : Fin 5) t)
                | false => owns (c : Thread nD τ) (((cfgA a).win (4 : Fin 5)).stage ((cfgA a).slots t (4 : Fin 5))) fullShare ((dats a m 0 c).after (4 : Fin 5) t) := fun d => by
    cases hi : (cfgA a).idle (4 : Fin 5) ((cfgA a).grid.coords t) with
    | false => simp only; rw [step_before]; exact .rfl
    | true =>
      cases hf : ((cfgA a).win (4 : Fin 5)).flush t with
      | true => simp only; rw [step_before]; exact .rfl
      | false => simp only; rw [idle_step a m c t hi]; iintro H; iexists d; iexact H
  simp only [before0_0, before0_1, before0_2, before0_3, after0_0, after0_1, after0_2, after0_3]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨⟨%a0, %ha0, HS0⟩, HT0, HT1, HT2⟩, Ho, ⟨%d0, H0⟩, ⟨%d1, H1⟩, ⟨%d2, H2⟩, ⟨%d3, H3⟩, ⟨%d4, H4⟩⟩
  obtain ⟨hx, hy⟩ := newOut_eq_step a m c t ((dats a m 0 c).before (4 : Fin 5) t d4) a0 (ha0 t.isLt)
  iapply (body_run c (crd a t) (ms0_0 a t) (hs0_0 a t) (ms0_1 a t) (hs0_1 a t) (ms0_2 a t) (hs0_2 a t) (ms0_3 a t) (hs0_3 a t) (ms0_4 a t) (hs0_4 a t) (a.1 0) (a.1 1) (a.1 2) (rowsBlk a m c t) (gateBlk a m c t) (upBlk a m c t) (outBlk a m c t) ((dats a m 0 c).before (4 : Fin 5) t d4) a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  rw [hx, hy]
  iintro ⟨H0, H1, H2, H3, HT0, HT1, HT2, H4, HS0⟩
  isplitl [HS0 HT0 HT1 HT2]
  · isplitl [HS0]
    · iexists _; isplitr; swap
      · iexact HS0
      · ipureintro
        intro h h7
        show xbAt a m c t = xbAt a m c ⟨t.val + 1, h⟩
        unfold xbAt
        rw [rowsBlk_next a m c t h h7]
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply (hpost d4); iexact H4

/-- The body's obligation at every point. -/
theorem body_obligation (c : Dev nD) : BodyObligation (dats a m 0 c) (defs₀ (F := F)) Variants.none () Set.univ := fun t => by
  rw [bigSep_W0]
  exact sound_body a m c t

/-! ## The launch -/

/-- The launch's ghost state. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

/-- The tables, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg4) ↦{q 0} v 0) ∗ (((c : Thread nD τ).loc main_arg5) ↦{q 1} v 1) ∗ (((c : Thread nD τ).loc main_arg6) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant before the first point, from the tables and the scratch; -/
theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  simp only [owns_whole]
  iintro ⟨-, ⟨HT0, HT1, HT2⟩, ⟨%a0, HS0⟩⟩
  isplitl [HS0]
  · iexists a0; isplitr; swap
    · iexact HS0
    · ipureintro; intro _ h; exact absurd rfl h
  isplitl [HT0]
  · iexact HT0
  isplitl [HT1]
  · iexact HT1
  iexact HT2

/-- and after the last it gives the scratch back. -/
theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  simp only [owns_whole]
  iintro ⟨⟨%a0, -, HS0⟩, -, -, -⟩
  isplitr; · iempintro
  iexists a0; iexact HS0

/-- Every array ends at what the points wrote back, every table at what it held. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory holding tables `a` and zero counters, every execution of the program ends so, every counter at zero. -/
theorem run_main_quiescent (hp : ∀ (c : Dev nD) (j : Fin 3), m ((c : Thread nD τ).loc (pre0.ref j)) = a.1 j) :
    θ_run (defs (F := F)) (onTc (τ := τ) (main (F := F))) ⟨m, fun _ => 0, ρ⟩ (fun r => QC a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre emb₁ defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array and the arguments after the program. -/
theorem run_value (hp : ∀ (c : Dev nD) (j : Fin 3), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => by
    obtain ⟨h, hz⟩ := hh
    exact ⟨fun c => ⟨(h c).1 (4 : Fin 5), ((h c).1 (0 : Fin 5)).trans ((dats a m 0 c).arrAt_in (0 : Fin 5) rfl _), ((h c).1 (1 : Fin 5)).trans ((dats a m 0 c).arrAt_in (1 : Fin 5) rfl _), ((h c).1 (2 : Fin 5)).trans ((dats a m 0 c).arrAt_in (2 : Fin 5) rfl _), ((h c).1 (3 : Fin 5)).trans ((dats a m 0 c).arrAt_in (3 : Fin 5) rfl _), ((h c).2 0).trans (hp c 0).symm, ((h c).2 1).trans (hp c 1).symm, ((h c).2 2).trans (hp c 2).symm⟩, hz⟩) (run_main_quiescent a m ρ hp)

/-- The arguments end unchanged and every counter at zero. -/
theorem frame (hp : ∀ (c : Dev nD) (j : Fin 3), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_value a m ρ hp)

/-! ## The tables a launch memory holds -/

/-- The tables in a launch memory. -/
def tabs : pre0.Contents (Elt F) := fun k => m (((0 : Dev nD) : Thread nD τ).loc (pre0.ref k))

theorem tabs_held (c : Dev nD) (j : Fin 3) : m ((c : Thread nD τ).loc (pre0.ref j)) = tabs m j := by
  have hc : c = 0 := Subsingleton.elim _ _
  subst hc; rfl

theorem inb2 {b n : Fin 2 → Nat} {s : Fin 2 → Nat} (h0 : (b 0 + 1) * n 0 ≤ s 0) (h1 : (b 1 + 1) * n 1 ≤ s 1) : ∀ ax, (b ax + 1) * n ax ≤ s ax := by
  intro ax
  match ax with
  | ⟨0, _⟩ => exact h0
  | ⟨1, _⟩ => exact h1

theorem inb3 {b n : Fin 3 → Nat} {s : Fin 3 → Nat} (h0 : (b 0 + 1) * n 0 ≤ s 0) (h1 : (b 1 + 1) * n 1 ≤ s 1) (h2 : (b 2 + 1) * n 2 ≤ s 2) :
    ∀ ax, (b ax + 1) * n ax ≤ s ax := by
  intro ax
  match ax with
  | ⟨0, _⟩ => exact h0
  | ⟨1, _⟩ => exact h1
  | ⟨2, _⟩ => exact h2

/-- A tile number limited by the last used tile is a tile number. -/
theorem tile_lt (n : Nat) (hn : n < 72) (v : BitVec 32) : (Scalar.maxsi (Scalar.minsi (BitVec.ofNat 32 n) v) 0#32).toNat < 72 := by
  have h : (BitVec.ofNat 32 n).toInt = n := by
    rw [BitVec.toInt_eq_toNat_of_lt (by rw [BitVec.toNat_ofNat]; omega), BitVec.toNat_ofNat]; omega
  have hw : (Scalar.minsi (BitVec.ofNat 32 n) v).toInt < 72 := by
    rw [Scalar.minsi, IntOp.minsi]
    by_cases hs : (BitVec.ofNat 32 n).slt v
    · rw [if_pos hs]; omega
    · rw [if_neg hs]; rw [BitVec.slt_iff_toInt_lt] at hs; omega
  generalize Scalar.minsi (BitVec.ofNat 32 n) v = w at hw
  rw [Scalar.maxsi, IntOp.maxsi]
  by_cases hs : (0#32).slt w
  · rw [if_pos hs]
    rw [BitVec.slt_iff_toInt_lt, show (0#32 : BitVec 32).toInt = 0 from by decide] at hs
    have := BitVec.toInt_eq_toNat_cond w
    have := w.isLt
    split at * <;> omega
  · rw [if_neg hs]; decide

/-- A column step, or the last one, is below seven. -/
theorem step_lt (n : Nat) (hn : n < 7) (b : BitVec 1) : (Scalar.select b (BitVec.ofNat 32 n) 6#32 : BitVec 32).toNat < 7 := by
  show (if b = 1#1 then BitVec.ofNat 32 n else 6#32 : BitVec 32).toNat < 7
  split
  · rw [BitVec.toNat_ofNat]; omega
  · decide

/-- Tables whose experts are in range keep every block inside its array. -/
theorem ok_tabs (pf : pre0.Contents (Elt F)) (h : ∀ e : S72.Idx, (show BitVec 32 from pf 0 e).toNat < 8) : ok0 (F := F) pf := by
  refine ⟨fun i => ⟨inb2 ?_ ?_, .inl rfl⟩, fun i => ⟨inb3 ?_ ?_ ?_, .inr (Affine.block_words_dvd (s := S8x2048x7168) (p := EltTy.packing .bf16) (by decide) (by decide))⟩,
    fun i => ⟨inb3 ?_ ?_ ?_, .inr (Affine.block_words_dvd (s := S8x2048x7168) (p := EltTy.packing .bf16) (by decide) (by decide))⟩,
    fun i => ⟨inb3 ?_ ?_ ?_, .inr (Affine.block_words_dvd (s := S8x7168x2048) (p := EltTy.packing .bf16) (by decide) (by decide))⟩⟩
  · have := tile_lt (i 0).val (i 0).isLt (Scalar.subi (show BitVec 32 from pf.at 1 (Rect.unit (s := S1) ![0] S1.size inb_S1_S1_0) numel1_S1) 1#32)
    show ((Scalar.maxsi (Scalar.minsi (BitVec.ofNat 32 (i 0).val) _) 0#32 : BitVec 32).toNat + 1) * 512 ≤ 36864
    exact (Nat.mul_le_mul_right 512 this).trans (by decide)
  · show (0 + 1) * 2048 ≤ 2048; decide
  · exact (Nat.mul_le_mul_right 1 (h _)).trans (by decide)
  · show (0 + 1) * 2048 ≤ 2048; decide
  · exact (Nat.mul_le_mul_right 1024 (step_lt (i 1).val (i 1).isLt _)).trans (by decide)
  · exact (Nat.mul_le_mul_right 1 (h _)).trans (by decide)
  · show (0 + 1) * 2048 ≤ 2048; decide
  · exact (Nat.mul_le_mul_right 1024 (step_lt (i 1).val (i 1).isLt _)).trans (by decide)
  · exact (Nat.mul_le_mul_right 1 (h _)).trans (by decide)
  · exact (Nat.mul_le_mul_right 1024 (step_lt (i 1).val (i 1).isLt _)).trans (by decide)
  · show (0 + 1) * 2048 ≤ 2048; decide

end Cert.KernelIdeal.Expert

end
-- ==== Proof.KernelIdeal.Chunk.lean ====
module

public import proofs.«01_k».proof.Proof.KernelIdeal.Body
public import proofs.«01_k».proof.Proof.Swiglu

@[expose] public section

set_option maxRecDepth 16384
set_option Elab.async false

noncomputable section
namespace Cert.KernelIdeal.Expert

open Cert.KernelIdeal Cert.KernelIdeal.Gen Cert.Swiglu
open Idealize.ShloMosaic hiding ix1 ix2 ix3
open Idealize.ShloMosaic.ValueIdx
open scoped BigOperators

/-- A block with one expert in front, without that axis. -/
theorem drop_lead {A B : ℕ} {α : Type} (x : (⟨3, ![1, A, B]⟩ : Shape).Idx → α) (h : (⟨3, ![1, A, B]⟩ : Shape).ShapeCasts ⟨2, ![A, B]⟩) (a : Fin A) (b : Fin B) :
    shapeCast ⟨2, ![A, B]⟩ x h (ix2 a b) = x (ix3 0 a b) :=
  shapeCast_apply x h (ix2 a b) (ix3 0 a b) (by
    rw [Shape.rowMajor_val_three, Shape.rowMajor_val_two]
    show (0 * A + a.val) * B + b.val = a.val * B + b.val
    rw [Nat.zero_mul, Nat.zero_add])

theorem same_shape {α : Type} {s : Shape} (x : s.Idx → α) (h : s.ShapeCasts s) : shapeCast s x h = x :=
  funext fun i => shapeCast_apply x h i i rfl

/-- What one column step adds to a row, from the row's entries and the step's weights. -/
def rowChunk (xr : Fin 2048 → EReal) (x1 x2 : S1x2048x1024.Idx → EReal) (x3 : S1x1024x2048.Idx → EReal) (d : Fin 2048) : EReal :=
  ∑ k : Fin 1024, gated (∑ c : Fin 2048, xr c * x1 (ix3 0 c k)) (∑ c : Fin 2048, xr c * x2 (ix3 0 c k)) * x3 (ix3 0 k d)

/-- The step's arithmetic over any number of rows. -/
theorem chunk_apply {R : ℕ} (xb : FVec Ideal ⟨2, ![R, 2048]⟩ .bf16) (x1 x2 : FVec Ideal S1x2048x1024 .bf16) (x3 : FVec Ideal S1x1024x2048 .bf16)
    (acc : FVec Ideal ⟨2, ![R, 2048]⟩ .f32) (hs : (⟨2, ![R, 2048]⟩ : Shape).ShapeCasts ⟨2, ![R, 2048]⟩) (r : Fin R) (d : Fin 2048) :
    addf (F := Ideal) (shapeCast ⟨2, ![R, 2048]⟩ acc hs) (matmul (DotDims.plain R 1024 2048) none
      (truncf .bf16 (mulf (mulf (matmul (DotDims.plain R 2048 1024) none xb (shapeCast S2048x1024 x1 shapeCasts_S1x2048x1024_S2048x1024) (constant ⟨2, ![R, 1024]⟩ .f32 0x00000000#32))
          (divf (broadcast ⟨2, ![R, 1024]⟩ (Scalar.ofBits .f32 0x3F800000#32)) (addf (broadcast ⟨2, ![R, 1024]⟩ (Scalar.ofBits .f32 0x3F800000#32))
            (exp (subf (broadcast ⟨2, ![R, 1024]⟩ (Scalar.ofBits .f32 0x00000000#32))
              (matmul (DotDims.plain R 2048 1024) none xb (shapeCast S2048x1024 x1 shapeCasts_S1x2048x1024_S2048x1024) (constant ⟨2, ![R, 1024]⟩ .f32 0x00000000#32)))))))
        (matmul (DotDims.plain R 2048 1024) none xb (shapeCast S2048x1024 x2 shapeCasts_S1x2048x1024_S2048x1024) (constant ⟨2, ![R, 1024]⟩ .f32 0x00000000#32))) bitsLt_bf16_f32)
      (shapeCast S1024x2048 x3 shapeCasts_S1x1024x2048_S1024x2048) (constant ⟨2, ![R, 2048]⟩ .f32 0x00000000#32)) (ix2 r d)
      = acc (ix2 r d) + rowChunk (fun c => xb (ix2 r c)) x1 x2 x3 d := by
  have hp : ∀ (x : FVec Ideal S1x2048x1024 .bf16) (k : Fin 1024), matmul (F := Ideal) (DotDims.plain R 2048 1024) none xb (shapeCast S2048x1024 x shapeCasts_S1x2048x1024_S2048x1024)
      (constant ⟨2, ![R, 1024]⟩ .f32 0x00000000#32) (ix2 r k) = ∑ c : Fin 2048, xb (ix2 r c) * x (ix3 0 c k) := fun x k => by
    rw [prod_apply]
    exact Finset.sum_congr rfl fun c _ => congrArg (xb (ix2 r c) * ·) (drop_lead x shapeCasts_S1x2048x1024_S2048x1024 c k)
  rw [same_shape]
  unfold rowChunk
  show acc (ix2 r d) + _ = _
  rw [prod_apply]
  refine congrArg (acc (ix2 r d) + ·) (Finset.sum_congr rfl fun k _ => ?_)
  refine congrArg₂ (· * ·) ?_ (drop_lead x3 _ k d)
  rw [← hp x1 k, ← hp x2 k]
  generalize matmul (F := Ideal) (DotDims.plain R 2048 1024) none xb (shapeCast S2048x1024 x1 shapeCasts_S1x2048x1024_S2048x1024) (constant ⟨2, ![R, 1024]⟩ .f32 0x00000000#32) = g
  generalize matmul (F := Ideal) (DotDims.plain R 2048 1024) none xb (shapeCast S2048x1024 x2 shapeCasts_S1x2048x1024_S2048x1024) (constant ⟨2, ![R, 1024]⟩ .f32 0x00000000#32) = u
  show (g (ix2 r k) * Ideal.div (FloatOps.ofBits (F := Ideal) .f32 0x3F800000#32)
    (FloatOps.ofBits (F := Ideal) .f32 0x3F800000#32 + Ideal.exp (FloatOps.ofBits (F := Ideal) .f32 0x00000000#32 - g (ix2 r k)))) * u (ix2 r k) = _
  rw [one_bits, zero_bits, zero_sub]
  rfl

/-- The full step, over 512 rows. -/
theorem pay3_apply (xb : FVec Ideal S512x2048 .bf16) (x1 x2 : FVec Ideal S1x2048x1024 .bf16) (acc : FVec Ideal S512x2048 .f32) (x3 : FVec Ideal S1x1024x2048 .bf16)
    (r : Fin 512) (d : Fin 2048) :
    k0_pay3 (F := Ideal) xb x1 x2 acc x3 (ix2 r d) = acc (ix2 r d) + rowChunk (fun c => xb (ix2 r c)) x1 x2 x3 d :=
  chunk_apply xb x1 x2 x3 acc shapeCasts_S512x2048_S512x2048 r d

/-- The half step, over 256 rows. -/
theorem pay4_apply (xb : FVec Ideal S256x2048 .bf16) (x1 x2 : FVec Ideal S1x2048x1024 .bf16) (acc : FVec Ideal S256x2048 .f32) (x3 : FVec Ideal S1x1024x2048 .bf16)
    (r : Fin 256) (d : Fin 2048) :
    k0_pay4 (F := Ideal) xb x1 x2 acc x3 (ix2 r d) = acc (ix2 r d) + rowChunk (fun c => xb (ix2 r c)) x1 x2 x3 d :=
  chunk_apply xb x1 x2 x3 acc shapeCasts_S256x2048_S256x2048 r d

/-- A row of the upper half, as a row of the block. -/
theorem topHalf_emb (r : Fin 256) (c : Fin 2048) : topHalf.emb (ix2 r c) = ix2 ⟨r.val, by omega⟩ c := by
  funext ax
  apply Fin.ext
  match ax with
  | ⟨0, _⟩ => show 0 + 1 * _ = _; rw [Nat.one_mul, Nat.zero_add]
  | ⟨1, _⟩ => show 0 + 1 * _ = _; rw [Nat.one_mul, Nat.zero_add]

/-- A column step on a row below the tile's count of rows, full or half. -/
theorem addChunk_live (v : BitVec 32) (xb : S512x2048.Idx → EReal) (x1 x2 : S1x2048x1024.Idx → EReal) (x3 : S1x1024x2048.Idx → EReal)
    (acc : S512x2048.Idx → EReal) (r : Fin 512) (d : Fin 2048) (h : (r.val : ℤ) < v.toInt) :
    addChunk (F := Ideal) v xb x1 x2 x3 acc (ix2 r d) = acc (ix2 r d) + rowChunk (fun c => xb (ix2 r c)) x1 x2 x3 d := by
  unfold addChunk
  by_cases h2 : k0_cond2 v = 1#1
  · rw [if_pos h2]
    exact pay3_apply xb x1 x2 acc x3 r d
  · have h3 : k0_cond3 v = 1#1 := by
      rw [cond3_iff]; rw [cond2_iff] at h2; omega
    rw [if_neg h2, if_pos h3]
    have hr : r.val < 256 := by
      rw [cond3_iff] at h3; omega
    have he : (ix2 r d : S512x2048.Idx) = topHalf.emb (ix2 (⟨r.val, hr⟩ : Fin 256) d) := (topHalf_emb ⟨r.val, hr⟩ d).symm
    rw [he, Rect.overlay_emb]
    refine (pay4_apply _ x1 x2 _ x3 ⟨r.val, hr⟩ d).trans ?_
    refine congrArg (acc (topHalf.emb (ix2 (⟨r.val, hr⟩ : Fin 256) d)) + ·) ?_
    refine congrArg (fun f => rowChunk f x1 x2 x3 d) (funext fun c => ?_)
    exact congrArg xb (topHalf_emb ⟨r.val, hr⟩ c)

end Cert.KernelIdeal.Expert

end
-- ==== Proof.KernelIdeal.Blocks.lean ====
module

public import proofs.«01_k».proof.Proof.KernelIdeal.Pipe
public import proofs.«01_k».proof.Proof.KernelIdeal.Chunk

@[expose] public section

set_option maxRecDepth 16384
set_option Elab.async false

noncomputable section
namespace Cert.KernelIdeal.Expert

open Cert.KernelIdeal Cert.KernelIdeal.Gen Cert.Swiglu
open Idealize.ShloMosaic hiding ix1 ix2 ix3
open Idealize.ShloMosaic.ValueIdx Idealize.ShloMosaic.TcCoe
open Idealize.ShloMosaic.Pipeline (Dat Cfg Window)
open scoped BigOperators

variable (a : (pcfg0 (F := Ideal)).Adm) (m : (ℓ : Loc nD τ sig) → Buf (Elt Ideal) ℓ) (c : Dev nD)

/-- The tables' words: a tile's expert, the number of used tiles, a tile's count of rows. -/
def expertOf (i : Fin 72) : BitVec 32 := a.1 0 (ix1 i)
def usedCount : BitVec 32 := a.1 1 (ix1 (0 : Fin 1))
def rowCount (i : Fin 72) : BitVec 32 := a.1 2 (ix1 i)

/-- A point's tile. -/
def tileOf (t : Fin (cfgA a).N) : Fin 72 := ⟨t.val / 7, by have h : t.val < 504 := t.isLt; omega⟩

theorem off_tile (t : Fin (cfgA a).N) : k0_off1 (crd a t) 0 = t.val / 7 := by
  have h : t.val < 504 := t.isLt
  show (BitVec.ofNat 32 ((crd a t) 0).val).toNat = _
  rw [crd_tile, BitVec.toNat_ofNat]; omega

/-- The one place a table is read at. -/
theorem place_eq (t : Fin (cfgA a).N) (x : (Rect.unit (s := S72) (k0_off1 (crd a t)) S1.size (k0_off1_inb (crd a t))).shape.Idx) :
    (Rect.unit (s := S72) (k0_off1 (crd a t)) S1.size (k0_off1_inb (crd a t))).emb x = ix1 (tileOf a t) := by
  funext ax
  match ax with
  | ⟨0, _⟩ =>
    apply Fin.ext
    have hx : (x 0).val < 1 := (x 0).isLt
    show k0_off1 (crd a t) 0 + 1 * (x 0).val = t.val / 7
    rw [off_tile]; omega

theorem rows_eq (t : Fin (cfgA a).N) : rows a t = rowCount a (tileOf a t) := by
  show a.1 2 _ = a.1 2 _
  exact congrArg (a.1 2) (place_eq a t _)

theorem expert_read (t : Fin (cfgA a).N) (h : S1.numel = 1) :
    (a.1.at 0 (Rect.unit (s := S72) (k0_off1 (crd a t)) S1.size (k0_off1_inb (crd a t))) h : BitVec 32) = expertOf a (tileOf a t) := by
  show a.1 0 _ = a.1 0 _
  exact congrArg (a.1 0) (place_eq a t _)

theorem used_read (hb) (h : S1.numel = 1) : (a.1.at 1 (Rect.unit (s := S1) ![0] S1.size hb) h : BitVec 32) = usedCount a := by
  show a.1 1 _ = a.1 1 _
  refine congrArg (a.1 1) (funext fun ax => ?_)
  match ax with
  | ⟨0, _⟩ => exact Subsingleton.elim (α := Fin 1) _ _

theorem toInt_small (n : ℕ) (h : n < 1000) : (BitVec.ofNat 32 n).toInt = n := by
  rw [BitVec.toInt_eq_toNat_of_lt (by rw [BitVec.toNat_ofNat]; omega), BitVec.toNat_ofNat]; omega

/-- A used tile's own number passes the limit on tile numbers unchanged. -/
theorem limit_used (n : ℕ) (hn : n < 72) (u : BitVec 32) (hu : (n : ℤ) < u.toInt) :
    (Scalar.maxsi (Scalar.minsi (BitVec.ofNat 32 n) (Scalar.subi u 1#32)) 0#32).toNat = n := by
  have hi := toInt_small n (by omega)
  have hs : (Scalar.subi u 1#32).toInt = u.toInt - 1 := by
    show (u - 1#32).toInt = _
    have h1 := u.toInt_lt
    rw [BitVec.toInt_sub, show (1#32 : BitVec 32).toInt = 1 from by decide, Int.bmod_eq_of_le] <;> omega
  have hm : Scalar.minsi (BitVec.ofNat 32 n) (Scalar.subi u 1#32) = BitVec.ofNat 32 n := by
    rw [Scalar.minsi, IntOp.minsi]
    by_cases hlt : (BitVec.ofNat 32 n).slt (Scalar.subi u 1#32)
    · rw [if_pos hlt]
    · rw [if_neg hlt]
      rw [BitVec.slt_iff_toInt_lt] at hlt
      apply BitVec.eq_of_toInt_eq
      omega
  rw [hm, Scalar.maxsi, IntOp.maxsi]
  by_cases h0 : (0#32).slt (BitVec.ofNat 32 n)
  · rw [if_pos h0, BitVec.toNat_ofNat]; omega
  · rw [if_neg h0]
    rw [BitVec.slt_iff_toInt_lt, hi, show (0#32 : BitVec 32).toInt = 0 from by decide] at h0
    show 0 = n
    omega

/-- On a used tile the column step is the point's own. -/
theorem step_used (n k : ℕ) (hn : n < 72) (hk : k < 7) (u : BitVec 32) (hu : (n : ℤ) < u.toInt) :
    (Scalar.select (Scalar.cmpi .slt (BitVec.ofNat 32 n) u) (BitVec.ofNat 32 k) 6#32 : BitVec 32).toNat = k := by
  have hc : Scalar.cmpi .slt (BitVec.ofNat 32 n) u = 1#1 := IntOp.cmpi_slt.2 (by rw [toInt_small n (by omega)]; exact hu)
  rw [hc]
  show (BitVec.ofNat 32 k).toNat = k
  rw [BitVec.toNat_ofNat]; omega

variable (t : Fin (cfgA a).N) (hu : ((t.val / 7 : ℕ) : ℤ) < (usedCount a).toInt)

include hu in
theorem index0 : ((cfgA a).win (0 : Fin 5)).index t 0 = t.val / 7 := by
  have h : t.val < 504 := t.isLt
  show (Scalar.maxsi (Scalar.minsi (BitVec.ofNat 32 ((crd a t) 0).val) (Scalar.subi (a.1.at 1 _ _ : BitVec 32) 1#32)) 0#32 : BitVec 32).toNat = _
  rw [used_read, crd_tile]
  exact limit_used _ (by omega) _ hu

theorem index1_0 : ((cfgA a).win (1 : Fin 5)).index t 0 = (expertOf a (tileOf a t)).toNat :=
  congrArg BitVec.toNat (expert_read a t numel1_S1)

theorem index2_0 : ((cfgA a).win (2 : Fin 5)).index t 0 = (expertOf a (tileOf a t)).toNat :=
  congrArg BitVec.toNat (expert_read a t numel1_S1)

theorem index3_0 : ((cfgA a).win (3 : Fin 5)).index t 0 = (expertOf a (tileOf a t)).toNat :=
  congrArg BitVec.toNat (expert_read a t numel1_S1)

include hu in
theorem column : (Scalar.select (Scalar.cmpi .slt (BitVec.ofNat 32 ((crd a t) 0).val) (a.1.at 1 (Rect.unit (s := S1) ![0] S1.size inb_S1_S1_0) numel1_S1 : BitVec 32))
    (BitVec.ofNat 32 ((crd a t) 1).val) 6#32 : BitVec 32).toNat = t.val % 7 := by
  have h : t.val < 504 := t.isLt
  rw [used_read, crd_tile, crd_step]
  exact step_used _ _ (by omega) (by omega) _ hu

include hu in
theorem index1_2 : ((cfgA a).win (1 : Fin 5)).index t 2 = t.val % 7 := column a t hu

include hu in
theorem index2_2 : ((cfgA a).win (2 : Fin 5)).index t 2 = t.val % 7 := column a t hu

include hu in
theorem index3_1 : ((cfgA a).win (3 : Fin 5)).index t 1 = t.val % 7 := column a t hu

include hu in
/-- A used tile's rows are its own rows of the array. -/
theorem rowsBlk_apply (r : Fin 512) (k : Fin 2048) :
    rowsBlk a m c t (ix2 r k) = m ((c : Thread nD τ).loc main_arg0) (ix2 ⟨t.val / 7 * 512 + r.val, by have h : t.val < 504 := t.isLt; omega⟩ k) := by
  unfold rowsBlk iblk
  refine (View.read_apply _ _).trans ?_
  show m ((c : Thread nD τ).loc main_arg0) _ = _
  refine congrArg (m ((c : Thread nD τ).loc main_arg0)) (funext fun ax => Fin.ext ?_)
  refine (((cfgA a).win (0 : Fin 5)).rect_emb_val _ (ix2 r k) ax).trans ?_
  match ax with
  | ⟨0, _⟩ => exact congrArg (· * 512 + r.val) (index0 a t hu)
  | ⟨1, _⟩ => exact Nat.zero_add _

/-- The expert of a point's tile, in range. -/
theorem expert_lt (he : ∀ i : Fin 72, (expertOf a i).toNat < 8) : (expertOf a (tileOf a t)).toNat < 8 := he _

variable (he : ∀ i : Fin 72, (expertOf a i).toNat < 8)

include hu in
theorem gateBlk_apply (k : Fin 2048) (j : Fin 1024) :
    gateBlk a m c t (ix3 0 k j) = m ((c : Thread nD τ).loc main_arg1) (ix3 ⟨(expertOf a (tileOf a t)).toNat, he _⟩ k ⟨t.val % 7 * 1024 + j.val, by omega⟩) := by
  unfold gateBlk iblk
  refine (View.read_apply _ _).trans ?_
  show m ((c : Thread nD τ).loc main_arg1) _ = _
  refine congrArg (m ((c : Thread nD τ).loc main_arg1)) (funext fun ax => Fin.ext ?_)
  refine (((cfgA a).win (1 : Fin 5)).rect_emb_val _ (ix3 0 k j) ax).trans ?_
  match ax with
  | ⟨0, _⟩ => exact (Nat.mul_one _).trans (index1_0 a t)
  | ⟨1, _⟩ => exact Nat.zero_add _
  | ⟨2, _⟩ => exact congrArg (· * 1024 + j.val) (index1_2 a t hu)

include hu in
theorem upBlk_apply (k : Fin 2048) (j : Fin 1024) :
    upBlk a m c t (ix3 0 k j) = m ((c : Thread nD τ).loc main_arg2) (ix3 ⟨(expertOf a (tileOf a t)).toNat, he _⟩ k ⟨t.val % 7 * 1024 + j.val, by omega⟩) := by
  unfold upBlk iblk
  refine (View.read_apply _ _).trans ?_
  show m ((c : Thread nD τ).loc main_arg2) _ = _
  refine congrArg (m ((c : Thread nD τ).loc main_arg2)) (funext fun ax => Fin.ext ?_)
  refine (((cfgA a).win (2 : Fin 5)).rect_emb_val _ (ix3 0 k j) ax).trans ?_
  match ax with
  | ⟨0, _⟩ => exact (Nat.mul_one _).trans (index2_0 a t)
  | ⟨1, _⟩ => exact Nat.zero_add _
  | ⟨2, _⟩ => exact congrArg (· * 1024 + j.val) (index2_2 a t hu)

include hu in
theorem outBlk_apply (j : Fin 1024) (d : Fin 2048) :
    outBlk a m c t (ix3 0 j d) = m ((c : Thread nD τ).loc main_arg3) (ix3 ⟨(expertOf a (tileOf a t)).toNat, he _⟩ ⟨t.val % 7 * 1024 + j.val, by omega⟩ d) := by
  unfold outBlk iblk
  refine (View.read_apply _ _).trans ?_
  show m ((c : Thread nD τ).loc main_arg3) _ = _
  refine congrArg (m ((c : Thread nD τ).loc main_arg3)) (funext fun ax => Fin.ext ?_)
  refine (((cfgA a).win (3 : Fin 5)).rect_emb_val _ (ix3 0 j d) ax).trans ?_
  match ax with
  | ⟨0, _⟩ => exact (Nat.mul_one _).trans (index3_0 a t)
  | ⟨1, _⟩ => exact congrArg (· * 1024 + j.val) (index3_1 a t hu)
  | ⟨2, _⟩ => exact Nat.zero_add _

end Cert.KernelIdeal.Expert

end
-- ==== Proof.KernelIdeal.Value.lean ====
module

public import proofs.«01_k».proof.Proof.KernelIdeal.Blocks

@[expose] public section

set_option maxRecDepth 16384
set_option Elab.async false

noncomputable section
namespace Cert.KernelIdeal.Expert

open Cert.KernelIdeal Cert.KernelIdeal.Gen Cert.Swiglu
open Idealize.ShloMosaic hiding ix1 ix2 ix3
open Idealize.ShloMosaic.ValueIdx Idealize.ShloMosaic.TcCoe
open Idealize.ShloMosaic.Pipeline (Dat Cfg Window)
open scoped BigOperators

variable (a : (pcfg0 (F := Ideal)).Adm) (m : (ℓ : Loc nD τ sig) → Buf (Elt Ideal) ℓ) (c : Dev nD)

variable (he : ∀ i : Fin 72, (expertOf a i).toNat < 8)

/-- The terms of the launch's arrays at a row of tile `i`. -/
abbrev termAt (i : Fin 72) (r : Fin 512) (d : Fin 2048) (f : Fin 7168) : EReal :=
  term (m ((c : Thread nD τ).loc main_arg0)) (m ((c : Thread nD τ).loc main_arg1)) (m ((c : Thread nD τ).loc main_arg2)) (m ((c : Thread nD τ).loc main_arg3))
    ⟨(expertOf a i).toNat, he i⟩ ⟨i.val * 512 + r.val, by omega⟩ d f

/-- A step's sum on a row is the terms of its 1024 hidden columns. -/
theorem chunk_terms (t : Fin (cfgA a).N) (hu : ((t.val / 7 : ℕ) : ℤ) < (usedCount a).toInt) (r : Fin 512) (d : Fin 2048) :
    rowChunk (fun k => xbAt a m c t (ix2 r k)) (gateBlk a m c t) (upBlk a m c t) (outBlk a m c t) d
      = ∑ j : Fin 1024, termAt a m c he (tileOf a t) r d ⟨t.val % 7 * 1024 + j.val, by omega⟩ := by
  have hx : ∀ k, xbAt a m c t (ix2 r k) = m ((c : Thread nD τ).loc main_arg0) (ix2 ⟨t.val / 7 * 512 + r.val, by have h : t.val < 504 := t.isLt; omega⟩ k) :=
    fun k => (congrFun (same_shape _ _) _).trans (rowsBlk_apply a m c t hu r k)
  unfold rowChunk
  refine Finset.sum_congr rfl fun j _ => ?_
  rw [outBlk_apply a m c t hu he j d]
  simp only [hx, gateBlk_apply a m c t hu he, upBlk_apply a m c t hu he]
  rfl

/-- A step on a row below the tile's count. -/
theorem step_live (t : Fin (cfgA a).N) (hu : ((t.val / 7 : ℕ) : ℤ) < (usedCount a).toInt) (r : Fin 512) (hr : (r.val : ℤ) < (rowCount a (tileOf a t)).toInt)
    (d : Fin 2048) (y : S512x2048.Idx → EReal) :
    step a m c t y (ix2 r d) = oldAcc (F := Ideal) (crd a t) y (ix2 r d) + ∑ j : Fin 1024, termAt a m c he (tileOf a t) r d ⟨t.val % 7 * 1024 + j.val, by omega⟩ := by
  rw [← chunk_terms a m c he t hu r d]
  exact addChunk_live (rows a t) (xbAt a m c t) (gateBlk a m c t) (upBlk a m c t) (outBlk a m c t) (oldAcc (F := Ideal) (crd a t) y) r d (by rw [rows_eq]; exact hr)

theorem zeros_apply (x : S512x2048.Idx) : k0_pay2 (F := Ideal) x = 0 := zero_bits

/-- After column step `j` of a used tile a live row holds the terms of the steps so far. -/
theorem acc_live (i : Fin 72) (hu : (i.val : ℤ) < (usedCount a).toInt) (r : Fin 512) (hr : (r.val : ℤ) < (rowCount a i).toInt) (d : Fin 2048) :
    ∀ (j : ℕ) (hj : j < 7) (h : i.val * 7 + j < (cfgA a).N), accAt a m c (i.val * 7 + j) h (ix2 r d)
      = ∑ s ∈ (Finset.univ : Finset (Fin 7)).filter (fun s => s.val ≤ j), ∑ k : Fin 1024, termAt a m c he i r d ⟨s.val * 1024 + k.val, by omega⟩ := by
  have hstep : ∀ (j : ℕ) (hj : j < 7) (h : i.val * 7 + j < (cfgA a).N) (y : S512x2048.Idx → EReal),
      step a m c ⟨i.val * 7 + j, h⟩ y (ix2 r d) = oldAcc (F := Ideal) (crd a ⟨i.val * 7 + j, h⟩) y (ix2 r d)
        + ∑ k : Fin 1024, termAt a m c he i r d ⟨j * 1024 + k.val, by omega⟩ := by
    intro j hj h y
    have ht : tileOf a ⟨i.val * 7 + j, h⟩ = i := Fin.ext (by show (i.val * 7 + j) / 7 = i.val; omega)
    have hm : (i.val * 7 + j) % 7 = j := by omega
    rw [step_live a m c he ⟨i.val * 7 + j, h⟩ (by show (((i.val * 7 + j) / 7 : ℕ) : ℤ) < _; rw [show (i.val * 7 + j) / 7 = i.val from by omega]; exact hu) r
      (by rw [ht]; exact hr) d y]
    refine congrArg (_ + ·) (Finset.sum_congr rfl fun k _ => ?_)
    rw [ht]
    exact congrArg (termAt a m c he i r d) (Fin.ext (congrArg (· * 1024 + k.val) hm))
  intro j
  induction j with
  | zero =>
    intro hj h
    rw [accAt_eq a m c ⟨i.val * 7 + 0, h⟩, hstep 0 hj h]
    unfold oldAcc
    rw [if_pos ((first_iff a _).2 (by show (i.val * 7 + 0) % 7 = 0; omega)), zeros_apply, zero_add]
    rw [show (Finset.univ : Finset (Fin 7)).filter (fun s => s.val ≤ 0) = {0} from by decide, Finset.sum_singleton]
    rfl
  | succ j ih =>
    intro hj h
    have ih' := ih (by omega) (by omega)
    show accAt a m c (⟨i.val * 7 + (j + 1), h⟩ : Fin (cfgA a).N).val _ (ix2 r d) = _
    rw [accAt_eq a m c ⟨i.val * 7 + (j + 1), h⟩, hstep (j + 1) hj h]
    unfold oldAcc
    rw [if_neg (fun h1 => by have h2 := (first_iff a _).1 h1; have h3 : (i.val * 7 + (j + 1)) % 7 = 0 := h2; omega)]
    unfold accBefore
    rw [dif_neg (by show ¬ i.val * 7 + (j + 1) = 0; omega)]
    have hb : accAt a m c (i.val * 7 + (j + 1) - 1) (by omega) (ix2 r d) = accAt a m c (i.val * 7 + j) (by omega) (ix2 r d) := rfl
    refine (congrArg (· + _) (hb.trans ih')).trans ?_
    rw [show (Finset.univ : Finset (Fin 7)).filter (fun s => s.val ≤ j + 1) = insert ⟨j + 1, hj⟩ ((Finset.univ : Finset (Fin 7)).filter (fun s => s.val ≤ j)) from by
      ext s; simp only [Finset.mem_filter, Finset.mem_univ, true_and, Finset.mem_insert, Fin.ext_iff]; omega]
    rw [Finset.sum_insert (by simp), add_comm]

/-- After a used tile's last step a live row holds all its terms. -/
theorem acc_last (i : Fin 72) (hu : (i.val : ℤ) < (usedCount a).toInt) (r : Fin 512) (hr : (r.val : ℤ) < (rowCount a i).toInt) (d : Fin 2048)
    (h : i.val * 7 + 6 < (cfgA a).N) : accAt a m c (i.val * 7 + 6) h (ix2 r d) = ∑ f : Fin 7168, termAt a m c he i r d f := by
  rw [acc_live a m c he i hu r hr d 6 (by omega) h, sum_steps]
  refine Finset.sum_congr (Finset.filter_true_of_mem fun s _ => by omega) fun s _ => rfl

theorem index4_0 (t : Fin (cfgA a).N) : ((cfgA a).win (4 : Fin 5)).index t 0 = t.val / 7 := by
  have h : t.val < 504 := t.isLt
  show (BitVec.ofNat 32 ((crd a t) 0).val).toNat = _
  rw [crd_tile, BitVec.toNat_ofNat]; omega

/-- Two write-backs go to different blocks. -/
theorem outs_apart : ∀ t t' : Fin (cfgA a).N, ((cfgA a).win (4 : Fin 5)).flush t = true → ((cfgA a).win (4 : Fin 5)).flush t' = true → t ≠ t' →
    Disjoint (((cfgA a).win (4 : Fin 5)).blk t).view.set (((cfgA a).win (4 : Fin 5)).blk t').view.set :=
  Window.hdisj_of_index_inj _ fun t t' hf hf' hi => by
    rw [flush_eq, decide_eq_true_eq] at hf hf'
    have h0 := congrFun hi 0
    rw [index4_0, index4_0] at h0
    exact Fin.ext (by omega)

/-- The array the run leaves, at a live row of a used tile. -/
theorem array_live (i : Fin 72) (hu : (i.val : ℤ) < (usedCount a).toInt) (r : Fin 512) (hr : (r.val : ℤ) < (rowCount a i).toInt) (d : Fin 2048) :
    (show S36864x2048.Idx → EReal from (dats a m 0 c).arrAt (4 : Fin 5) (cfgA a).N) (ix2 ⟨i.val * 512 + r.val, by omega⟩ d) = ∑ f : Fin 7168, termAt a m c he i r d f := by
  have h : i.val * 7 + 6 < 504 := by omega
  have hf : ((cfgA a).win (4 : Fin 5)).flush ⟨i.val * 7 + 6, h⟩ = true := by
    rw [flush_eq, decide_eq_true_eq]
    show (i.val * 7 + 6 + 1) % 7 = 0
    omega
  have hk := (dats a m 0 c).arrAt_emb_eq_flushed (4 : Fin 5) (outs_apart a) ⟨i.val * 7 + 6, h⟩ hf (ix2 r d)
  have hemb : (((cfgA a).win (4 : Fin 5)).blk ⟨i.val * 7 + 6, h⟩).view.emb (ix2 r d) = (ix2 ⟨i.val * 512 + r.val, by omega⟩ d : S36864x2048.Idx) := by
    funext ax
    apply Fin.ext
    refine (((cfgA a).win (4 : Fin 5)).rect_emb_val _ (ix2 r d) ax).trans ?_
    match ax with
    | ⟨0, _⟩ =>
      refine congrArg (· * 512 + r.val) ((index4_0 a ⟨i.val * 7 + 6, h⟩).trans ?_)
      show (i.val * 7 + 6) / 7 = i.val
      omega
    | ⟨1, _⟩ => exact Nat.zero_add _
  rw [hemb] at hk
  refine hk.trans ?_
  refine Eq.trans ?_ (acc_last a m c he i hu r hr d h)
  rfl

end Cert.KernelIdeal.Expert

end
-- ==== Proof.Kernel.Frame.lean ====
module

public import proofs.«01_k».proof.Defs
public import proofs.«01_k».proof.Proof.Gen.Kernel
public import proofs.«01_k».proof.Proof.KernelIdeal.Pipe

@[expose] public section

set_option maxRecDepth 16384
set_option Elab.async false

noncomputable section

namespace Cert.Kernel.Expert

open Cert.Kernel Cert.Kernel.Gen
open Idealize.ShloMosaic Idealize.SL.Sem
open Idealize.ShloMosaic.TcCoe

variable {F : FTy → Type} [FloatOps F]

/-- The two programs' body tables run the same body. -/
theorem bodies_eq : Cert.Kernel.defs₀ (F := F) = Cert.KernelIdeal.defs₀ (F := F) := by
  unfold Cert.Kernel.defs₀ Cert.KernelIdeal.defs₀
  congr 1
  funext c l
  match c, l with
  | 0, (t, s) => rfl
  | ⟨_ + 1, h⟩, _ => exact absurd h (Nat.not_lt.2 (Nat.le_add_left _ _))

/-- The two programs have the same definitions. -/
theorem defs_eq : Cert.Kernel.defs (F := F) = Cert.KernelIdeal.defs (F := F) :=
  congrArg (Pipeline.defs Cert.KernelIdeal.pcfgs) bodies_eq

set_option maxHeartbeats 2000000 in
/-- The program as written has the text of the one read at extended reals, so its frame is that one's. -/
theorem frame (m : (ℓ : Loc nD τ sig) → Buf (Elt F) ℓ) (ρ : Dev nD → PrngReg)
    (h : Cert.KernelIdeal.ok0 (F := F) (Cert.KernelIdeal.Expert.tabs (F := F) m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.KernelIdeal.Expert.frame (F := F) ⟨Cert.KernelIdeal.Expert.tabs (F := F) m, h⟩ m ρ (Cert.KernelIdeal.Expert.tabs_held m)

end Cert.Kernel.Expert

end
-- ==== Proof.Equal.lean ====
module

public import proofs.«01_k».proof.Proof.Tables
public import proofs.«01_k».proof.Proof.RefValue
public import proofs.«01_k».proof.Proof.KernelIdeal.Value
public import proofs.«01_k».proof.Proof.Kernel.Frame
public import proofs.«01_k».proof.Proof.Gen.ReferenceIdeal

@[expose] public section

set_option maxRecDepth 16384
set_option Elab.async false

noncomputable section
namespace Cert.Equal

open Idealize.ShloMosaic hiding ix1 ix2 ix3
open Idealize.ShloMosaic.ValueIdx Idealize.ShloMosaic.TcCoe Idealize.ShloMosaic.StableHlo
open Idealize.SL.Sem
open scoped BigOperators

/-- Under the precondition the tables are ones the pipeline can run at. -/
theorem ok_ideal (m : (ℓ : Loc Cert.KernelIdeal.nD Cert.KernelIdeal.τ Cert.KernelIdeal.sig) → Buf (Elt Ideal) ℓ) (h : Pre_KernelIdeal m) :
    Cert.KernelIdeal.ok0 (F := Ideal) (Cert.KernelIdeal.Expert.tabs (F := Ideal) m) :=
  Cert.KernelIdeal.Expert.ok_tabs _ fun e => Cert.Tables.experts_lt _ _ _ _ _ _ _ (fun a => a.elim0) (congrFun (h 0) _) e

theorem ok_bits (m : (ℓ : Loc Cert.Kernel.nD Cert.Kernel.τ Cert.Kernel.sig) → Buf (Elt Bits) ℓ) (h : Pre_Kernel m) :
    Cert.KernelIdeal.ok0 (F := Bits) (Cert.KernelIdeal.Expert.tabs (F := Bits) m) :=
  Cert.KernelIdeal.Expert.ok_tabs _ fun e => Cert.Tables.experts_lt _ _ _ _ _ _ _ (fun a => a.elim0) (congrFun (h 0) _) e

theorem frame_kernel : quiescent_Kernel := fun m g h => Cert.Kernel.Expert.frame m g (ok_bits m h)

theorem frame_ideal : quiescent_KernelIdeal := fun m g h =>
  Cert.KernelIdeal.Expert.frame ⟨Cert.KernelIdeal.Expert.tabs m, ok_ideal m h⟩ m g (Cert.KernelIdeal.Expert.tabs_held m)

theorem frame_reference : quiescent_ReferenceIdeal := fun m g _ =>
  (θ_run _ _ _).mono (fun r h => ⟨fun c => (h c).2, sem_eq_zero_of_no_sems (by decide) r.2⟩) (Cert.ReferenceIdeal.Value.run m g)

/-- On the mask's ones the kernel's array holds the reference's value. -/
theorem same (m : (ℓ : Loc Cert.KernelIdeal.nD Cert.KernelIdeal.τ Cert.KernelIdeal.sig) → Buf (Elt Ideal) ℓ) (h : Pre_KernelIdeal m)
    (c : Dev Cert.KernelIdeal.nD) (x0 : FVec Ideal Cert.On_live_rows.S36864x2048 .f32) (x1 x2 : FVec Ideal Cert.On_live_rows.S8x2048x7168 .bf16)
    (x3 : FVec Ideal Cert.On_live_rows.S8x7168x2048 .bf16) (te : IVec Cert.On_live_rows.S72 32) (nu : IVec Cert.On_live_rows.S1 32) (tr : IVec Cert.On_live_rows.S72 32)
    (h0 : m ((c : Thread Cert.KernelIdeal.nD Cert.KernelIdeal.τ).loc Cert.KernelIdeal.main_arg0) = x0)
    (h1 : m ((c : Thread Cert.KernelIdeal.nD Cert.KernelIdeal.τ).loc Cert.KernelIdeal.main_arg1) = x1)
    (h2 : m ((c : Thread Cert.KernelIdeal.nD Cert.KernelIdeal.τ).loc Cert.KernelIdeal.main_arg2) = x2)
    (h3 : m ((c : Thread Cert.KernelIdeal.nD Cert.KernelIdeal.τ).loc Cert.KernelIdeal.main_arg3) = x3)
    (h4 : m ((c : Thread Cert.KernelIdeal.nD Cert.KernelIdeal.τ).loc Cert.KernelIdeal.main_arg4) = te)
    (h5 : m ((c : Thread Cert.KernelIdeal.nD Cert.KernelIdeal.τ).loc Cert.KernelIdeal.main_arg5) = nu)
    (h6 : m ((c : Thread Cert.KernelIdeal.nD Cert.KernelIdeal.τ).loc Cert.KernelIdeal.main_arg6) = tr)
    (n : Fin 36864) (d : Fin 2048) (hl : Cert.On_live_rows.fn (F := Ideal) x0 x1 x2 x3 te nu tr (ix2 n d) = 1#1) :
    Cert.ReferenceIdeal.Read.val_main_v171 (F := Ideal) x0 x1 x2 x3 te (ix2 n d)
      = (show Cert.On_live_rows.S36864x2048.Idx → EReal from
          (Cert.KernelIdeal.Expert.dats ⟨Cert.KernelIdeal.Expert.tabs m, ok_ideal m h⟩ m 0 c).arrAt (4 : Fin 5)
            (Cert.KernelIdeal.Expert.cfgA ⟨Cert.KernelIdeal.Expert.tabs m, ok_ideal m h⟩).N) (ix2 n d) := by
  have hc : c = 0 := Subsingleton.elim _ _
  subst hc
  obtain ⟨hr, hu⟩ := Cert.Tables.live_row x0 x1 x2 x3 te nu tr n d hl
  have he : ∀ i : Fin 72, (Cert.KernelIdeal.Expert.expertOf ⟨Cert.KernelIdeal.Expert.tabs m, ok_ideal m h⟩ i).toNat < 8 := fun i =>
    Cert.Tables.experts_lt _ _ _ _ _ _ _ (fun a => a.elim0) (congrFun (h 0) _) (ix1 i)
  have e4 : ∀ i : Fin 72, Cert.KernelIdeal.Expert.expertOf ⟨Cert.KernelIdeal.Expert.tabs m, ok_ideal m h⟩ i = te (ix1 i) := fun i => congrFun h4 (ix1 i)
  have e5 : Cert.KernelIdeal.Expert.usedCount ⟨Cert.KernelIdeal.Expert.tabs m, ok_ideal m h⟩ = nu (ix1 0) := congrFun h5 (ix1 0)
  have e6 : ∀ i : Fin 72, Cert.KernelIdeal.Expert.rowCount ⟨Cert.KernelIdeal.Expert.tabs m, ok_ideal m h⟩ i = tr (ix1 i) := fun i => congrFun h6 (ix1 i)
  have hk := Cert.KernelIdeal.Expert.array_live ⟨Cert.KernelIdeal.Expert.tabs m, ok_ideal m h⟩ m 0 he ⟨n.val / 512, by omega⟩ (by rw [e5]; exact hu)
    ⟨n.val % 512, by omega⟩ (by rw [e6]; exact hr) d
  have hn : (⟨n.val / 512 * 512 + n.val % 512, by omega⟩ : Fin 36864) = n := Fin.ext (by show n.val / 512 * 512 + n.val % 512 = n.val; omega)
  unfold Cert.KernelIdeal.Expert.termAt at hk
  simp only [hn] at hk
  rw [h0, h1, h2, h3] at hk
  exact (Cert.ReferenceIdeal.Expert.value x0 x1 x2 x3 te n d _ (congrArg BitVec.toNat (e4 _).symm)).trans hk.symm

/-- The two programs agree on the mask's ones. -/
theorem agree : algebraic_KernelIdeal_ReferenceIdeal_on_live_rows := fun m g m' g' hpre hargs => by
  refine ⟨fun c => (Cert.KernelIdeal.Expert.dats ⟨Cert.KernelIdeal.Expert.tabs m, ok_ideal m hpre⟩ m 0 c).arrAt (4 : Fin 5)
      (Cert.KernelIdeal.Expert.cfgA ⟨Cert.KernelIdeal.Expert.tabs m, ok_ideal m hpre⟩).N,
    (θ_run _ _ _).mono (fun r h c => ⟨fun i _ => congrFun (h.1 c).1 i, (h.1 c).2⟩)
      (Cert.KernelIdeal.Expert.run_value ⟨Cert.KernelIdeal.Expert.tabs m, ok_ideal m hpre⟩ m g (Cert.KernelIdeal.Expert.tabs_held m)),
    (θ_run _ _ _).mono (fun r h c => ⟨fun i hi => ?_, (h c).2⟩) (Cert.ReferenceIdeal.Value.run m' g')⟩
  obtain ⟨a0, a1, a2, a3, a4, a5, a6⟩ := hargs c
  have hix : i = ix2 (i 0) (i 1) := funext fun ax => by match ax with | ⟨0, _⟩ => rfl | ⟨1, _⟩ => rfl
  refine (congrFun (h c).1 i).trans ?_
  rw [Cert.ReferenceIdeal.Read.val_main_v171_eq]
  rw [hix] at hi ⊢
  exact same m hpre c _ _ _ _ _ _ _ a0.symm a1.symm a2.symm a3.symm a4.symm a5.symm a6.symm (i 0) (i 1) (by
    rw [← a0, ← a1, ← a2, ← a3, ← a4, ← a5, ← a6] at hi; exact hi)

end Cert.Equal

end
-- ==== Proof.Attn.Frames.lean ====
/- The attention core's frames and its idealization. -/
module

public import proofs.«01_k».proof.Defs
public import proofs.«01_k».proof.Proof.Gen.Attention
public import proofs.«01_k».proof.Proof.Gen.Attention.Frame
public import proofs.«01_k».proof.Proof.Gen.AttentionIdeal
public import proofs.«01_k».proof.Proof.Gen.AttentionIdeal.Value
public import proofs.«01_k».proof.Proof.Gen.AttentionReferenceIdeal
public import proofs.«01_k».proof.Proof.Gen.AttentionReferenceIdeal.Read

@[expose] public section

set_option maxRecDepth 16384
set_option Elab.async false

noncomputable section
namespace Cert.Attn

open Idealize.ShloMosaic Idealize.ShloMosaic.TcCoe Idealize.ShloMosaic.StableHlo
open Idealize.SL.Sem

theorem frame_kernel : quiescent_Attention := fun m g _ => Cert.Attention.Gen.frame m g

theorem frame_ideal : quiescent_AttentionIdeal := fun m g _ => Cert.AttentionIdeal.Gen.frame m g

theorem frame_reference : quiescent_AttentionReferenceIdeal := fun m g _ =>
  (θ_run _ _ _).mono (fun r h => ⟨fun c => (h c).2.2, sem_eq_zero_of_no_sems (by decide) r.2⟩) (Cert.AttentionReferenceIdeal.Value.run m g)

/-- The named constant has the value the certificate gives them. -/
theorem preserves : preserves_Attention_AttentionIdeal :=
  IdealRules.named_const.statement _ _ _ _ _ rfl

end Cert.Attn

end
-- ==== Proof.Attn.Softmax.lean ====
/- Softmax-weighted sums over the extended reals: moving them between a window of keys and all keys, and dividing before or after summing. -/
module

public import Idealize.ShloMosaic.PureOps.Ideal.Laws
public import Idealize.ShloMosaic.Lib.ValueIdx

@[expose] public section

set_option maxRecDepth 16384
set_option Elab.async false

noncomputable section
namespace Cert.Attn

open Idealize.ShloMosaic
open scoped BigOperators

/-- The greatest of the logits. -/
def peak {n : ℕ} (L : Fin n → EReal) : EReal := Finset.univ.sup L

/-- The values summed with the exponentials of the logits below the greatest. -/
def weighted {n : ℕ} (L v : Fin n → EReal) : EReal := ∑ t, Ideal.exp (L t - peak L) * v t

/-- The exponentials summed. -/
def mass {n : ℕ} (L : Fin n → EReal) : EReal := ∑ t, Ideal.exp (L t - peak L)

/-- Softmax attention: the weighted sum over the mass. -/
def attend {n : ℕ} (L v : Fin n → EReal) : EReal := Ideal.div (weighted L v) (mass L)

/-- A key that is masked has no weight. -/
theorem exp_masked (x : EReal) : Ideal.exp ((⊥ : EReal) - x) = 0 := by
  rw [sub_eq_add_neg, EReal.bot_add]; rfl

section shift

variable {n k : ℕ} (L : Fin n → EReal) (L' : Fin k → EReal) (o : ℤ)

/-- The keys numbered `j` on one side are those numbered `j + o` on the other, and a key that only one side has is masked there. -/
structure Shifted : Prop where
  same : ∀ (j : Fin n) (t : Fin k), (t.val : ℤ) = j.val + o → L j = L' t
  left : ∀ j : Fin n, L j ≠ ⊥ → ∃ t : Fin k, (t.val : ℤ) = j.val + o
  right : ∀ t : Fin k, L' t ≠ ⊥ → ∃ j : Fin n, (t.val : ℤ) = j.val + o

variable {L L' o}

theorem Shifted.peak_eq (h : Shifted L L' o) : peak L = peak L' := by
  unfold peak
  refine le_antisymm (Finset.sup_le fun j _ => ?_) (Finset.sup_le fun t _ => ?_)
  · by_cases hb : L j = ⊥
    · rw [hb]; exact bot_le
    · obtain ⟨t, ht⟩ := h.left j hb
      rw [h.same j t ht]; exact Finset.le_sup (f := L') (Finset.mem_univ t)
  · by_cases hb : L' t = ⊥
    · rw [hb]; exact bot_le
    · obtain ⟨j, ht⟩ := h.right t hb
      rw [← h.same j t ht]; exact Finset.le_sup (f := L) (Finset.mem_univ j)

theorem Shifted.weighted_eq (h : Shifted L L' o) (v : Fin n → EReal) (v' : Fin k → EReal)
    (hv : ∀ (j : Fin n) (t : Fin k), (t.val : ℤ) = j.val + o → v j = v' t) : weighted L v = weighted L' v' := by
  unfold weighted
  rw [h.peak_eq]
  have nz : ∀ (x : EReal) (y : EReal), Ideal.exp (x - peak L') * y ≠ 0 → x ≠ ⊥ := by
    rintro x y hx rfl; exact hx (by rw [exp_masked, zero_mul])
  refine Finset.sum_bij_ne_zero (fun j _ hj => (h.left j (nz _ _ hj)).choose) (fun _ _ _ => Finset.mem_univ _) ?_ ?_ ?_
  · intro a _ ha b _ hb hab
    have e1 := (h.left a (nz _ _ ha)).choose_spec
    have e2 := (h.left b (nz _ _ hb)).choose_spec
    rw [hab] at e1
    exact Fin.ext (by omega)
  · intro t _ ht
    obtain ⟨j, hj⟩ := h.right t (nz _ _ ht)
    have hn : Ideal.exp (L j - peak L') * v j ≠ 0 := by rw [h.same j t hj, hv j t hj]; exact ht
    refine ⟨j, Finset.mem_univ _, hn, Fin.ext ?_⟩
    have e1 := (h.left j (nz _ _ hn)).choose_spec
    omega
  · intro j _ hj
    have e1 := (h.left j (nz _ _ hj)).choose_spec
    exact congrArg₂ (fun a b => Ideal.exp (a - peak L') * b) (h.same j _ e1) (hv j _ e1)

theorem Shifted.mass_eq (h : Shifted L L' o) : mass L = mass L' := by
  have e := h.weighted_eq (fun _ => 1) (fun _ => 1) (fun _ _ _ => rfl)
  simp only [weighted, mul_one] at e
  exact e

theorem Shifted.attend_eq (h : Shifted L L' o) (v : Fin n → EReal) (v' : Fin k → EReal)
    (hv : ∀ (j : Fin n) (t : Fin k), (t.val : ℤ) = j.val + o → v j = v' t) : attend L v = attend L' v' := by
  unfold attend; rw [h.weighted_eq v v' hv, h.mass_eq]

end shift

/-- Where every logit is masked or real and one is real, the mass is a positive real. -/
theorem mass_real {n : ℕ} (L : Fin n → EReal) (hL : ∀ t, L t = ⊥ ∨ ∃ r : ℝ, L t = r) (hs : ∃ t, L t ≠ ⊥) : ∃ r : ℝ, 0 < r ∧ mass L = r := by
  obtain ⟨t0, ht0⟩ := hs
  haveI : Nonempty (Fin n) := ⟨t0⟩
  obtain ⟨t1, _, h1⟩ := Finset.exists_mem_eq_sup (Finset.univ : Finset (Fin n)) ⟨t0, Finset.mem_univ _⟩ L
  have hp : peak L = L t1 := h1
  have hle : L t0 ≤ peak L := Finset.le_sup (f := L) (Finset.mem_univ t0)
  obtain ⟨M, hM⟩ : ∃ M : ℝ, peak L = M := by
    rcases hL t1 with h | ⟨r, h⟩
    · rw [hp, h] at hle; exact absurd (le_bot_iff.1 hle) ht0
    · exact ⟨r, hp.trans h⟩
  have key : ∀ t, ∃ r : ℝ, 0 ≤ r ∧ Ideal.exp (L t - peak L) = r := by
    intro t
    rcases hL t with h | ⟨r, h⟩
    · exact ⟨0, le_rfl, by rw [h, exp_masked]; rfl⟩
    · exact ⟨Real.exp (r - M), (Real.exp_pos _).le, by rw [h, hM, ← EReal.coe_sub]; rfl⟩
  choose f hf0 hf using key
  refine ⟨∑ t, f t, ?_, ?_⟩
  · refine Finset.sum_pos' (fun t _ => hf0 t) ⟨t1, Finset.mem_univ _, ?_⟩
    have e := hf t1
    rw [← hp, hM, ← EReal.coe_sub, sub_self] at e
    have e' : (f t1 : EReal) = ((Real.exp 0 : ℝ) : EReal) := e.symm
    rw [EReal.coe_eq_coe_iff] at e'
    rw [e']; exact Real.exp_pos 0
  · unfold mass
    rw [Finset.sum_congr rfl fun t _ => hf t]
    induction (Finset.univ : Finset (Fin n)) using Finset.induction_on with
    | empty => simp
    | insert a s ha ih => rw [Finset.sum_insert ha, Finset.sum_insert ha, EReal.coe_add, ih]

/-- Dividing every weight by the mass first gives the same. -/
theorem attend_normalised {n : ℕ} (L v : Fin n → EReal) (hL : ∀ t, L t = ⊥ ∨ ∃ r : ℝ, L t = r) (hs : ∃ t, L t ≠ ⊥) :
    ∑ t, Ideal.div (Ideal.exp (L t - peak L)) (mass L) * v t = attend L v := by
  obtain ⟨d, hd, hm⟩ := mass_real L hL hs
  have hdne : (d : EReal) ≠ 0 := by exact_mod_cast hd.ne'
  have hdiv : ∀ x : EReal, Ideal.div x (d : EReal) = x * ((d⁻¹ : ℝ) : EReal) := fun x => by
    unfold Ideal.div; rw [if_neg hdne, EReal.coe_inv]
  unfold attend weighted
  rw [hm, hdiv]
  simp only [hdiv]
  have h0 : (0 : EReal) ≤ ((d⁻¹ : ℝ) : EReal) := by exact_mod_cast (inv_pos.2 hd).le
  have hmul : ∀ s : Finset (Fin n), (∑ t ∈ s, Ideal.exp (L t - peak L) * v t) * ((d⁻¹ : ℝ) : EReal)
      = ∑ t ∈ s, Ideal.exp (L t - peak L) * v t * ((d⁻¹ : ℝ) : EReal) := fun s => by
    induction s using Finset.induction_on with
    | empty => simp
    | insert a s ha ih =>
      rw [Finset.sum_insert ha, Finset.sum_insert ha, mul_comm, EReal.left_distrib_of_nonneg_of_ne_top h0 (EReal.coe_ne_top _), mul_comm, mul_comm _ (∑ t ∈ s, _), ih]
  rw [hmul]
  exact Finset.sum_congr rfl fun t _ => mul_right_comm _ _ _

end Cert.Attn

end
-- ==== Proof.Attn.Head.lean ====
/- One head's block of 256 queries against a window of keys: scores, softmax and the weighted sum of the values, for any number of keys. -/
module

public import proofs.«01_k».proof.Proof.Attn.Softmax
public import Idealize.ShloMosaic.Lib.Pipeline.Value
public import Idealize.ShloMosaic.Lib.MatmulPlain
public import Idealize.ShloMosaic.Lib.Pointwise

@[expose] public section

set_option maxRecDepth 16384
set_option Elab.async false

noncomputable section
namespace Cert.Attn

open Idealize.ShloMosaic hiding ix1 ix2 ix3
open Idealize.ShloMosaic.ValueIdx
open scoped BigOperators

/-- The word of zero. -/
theorem zero_word : (FloatOps.ofBits (F := Ideal) .f32 0x00000000#32 : EReal) = 0 := by
  show Ideal.ofBits .f32 0x00000000#32 = 0
  simp [Ideal.ofBits, Ideal.ieee, -EReal.coe_mul]

/-- The word of minus infinity. -/
theorem negInf_word : (FloatOps.ofBits (F := Ideal) .f32 0xFF800000#32 : EReal) = ⊥ := by
  show Ideal.ofBits .f32 0xFF800000#32 = ⊥
  simp [Ideal.ofBits, Ideal.ieee, -EReal.coe_mul]

/-- A running maximum from minus infinity is the greatest. -/
theorem fold_max_eq {n : ℕ} (f : Fin n → EReal) : (Finset.univ : Finset (Fin n)).fold max (⊥ : EReal) f = Finset.univ.sup f := rfl

/-- Leading axis of extent one dropped. -/
theorem drop_one {α : Type} {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 0 i j) := by
  refine shapeCast_apply x h _ _ ?_
  rw [Shape.rowMajor_val_three, Shape.rowMajor_val_two]
  show (0 * a + i.val) * b + j.val = i.val * b + j.val
  rw [Nat.zero_mul, Nat.zero_add]

/-- Leading axis of extent one put in front. -/
theorem put_one {α : Type} {a b : ℕ} (x : (⟨2, ![a, b]⟩ : Shape).Idx → α) (h : (⟨2, ![a, b]⟩ : Shape).ShapeCasts ⟨3, ![1, a, b]⟩) (i : Fin a) (j : Fin b) :
    shapeCast ⟨3, ![1, a, b]⟩ x h (ix3 0 i j) = x (ix2 i j) := by
  refine shapeCast_apply x h _ _ ?_
  rw [Shape.rowMajor_val_three, Shape.rowMajor_val_two]
  show i.val * b + j.val = (0 * a + i.val) * b + j.val
  rw [Nat.zero_mul, Nat.zero_add]

/-- A column of row values spread over the columns. -/
theorem spread {α : Type} {a b : ℕ} (ha : a ≠ 1) (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) := by
  rw [broadcastTo_apply _ h' (ix2 i j) (ix2 i 0) (fun c => by
    match c with
    | ⟨0, _⟩ => exact (if_neg ha).symm
    | ⟨1, _⟩ => rfl)]
  refine shapeCast_apply x h _ _ ?_
  rw [Shape.rowMajor_val_one, Shape.rowMajor_val_two]
  show i.val = i.val * 1 + 0
  omega

section block

variable {W : ℕ}
  (hq : (⟨3, ![1, 256, 128]⟩ : Shape).ShapeCasts ⟨2, ![256, 128]⟩) (hk : (⟨3, ![1, W, 128]⟩ : Shape).ShapeCasts ⟨2, ![W, 128]⟩)
  (hs : (⟨3, ![1, 256, W]⟩ : Shape).ShapeCasts ⟨2, ![256, W]⟩) (ho : (⟨2, ![256, 128]⟩ : Shape).ShapeCasts ⟨3, ![1, 256, 128]⟩)
  (hr : (⟨2, ![256, W]⟩ : Shape).Reduces [1] ⟨1, ![256]⟩) (hc : (⟨1, ![256]⟩ : Shape).ShapeCasts ⟨2, ![256, 1]⟩)
  (hb : (⟨2, ![256, 1]⟩ : Shape).Broadcasts ⟨2, ![256, W]⟩) (hb' : (⟨2, ![256, 1]⟩ : Shape).Broadcasts ⟨2, ![256, 128]⟩)
  (hf : FTy.bits .bf16 < FTy.bits .f32)

/-- The scores of a block: scaled products and the bias. -/
def scores (σ : EReal) (q : FVec Ideal ⟨3, ![1, 256, 128]⟩ .bf16) (k : FVec Ideal ⟨3, ![1, W, 128]⟩ .bf16) (s : FVec Ideal ⟨3, ![1, 256, W]⟩ .f32) :
    FVec Ideal ⟨2, ![256, W]⟩ .f32 :=
  addf (mulf (matmul (F := Ideal) (DotDims.transposedRhs 256 128 W) none (shapeCast ⟨2, ![256, 128]⟩ q hq) (shapeCast ⟨2, ![W, 128]⟩ k hk)
    (constant ⟨2, ![256, W]⟩ .f32 0x00000000#32)) (broadcast ⟨2, ![256, W]⟩ (σ : Ideal .f32))) (shapeCast ⟨2, ![256, W]⟩ s hs)

/-- The exponentials of the scores below their row's greatest. -/
def weights (σ : EReal) (q : FVec Ideal ⟨3, ![1, 256, 128]⟩ .bf16) (k : FVec Ideal ⟨3, ![1, W, 128]⟩ .bf16) (s : FVec Ideal ⟨3, ![1, 256, W]⟩ .f32) :
    FVec Ideal ⟨2, ![256, W]⟩ .f32 :=
  exp (subf (scores hq hk hs σ q k s) (broadcastTo ⟨2, ![256, W]⟩ (shapeCast ⟨2, ![256, 1]⟩
    (multiReduction .maximumf [1] ⟨1, ![256]⟩ (scores hq hk hs σ q k s) 0xFF800000#32 hr (.inl rfl) rfl) hc) hb))

/-- The block as the kernel computes it. -/
def blockOf (σ : EReal) (q : FVec Ideal ⟨3, ![1, 256, 128]⟩ .bf16) (k v : FVec Ideal ⟨3, ![1, W, 128]⟩ .bf16) (s : FVec Ideal ⟨3, ![1, 256, W]⟩ .f32) :
    FVec Ideal ⟨3, ![1, 256, 128]⟩ .bf16 :=
  shapeCast ⟨3, ![1, 256, 128]⟩ (truncf .bf16 (divf (matmul (F := Ideal) (DotDims.plain 256 W 128) none (truncf .bf16 (weights hq hk hs hr hc hb σ q k s) hf)
      (shapeCast ⟨2, ![W, 128]⟩ v hk) (constant ⟨2, ![256, 128]⟩ .f32 0x00000000#32))
    (broadcastTo ⟨2, ![256, 128]⟩ (shapeCast ⟨2, ![256, 1]⟩
      (multiReduction .add [1] ⟨1, ![256]⟩ (weights hq hk hs hr hc hb σ q k s) 0x00000000#32 hr (.inl rfl) rfl) hc) hb')) hf) ho

/-- One query's logit against one key of the window. -/
def logit (σ : EReal) (q : FVec Ideal ⟨3, ![1, 256, 128]⟩ .bf16) (k : FVec Ideal ⟨3, ![1, W, 128]⟩ .bf16) (s : FVec Ideal ⟨3, ![1, 256, W]⟩ .f32)
    (i : Fin 256) (t : Fin W) : EReal :=
  (∑ e : Fin 128, q (ix3 0 i e) * k (ix3 0 t e)) * σ + s (ix3 0 i t)

theorem scores_apply (σ : EReal) (q k s) (i : Fin 256) (t : Fin W) :
    scores hq hk hs σ q k s (ix2 i t) = logit σ q k s i t := by
  unfold scores logit
  show FloatOps.matmul (F := Ideal) _ _ _ _ _ _ * σ + shapeCast _ _ _ _ = _
  rw [Ideal.matmul_transposedRhs_apply, drop_one]
  refine congrArg₂ (fun a b : EReal => a * σ + b) ?_ rfl
  refine (congrArg₂ (fun a b : EReal => a + b) zero_word (Finset.sum_congr rfl fun e _ => ?_)).trans (zero_add _)
  rw [drop_one, drop_one]

theorem lift_row (i : Fin 256) (t : Fin W) : hr.lift (ix1 i) t = ix2 i t := by
  funext a
  match a with
  | ⟨0, _⟩ => rfl
  | ⟨1, _⟩ => rfl

theorem weights_apply (σ : EReal) (q k s) (i : Fin 256) (t : Fin W) :
    weights hq hk hs hr hc hb σ q k s (ix2 i t) = Ideal.exp (logit σ q k s i t - peak (logit σ q k s i)) := by
  unfold weights
  show Ideal.exp (scores hq hk hs σ q k s (ix2 i t) - broadcastTo _ _ _ _) = _
  rw [scores_apply, spread (by decide)]
  refine congrArg (fun m => Ideal.exp (logit σ q k s i t - m)) ?_
  refine (Ideal.multiReduction_maximumf_single (scores hq hk hs σ q k s) 0xFF800000#32 hr (.inl rfl) rfl (ix1 i)).trans ?_
  rw [negInf_word]
  refine (fold_max_eq (n := W) _).trans ?_
  unfold peak
  refine congrArg (Finset.univ.sup) (funext fun u => ?_)
  exact (congrArg _ (lift_row hr i u)).trans (scores_apply hq hk hs σ q k s i u)

/-- The block's value: softmax attention over the window. -/
theorem blockOf_apply (σ : EReal) (q k v s) (i : Fin 256) (d : Fin 128) :
    blockOf hq hk hs ho hr hc hb hb' hf σ q k v s (ix3 0 i d) = attend (logit σ q k s i) (fun t => v (ix3 0 t d)) := by
  unfold blockOf
  rw [put_one]
  show Ideal.div (FloatOps.matmul (F := Ideal) _ _ _ _ _ _) (broadcastTo _ _ _ _) = _
  rw [Ideal.matmul_plain_apply, spread (by decide)]
  unfold attend weighted mass
  refine congrArg₂ Ideal.div ?_ ((Ideal.multiReduction_add_single (weights hq hk hs hr hc hb σ q k s) 0x00000000#32 hr (.inl rfl) rfl (ix1 i)).trans
    (Finset.sum_congr rfl fun u _ => ?_))
  · refine (congrArg₂ (fun a b : EReal => a + b) zero_word (Finset.sum_congr rfl fun e _ => ?_)).trans (zero_add _)
    exact congrArg₂ (fun a b : EReal => a * b) (weights_apply hq hk hs hr hc hb σ q k s i e) (drop_one v hk e d)
  · exact (congrArg _ (lift_row hr i u)).trans (weights_apply hq hk hs hr hc hb σ q k s i u)

end block

end Cert.Attn

end
-- ==== Proof.Attn.Window.lean ====
/- A block of 256 queries against its window of keys is softmax attention over all 2048 keys with the banded mask: the window misses masked keys only. -/
module

public import proofs.«01_k».proof.Proof.Attn.Head

@[expose] public section

set_option maxRecDepth 16384
set_option Elab.async false

noncomputable section
namespace Cert.Attn

open Idealize.ShloMosaic hiding ix1 ix2 ix3
open Idealize.ShloMosaic.ValueIdx
open scoped BigOperators

/-- The number of the bias that a query at row `s` takes for a key at row `t`: the distance, clipped to 128 either way, plus 128. -/
def rel (s t : ℕ) : Fin 257 := ⟨(max 0 (min 256 ((s : ℤ) - t + 128))).toNat, by omega⟩

/-- A query at row `s` sees the keys of its own chunk of 64 rows and of the eight before. -/
def Sees (s t : ℕ) : Prop := t / 64 ≤ s / 64 ∧ s / 64 ≤ t / 64 + 8

instance (s t : ℕ) : Decidable (Sees s t) := by unfold Sees; infer_instance

/-- The banded bias of a pair of heads: row `r` of a block of 256 queries, column `c` of its window of 768 keys, which begins 512 rows earlier. -/
def banded (β : Fin 2 → Fin 257 → EReal) (h : Fin 2) (r c : ℕ) : EReal := if Sees (512 + r) c then β h (rel (512 + r) c) else ⊥

/-- The logit of a query against any key, for the head of column `d`. -/
def wideLogit (β : Fin 2 → Fin 257 → EReal) (σ : EReal) (x0 x1 : (⟨3, ![1, 2048, 256]⟩ : Shape).Idx → EReal) (h : Fin 2) (s t : Fin 2048) : EReal :=
  if Sees s.val t.val then
    (∑ e : Fin 128, x0 (ix3 0 s ⟨128 * h.val + e.val, by omega⟩) * x1 (ix3 0 t ⟨128 * h.val + e.val, by omega⟩)) * σ + β h (rel s.val t.val)
  else ⊥

/-- The value of a pair of heads at row `s` and column `d`. -/
def pairOut (β : Fin 2 → Fin 257 → EReal) (σ : EReal) (x0 x1 x2 : (⟨3, ![1, 2048, 256]⟩ : Shape).Idx → EReal) (y : (⟨3, ![1, 2048, 256]⟩ : Shape).Idx) : EReal :=
  attend (wideLogit β σ x0 x1 ⟨(y 2).val / 128, by have h : (y 2).val < 256 := (y 2).isLt; omega⟩ (y 1)) (fun t => x2 (ix3 0 t (y 2)))

/-- `u` is the part of `x` whose rows begin at `a` and whose columns begin at `b`. -/
def Cut {n : ℕ} (x : (⟨3, ![1, 2048, 256]⟩ : Shape).Idx → EReal) (a b : ℕ) (u : (⟨3, ![1, n, 128]⟩ : Shape).Idx → EReal) : Prop :=
  ∀ (i : Fin n) (e : Fin 128) (s : Fin 2048) (d : Fin 256), s.val = a + i.val → d.val = b + e.val → u (ix3 0 i e) = x (ix3 0 s d)

/-- `u` is the banded bias of head `h` from column `c` on. -/
def BandCut {W : ℕ} (β : Fin 2 → Fin 257 → EReal) (h : Fin 2) (c : ℕ) (u : (⟨3, ![1, 256, W]⟩ : Shape).Idx → EReal) : Prop :=
  ∀ (i : Fin 256) (t : Fin W), u (ix3 0 i t) = banded β h i.val (c + t.val)

/-- A row and a column name a position of a block. -/
theorem exists_ix3 {a b : ℕ} (x : (⟨3, ![1, a, b]⟩ : Shape).Idx) : ∃ i : Fin a, ∃ d : Fin b, x = ix3 0 i d := by
  refine ⟨x 1, x 2, ?_⟩
  funext c
  match c with
  | ⟨0, _⟩ => exact Fin.ext (by have h : (x 0).val < 1 := (x 0).isLt; show (x 0).val = 0; omega)
  | ⟨1, _⟩ => rfl
  | ⟨2, _⟩ => rfl

theorem sees_shift {q0 a W i j t jb : ℕ} (hq0 : q0 = 256 * jb) (ha : a + W = q0 + 256) (hW : W ≤ 768) (hi : i < 256) (ht : t = j + a) :
    Sees (512 + i) (768 - W + j) ↔ Sees (q0 + i) t := by
  unfold Sees; omega

theorem rel_shift {q0 a W i j t : ℕ} (ha : a + W = q0 + 256) (hW : W ≤ 768) (ht : t = j + a) :
    rel (512 + i) (768 - W + j) = rel (q0 + i) t := by
  unfold rel; apply Fin.ext; show Int.toNat _ = Int.toNat _; congr 3; omega

theorem block_eq {W : ℕ} (hq hk hs ho hr hc hb hb' hf) (β : Fin 2 → Fin 257 → EReal) (σ : EReal) (x0 x1 x2 : (⟨3, ![1, 2048, 256]⟩ : Shape).Idx → EReal)
    (jb a : ℕ) (h : Fin 2) (hjb : jb < 8) (ha : a + W = 256 * jb + 256) (hW : W ≤ 768) (hw : a = 0 ∨ W = 768)
    (q : FVec Ideal ⟨3, ![1, 256, 128]⟩ .bf16) (k v : FVec Ideal ⟨3, ![1, W, 128]⟩ .bf16) (s : FVec Ideal ⟨3, ![1, 256, W]⟩ .f32)
    (cq : Cut x0 (256 * jb) (128 * h.val) q) (ck : Cut x1 a (128 * h.val) k) (cv : Cut x2 a (128 * h.val) v) (cs : BandCut β h (768 - W) s)
    (x : (⟨3, ![1, 256, 128]⟩ : Shape).Idx) (y : (⟨3, ![1, 2048, 256]⟩ : Shape).Idx)
    (h1 : (y 1).val = 256 * jb + (x 1).val) (h2 : (y 2).val = 128 * h.val + (x 2).val) :
    blockOf hq hk hs ho hr hc hb hb' hf σ q k v s x = pairOut β σ x0 x1 x2 y := by
  obtain ⟨i, d, rfl⟩ := exists_ix3 x
  obtain ⟨r, l, rfl⟩ := exists_ix3 y
  have h1 : r.val = 256 * jb + i.val := h1
  have h2 : l.val = 128 * h.val + d.val := h2
  rw [blockOf_apply]
  have hh : (⟨l.val / 128, by omega⟩ : Fin 2) = h := Fin.ext (by show l.val / 128 = _; omega)
  show _ = attend (wideLogit β σ x0 x1 ⟨l.val / 128, _⟩ r) (fun t => x2 (ix3 0 t l))
  rw [hh]
  have same : ∀ (j : Fin W) (t : Fin 2048), (t.val : ℤ) = j.val + (a : ℤ) → logit σ q k s i j = wideLogit β σ x0 x1 h r t := by
    intro j t ht
    have ht' : t.val = j.val + a := by omega
    have hS : Sees (512 + i.val) (768 - W + j.val) ↔ Sees r.val t.val := by
      rw [h1]; exact sees_shift rfl ha hW i.isLt ht'
    unfold logit wideLogit
    rw [cs i j]
    unfold banded
    by_cases hc : Sees r.val t.val
    · rw [if_pos hc, if_pos (hS.2 hc), rel_shift ha hW ht', ← h1]
      refine congrArg (fun z : EReal => z * σ + _) (Finset.sum_congr rfl fun e _ => ?_)
      rw [cq i e r ⟨128 * h.val + e.val, by omega⟩ h1 rfl, ck j e t ⟨128 * h.val + e.val, by omega⟩ (by omega) rfl]
    · rw [if_neg hc, if_neg (fun z => hc (hS.1 z)), EReal.add_bot]
  refine Shifted.attend_eq (o := (a : ℤ)) ⟨same, ?_, ?_⟩ _ _ ?_
  · intro j _
    exact ⟨⟨j.val + a, by have := j.isLt; omega⟩, by push_cast; rfl⟩
  · intro t ht
    have hc : Sees r.val t.val := by
      by_contra hc; exact ht (by unfold wideLogit; rw [if_neg hc])
    unfold Sees at hc
    exact ⟨⟨t.val - a, by omega⟩, by show (t.val : ℤ) = ((t.val - a : ℕ) : ℤ) + a; omega⟩
  · intro j t ht
    exact cv j d t l (by omega) h2

end Cert.Attn

end
-- ==== Proof.Attn.Band.lean ====
/- The banded bias that the kernel keeps for a pair of heads: a one-hot product picks the bias of every distance, rolls shift each row to its query, and the band is cut out. -/
module

public import proofs.«01_k».proof.Proof.Attn.Window
public import proofs.«01_k».proof.Proof.Gen.AttentionIdeal.Skeleton
public import Idealize.ShloMosaic.Lib.KernelVsHost
public import Idealize.ShloMosaic.PureOps.IdealRules

@[expose] public section

set_option maxRecDepth 16384
set_option Elab.async false

noncomputable section
namespace Cert.Attn

open Idealize.ShloMosaic hiding ix1 ix2 ix3
open Idealize.ShloMosaic.ValueIdx
open scoped BigOperators
open Cert.AttentionIdeal Cert.AttentionIdeal.Gen Cert.AttentionIdeal.Facts

/-- The number of the bias in column `c` of the row that the rolls start from. -/
def pick (c : ℕ) : ℕ := if c ≤ 768 then (rel 512 c).val else 256

/-- That number as the kernel's words compute it. -/
def pickWord (w : BitVec 32) : BitVec 32 :=
  IntOp.addi (Scalar.select (IntOp.cmpi .sle w 768#32) (IntOp.minsi 128#32 (IntOp.maxsi 4294967168#32 (IntOp.subi 512#32 w))) 128#32) 128#32

theorem pickWord_eq : ∀ c : Fin 1024, pickWord (BitVec.ofNat 32 c.val) = BitVec.ofNat 32 (pick c.val) := by
  unfold pickWord pick rel; decide +kernel

theorem pick_lt (c : ℕ) : pick c < 257 := by
  unfold pick; split
  · exact (rel 512 c).isLt
  · decide

theorem eq_word {a b : ℕ} (ha : a < 1024) (hb : b < 1024) : IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_eq_false_iff_ne.2 this]; rfl

/-- The one-hot matrix. -/
theorem onehot_apply (j : Fin 384) (c : Fin 1024) : k0_pay2 (F := Ideal) (ix2 j c) = if pick c.val = j.val then (1 : EReal) else 0 := by
  have e : k0_pay2 (F := Ideal) (ix2 j c) = Scalar.select (IntOp.cmpi .eq (pickWord (BitVec.ofNat 32 (0 * 1024 + c.val))) (BitVec.ofNat 32 (0 * 384 + j.val)))
      (FloatOps.ofBits (F := Ideal) .f32 0x3F800000#32 : EReal) (FloatOps.ofBits (F := Ideal) .f32 0x00000000#32 : EReal) := rfl
  rw [e]
  simp only [Nat.zero_mul, Nat.zero_add]
  rw [pickWord_eq, eq_word (by have := pick_lt c.val; omega) (by omega), zero_word]
  have one : (FloatOps.ofBits (F := Ideal) .f32 0x3F800000#32 : EReal) = 1 := by
    show Ideal.ofBits .f32 0x3F800000#32 = 1
    simp [Ideal.ofBits, Ideal.ieee, -EReal.coe_mul]
    norm_num
  rw [one]
  by_cases h : pick c.val = j.val
  · rw [if_pos h, if_pos h]; rfl
  · rw [if_neg h, if_neg h]; rfl

/-- A product with the one-hot matrix picks an entry of the row. -/
theorem pick_row (x : FVec Ideal S8x384 .bf16) (i : Fin 8) (c : Fin 1024) :
    matmul (F := Ideal) dot_S8x384_S384x1024_S8x1024_1_0_0_1_n_n none x (k0_pay2 (F := Ideal)) (constant S8x1024 .f32 0x00000000#32) (ix2 i c)
      = x (ix2 i ⟨pick c.val, by have := pick_lt c.val; omega⟩) := by
  show FloatOps.matmul (F := Ideal) (DotDims.plain 8 384 1024) none x (k0_pay2 (F := Ideal)) _ (ix2 i c) = _
  rw [Ideal.matmul_plain_apply]
  refine (congrArg₂ (fun a b : EReal => a + b) zero_word (Finset.sum_congr rfl fun j _ => congrArg (x (ix2 i j) * ·) (onehot_apply j c))).trans ?_
  rw [zero_add, Finset.sum_eq_single (⟨pick c.val, by have := pick_lt c.val; omega⟩ : Fin 384)]
  · rw [if_pos rfl, mul_one]
  · intro b _ hb
    rw [if_neg (fun h => hb (Fin.ext h.symm)), mul_zero]
  · intro h; exact absurd (Finset.mem_univ _) h

/-- The row that the rolls start from, spread over the 256 queries. -/
theorem spread_apply (rb : FVec Ideal S1x8x384 .f32) (hfin : ∀ j : Fin 384, ∃ r : ℝ, rb (ix3 0 0 j) = (r : EReal)) (r : Fin 256) (c : Fin 1024) :
    k0_pay4 (F := Ideal) rb (ix2 r c) = rb (ix3 0 0 ⟨pick c.val, by have := pick_lt c.val; omega⟩) := by
  obtain ⟨v, hv⟩ := hfin ⟨pick c.val, by have := pick_lt c.val; omega⟩
  unfold k0_pay4
  rw [broadcastTo_apply _ _ (ix2 r c) (ix2 0 c) (fun a => by
    match a with
    | ⟨0, _⟩ => rfl
    | ⟨1, _⟩ => rfl)]
  rw [shapeCast_apply _ shapeCasts_S1x1024_S1x1024 (ix2 0 c) (ix2 0 c) rfl]
  rw [extractStridedSlice_apply _ _ _ (ix2 0 c) (ix2 0 c) (fun a => by
    match a with
    | ⟨0, _⟩ => rfl
    | ⟨1, _⟩ => exact (Nat.zero_add _).symm)]
  refine (congrArg₂ (fun a b : EReal => a + b) (congrArg₂ (fun a b : EReal => a + b) (pick_row _ 0 c) (pick_row _ 0 c)) (pick_row _ 0 c)).trans ?_
  have e : shapeCast S8x384 rb shapeCasts_S1x8x384_S8x384 (ix2 0 ⟨pick c.val, by have := pick_lt c.val; omega⟩) = (v : EReal) :=
    (drop_one rb shapeCasts_S1x8x384_S8x384 0 _).trans hv
  rw [hv]
  have m : (v : EReal) - v = 0 := by rw [← EReal.coe_sub, sub_self]; rfl
  show shapeCast S8x384 rb shapeCasts_S1x8x384_S8x384 _ + (shapeCast S8x384 rb shapeCasts_S1x8x384_S8x384 _ - shapeCast S8x384 rb shapeCasts_S1x8x384_S8x384 _)
    + ((shapeCast S8x384 rb shapeCasts_S1x8x384_S8x384 _ - shapeCast S8x384 rb shapeCasts_S1x8x384_S8x384 _)
      - (shapeCast S8x384 rb shapeCasts_S1x8x384_S8x384 _ - shapeCast S8x384 rb shapeCasts_S1x8x384_S8x384 _)) = (v : EReal)
  rw [e, m, sub_zero, add_zero, add_zero]

/-- The row numbers of a block. -/
def rowNo : IVec S256x1024 32 := iota .tc S256x1024 32 [0] iota_S256x1024_d0_w32

/-- Rows whose number has the bit `m` rolled `m` columns on. -/
def rollBit (m : BitVec 32) (x : FVec Ideal S256x1024 .f32) : FVec Ideal S256x1024 .f32 :=
  select (cmpi .ne (andi rowNo (broadcast S256x1024 m)) (broadcast S256x1024 0#32)) (dynamicRotate 1 m none x rotates_S256x1024_d1) x

theorem bit_word : ∀ (k : Fin 8) (r : Fin 256), IntOp.cmpi .ne (IntOp.andi (BitVec.ofNat 32 r.val) (BitVec.ofNat 32 (2 ^ k.val))) 0#32
    = if r.val % (2 ^ k.val * 2) = r.val % 2 ^ k.val then 0#1 else 1#1 := by decide +kernel

theorem rollBit_apply (k : Fin 8) (x : FVec Ideal S256x1024 .f32) (g : Fin 1024 → EReal)
    (hx : ∀ (r : Fin 256) (c : Fin 1024), x (ix2 r c) = g ⟨(c.val + 1024 - r.val % 2 ^ k.val) % 1024, Nat.mod_lt _ (by decide)⟩)
    (r : Fin 256) (c : Fin 1024) :
    rollBit (BitVec.ofNat 32 (2 ^ k.val)) x (ix2 r c) = g ⟨(c.val + 1024 - r.val % 2 ^ (k.val + 1)) % 1024, Nat.mod_lt _ (by decide)⟩ := by
  have e : rollBit (BitVec.ofNat 32 (2 ^ k.val)) x (ix2 r c) = Scalar.select (IntOp.cmpi .ne (IntOp.andi (BitVec.ofNat 32 (0 * 256 + r.val)) (BitVec.ofNat 32 (2 ^ k.val))) 0#32)
      (dynamicRotate 1 (BitVec.ofNat 32 (2 ^ k.val)) none x rotates_S256x1024_d1 (ix2 r c)) (x (ix2 r c)) := rfl
  have hk : 2 ^ k.val ≤ 128 := by have := Nat.pow_le_pow_right (n := 2) (by decide) (show k.val ≤ 7 by omega); omega
  have hkp : 0 < 2 ^ k.val := Nat.pow_pos (by decide)
  rw [e, Nat.zero_mul, Nat.zero_add, bit_word, pow_succ]
  have hs : r.val % (2 ^ k.val * 2) = r.val % 2 ^ k.val ∨ r.val % (2 ^ k.val * 2) = r.val % 2 ^ k.val + 2 ^ k.val := by
    rw [Nat.mod_mul]
    have : r.val / 2 ^ k.val % 2 = 0 ∨ r.val / 2 ^ k.val % 2 = 1 := by omega
    rcases this with h | h
    · left; rw [h, Nat.mul_zero, Nat.add_zero]
    · right; rw [h, Nat.mul_one]
  have hl : r.val % 2 ^ k.val < 2 ^ k.val := Nat.mod_lt _ hkp
  by_cases hb : r.val % (2 ^ k.val * 2) = r.val % 2 ^ k.val
  · rw [if_pos hb, hb]; exact hx r c
  · have hb' := hs.resolve_left hb
    rw [if_neg hb]
    refine (dynamicRotate_apply (1 : Fin S256x1024.rank) (BitVec.ofNat 32 (2 ^ k.val)) x rotates_S256x1024_d1 (ix2 r c)
      (ix2 r ⟨(c.val + 1024 - 2 ^ k.val) % 1024, Nat.mod_lt _ (by decide)⟩) (fun b => ?_)).trans ?_
    · match b with
      | ⟨0, _⟩ => rfl
      | ⟨1, _⟩ =>
        show (c.val + 1024 - 2 ^ k.val) % 1024 = (c.val + 1024 - (2 ^ k.val % 2 ^ 32) % 1024) % 1024
        rw [Nat.mod_eq_of_lt (show 2 ^ k.val < 2 ^ 32 by omega), Nat.mod_eq_of_lt (show 2 ^ k.val < 1024 by omega)]
    · rw [hx]
      refine congrArg g (Fin.ext ?_)
      show ((c.val + 1024 - 2 ^ k.val) % 1024 + 1024 - r.val % 2 ^ k.val) % 1024 = (c.val + 1024 - r.val % (2 ^ k.val * 2)) % 1024
      rw [hb']; omega

/-- All eight rolls: row `r` is rolled `r` columns on. -/
theorem rolls_apply (x : FVec Ideal S256x1024 .f32) (g : Fin 1024 → EReal) (hx : ∀ (r : Fin 256) (c : Fin 1024), x (ix2 r c) = g c) (r : Fin 256) (c : Fin 1024) :
    rollBit 128#32 (rollBit 64#32 (rollBit 32#32 (rollBit 16#32 (rollBit 8#32 (rollBit 4#32 (rollBit 2#32 (rollBit 1#32 x))))))) (ix2 r c)
      = g ⟨(c.val + 1024 - r.val) % 1024, Nat.mod_lt _ (by decide)⟩ := by
  have h0 : ∀ (r : Fin 256) (c : Fin 1024), x (ix2 r c) = g ⟨(c.val + 1024 - r.val % 2 ^ 0) % 1024, Nat.mod_lt _ (by decide)⟩ := fun r c => by
    rw [hx]; exact congrArg g (Fin.ext (by show c.val = (c.val + 1024 - r.val % 1) % 1024; omega))
  have h8 := rollBit_apply 7 _ g (rollBit_apply 6 _ g (rollBit_apply 5 _ g (rollBit_apply 4 _ g (rollBit_apply 3 _ g (rollBit_apply 2 _ g
    (rollBit_apply 1 _ g (rollBit_apply 0 x g h0))))))) r c
  refine h8.trans (congrArg g (Fin.ext ?_))
  show (c.val + 1024 - r.val % 256) % 1024 = (c.val + 1024 - r.val) % 1024
  omega

/-- The banded bias as the kernel computes it from the padded biases of one head. -/
def bandOf (rb : FVec Ideal S1x8x384 .f32) : FVec Ideal S1x256x768 .f32 :=
  k0_pay7 (F := Ideal) rowNo k0_pay3 (k0_pay5 (F := Ideal) rowNo (k0_pay4 (F := Ideal) rb)) (k0_pay6 rowNo)

theorem shift_word : ∀ c : Fin 1024, IntOp.shrsi .vector (BitVec.ofNat 32 c.val) 6#32 = BitVec.ofNat 32 (c.val / 64) := by decide +kernel

theorem band_word : ∀ (a : Fin 12) (b : Fin 4),
    (IntOp.cmpi .sle (IntOp.subi (BitVec.ofNat 32 a.val) (BitVec.ofNat 32 b.val)) 8#32 = if a.val ≤ b.val + 8 then 1#1 else 0#1)
    ∧ (IntOp.cmpi .sge (IntOp.subi (BitVec.ofNat 32 a.val) (BitVec.ofNat 32 b.val)) 0#32 = if b.val ≤ a.val then 1#1 else 0#1) := by decide +kernel

theorem mask_named : (Named.named (F := Ideal) κ "mask" (φ := .f32) 0xF149F2CA#32 : EReal) = ⊥ :=
  IdealRules.named_const.ideal_named_scalar _ _ _ _ rfl

/-- The scratch of one head: the bias of every pair of the band, and the mask elsewhere. -/
theorem bandOf_apply (rb : FVec Ideal S1x8x384 .f32) (hfin : ∀ j : Fin 384, ∃ r : ℝ, rb (ix3 0 0 j) = (r : EReal)) (r : Fin 256) (c : Fin 768) :
    bandOf rb (ix3 0 r c) = if Sees (512 + r.val) c.val then rb (ix3 0 0 ⟨(rel (512 + r.val) c.val).val, by have := (rel (512 + r.val) c.val).isLt; omega⟩) else ⊥ := by
  have e : bandOf rb (ix3 0 r c) = shapeCast S1x256x768 (select (cmpi .sge k0_pay3 (broadcast S256x768 0#32)) (select (cmpi .sle k0_pay3 (broadcast S256x768 8#32))
      (extractStridedSlice S256x768 ![0, 0] (rollBit 128#32 (rollBit 64#32 (rollBit 32#32 (rollBit 16#32 (rollBit 8#32 (rollBit 4#32 (rollBit 2#32 (rollBit 1#32
        (k0_pay4 (F := Ideal) rb))))))))) slices_S256x1024_o0_0_S256x768)
      (broadcast S256x768 (Named.named (F := Ideal) κ "mask" (φ := .f32) 0xF149F2CA#32))) (broadcast S256x768 (Named.named (F := Ideal) κ "mask" (φ := .f32) 0xF149F2CA#32)))
      shapeCasts_S256x768_S1x256x768 (ix3 0 r c) := rfl
  rw [e]
  refine (put_one _ shapeCasts_S256x768_S1x256x768 r c).trans ?_
  have w : k0_pay3 (ix2 r c) = IntOp.subi (BitVec.ofNat 32 (c.val / 64)) (BitVec.ofNat 32 (r.val / 64)) := by
    have e1 := shift_word ⟨c.val, by omega⟩
    have e2 := shift_word ⟨r.val, by omega⟩
    have e3 : k0_pay3 (ix2 r c) = IntOp.subi (IntOp.shrsi .vector (BitVec.ofNat 32 (0 * 768 + c.val)) 6#32) (IntOp.shrsi .vector (BitVec.ofNat 32 (0 * 256 + r.val)) 6#32) := rfl
    rw [e3]
    simp only [Nat.zero_mul, Nat.zero_add]
    exact congrArg₂ IntOp.subi e1 e2
  obtain ⟨b1, b2⟩ := band_word ⟨c.val / 64, by omega⟩ ⟨r.val / 64, by omega⟩
  have e4 : ∀ z : FVec Ideal S256x768 .f32, select (cmpi .sge k0_pay3 (broadcast S256x768 0#32)) (select (cmpi .sle k0_pay3 (broadcast S256x768 8#32)) z
      (broadcast S256x768 (Named.named (F := Ideal) κ "mask" (φ := .f32) 0xF149F2CA#32))) (broadcast S256x768 (Named.named (F := Ideal) κ "mask" (φ := .f32) 0xF149F2CA#32)) (ix2 r c)
      = Scalar.select (IntOp.cmpi .sge (k0_pay3 (ix2 r c)) 0#32) (Scalar.select (IntOp.cmpi .sle (k0_pay3 (ix2 r c)) 8#32) (z (ix2 r c))
        (Named.named (F := Ideal) κ "mask" (φ := .f32) 0xF149F2CA#32)) (Named.named (F := Ideal) κ "mask" (φ := .f32) 0xF149F2CA#32) := fun _ => rfl
  rw [e4, w, b1, b2, mask_named]
  have hS : Sees (512 + r.val) c.val ↔ c.val / 64 ≤ r.val / 64 + 8 ∧ r.val / 64 ≤ c.val / 64 := by unfold Sees; omega
  by_cases h2 : r.val / 64 ≤ c.val / 64
  · by_cases h1 : c.val / 64 ≤ r.val / 64 + 8
    · rw [if_pos h2, if_pos h1, if_pos (hS.2 ⟨h1, h2⟩)]
      show extractStridedSlice S256x768 ![0, 0] (rollBit 128#32 (rollBit 64#32 (rollBit 32#32 (rollBit 16#32 (rollBit 8#32 (rollBit 4#32 (rollBit 2#32 (rollBit 1#32
        (k0_pay4 (F := Ideal) rb))))))))) slices_S256x1024_o0_0_S256x768 (ix2 r c) = _
      refine (extractStridedSlice_apply ![0, 0] _ slices_S256x1024_o0_0_S256x768 (ix2 r c) (ix2 r (⟨c.val, by omega⟩ : Fin 1024)) (fun a => by
        match a with
        | ⟨0, _⟩ => exact (Nat.zero_add _).symm
        | ⟨1, _⟩ => exact (Nat.zero_add _).symm)).trans ?_
      rw [rolls_apply _ (fun c : Fin 1024 => rb (ix3 0 0 ⟨pick c.val, by have := pick_lt c.val; omega⟩)) (fun r c => spread_apply rb hfin r c)]
      refine congrArg (fun j => rb (ix3 0 0 j)) (Fin.ext ?_)
      show pick ((c.val + 1024 - r.val) % 1024) = (rel (512 + r.val) c.val).val
      unfold pick rel
      split <;> (dsimp only; omega)
    · rw [if_pos h2, if_neg h1, if_neg (fun h => h1 (hS.1 h).1)]; rfl
  · rw [if_neg h2, if_neg (fun h => h2 (hS.1 h).2)]; rfl

end Cert.Attn

end
-- ==== Proof.Attn.Piece.lean ====
/- One stored block of one head, and the loads it is made of. -/
module

public import proofs.«01_k».proof.Proof.Attn.Band
public import proofs.«01_k».proof.Proof.Gen.AttentionIdeal.Frame
public import Idealize.ShloMosaic.Lib.WholeRead
public import Idealize.ShloMosaic.Lib.Writes
public import Idealize.ShloMosaic.Lib.Pipeline.ReadBack
public import Idealize.ShloMosaic.Lib.Pipeline.ValueKit

@[expose] public section

set_option maxRecDepth 16384
set_option Elab.async false

noncomputable section
namespace Cert.Attn

open Idealize.ShloMosaic hiding ix1 ix2 ix3
open Idealize.ShloMosaic.ValueIdx
open scoped BigOperators
open Cert.AttentionIdeal Cert.AttentionIdeal.Gen Cert.AttentionIdeal.Facts

/-- The scale of the logits, the number that its word is. -/
def scale : EReal := FloatOps.ofBits (F := Ideal) .f32 0x3DB504F3#32

/-- Its value. -/
theorem scale_real : ∃ r : ℝ, scale = (r : EReal) := by
  refine ⟨11863283 / 134217728, ?_⟩
  show Ideal.ofBits .f32 0x3DB504F3#32 = _
  simp [Ideal.ofBits, Ideal.ieee, -EReal.coe_mul]
  norm_num

/-- A load of some rows and of one head's columns. -/
theorem cut_read {n : ℕ} (m : Memref sig .tc .vmem S1x2048x256 .bf16) (h : m.IsWhole) (x : Vec Ideal S1x2048x256 .bf16) (a b : ℕ)
    (inb : ∀ k, (![0, a, b] : Fin 3 → ℕ) k + (![1, n, 128] : Fin 3 → ℕ) k ≤ S1x2048x256.size k) :
    Cut (n := n) x a b (View.readAt (Elt Ideal) m.view (Rect.unit (s := S1x2048x256) ![0, a, b] ![1, n, 128] inb).toLoadRect (h.unread x)) := by
  intro i e s d hs hd
  rw [Memref.IsWhole.readAt_unread]
  refine congrArg x (funext fun k => Fin.ext ?_)
  refine (ValueKit.rect_emb_unit_val (s := S1x2048x256) ![0, a, b] ![1, n, 128] inb (ix3 0 i e) k).trans ?_
  match k with
  | ⟨0, _⟩ => rfl
  | ⟨1, _⟩ => exact hs.symm
  | ⟨2, _⟩ => exact hd.symm

/-- One block of one head, stored: it is the value of the pair of heads there. -/
theorem piece {W : ℕ} (hq hk hs ho hr hc hb hb' hf) (arg2 : Memref sig .tc .vmem S1x2048x256 .bf16) (harg2 : arg2.IsWhole) (arg3 : Memref sig .tc .vmem S1x2048x256 .bf16) (harg3 : arg3.IsWhole)
    (arg4 : Memref sig .tc .vmem S1x2048x256 .bf16) (harg4 : arg4.IsWhole) (β : Fin 2 → Fin 257 → EReal) (x0 x1 x2 : Vec Ideal S1x2048x256 .bf16)
    (jb : ℕ) (h : Fin 2) (r0 c0 a : ℕ) (hjb : jb < 8) (hr0 : r0 = 256 * jb) (hc0 : c0 = 128 * h.val) (ha : a + W = 256 * jb + 256) (hW : W ≤ 768) (hw : a = 0 ∨ W = 768)
    (iq : ∀ k, (![0, r0, c0] : Fin 3 → ℕ) k + (![1, 256, 128] : Fin 3 → ℕ) k ≤ S1x2048x256.size k)
    (ik : ∀ k, (![0, a, c0] : Fin 3 → ℕ) k + (![1, W, 128] : Fin 3 → ℕ) k ≤ S1x2048x256.size k)
    (s : FVec Ideal ⟨3, ![1, 256, W]⟩ .f32) (cs : BandCut β h (768 - W) s) (x : (⟨3, ![1, 256, 128]⟩ : Shape).Idx) :
    blockOf hq hk hs ho hr hc hb hb' hf scale
      (View.readAt (Elt Ideal) arg2.view (Rect.unit (s := S1x2048x256) ![0, r0, c0] ![1, 256, 128] iq).toLoadRect (harg2.unread x0))
      (View.readAt (Elt Ideal) arg3.view (Rect.unit (s := S1x2048x256) ![0, a, c0] ![1, W, 128] ik).toLoadRect (harg3.unread x1))
      (View.readAt (Elt Ideal) arg4.view (Rect.unit (s := S1x2048x256) ![0, a, c0] ![1, W, 128] ik).toLoadRect (harg4.unread x2)) s x
      = pairOut β scale x0 x1 x2 ((Rect.unit (s := S1x2048x256) ![0, r0, c0] ![1, 256, 128] iq).emb x) := by
  subst hr0 hc0
  refine block_eq hq hk hs ho hr hc hb hb' hf β scale x0 x1 x2 jb a h hjb ha hW hw _ _ _ s (cut_read arg2 harg2 x0 _ _ iq) (cut_read arg3 harg3 x1 _ _ ik)
    (cut_read arg4 harg4 x2 _ _ ik) cs x _ ?_ ?_
  · exact ValueKit.rect_emb_unit_val (s := S1x2048x256) ![0, 256 * jb, 128 * h.val] ![1, 256, 128] iq x 1
  · exact ValueKit.rect_emb_unit_val (s := S1x2048x256) ![0, 256 * jb, 128 * h.val] ![1, 256, 128] iq x 2

end Cert.Attn

end
-- ==== Proof.Attn.First.lean ====
/- The first point of a pair of heads: it makes the banded bias, keeps it in the scratch and reads it back. -/
module

public import proofs.«01_k».proof.Proof.Attn.Piece

@[expose] public section

set_option maxRecDepth 16384
set_option Elab.async false

noncomputable section
namespace Cert.Attn

open Idealize.ShloMosaic hiding ix1 ix2 ix3
open Idealize.ShloMosaic.ValueIdx
open scoped BigOperators
open Cert.AttentionIdeal Cert.AttentionIdeal.Gen Cert.AttentionIdeal.Facts

/-- The biases of a pair of heads, out of the window's padded rows. -/
def rowBias (x3 : Vec Ideal S2x8x384 .f32) : Fin 2 → Fin 257 → EReal := fun h j => x3 (ix3 h 0 ⟨j.val, by omega⟩)

/-- The banded bias of both heads. -/
def bandAll (x3 : Vec Ideal S2x8x384 .f32) : S2x256x768.Idx → EReal := fun y => banded (rowBias x3) (y 0) (y 1).val (y 2).val

/-- A load of one head's padded biases. -/
theorem bias_read (m : Memref sig .tc .vmem S2x8x384 .f32) (hm : m.IsWhole) (x3 : Vec Ideal S2x8x384 .f32) (h : Fin 2)
    (inb : ∀ k, (![h.val, 0, 0] : Fin 3 → ℕ) k + (![1, 8, 384] : Fin 3 → ℕ) k ≤ S2x8x384.size k) (j : Fin 384) :
    View.readAt (Elt Ideal) m.view (Rect.unit (s := S2x8x384) ![h.val, 0, 0] ![1, 8, 384] inb).toLoadRect (hm.unread x3) (ix3 0 0 j) = x3 (ix3 h 0 j) := by
  rw [Memref.IsWhole.readAt_unread]
  refine congrArg x3 (funext fun k => Fin.ext ?_)
  refine (ValueKit.rect_emb_unit_val (s := S2x8x384) ![h.val, 0, 0] ![1, 8, 384] inb (ix3 0 0 j) k).trans ?_
  match k with
  | ⟨0, _⟩ => rfl
  | ⟨1, _⟩ => rfl
  | ⟨2, _⟩ => exact Nat.zero_add _

/-- One head's banded bias, stored. -/
theorem band_piece (m : Memref sig .tc .vmem S2x8x384 .f32) (hm : m.IsWhole) (x3 : Vec Ideal S2x8x384 .f32) (hfin : ∀ (h : Fin 2) (j : Fin 384), ∃ r : ℝ, x3 (ix3 h 0 j) = (r : EReal))
    (h : Fin 2) (inb : ∀ k, (![h.val, 0, 0] : Fin 3 → ℕ) k + (![1, 8, 384] : Fin 3 → ℕ) k ≤ S2x8x384.size k)
    (inb' : ∀ k, (![h.val, 0, 0] : Fin 3 → ℕ) k + (![1, 256, 768] : Fin 3 → ℕ) k ≤ S2x256x768.size k) (x : (⟨3, ![1, 256, 768]⟩ : Shape).Idx) :
    bandOf (View.readAt (Elt Ideal) m.view (Rect.unit (s := S2x8x384) ![h.val, 0, 0] ![1, 8, 384] inb).toLoadRect (hm.unread x3)) x
      = bandAll x3 ((Rect.unit (s := S2x256x768) ![h.val, 0, 0] ![1, 256, 768] inb').emb x) := by
  obtain ⟨r, t, rfl⟩ := exists_ix3 x
  rw [bandOf_apply _ (fun j => by obtain ⟨v, hv⟩ := hfin h j; exact ⟨v, (bias_read m hm x3 h inb j).trans hv⟩), bias_read]
  unfold bandAll banded rowBias
  have e0 : (Rect.unit (s := S2x256x768) ![h.val, 0, 0] ![1, 256, 768] inb').emb (ix3 0 r t) 0 = h :=
    Fin.ext ((ValueKit.rect_emb_unit_val (s := S2x256x768) ![h.val, 0, 0] ![1, 256, 768] inb' (ix3 0 r t) 0).trans (Nat.add_zero _))
  have e1 : ((Rect.unit (s := S2x256x768) ![h.val, 0, 0] ![1, 256, 768] inb').emb (ix3 0 r t) 1).val = r.val :=
    (ValueKit.rect_emb_unit_val (s := S2x256x768) ![h.val, 0, 0] ![1, 256, 768] inb' (ix3 0 r t) 1).trans (Nat.zero_add _)
  have e2 : ((Rect.unit (s := S2x256x768) ![h.val, 0, 0] ![1, 256, 768] inb').emb (ix3 0 r t) 2).val = t.val :=
    (ValueKit.rect_emb_unit_val (s := S2x256x768) ![h.val, 0, 0] ![1, 256, 768] inb' (ix3 0 r t) 2).trans (Nat.zero_add _)
  rw [e1, e2]
  exact congrArg (fun z : Fin 2 => if Sees (512 + r.val) t.val then x3 (ix3 z 0 ⟨(rel (512 + r.val) t.val).val, _⟩) else ⊥) e0.symm

section

variable (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S2x8x384 .f32) (harg5 : arg5.IsWhole) (arg6 : Memref sig .tc .vmem S256x7168 .f32) (harg6 : arg6.IsWhole)
  (arg7 : Memref sig .tc .vmem S1x2048x256 .bf16) (harg7 : arg7.IsWhole) (arg8 : Memref sig .tc .vmem S256x7168 .bf16) (harg8 : arg8.IsWhole) (arg9 : Memref sig .tc .vmem S2x256x768 .f32) (harg9 : arg9.IsWhole) (hc0 : cond0_0 i)
  (x0 x1 x2 : Vec Ideal S1x2048x256 .bf16) (x3 : Vec Ideal S2x8x384 .f32) (x4 : Vec Ideal S256x7168 .f32)
  (hfin : ∀ (h : Fin 2) (j : Fin 384), ∃ r : ℝ, x3 (ix3 h 0 j) = (r : EReal))

include hfin in
/-- The scratch's two stores. -/
theorem band_pieces : View.PiecesOf (Val := Elt Ideal) (bandAll x3) (kernelRun0_A.sl.HS0_2 (F := Ideal) c arg5 harg5 x3) := by
  simp only [kernelRun0_A.sl.HS0_2]
  refine ⟨?_, ?_, trivial⟩
  · exact fun x => band_piece arg5 harg5 x3 hfin 1 _ inb_S2x256x768_S1x256x768_1_0_0 x
  · exact fun x => band_piece arg5 harg5 x3 hfin 0 _ inb_S2x256x768_S1x256x768_0_0_0 x

include i harg2 harg3 harg4 harg6 harg7 harg8 harg9 hc0 x0 x1 x2 x4 hfin in
/-- A load of one head's banded bias, just stored. -/
theorem band_kept {W : ℕ} (h : Fin 2) (a : ℕ) (inb : ∀ k, (![h.val, 0, a] : Fin 3 → ℕ) k + (![1, 256, W] : Fin 3 → ℕ) k ≤ S2x256x768.size k) :
    BandCut (W := W) (rowBias x3) h a (arg9.view.readCov (kernelRun0_A.sl.HS0_2 (F := Ideal) c arg5 harg5 x3) (Rect.unit (s := S2x256x768) ![h.val, 0, a] ![1, 256, W] inb).toLoadRect) := by
  intro r t
  rw [View.readCov_eq_canon']
  refine (View.canon_apply_of_pieces (Val := Elt Ideal) (bandAll x3) _ (View.PiecesOf.mem (band_pieces c arg5 harg5 x3 hfin)) _
    (scover0_A_0 (F := Ideal) c i arg2 harg2 arg3 harg3 arg4 harg4 arg5 harg5 arg6 harg6 arg7 harg7 arg8 harg8 arg9 harg9 hc0 x0 x1 x2 x3 x4 _)).trans ?_
  unfold bandAll
  have e0 : (Rect.unit (s := S2x256x768) ![h.val, 0, a] ![1, 256, W] inb).emb (ix3 0 r t) 0 = h :=
    Fin.ext ((ValueKit.rect_emb_unit_val (s := S2x256x768) ![h.val, 0, a] ![1, 256, W] inb (ix3 0 r t) 0).trans (Nat.add_zero _))
  have e1 : ((Rect.unit (s := S2x256x768) ![h.val, 0, a] ![1, 256, W] inb).emb (ix3 0 r t) 1).val = r.val :=
    (ValueKit.rect_emb_unit_val (s := S2x256x768) ![h.val, 0, a] ![1, 256, W] inb (ix3 0 r t) 1).trans (Nat.zero_add _)
  have e2 : ((Rect.unit (s := S2x256x768) ![h.val, 0, a] ![1, 256, W] inb).emb (ix3 0 r t) 2).val = a + t.val :=
    ValueKit.rect_emb_unit_val (s := S2x256x768) ![h.val, 0, a] ![1, 256, W] inb (ix3 0 r t) 2
  show banded (rowBias x3) ((Rect.unit (s := S2x256x768) ![h.val, 0, a] ![1, 256, W] inb).emb (ix3 0 r t) 0)
    ((Rect.unit (s := S2x256x768) ![h.val, 0, a] ![1, 256, W] inb).emb (ix3 0 r t) 1).val
    ((Rect.unit (s := S2x256x768) ![h.val, 0, a] ![1, 256, W] inb).emb (ix3 0 r t) 2).val = _
  rw [e1, e2]
  exact congrArg (fun z => banded (rowBias x3) z r.val (a + t.val)) e0

include hfin in
/-- The scratch after a pair's first point. -/
theorem scratch_first (y : S2x256x768.Idx) : sout0_A_0 (F := Ideal) c i arg2 harg2 arg3 harg3 arg4 harg4 arg5 harg5 arg6 harg6 arg7 harg7 arg8 harg8 arg9 harg9 hc0 x0 x1 x2 x3 x4 y = bandAll x3 y :=
  View.read_writes_apply_of_pieces (Val := Elt Ideal) VS0_0 VS0_0.junk (bandAll x3) _ (View.PiecesOf.mem (band_pieces c arg5 harg5 x3 hfin)) y
    (scover0_A_0 (F := Ideal) c i arg2 harg2 arg3 harg3 arg4 harg4 arg5 harg5 arg6 harg6 arg7 harg7 arg8 harg8 arg9 harg9 hc0 x0 x1 x2 x3 x4 y)

include hfin in
/-- The sixteen blocks stored at a pair's first point. -/
theorem pieces_first :
    View.PiecesOf (Val := Elt Ideal) (pairOut (rowBias x3) scale x0 x1 x2) (kernelRun0_A (F := Ideal) c i arg2 harg2 arg3 harg3 arg4 harg4 arg5 harg5 arg6 harg6 arg7 harg7 arg8 harg8 arg9 harg9 hc0 x0 x1 x2 x3 x4).1 := by
  simp only [kernelRun0_A]
  refine ⟨?_, ?_, ?_, ?_, ?_, ?_, ?_, ?_, ?_, ?_, ?_, ?_, ?_, ?_, ?_, ?_, trivial⟩
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 7 1 1792 128 1280 (by decide) rfl rfl rfl (by decide) (Or.inr rfl) inb_S1x2048x256_S1x256x128_0_1792_128 inb_S1x2048x256_S1x768x128_0_1280_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 7 0 1792 0 1280 (by decide) rfl rfl rfl (by decide) (Or.inr rfl) inb_S1x2048x256_S1x256x128_0_1792_0 inb_S1x2048x256_S1x768x128_0_1280_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 6 1 1536 128 1024 (by decide) rfl rfl rfl (by decide) (Or.inr rfl) inb_S1x2048x256_S1x256x128_0_1536_128 inb_S1x2048x256_S1x768x128_0_1024_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 6 0 1536 0 1024 (by decide) rfl rfl rfl (by decide) (Or.inr rfl) inb_S1x2048x256_S1x256x128_0_1536_0 inb_S1x2048x256_S1x768x128_0_1024_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 5 1 1280 128 768 (by decide) rfl rfl rfl (by decide) (Or.inr rfl) inb_S1x2048x256_S1x256x128_0_1280_128 inb_S1x2048x256_S1x768x128_0_768_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 5 0 1280 0 768 (by decide) rfl rfl rfl (by decide) (Or.inr rfl) inb_S1x2048x256_S1x256x128_0_1280_0 inb_S1x2048x256_S1x768x128_0_768_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 4 1 1024 128 512 (by decide) rfl rfl rfl (by decide) (Or.inr rfl) inb_S1x2048x256_S1x256x128_0_1024_128 inb_S1x2048x256_S1x768x128_0_512_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 4 0 1024 0 512 (by decide) rfl rfl rfl (by decide) (Or.inr rfl) inb_S1x2048x256_S1x256x128_0_1024_0 inb_S1x2048x256_S1x768x128_0_512_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 3 1 768 128 256 (by decide) rfl rfl rfl (by decide) (Or.inr rfl) inb_S1x2048x256_S1x256x128_0_768_128 inb_S1x2048x256_S1x768x128_0_256_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 3 0 768 0 256 (by decide) rfl rfl rfl (by decide) (Or.inr rfl) inb_S1x2048x256_S1x256x128_0_768_0 inb_S1x2048x256_S1x768x128_0_256_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 2 1 512 128 0 (by decide) rfl rfl rfl (by decide) (Or.inl rfl) inb_S1x2048x256_S1x256x128_0_512_128 inb_S1x2048x256_S1x768x128_0_0_128
    (arg9.view.readCov (kernelRun0_A.sl.HS0_2 (F := Ideal) c arg5 harg5 x3) (Rect.unit (s := S2x256x768) ![1, 0, 0] ![1, 256, 768] inb_S2x256x768_S1x256x768_1_0_0).toLoadRect) (band_kept c i arg2 harg2 arg3 harg3 arg4 harg4 arg5 harg5 arg6 harg6 arg7 harg7 arg8 harg8 arg9 harg9 hc0 x0 x1 x2 x3 x4 hfin 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 (rowBias x3) x0 x1 x2 2 0 512 0 0 (by decide) rfl rfl rfl (by decide) (Or.inl rfl) inb_S1x2048x256_S1x256x128_0_512_0 inb_S1x2048x256_S1x768x128_0_0_0
    (arg9.view.readCov (kernelRun0_A.sl.HS0_2 (F := Ideal) c arg5 harg5 x3) (Rect.unit (s := S2x256x768) ![0, 0, 0] ![1, 256, 768] inb_S2x256x768_S1x256x768_0_0_0).toLoadRect) (band_kept c i arg2 harg2 arg3 harg3 arg4 harg4 arg5 harg5 arg6 harg6 arg7 harg7 arg8 harg8 arg9 harg9 hc0 x0 x1 x2 x3 x4 hfin 0 0 inb_S2x256x768_S1x256x768_0_0_0) x)
  · exact (fun x => piece shapeCasts_S1x256x128_S256x128 shapeCasts_S1x512x128_S512x128 shapeCasts_S1x256x512_S256x512 shapeCasts_S256x128_S1x256x128 reduces_S256x512_S256 shapeCasts_S256_S256x1 broadcasts_S256x1_S256x512 broadcasts_S256x1_S256x128 bitsLt_bf16_f32 arg2 harg2 arg3 harg3 arg4 harg4 (rowBias x3) x0 x1 x2 1 1 256 128 0 (by decide) rfl rfl rfl (by decide) (Or.inl rfl) inb_S1x2048x256_S1x256x128_0_256_128 inb_S1x2048x256_S1x512x128_0_0_128
    (arg9.view.readCov (kernelRun0_A.sl.HS0_2 (F := Ideal) c arg5 harg5 x3) (Rect.unit (s := S2x256x768) ![1, 0, 256] ![1, 256, 512] inb_S2x256x768_S1x256x512_1_0_256).toLoadRect) (band_kept c i arg2 harg2 arg3 harg3 arg4 harg4 arg5 harg5 arg6 harg6 arg7 harg7 arg8 harg8 arg9 harg9 hc0 x0 x1 x2 x3 x4 hfin 1 256 inb_S2x256x768_S1x256x512_1_0_256) x)
  · exact (fun x => piece shapeCasts_S1x256x128_S256x128 shapeCasts_S1x512x128_S512x128 shapeCasts_S1x256x512_S256x512 shapeCasts_S256x128_S1x256x128 reduces_S256x512_S256 shapeCasts_S256_S256x1 broadcasts_S256x1_S256x512 broadcasts_S256x1_S256x128 bitsLt_bf16_f32 arg2 harg2 arg3 harg3 arg4 harg4 (rowBias x3) x0 x1 x2 1 0 256 0 0 (by decide) rfl rfl rfl (by decide) (Or.inl rfl) inb_S1x2048x256_S1x256x128_0_256_0 inb_S1x2048x256_S1x512x128_0_0_0
    (arg9.view.readCov (kernelRun0_A.sl.HS0_2 (F := Ideal) c arg5 harg5 x3) (Rect.unit (s := S2x256x768) ![0, 0, 256] ![1, 256, 512] inb_S2x256x768_S1x256x512_0_0_256).toLoadRect) (band_kept c i arg2 harg2 arg3 harg3 arg4 harg4 arg5 harg5 arg6 harg6 arg7 harg7 arg8 harg8 arg9 harg9 hc0 x0 x1 x2 x3 x4 hfin 0 256 inb_S2x256x768_S1x256x512_0_0_256) x)
  · exact (fun x => piece shapeCasts_S1x256x128_S256x128 shapeCasts_S1x256x128_S256x128 shapeCasts_S1x256x256_S256x256 shapeCasts_S256x128_S1x256x128 reduces_S256x256_S256 shapeCasts_S256_S256x1 broadcasts_S256x1_S256x256 broadcasts_S256x1_S256x128 bitsLt_bf16_f32 arg2 harg2 arg3 harg3 arg4 harg4 (rowBias x3) x0 x1 x2 0 1 0 128 0 (by decide) rfl rfl rfl (by decide) (Or.inl rfl) inb_S1x2048x256_S1x256x128_0_0_128 inb_S1x2048x256_S1x256x128_0_0_128
    (arg9.view.readCov (kernelRun0_A.sl.HS0_2 (F := Ideal) c arg5 harg5 x3) (Rect.unit (s := S2x256x768) ![1, 0, 512] ![1, 256, 256] inb_S2x256x768_S1x256x256_1_0_512).toLoadRect) (band_kept c i arg2 harg2 arg3 harg3 arg4 harg4 arg5 harg5 arg6 harg6 arg7 harg7 arg8 harg8 arg9 harg9 hc0 x0 x1 x2 x3 x4 hfin 1 512 inb_S2x256x768_S1x256x256_1_0_512) x)
  · exact (fun x => piece shapeCasts_S1x256x128_S256x128 shapeCasts_S1x256x128_S256x128 shapeCasts_S1x256x256_S256x256 shapeCasts_S256x128_S1x256x128 reduces_S256x256_S256 shapeCasts_S256_S256x1 broadcasts_S256x1_S256x256 broadcasts_S256x1_S256x128 bitsLt_bf16_f32 arg2 harg2 arg3 harg3 arg4 harg4 (rowBias x3) x0 x1 x2 0 0 0 0 0 (by decide) rfl rfl rfl (by decide) (Or.inl rfl) inb_S1x2048x256_S1x256x128_0_0_0 inb_S1x2048x256_S1x256x128_0_0_0
    (arg9.view.readCov (kernelRun0_A.sl.HS0_2 (F := Ideal) c arg5 harg5 x3) (Rect.unit (s := S2x256x768) ![0, 0, 512] ![1, 256, 256] inb_S2x256x768_S1x256x256_0_0_512).toLoadRect) (band_kept c i arg2 harg2 arg3 harg3 arg4 harg4 arg5 harg5 arg6 harg6 arg7 harg7 arg8 harg8 arg9 harg9 hc0 x0 x1 x2 x3 x4 hfin 0 512 inb_S2x256x768_S1x256x256_0_0_512) x)

include hfin in
/-- The output of a pair's first point. -/
theorem out_first (y : S1x2048x256.Idx) :
    out0_A_5 (F := Ideal) c i arg2 harg2 arg3 harg3 arg4 harg4 arg5 harg5 arg6 harg6 arg7 harg7 arg8 harg8 arg9 harg9 hc0 x0 x1 x2 x3 x4 y = pairOut (rowBias x3) scale x0 x1 x2 y :=
  View.read_writes_apply_of_pieces (Val := Elt Ideal) VO0_5 VO0_5.junk (pairOut (rowBias x3) scale x0 x1 x2) _
    (View.PiecesOf.mem (pieces_first c i arg2 harg2 arg3 harg3 arg4 harg4 arg5 harg5 arg6 harg6 arg7 harg7 arg8 harg8 arg9 harg9 hc0 x0 x1 x2 x3 x4 hfin)) y (cover0_A_5 c i arg2 harg2 arg3 harg3 arg4 harg4 arg5 harg5 arg6 harg6 arg7 harg7 arg8 harg8 arg9 harg9 hc0 x0 x1 x2 x3 x4 y)

/-- The cast block such a point stores. -/
theorem side_first (y : S256x7168.Idx) :
    out0_A_6 (F := Ideal) c i arg2 harg2 arg3 harg3 arg4 harg4 arg5 harg5 arg6 harg6 arg7 harg7 arg8 harg8 arg9 harg9 hc0 x0 x1 x2 x3 x4 y = x4 y := by
  refine View.read_writes_apply_of_pieces (Val := Elt Ideal) VO0_6 VO0_6.junk x4 _ (View.PiecesOf.mem ?_) y (cover0_A_6 c i arg2 harg2 arg3 harg3 arg4 harg4 arg5 harg5 arg6 harg6 arg7 harg7 arg8 harg8 arg9 harg9 hc0 x0 x1 x2 x3 x4 y)
  simp only [kernelRun0_A]
  refine ⟨fun x => ?_, trivial⟩
  show shapeCast S256x7168 (View.readAt (Elt Ideal) arg6.view (Rect.unit (s := S256x7168) ![0, 0] ![256, 7168] inb_S256x7168_S256x7168_0_0).toLoadRect (harg6.unread x4)) shapeCasts_S256x7168_S256x7168 x = _
  refine (shapeCast_apply (View.readAt (Elt Ideal) arg6.view (Rect.unit (s := S256x7168) ![0, 0] ![256, 7168] inb_S256x7168_S256x7168_0_0).toLoadRect (harg6.unread x4)) shapeCasts_S256x7168_S256x7168 x x rfl).trans ?_
  exact Memref.IsWhole.readAt_unread harg6 x4 _ x

end

end Cert.Attn

end
-- ==== Proof.Attn.Later.lean ====
/- The points of a pair of heads after the first: they find the banded bias in the scratch. -/
module

public import proofs.«01_k».proof.Proof.Attn.Piece

@[expose] public section

set_option maxRecDepth 16384
set_option Elab.async false

noncomputable section
namespace Cert.Attn

open Idealize.ShloMosaic hiding ix1 ix2 ix3
open Idealize.ShloMosaic.ValueIdx
open scoped BigOperators
open Cert.AttentionIdeal Cert.AttentionIdeal.Gen Cert.AttentionIdeal.Facts

/-- A load of one head's banded bias from some column on, out of a scratch that holds it. -/
theorem band_read {W : ℕ} (m : Memref sig .tc .vmem S2x256x768 .f32) (hm : m.IsWhole) (β : Fin 2 → Fin 257 → EReal) (xs : Vec Ideal S2x256x768 .f32)
    (hxs : ∀ (h : Fin 2) (r : Fin 256) (c : Fin 768), xs (ix3 h r c) = banded β h r.val c.val) (h : Fin 2) (c : ℕ)
    (inb : ∀ k, (![h.val, 0, c] : Fin 3 → ℕ) k + (![1, 256, W] : Fin 3 → ℕ) k ≤ S2x256x768.size k) :
    BandCut (W := W) β h c (View.readAt (Elt Ideal) m.view (Rect.unit (s := S2x256x768) ![h.val, 0, c] ![1, 256, W] inb).toLoadRect (hm.unread xs)) := by
  intro r t
  have hct : c + t.val < 768 := by have h2 : c + W ≤ 768 := inb 2; omega
  rw [Memref.IsWhole.readAt_unread]
  refine Eq.trans (congrArg xs (funext fun k => Fin.ext ?_)) (hxs h r ⟨c + t.val, hct⟩)
  refine (ValueKit.rect_emb_unit_val (s := S2x256x768) ![h.val, 0, c] ![1, 256, W] inb (ix3 0 r t) k).trans ?_
  match k with
  | ⟨0, _⟩ => rfl
  | ⟨1, _⟩ => exact Nat.zero_add _
  | ⟨2, _⟩ => rfl

section

variable (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S2x8x384 .f32) (harg5 : arg5.IsWhole) (arg6 : Memref sig .tc .vmem S256x7168 .f32) (harg6 : arg6.IsWhole)
  (arg7 : Memref sig .tc .vmem S1x2048x256 .bf16) (harg7 : arg7.IsWhole) (arg8 : Memref sig .tc .vmem S256x7168 .bf16) (harg8 : arg8.IsWhole) (arg9 : Memref sig .tc .vmem S2x256x768 .f32) (harg9 : arg9.IsWhole) (hc0 : ¬cond0_0 i)
  (x0 x1 x2 : Vec Ideal S1x2048x256 .bf16) (x3 : Vec Ideal S2x8x384 .f32) (x4 : Vec Ideal S256x7168 .f32) (xs0 : Vec Ideal S2x256x768 .f32)

/-- The sixteen blocks stored at a point that finds the banded bias. -/
theorem pieces_later (β : Fin 2 → Fin 257 → EReal) (hxs : ∀ (h : Fin 2) (r : Fin 256) (c : Fin 768), xs0 (ix3 h r c) = banded β h r.val c.val) :
    View.PiecesOf (Val := Elt Ideal) (pairOut β scale x0 x1 x2) (kernelRun0_B (F := Ideal) c i arg2 harg2 arg3 harg3 arg4 harg4 arg5 harg5 arg6 harg6 arg7 harg7 arg8 harg8 arg9 harg9 hc0 x0 x1 x2 x3 x4 xs0).1 := by
  simp only [kernelRun0_B]
  refine ⟨?_, ?_, ?_, ?_, ?_, ?_, ?_, ?_, ?_, ?_, ?_, ?_, ?_, ?_, ?_, ?_, trivial⟩
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 7 1 1792 128 1280 (by decide) rfl rfl rfl (by decide) (Or.inr rfl) inb_S1x2048x256_S1x256x128_0_1792_128 inb_S1x2048x256_S1x768x128_0_1280_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 7 0 1792 0 1280 (by decide) rfl rfl rfl (by decide) (Or.inr rfl) inb_S1x2048x256_S1x256x128_0_1792_0 inb_S1x2048x256_S1x768x128_0_1280_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 6 1 1536 128 1024 (by decide) rfl rfl rfl (by decide) (Or.inr rfl) inb_S1x2048x256_S1x256x128_0_1536_128 inb_S1x2048x256_S1x768x128_0_1024_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 6 0 1536 0 1024 (by decide) rfl rfl rfl (by decide) (Or.inr rfl) inb_S1x2048x256_S1x256x128_0_1536_0 inb_S1x2048x256_S1x768x128_0_1024_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 5 1 1280 128 768 (by decide) rfl rfl rfl (by decide) (Or.inr rfl) inb_S1x2048x256_S1x256x128_0_1280_128 inb_S1x2048x256_S1x768x128_0_768_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 5 0 1280 0 768 (by decide) rfl rfl rfl (by decide) (Or.inr rfl) inb_S1x2048x256_S1x256x128_0_1280_0 inb_S1x2048x256_S1x768x128_0_768_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 4 1 1024 128 512 (by decide) rfl rfl rfl (by decide) (Or.inr rfl) inb_S1x2048x256_S1x256x128_0_1024_128 inb_S1x2048x256_S1x768x128_0_512_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 4 0 1024 0 512 (by decide) rfl rfl rfl (by decide) (Or.inr rfl) inb_S1x2048x256_S1x256x128_0_1024_0 inb_S1x2048x256_S1x768x128_0_512_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 3 1 768 128 256 (by decide) rfl rfl rfl (by decide) (Or.inr rfl) inb_S1x2048x256_S1x256x128_0_768_128 inb_S1x2048x256_S1x768x128_0_256_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 3 0 768 0 256 (by decide) rfl rfl rfl (by decide) (Or.inr rfl) inb_S1x2048x256_S1x256x128_0_768_0 inb_S1x2048x256_S1x768x128_0_256_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 2 1 512 128 0 (by decide) rfl rfl rfl (by decide) (Or.inl rfl) inb_S1x2048x256_S1x256x128_0_512_128 inb_S1x2048x256_S1x768x128_0_0_128
    (View.readAt (Elt Ideal) arg9.view (Rect.unit (s := S2x256x768) ![1, 0, 0] ![1, 256, 768] inb_S2x256x768_S1x256x768_1_0_0).toLoadRect (harg9.unread xs0)) (band_read arg9 harg9 β xs0 hxs 1 0 inb_S2x256x768_S1x256x768_1_0_0) x)
  · exact (fun x => piece shapeCasts_S1x256x128_S256x128 shapeCasts_S1x768x128_S768x128 shapeCasts_S1x256x768_S256x768 shapeCasts_S256x128_S1x256x128 reduces_S256x768_S256 shapeCasts_S256_S256x1 broadcasts_S256x1_S256x768 broadcasts_S256x1_S256x128 bitsLt_bf16_f32 arg2 harg2 arg3 harg3 arg4 harg4 β x0 x1 x2 2 0 512 0 0 (by decide) rfl rfl rfl (by decide) (Or.inl rfl) inb_S1x2048x256_S1x256x128_0_512_0 inb_S1x2048x256_S1x768x128_0_0_0
    (View.readAt (Elt Ideal) arg9.view (Rect.unit (s := S2x256x768) ![0, 0, 0] ![1, 256, 768] inb_S2x256x768_S1x256x768_0_0_0).toLoadRect (harg9.unread xs0)) (band_read arg9 harg9 β xs0 hxs 0 0 inb_S2x256x768_S1x256x768_0_0_0) x)
  · exact (fun x => piece shapeCasts_S1x256x128_S256x128 shapeCasts_S1x512x128_S512x128 shapeCasts_S1x256x512_S256x512 shapeCasts_S256x128_S1x256x128 reduces_S256x512_S256 shapeCasts_S256_S256x1 broadcasts_S256x1_S256x512 broadcasts_S256x1_S256x128 bitsLt_bf16_f32 arg2 harg2 arg3 harg3 arg4 harg4 β x0 x1 x2 1 1 256 128 0 (by decide) rfl rfl rfl (by decide) (Or.inl rfl) inb_S1x2048x256_S1x256x128_0_256_128 inb_S1x2048x256_S1x512x128_0_0_128
    (View.readAt (Elt Ideal) arg9.view (Rect.unit (s := S2x256x768) ![1, 0, 256] ![1, 256, 512] inb_S2x256x768_S1x256x512_1_0_256).toLoadRect (harg9.unread xs0)) (band_read arg9 harg9 β xs0 hxs 1 256 inb_S2x256x768_S1x256x512_1_0_256) x)
  · exact (fun x => piece shapeCasts_S1x256x128_S256x128 shapeCasts_S1x512x128_S512x128 shapeCasts_S1x256x512_S256x512 shapeCasts_S256x128_S1x256x128 reduces_S256x512_S256 shapeCasts_S256_S256x1 broadcasts_S256x1_S256x512 broadcasts_S256x1_S256x128 bitsLt_bf16_f32 arg2 harg2 arg3 harg3 arg4 harg4 β x0 x1 x2 1 0 256 0 0 (by decide) rfl rfl rfl (by decide) (Or.inl rfl) inb_S1x2048x256_S1x256x128_0_256_0 inb_S1x2048x256_S1x512x128_0_0_0
    (View.readAt (Elt Ideal) arg9.view (Rect.unit (s := S2x256x768) ![0, 0, 256] ![1, 256, 512] inb_S2x256x768_S1x256x512_0_0_256).toLoadRect (harg9.unread xs0)) (band_read arg9 harg9 β xs0 hxs 0 256 inb_S2x256x768_S1x256x512_0_0_256) x)
  · exact (fun x => piece shapeCasts_S1x256x128_S256x128 shapeCasts_S1x256x128_S256x128 shapeCasts_S1x256x256_S256x256 shapeCasts_S256x128_S1x256x128 reduces_S256x256_S256 shapeCasts_S256_S256x1 broadcasts_S256x1_S256x256 broadcasts_S256x1_S256x128 bitsLt_bf16_f32 arg2 harg2 arg3 harg3 arg4 harg4 β x0 x1 x2 0 1 0 128 0 (by decide) rfl rfl rfl (by decide) (Or.inl rfl) inb_S1x2048x256_S1x256x128_0_0_128 inb_S1x2048x256_S1x256x128_0_0_128
    (View.readAt (Elt Ideal) arg9.view (Rect.unit (s := S2x256x768) ![1, 0, 512] ![1, 256, 256] inb_S2x256x768_S1x256x256_1_0_512).toLoadRect (harg9.unread xs0)) (band_read arg9 harg9 β xs0 hxs 1 512 inb_S2x256x768_S1x256x256_1_0_512) x)
  · exact (fun x => piece shapeCasts_S1x256x128_S256x128 shapeCasts_S1x256x128_S256x128 shapeCasts_S1x256x256_S256x256 shapeCasts_S256x128_S1x256x128 reduces_S256x256_S256 shapeCasts_S256_S256x1 broadcasts_S256x1_S256x256 broadcasts_S256x1_S256x128 bitsLt_bf16_f32 arg2 harg2 arg3 harg3 arg4 harg4 β x0 x1 x2 0 0 0 0 0 (by decide) rfl rfl rfl (by decide) (Or.inl rfl) inb_S1x2048x256_S1x256x128_0_0_0 inb_S1x2048x256_S1x256x128_0_0_0
    (View.readAt (Elt Ideal) arg9.view (Rect.unit (s := S2x256x768) ![0, 0, 512] ![1, 256, 256] inb_S2x256x768_S1x256x256_0_0_512).toLoadRect (harg9.unread xs0)) (band_read arg9 harg9 β xs0 hxs 0 512 inb_S2x256x768_S1x256x256_0_0_512) x)

/-- The output of such a point. -/
theorem out_later (β : Fin 2 → Fin 257 → EReal) (hxs : ∀ (h : Fin 2) (r : Fin 256) (c : Fin 768), xs0 (ix3 h r c) = banded β h r.val c.val) (y : S1x2048x256.Idx) :
    out0_B_5 (F := Ideal) c i arg2 harg2 arg3 harg3 arg4 harg4 arg5 harg5 arg6 harg6 arg7 harg7 arg8 harg8 arg9 harg9 hc0 x0 x1 x2 x3 x4 xs0 y = pairOut β scale x0 x1 x2 y :=
  View.read_writes_apply_of_pieces (Val := Elt Ideal) VO0_5 VO0_5.junk (pairOut β scale x0 x1 x2) _
    (View.PiecesOf.mem (pieces_later c i arg2 harg2 arg3 harg3 arg4 harg4 arg5 harg5 arg6 harg6 arg7 harg7 arg8 harg8 arg9 harg9 hc0 x0 x1 x2 x3 x4 xs0 β hxs)) y (cover0_B_5 c i arg2 harg2 arg3 harg3 arg4 harg4 arg5 harg5 arg6 harg6 arg7 harg7 arg8 harg8 arg9 harg9 hc0 x0 x1 x2 x3 x4 xs0 y)

/-- The cast block such a point stores. -/
theorem side_later (y : S256x7168.Idx) :
    out0_B_6 (F := Ideal) c i arg2 harg2 arg3 harg3 arg4 harg4 arg5 harg5 arg6 harg6 arg7 harg7 arg8 harg8 arg9 harg9 hc0 x0 x1 x2 x3 x4 xs0 y = x4 y := by
  refine View.read_writes_apply_of_pieces (Val := Elt Ideal) VO0_6 VO0_6.junk x4 _ (View.PiecesOf.mem ?_) y (cover0_B_6 c i arg2 harg2 arg3 harg3 arg4 harg4 arg5 harg5 arg6 harg6 arg7 harg7 arg8 harg8 arg9 harg9 hc0 x0 x1 x2 x3 x4 xs0 y)
  simp only [kernelRun0_B]
  refine ⟨fun x => ?_, trivial⟩
  show shapeCast S256x7168 (View.readAt (Elt Ideal) arg6.view (Rect.unit (s := S256x7168) ![0, 0] ![256, 7168] inb_S256x7168_S256x7168_0_0).toLoadRect (harg6.unread x4)) shapeCasts_S256x7168_S256x7168 x = _
  refine (shapeCast_apply (View.readAt (Elt Ideal) arg6.view (Rect.unit (s := S256x7168) ![0, 0] ![256, 7168] inb_S256x7168_S256x7168_0_0).toLoadRect (harg6.unread x4)) shapeCasts_S256x7168_S256x7168 x x rfl).trans ?_
  exact Memref.IsWhole.readAt_unread harg6 x4 _ x

end

end Cert.Attn

end
-- ==== Proof.Attn.Inputs.lean ====
/- The blocks the attention call's points read, as reads of the program's arguments. -/
module

public import proofs.«01_k».proof.Proof.Attn.First
public import proofs.«01_k».proof.Proof.Attn.Later
public import proofs.«01_k».proof.Proof.Gen.AttentionIdeal.Value
public import Idealize.ShloMosaic.Lib.Routing.OpsPair
public import Idealize.ShloMosaic.Lib.Routing.OpsSet

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators
open Cert.AttentionIdeal Cert.AttentionIdeal.Gen Cert.AttentionIdeal.Facts Cert.AttentionIdeal.Value

/-- A scatter at start index zero writes its updates into row zero, from column zero on. -/
theorem scatter_row (x0 : FVec Ideal S16x8x384 .f32) (idx : IVec S2 32) (hidx : ∀ k, idx k = 0#32) (u : FVec Ideal S16x257 .f32) (h : Fin 16) (j : Fin 257) :
    Host.scatter scatter_S16x8x384_S2_S16x257_01_1_12_0 (fun _ b => b) x0 idx u (ix3 h 0 ⟨j.val, by omega⟩) = u (ix2 h j) := by
  have hs : ∀ (k : S16x257.Idx) a, scatter_S16x8x384_S2_S16x257_01_1_12_0.start k idx a = 0 := by
    intro k a
    unfold ScatterDims.start
    split
    · rw [hidx]; rfl
    · rfl
  have w0 : ∀ k : S16x257.Idx, scatter_S16x8x384_S2_S16x257_01_1_12_0.window k 0 = (k 0).val := fun k => rfl
  have w1 : ∀ k : S16x257.Idx, scatter_S16x8x384_S2_S16x257_01_1_12_0.window k 1 = 0 := fun k => rfl
  have w2 : ∀ k : S16x257.Idx, scatter_S16x8x384_S2_S16x257_01_1_12_0.window k 2 = (k 1).val := fun k => rfl
  refine Routing.scatter_set_hit _ x0 idx u _ _ (fun k hk => ?_) (ix2 h j) ?_
  · rw [Routing.resultIdx?_eq_some] at hk
    have e0 := hk 0
    have e2 := hk 2
    rw [hs, w0] at e0
    rw [hs, w2] at e2
    refine congrArg u (funext fun a => Fin.ext ?_)
    match a with
    | ⟨0, _⟩ => exact Int.ofNat.inj ((zero_add _).symm.trans e0)
    | ⟨1, _⟩ => exact Int.ofNat.inj ((zero_add _).symm.trans e2)
  · rw [Routing.resultIdx?_eq_some]
    intro a
    rw [hs]
    match a with
    | ⟨0, _⟩ => exact zero_add _
    | ⟨1, _⟩ => exact zero_add _
    | ⟨2, _⟩ => exact zero_add _

/-- It leaves the columns past the updates alone. -/
theorem scatter_rest (x0 : FVec Ideal S16x8x384 .f32) (idx : IVec S2 32) (hidx : ∀ k, idx k = 0#32) (u : FVec Ideal S16x257 .f32) (h : Fin 16) (j : Fin 384) (hj : 257 ≤ j.val) :
    Host.scatter scatter_S16x8x384_S2_S16x257_01_1_12_0 (fun _ b => b) x0 idx u (ix3 h 0 j) = x0 (ix3 h 0 j) := by
  have hs : ∀ (k : S16x257.Idx) a, scatter_S16x8x384_S2_S16x257_01_1_12_0.start k idx a = 0 := by
    intro k a
    unfold ScatterDims.start
    split
    · rw [hidx]; rfl
    · rfl
  have w2 : ∀ k : S16x257.Idx, scatter_S16x8x384_S2_S16x257_01_1_12_0.window k 2 = (k 1).val := fun k => rfl
  refine Routing.scatter_set_miss _ x0 idx u _ fun k hk => ?_
  rw [Routing.resultIdx?_eq_some] at hk
  have e2 := hk 2
  rw [hs, w2] at e2
  have h1 : (k 1).val = j.val := Int.ofNat.inj ((zero_add _).symm.trans e2)
  have h2 : (k 1).val < 257 := (k 1).isLt
  omega

variable (m : (ℓ : Loc nD τ sig) → Buf (Elt Ideal) ℓ) (c : Dev nD)

/-- The three arguments. -/
def qkv : S8x2048x6144.Idx → EReal := m ((c : Thread nD τ).loc main_arg0)
def relBias : S1x16x257.Idx → EReal := m ((c : Thread nD τ).loc main_arg1)
def expertIn : S1x8x2048x14336.Idx → EReal := m ((c : Thread nD τ).loc main_arg2)

/-- Where the windows' blocks lie. -/
theorem where_q : ∀ t : Fin cfg0.N, win0_0.index t (0 : Fin 3) = t.val % 8 ∧ win0_0.index t (1 : Fin 3) = 0 ∧ win0_0.index t (2 : Fin 3) = t.val / 8 := by decide +kernel
theorem where_k : ∀ t : Fin cfg0.N, win0_1.index t (0 : Fin 3) = t.val % 8 ∧ win0_1.index t (1 : Fin 3) = 0 ∧ win0_1.index t (2 : Fin 3) = 8 + t.val / 8 := by decide +kernel
theorem where_v : ∀ t : Fin cfg0.N, win0_2.index t (0 : Fin 3) = t.val % 8 ∧ win0_2.index t (1 : Fin 3) = 0 ∧ win0_2.index t (2 : Fin 3) = 16 + t.val / 8 := by decide +kernel
theorem where_bias : ∀ t : Fin cfg0.N, win0_3.index t (0 : Fin 3) = t.val / 8 ∧ win0_3.index t (1 : Fin 3) = 0 ∧ win0_3.index t (2 : Fin 3) = 0 := by decide +kernel
theorem where_side : ∀ t : Fin cfg0.N, win0_4.index t (0 : Fin 2) = t.val ∧ win0_4.index t (1 : Fin 2) = 1 := by decide +kernel

theorem point_lt (t : Fin cfg0.N) : t.val < 64 := lt_of_lt_of_eq t.isLt (show cfg0.N = 64 from N_0)

/-- A block of queries. -/
theorem q_apply (t : Fin cfg0.N) (s : Fin 2048) (e : Fin 256) :
    iblk m c 0 t (ix3 0 s e) = qkv m c (ix3 ⟨t.val % 8, by omega⟩ s ⟨t.val / 8 * 256 + e.val, by have := point_lt t; omega⟩) := by
  unfold iblk
  refine (View.read_apply _ _).trans ?_
  show m ((c : Thread nD τ).loc main_arg0) _ = _
  refine congrArg (m ((c : Thread nD τ).loc main_arg0)) (funext fun ax => Fin.ext ?_)
  refine ((cfg0.win (0 : Fin 7)).rect_emb_val _ (ix3 0 s e) ax).trans ?_
  obtain ⟨e0, e1, e2⟩ := where_q t
  match ax with
  | ⟨0, _⟩ => exact (Nat.mul_one _).trans e0
  | ⟨1, _⟩ => exact (congrArg (· * 2048 + s.val) e1).trans (by simp only [Nat.zero_mul, Nat.zero_add])
  | ⟨2, _⟩ => exact congrArg (· * 256 + e.val) e2

/-- A block of keys. -/
theorem k_apply (t : Fin cfg0.N) (s : Fin 2048) (e : Fin 256) :
    iblk m c 1 t (ix3 0 s e) = qkv m c (ix3 ⟨t.val % 8, by omega⟩ s ⟨(8 + t.val / 8) * 256 + e.val, by have := point_lt t; omega⟩) := by
  unfold iblk
  refine (View.read_apply _ _).trans ?_
  show m ((c : Thread nD τ).loc main_arg0) _ = _
  refine congrArg (m ((c : Thread nD τ).loc main_arg0)) (funext fun ax => Fin.ext ?_)
  refine ((cfg0.win (1 : Fin 7)).rect_emb_val _ (ix3 0 s e) ax).trans ?_
  obtain ⟨e0, e1, e2⟩ := where_k t
  match ax with
  | ⟨0, _⟩ => exact (Nat.mul_one _).trans e0
  | ⟨1, _⟩ => exact (congrArg (· * 2048 + s.val) e1).trans (by simp only [Nat.zero_mul, Nat.zero_add])
  | ⟨2, _⟩ => exact congrArg (· * 256 + e.val) e2

/-- A block of values. -/
theorem v_apply (t : Fin cfg0.N) (s : Fin 2048) (e : Fin 256) :
    iblk m c 2 t (ix3 0 s e) = qkv m c (ix3 ⟨t.val % 8, by omega⟩ s ⟨(16 + t.val / 8) * 256 + e.val, by have := point_lt t; omega⟩) := by
  unfold iblk
  refine (View.read_apply _ _).trans ?_
  show m ((c : Thread nD τ).loc main_arg0) _ = _
  refine congrArg (m ((c : Thread nD τ).loc main_arg0)) (funext fun ax => Fin.ext ?_)
  refine ((cfg0.win (2 : Fin 7)).rect_emb_val _ (ix3 0 s e) ax).trans ?_
  obtain ⟨e0, e1, e2⟩ := where_v t
  match ax with
  | ⟨0, _⟩ => exact (Nat.mul_one _).trans e0
  | ⟨1, _⟩ => exact (congrArg (· * 2048 + s.val) e1).trans (by simp only [Nat.zero_mul, Nat.zero_add])
  | ⟨2, _⟩ => exact congrArg (· * 256 + e.val) e2

/-- The start index of the padding scatter. -/
def startAt : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

theorem startAt_zero : ∀ k, startAt k = 0#32 := by
  intro k
  obtain ⟨i, rfl⟩ : ∃ i : Fin 2, k = ix1 i := ⟨k 0, ValueIdx.eq_ix1 k⟩
  fin_cases i <;> rfl

/-- The padded biases. -/
theorem padded_eq : V m c main_v7 = Host.scatter scatter_S16x8x384_S2_S16x257_01_1_12_0 (fun _ b => b)
    (broadcastInDim S16x8x384 ![] bcast_S_S16x8x384 (constant (F := Ideal) S_ .f32 0x00000000#32)) startAt (shapeCast S16x257 (relBias m c) shapeCasts_S1x16x257_S16x257) := by
  show StableHlo.after hostOps0 (fun b => m (c, b)) main_v7 = _
  after_results
  rfl

/-- The expert weights' halves, the groups' rows one after another. -/
theorem stacked_eq : V m c main_v1 = shapeCast S16384x14336 (shapeCast S8x2048x14336 (expertIn m c) shapeCasts_S1x8x2048x14336_S8x2048x14336) shapeCasts_S8x2048x14336_S16384x14336 := by
  show StableHlo.after hostOps0 (fun b => m (c, b)) main_v1 = _
  after_results
  rfl

/-- A window of the padded biases: a pair of heads. -/
theorem padded_apply (t : Fin cfg0.N) (h : Fin 2) (j : Fin 384) :
    iblk m c 3 t (ix3 h 0 j) = V m c main_v7 (ix3 (⟨t.val / 8 * 2 + h.val, by have := point_lt t; omega⟩ : Fin 16) (0 : Fin 8) j) := by
  unfold iblk
  refine (View.read_apply _ _).trans ?_
  show V m c main_v7 _ = _
  refine congrArg (V m c main_v7) (funext fun ax => Fin.ext ?_)
  refine ((cfg0.win (3 : Fin 7)).rect_emb_val _ (ix3 h 0 j) ax).trans ?_
  obtain ⟨e0, e1, e2⟩ := where_bias t
  match ax with
  | ⟨0, _⟩ => exact congrArg (· * 2 + h.val) e0
  | ⟨1, _⟩ => exact (congrArg (· * 8 + 0) e1).trans (by simp only [Nat.zero_mul, Nat.zero_add]; rfl)
  | ⟨2, _⟩ => exact (congrArg (· * 384 + j.val) e2).trans (by simp only [Nat.zero_mul, Nat.zero_add])

/-- A pair of heads' biases. -/
theorem rowBias_apply (t : Fin cfg0.N) (h : Fin 2) (j : Fin 257) :
    rowBias (iblk m c 3 t) h j = relBias m c (ix3 0 ⟨t.val / 8 * 2 + h.val, by have := point_lt t; omega⟩ j) := by
  unfold rowBias
  refine (padded_apply m c t h ⟨j.val, by omega⟩).trans ?_
  rw [padded_eq]
  refine (scatter_row _ startAt startAt_zero _ _ j).trans ?_
  refine shapeCast_apply (relBias m c) shapeCasts_S1x16x257_S16x257 _ (ix3 0 ⟨t.val / 8 * 2 + h.val, by have := point_lt t; omega⟩ j) ?_
  rw [Shape.rowMajor_val_two, Shape.rowMajor_val_three]
  show (0 * 16 + (t.val / 8 * 2 + h.val)) * 257 + j.val = (t.val / 8 * 2 + h.val) * 257 + j.val
  simp only [Nat.zero_mul, Nat.zero_add]

/-- Finite biases stay finite when padded. -/
theorem padded_real (hb : ∀ x, ∃ r : ℝ, relBias m c x = (r : EReal)) (t : Fin cfg0.N) (h : Fin 2) (j : Fin 384) : ∃ r : ℝ, iblk m c 3 t (ix3 h 0 j) = (r : EReal) := by
  by_cases hj : j.val < 257
  · obtain ⟨r, hr⟩ := hb (ix3 0 ⟨t.val / 8 * 2 + h.val, by have := point_lt t; omega⟩ ⟨j.val, hj⟩)
    exact ⟨r, (rowBias_apply m c t h ⟨j.val, hj⟩).trans hr⟩
  · refine ⟨0, (padded_apply m c t h j).trans ?_⟩
    rw [padded_eq]
    refine (scatter_rest _ startAt startAt_zero _ _ j (by omega)).trans ?_
    exact zero_word

/-- A block of the expert weights' upper halves. -/
theorem half_apply (t : Fin cfg0.N) (r : Fin 256) (j : Fin 7168) :
    iblk m c 4 t (ix2 r j) = expertIn m c (ix4 0 ⟨(t.val * 256 + r.val) / 2048, by have := point_lt t; omega⟩ ⟨(t.val * 256 + r.val) % 2048, by omega⟩ ⟨7168 + j.val, by omega⟩) := by
  have ht := point_lt t
  have e : iblk m c 4 t (ix2 r j) = V m c main_v1 (ix2 (⟨t.val * 256 + r.val, by omega⟩ : Fin 16384) (⟨7168 + j.val, by omega⟩ : Fin 14336)) := by
    unfold iblk
    refine (View.read_apply _ _).trans ?_
    show V m c main_v1 _ = _
    refine congrArg (V m c main_v1) (funext fun ax => Fin.ext ?_)
    refine ((cfg0.win (4 : Fin 7)).rect_emb_val _ (ix2 r j) ax).trans ?_
    obtain ⟨e0, e1⟩ := where_side t
    match ax with
    | ⟨0, _⟩ => exact congrArg (· * 256 + r.val) e0
    | ⟨1, _⟩ => exact (congrArg (· * 7168 + j.val) e1).trans (by simp only [Nat.one_mul])
  rw [e, stacked_eq]
  refine (shapeCast_apply _ shapeCasts_S8x2048x14336_S16384x14336 _ (ix3 (⟨(t.val * 256 + r.val) / 2048, by omega⟩ : Fin 8) (⟨(t.val * 256 + r.val) % 2048, by omega⟩ : Fin 2048) (⟨7168 + j.val, by omega⟩ : Fin 14336)) ?_).trans ?_
  · rw [Shape.rowMajor_val_two, Shape.rowMajor_val_three]
    show ((t.val * 256 + r.val) / 2048 * 2048 + (t.val * 256 + r.val) % 2048) * 14336 + (7168 + j.val) = (t.val * 256 + r.val) * 14336 + (7168 + j.val)
    rw [Nat.div_add_mod']
  · refine shapeCast_apply (expertIn m c) shapeCasts_S1x8x2048x14336_S8x2048x14336 _ (ix4 0 (⟨(t.val * 256 + r.val) / 2048, by omega⟩ : Fin 8) (⟨(t.val * 256 + r.val) % 2048, by omega⟩ : Fin 2048) (⟨7168 + j.val, by omega⟩ : Fin 14336)) ?_
    rw [Shape.rowMajor_val_four, Shape.rowMajor_val_three]
    show ((0 * 8 + (t.val * 256 + r.val) / 2048) * 2048 + (t.val * 256 + r.val) % 2048) * 14336 + (7168 + j.val) = ((t.val * 256 + r.val) / 2048 * 2048 + (t.val * 256 + r.val) % 2048) * 14336 + (7168 + j.val)
    simp only [Nat.zero_mul, Nat.zero_add]

end Cert.Attn

end
-- ==== Proof.Attn.Spec.lean ====
/- What the attention computes: every query's average of the values it sees. -/
module

public import proofs.«01_k».proof.Proof.Attn.Window
public import proofs.«01_k».proof.Proof.Attn.Head

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators

/-- The logit of key `t` at query `s`, of head `h` and sequence `b`. -/
def headLogit (σ : EReal) (Q : (⟨3, ![8, 2048, 6144]⟩ : Shape).Idx → EReal) (B : (⟨3, ![1, 16, 257]⟩ : Shape).Idx → EReal) (b : Fin 8) (h : Fin 16) (s t : Fin 2048) : EReal :=
  if Sees s.val t.val then
    (∑ e : Fin 128, Q (ix3 b s ⟨128 * h.val + e.val, by omega⟩) * Q (ix3 b t ⟨2048 + (128 * h.val + e.val), by omega⟩)) * σ + B (ix3 0 h (rel s.val t.val))
  else ⊥

/-- The value of the attention at sequence `b`, query `s`, column `n`. -/
def attnAt (σ : EReal) (Q : (⟨3, ![8, 2048, 6144]⟩ : Shape).Idx → EReal) (B : (⟨3, ![1, 16, 257]⟩ : Shape).Idx → EReal) (b : Fin 8) (s n : Fin 2048) : EReal :=
  attend (headLogit σ Q B b ⟨n.val / 128, by omega⟩ s) (fun t => Q (ix3 b t ⟨4096 + n.val, by omega⟩))

end Cert.Attn

end
-- ==== Proof.Attn.Value.lean ====
/- The attention call's run, its two results read. -/
module

public import proofs.«01_k».proof.Proof.Attn.Inputs
public import proofs.«01_k».proof.Proof.Attn.Spec

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators
open Cert.AttentionIdeal Cert.AttentionIdeal.Gen Cert.AttentionIdeal.Facts Cert.AttentionIdeal.Value

variable (m : (ℓ : Loc nD τ sig) → Buf (Elt Ideal) ℓ) (c : Dev nD)

/-- A pair of heads' biases. -/
def pairBias (g : Fin 8) : Fin 2 → Fin 257 → EReal := fun h j => relBias m c (ix3 0 ⟨g.val * 2 + h.val, by omega⟩ j)

/-- A point's pair of heads. -/
def pairOf (t : Fin cfg0.N) : Fin 8 := ⟨t.val / 8, by have := point_lt t; omega⟩

theorem rowBias_pair (t : Fin cfg0.N) : rowBias (iblk m c 3 t) = pairBias m c (pairOf t) :=
  funext fun h => funext fun j => rowBias_apply m c t h j

variable (hb : ∀ x, ∃ r : ℝ, relBias m c x = (r : EReal))

theorem outs_congr (n n' : ℕ) (h : n < cfg0.N) (h' : n' < cfg0.N) (e : n = n') : outsAt0 m c n h = outsAt0 m c n' h' := by
  subst e; rfl

/-- What a point leaves in its first output and in the scratch. -/
def Holds (t : Fin cfg0.N) : Prop :=
  (∀ y, (outsAt0 m c t.val t.isLt).1 y = pairOut (pairBias m c (pairOf t)) scale (iblk m c 0 t) (iblk m c 1 t) (iblk m c 2 t) y)
    ∧ ∀ y, (outsAt0 m c t.val t.isLt).2.2 y = banded (pairBias m c (pairOf t)) (y 0) (y 1).val (y 2).val

include hb in
theorem holds_first (t : Fin cfg0.N) (h0 : t.val % 8 = 0) : Holds m c t := by
  refine ⟨fun y => ?_, fun y => ?_⟩
  · have e1 := out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (padded_real m c hb t) y
    rw [rowBias_pair] at e1
    have e := congrArg (fun p => p.1) (outsAt0_A m c t h0)
    have g := congrFun e y
    clear e
    dsimp only at g
    rw [e1] at g
    exact g
  · have e := congrArg (fun p => p.2.2) (outsAt0_A m c t h0)
    have g := congrFun e y
    clear e
    dsimp only at g
    have e2 := scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (padded_real m c hb t) y
    rw [e2] at g
    unfold bandAll at g
    rw [rowBias_pair] at g
    exact g

theorem holds_later (t t' : Fin cfg0.N) (h0 : ¬t.val % 8 = 0) (ht : t'.val = t.val - 1) (ih : Holds m c t') : Holds m c t := by
  have hp : pairOf t' = pairOf t := Fin.ext (by show t'.val / 8 = t.val / 8; omega)
  have hx : (outsAt0 m c (t.val - 1) (Nat.lt_of_le_of_lt (Nat.sub_le _ _) t.isLt)).2.2 = (outsAt0 m c t'.val t'.isLt).2.2 := by
    rw [outs_congr m c _ _ _ t'.isLt ht.symm]
  have hs : ∀ y, (outsAt0 m c (t.val - 1) (Nat.lt_of_le_of_lt (Nat.sub_le _ _) t.isLt)).2.2 y = banded (pairBias m c (pairOf t)) (y 0) (y 1).val (y 2).val := fun y =>
    (congrFun hx y).trans ((ih.2 y).trans (by rw [hp]))
  refine ⟨fun y => ?_, fun y => ?_⟩
  · rw [outsAt0_B m c t h0]
    dsimp only
    exact out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) _ (pairBias m c (pairOf t)) (fun h r k => hs (ix3 h r k)) y
  · have e := congrArg (fun p => p.2.2) (outsAt0_B m c t h0)
    exact (congrFun e y).trans (hs y)

include hb in
theorem holds (n : ℕ) : ∀ h : n < cfg0.N, Holds m c ⟨n, h⟩ := by
  induction n with
  | zero => exact fun h => holds_first m c hb ⟨0, h⟩ rfl
  | succ n ih =>
    intro h
    by_cases h0 : (n + 1) % 8 = 0
    · exact holds_first m c hb ⟨n + 1, h⟩ h0
    · exact holds_later m c ⟨n + 1, h⟩ ⟨n, by omega⟩ h0 rfl (ih _)

/-- What a point leaves in its second output. -/
theorem side (t : Fin cfg0.N) (y : S256x7168.Idx) : (outsAt0 m c t.val t.isLt).2.1 y = iblk m c 4 t y := by
  by_cases h0 : t.val % 8 = 0
  · rw [outsAt0_A m c t h0]
    dsimp only
    exact side_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) y
  · rw [outsAt0_B m c t h0]
    dsimp only
    exact side_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) _ y

include hb in
/-- The first result. -/
theorem first_result (b : Fin 8) (s n : Fin 2048) : G5 m c (ix3 b s n) = attnAt scale (qkv m c) (relBias m c) b s n := by
  have hN : cfg0.N = 64 := N_0
  have hp : pt5Of (ix3 b s n) = b.val + 8 * (n.val / 256) := by
    show 1 * (b.val / 1 - 0) + 8 * (s.val / 2048 - 0) + 8 * (n.val / 256 - 0) = _
    omega
  have ht : pt5Of (ix3 b s n) < cfg0.N := by rw [hp, hN]; omega
  obtain ⟨t, e⟩ : ∃ t : Fin cfg0.N, t.val = pt5Of (ix3 b s n) := ⟨⟨_, ht⟩, rfl⟩
  have t8 : t.val % 8 = b.val := by rw [e, hp]; omega
  have td : t.val / 8 = n.val / 256 := by rw [e, hp]; omega
  have hl : loc5Of (ix3 b s n) = ix3 (0 : Fin 1) s (⟨n.val % 256, by omega⟩ : Fin 256) := by
    funext a; apply Fin.ext
    match a with
    | ⟨0, _⟩ => exact Nat.mod_one _
    | ⟨1, _⟩ => exact Nat.mod_eq_of_lt s.isLt
    | ⟨2, _⟩ => rfl
  have hg : G5 m c (ix3 b s n) = (outsAt0 m c t.val t.isLt).1 (ix3 (0 : Fin 1) s (⟨n.val % 256, by omega⟩ : Fin 256)) := by
    unfold G5
    rw [dif_pos ht, hl, ← outsAt0_sweep m c _ ht]
    rw [outs_congr m c _ _ _ t.isLt e.symm]
  rw [hg, ((holds m c hb t.val t.isLt).1 _)]
  have hQ : ∀ (b' : Fin 8) (s' : Fin 2048) (k k' : Fin 6144), b'.val = b.val → k.val = k'.val → qkv m c (ix3 b' s' k) = qkv m c (ix3 b s' k') := by
    intro b' s' k k' h1 h2
    rw [Fin.ext h1, Fin.ext h2]
  unfold pairOut attnAt
  refine congrArg₂ attend (funext fun k => ?_) (funext fun k => ?_)
  · unfold wideLogit headLogit
    refine if_congr Iff.rfl ?_ rfl
    refine congrArg₂ (· + ·) (congrArg (· * scale) (Finset.sum_congr rfl fun d _ => congrArg₂ (· * ·) ?_ ?_)) ?_
    · refine (q_apply m c t s _).trans (hQ _ _ _ _ t8 ?_)
      show t.val / 8 * 256 + (128 * (n.val % 256 / 128) + d.val) = 128 * (n.val / 128) + d.val
      omega
    · refine (k_apply m c t k _).trans (hQ _ _ _ _ t8 ?_)
      show (8 + t.val / 8) * 256 + (128 * (n.val % 256 / 128) + d.val) = 2048 + (128 * (n.val / 128) + d.val)
      omega
    · unfold pairBias
      refine congrArg (fun h : Fin 16 => relBias m c (ix3 0 h (rel s.val k.val))) (Fin.ext ?_)
      show t.val / 8 * 2 + n.val % 256 / 128 = n.val / 128
      omega
  · refine (v_apply m c t k _).trans (hQ _ _ _ _ t8 ?_)
    show (16 + t.val / 8) * 256 + n.val % 256 = 4096 + n.val
    omega

/-- The second result. -/
theorem second_result (r : Fin 16384) (j : Fin 7168) :
    G6 m c (ix2 r j) = expertIn m c (ix4 0 ⟨r.val / 2048, by omega⟩ ⟨r.val % 2048, by omega⟩ ⟨7168 + j.val, by omega⟩) := by
  have hN : cfg0.N = 64 := N_0
  have hp : pt6Of (ix2 r j) = r.val / 256 := by
    show 1 * (r.val / 256 - 0) + 1 * (j.val / 7168 - 0) = _
    omega
  have ht : pt6Of (ix2 r j) < cfg0.N := by rw [hp, hN]; omega
  obtain ⟨t, e⟩ : ∃ t : Fin cfg0.N, t.val = pt6Of (ix2 r j) := ⟨⟨_, ht⟩, rfl⟩
  have hl : loc6Of (ix2 r j) = ix2 (⟨r.val % 256, by omega⟩ : Fin 256) j := by
    funext a; apply Fin.ext
    match a with
    | ⟨0, _⟩ => rfl
    | ⟨1, _⟩ => exact Nat.mod_eq_of_lt j.isLt
  have hg : G6 m c (ix2 r j) = (outsAt0 m c t.val t.isLt).2.1 (ix2 (⟨r.val % 256, by omega⟩ : Fin 256) j) := by
    unfold G6
    rw [dif_pos ht, hl, ← outsAt0_sweep m c _ ht]
    rw [outs_congr m c _ _ _ t.isLt e.symm]
  rw [hg, side, half_apply]
  have hr : t.val * 256 + r.val % 256 = r.val := by rw [e, hp]; omega
  refine congrArg₂ (fun (x : Fin 8) (y : Fin 2048) => expertIn m c (ix4 0 x y ⟨7168 + j.val, by omega⟩)) (Fin.ext ?_) (Fin.ext ?_)
  · show (t.val * 256 + r.val % 256) / 2048 = _
    rw [hr]
  · show (t.val * 256 + r.val % 256) % 2048 = _
    rw [hr]

end Cert.Attn

end
-- ==== Proof.Attn.RefKeys.lean ====
/- The reference's keys and values of a chunk: 576 rows of the padded rows, read as rows of the argument. -/
module

public import proofs.«01_k».proof.Proof.Attn.Spec
public import proofs.«01_k».proof.Proof.Gen.AttentionReferenceIdeal.Read
public import Idealize.ShloMosaic.Lib.KernelVsHost
public import Idealize.ShloMosaic.Lib.Pipeline.Value

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators
open Cert.AttentionReferenceIdeal Cert.AttentionReferenceIdeal.Gen Cert.AttentionReferenceIdeal.Read

/-- Nine runs of 32 chunks, each beginning one chunk later. -/
abbrev parts {α : Type} (x : S8x40x64x16x128.Idx → α) : List ((s : Shape) × (s.Idx → α)) :=
  [⟨S8x32x64x16x128, extractStridedSlice S8x32x64x16x128 ![0, 0, 0, 0, 0] x slices_S8x40x64x16x128_S8x32x64x16x128_0_0_0_0_0⟩, ⟨S8x32x64x16x128, extractStridedSlice S8x32x64x16x128 ![0, 1, 0, 0, 0] x slices_S8x40x64x16x128_S8x32x64x16x128_0_1_0_0_0⟩, ⟨S8x32x64x16x128, extractStridedSlice S8x32x64x16x128 ![0, 2, 0, 0, 0] x slices_S8x40x64x16x128_S8x32x64x16x128_0_2_0_0_0⟩, ⟨S8x32x64x16x128, extractStridedSlice S8x32x64x16x128 ![0, 3, 0, 0, 0] x slices_S8x40x64x16x128_S8x32x64x16x128_0_3_0_0_0⟩, ⟨S8x32x64x16x128, extractStridedSlice S8x32x64x16x128 ![0, 4, 0, 0, 0] x slices_S8x40x64x16x128_S8x32x64x16x128_0_4_0_0_0⟩, ⟨S8x32x64x16x128, extractStridedSlice S8x32x64x16x128 ![0, 5, 0, 0, 0] x slices_S8x40x64x16x128_S8x32x64x16x128_0_5_0_0_0⟩, ⟨S8x32x64x16x128, extractStridedSlice S8x32x64x16x128 ![0, 6, 0, 0, 0] x slices_S8x40x64x16x128_S8x32x64x16x128_0_6_0_0_0⟩, ⟨S8x32x64x16x128, extractStridedSlice S8x32x64x16x128 ![0, 7, 0, 0, 0] x slices_S8x40x64x16x128_S8x32x64x16x128_0_7_0_0_0⟩, ⟨S8x32x64x16x128, extractStridedSlice S8x32x64x16x128 ![0, 8, 0, 0, 0] x slices_S8x40x64x16x128_S8x32x64x16x128_0_8_0_0_0⟩]

/-- A run of chunks read. -/
theorem cut_chunk {α : Type} (k : ℕ) (hk : k < 9) (x : S8x40x64x16x128.Idx → α) (hs : S8x40x64x16x128.Slices ![0, k, 0, 0, 0] S8x32x64x16x128)
    (b : Fin 8) (c : Fin 32) (r : Fin 64) (h : Fin 16) (e : Fin 128) (u : Fin 40) (hu : u.val = k + c.val) :
    extractStridedSlice S8x32x64x16x128 ![0, k, 0, 0, 0] x hs (ix5 b c r h e) = x (ix5 b u r h e) :=
  extractStridedSlice_apply _ x hs _ _ fun a => by
    match a with
    | ⟨0, _⟩ => exact (Nat.zero_add _).symm
    | ⟨1, _⟩ => exact hu
    | ⟨2, _⟩ => exact (Nat.zero_add _).symm
    | ⟨3, _⟩ => exact (Nat.zero_add _).symm
    | ⟨4, _⟩ => exact (Nat.zero_add _).symm

theorem others (b : Fin 8) (c : Fin 32) (j : Fin 576) (h : Fin 16) (e : Fin 128) (a : Fin 5) (ha : a ≠ 2) :
    ((ix5 b c (⟨j.val % 64, Nat.mod_lt _ (by decide)⟩ : Fin 64) h e : S8x32x64x16x128.Idx) a).val = ((ix5 b c j h e : S8x32x576x16x128.Idx) a).val := by
  match a with
  | ⟨0, _⟩ => rfl
  | ⟨1, _⟩ => rfl
  | ⟨2, _⟩ => exact absurd rfl ha
  | ⟨3, _⟩ => rfl
  | ⟨4, _⟩ => rfl

/-- The runs joined: key `j` of chunk `c` is row `j % 64` of chunk `c + j / 64`. -/
theorem joined {α : Type} (x : S8x40x64x16x128.Idx → α) (b : Fin 8) (c : Fin 32) (j : Fin 576) (h : Fin 16) (e : Fin 128) :
    concatenate S8x32x576x16x128 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e)
      = x (ix5 b ⟨c.val + j.val / 64, by omega⟩ ⟨j.val % 64, Nat.mod_lt _ (by decide)⟩ h e) := by
  have hq : j.val / 64 = 0 ∨ j.val / 64 = 1 ∨ j.val / 64 = 2 ∨ j.val / 64 = 3 ∨ j.val / 64 = 4 ∨ j.val / 64 = 5 ∨ j.val / 64 = 6 ∨ j.val / 64 = 7 ∨ j.val / 64 = 8 := by omega
  rcases hq with hq | hq | hq | hq | hq | hq | hq | hq | hq
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 0 (show 0 < 9 by decide) S8x32x64x16x128 _ rfl rfl 0 rfl (ix5 b c ⟨j.val % 64, Nat.mod_lt _ (by decide)⟩ h e) (others b c j h e) (by show 0 + j.val % 64 = j.val; omega)).trans
      (cut_chunk 0 (by decide) x _ b c _ h e _ (by show c.val + j.val / 64 = 0 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 1 (show 1 < 9 by decide) S8x32x64x16x128 _ rfl rfl 64 rfl (ix5 b c ⟨j.val % 64, Nat.mod_lt _ (by decide)⟩ h e) (others b c j h e) (by show 64 + j.val % 64 = j.val; omega)).trans
      (cut_chunk 1 (by decide) x _ b c _ h e _ (by show c.val + j.val / 64 = 1 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 2 (show 2 < 9 by decide) S8x32x64x16x128 _ rfl rfl 128 rfl (ix5 b c ⟨j.val % 64, Nat.mod_lt _ (by decide)⟩ h e) (others b c j h e) (by show 128 + j.val % 64 = j.val; omega)).trans
      (cut_chunk 2 (by decide) x _ b c _ h e _ (by show c.val + j.val / 64 = 2 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 3 (show 3 < 9 by decide) S8x32x64x16x128 _ rfl rfl 192 rfl (ix5 b c ⟨j.val % 64, Nat.mod_lt _ (by decide)⟩ h e) (others b c j h e) (by show 192 + j.val % 64 = j.val; omega)).trans
      (cut_chunk 3 (by decide) x _ b c _ h e _ (by show c.val + j.val / 64 = 3 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 4 (show 4 < 9 by decide) S8x32x64x16x128 _ rfl rfl 256 rfl (ix5 b c ⟨j.val % 64, Nat.mod_lt _ (by decide)⟩ h e) (others b c j h e) (by show 256 + j.val % 64 = j.val; omega)).trans
      (cut_chunk 4 (by decide) x _ b c _ h e _ (by show c.val + j.val / 64 = 4 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 5 (show 5 < 9 by decide) S8x32x64x16x128 _ rfl rfl 320 rfl (ix5 b c ⟨j.val % 64, Nat.mod_lt _ (by decide)⟩ h e) (others b c j h e) (by show 320 + j.val % 64 = j.val; omega)).trans
      (cut_chunk 5 (by decide) x _ b c _ h e _ (by show c.val + j.val / 64 = 5 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 6 (show 6 < 9 by decide) S8x32x64x16x128 _ rfl rfl 384 rfl (ix5 b c ⟨j.val % 64, Nat.mod_lt _ (by decide)⟩ h e) (others b c j h e) (by show 384 + j.val % 64 = j.val; omega)).trans
      (cut_chunk 6 (by decide) x _ b c _ h e _ (by show c.val + j.val / 64 = 6 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 7 (show 7 < 9 by decide) S8x32x64x16x128 _ rfl rfl 448 rfl (ix5 b c ⟨j.val % 64, Nat.mod_lt _ (by decide)⟩ h e) (others b c j h e) (by show 448 + j.val % 64 = j.val; omega)).trans
      (cut_chunk 7 (by decide) x _ b c _ h e _ (by show c.val + j.val / 64 = 7 + c.val; omega))
  · exact (concatenate_apply_piece (t := S8x32x576x16x128) 2 (parts x) concatenates_S8x32x64x16x128_S8x32x64x16x128_S8x32x64x16x128_S8x32x64x16x128_S8x32x64x16x128_S8x32x64x16x128_S8x32x64x16x128_S8x32x64x16x128_S8x32x64x16x128_S8x32x576x16x128_d2 (ix5 b c j h e) 8 (show 8 < 9 by decide) S8x32x64x16x128 _ rfl rfl 512 rfl (ix5 b c ⟨j.val % 64, Nat.mod_lt _ (by decide)⟩ h e) (others b c j h e) (by show 512 + j.val % 64 = j.val; omega)).trans
      (cut_chunk 8 (by decide) x _ b c _ h e _ (by show c.val + j.val / 64 = 8 + c.val; omega))

variable (x0 : (⟨S8x2048x6144, .bf16⟩ : BufTy).Contents (Elt Ideal))

/-- Key `j` of chunk `c`, where it is not padding. -/
theorem key_read (b : Fin 8) (c : Fin 32) (j : Fin 576) (h : Fin 16) (e : Fin 128) (t : Fin 2048) (ht : t.val + 512 = 64 * c.val + j.val) :
    val_main_v20 (F := Ideal) x0 (ix5 b c j h e) = x0 (ix3 b t ⟨2048 + (128 * h.val + e.val), by omega⟩) := by
  refine (joined (val_main_v10 (F := Ideal) x0) b c j h e).trans ?_
  rw [val_main_v10_apply]
  unfold val_main_v8
  refine (pad_apply_of_inside _ _ _ _ _ _ _ _ (ix4 b t h e) (fun a => ?_)).trans ?_
  · match a with
    | ⟨0, _⟩ => show (((((b.val * 40 + (c.val + j.val / 64)) * 64 + j.val % 64) * 16 + h.val) * 128 + e.val) / 5242880) = 0 + b.val * 1; omega
    | ⟨1, _⟩ => show (((((b.val * 40 + (c.val + j.val / 64)) * 64 + j.val % 64) * 16 + h.val) * 128 + e.val) / 2048 % 2560) = 512 + t.val * 1; omega
    | ⟨2, _⟩ => show (((((b.val * 40 + (c.val + j.val / 64)) * 64 + j.val % 64) * 16 + h.val) * 128 + e.val) / 128 % 16) = 0 + h.val * 1; omega
    | ⟨3, _⟩ => show (((((b.val * 40 + (c.val + j.val / 64)) * 64 + j.val % 64) * 16 + h.val) * 128 + e.val) % 128) = 0 + e.val * 1; omega
  · rw [val_main_v6_apply, val_main_v3_apply, val_main_v1_apply]
    refine congrArg x0 (funext fun a => Fin.ext ?_)
    match a with
    | ⟨0, _⟩ => show ((((b.val * 2048 + t.val) * 16 + h.val) * 128 + e.val) / 4194304) = b.val; omega
    | ⟨1, _⟩ => show ((((b.val * 2048 + t.val) * 16 + h.val) * 128 + e.val) / 2048 % 2048) = t.val; omega
    | ⟨2, _⟩ => show 2048 + ((((b.val * 2048 + t.val) * 16 + h.val) * 128 + e.val) % 2048) = 2048 + (128 * h.val + e.val); omega

/-- Value `j` of chunk `c`, where it is not padding. -/
theorem value_read (b : Fin 8) (c : Fin 32) (j : Fin 576) (h : Fin 16) (e : Fin 128) (t : Fin 2048) (ht : t.val + 512 = 64 * c.val + j.val) :
    val_main_v31 (F := Ideal) x0 (ix5 b c j h e) = x0 (ix3 b t ⟨4096 + (128 * h.val + e.val), by omega⟩) := by
  refine (joined (val_main_v21 (F := Ideal) x0) b c j h e).trans ?_
  rw [val_main_v21_apply]
  unfold val_main_v9
  refine (pad_apply_of_inside _ _ _ _ _ _ _ _ (ix4 b t h e) (fun a => ?_)).trans ?_
  · match a with
    | ⟨0, _⟩ => show (((((b.val * 40 + (c.val + j.val / 64)) * 64 + j.val % 64) * 16 + h.val) * 128 + e.val) / 5242880) = 0 + b.val * 1; omega
    | ⟨1, _⟩ => show (((((b.val * 40 + (c.val + j.val / 64)) * 64 + j.val % 64) * 16 + h.val) * 128 + e.val) / 2048 % 2560) = 512 + t.val * 1; omega
    | ⟨2, _⟩ => show (((((b.val * 40 + (c.val + j.val / 64)) * 64 + j.val % 64) * 16 + h.val) * 128 + e.val) / 128 % 16) = 0 + h.val * 1; omega
    | ⟨3, _⟩ => show (((((b.val * 40 + (c.val + j.val / 64)) * 64 + j.val % 64) * 16 + h.val) * 128 + e.val) % 128) = 0 + e.val * 1; omega
  · rw [val_main_v7_apply, val_main_v4_apply, val_main_v1_apply]
    refine congrArg x0 (funext fun a => Fin.ext ?_)
    match a with
    | ⟨0, _⟩ => show ((((b.val * 2048 + t.val) * 16 + h.val) * 128 + e.val) / 4194304) = b.val; omega
    | ⟨1, _⟩ => show ((((b.val * 2048 + t.val) * 16 + h.val) * 128 + e.val) / 2048 % 2048) = t.val; omega
    | ⟨2, _⟩ => show 4096 + ((((b.val * 2048 + t.val) * 16 + h.val) * 128 + e.val) % 2048) = 4096 + (128 * h.val + e.val); omega

/-- A query of chunk `c`. -/
theorem query_read (b : Fin 8) (c : Fin 32) (r : Fin 64) (h : Fin 16) (e : Fin 128) :
    val_main_v5 (F := Ideal) x0 (ix5 b c r h e) = x0 (ix3 b ⟨64 * c.val + r.val, by omega⟩ ⟨128 * h.val + e.val, by omega⟩) := by
  rw [val_main_v5_apply, val_main_v2_apply, val_main_v1_apply]
  refine congrArg x0 (funext fun a => Fin.ext ?_)
  match a with
  | ⟨0, _⟩ => show (((((b.val * 32 + c.val) * 64 + r.val) * 16 + h.val) * 128 + e.val) / 4194304) = b.val; omega
  | ⟨1, _⟩ => show (((((b.val * 32 + c.val) * 64 + r.val) * 16 + h.val) * 128 + e.val) / 2048 % 2048) = 64 * c.val + r.val; omega
  | ⟨2, _⟩ => show (((((b.val * 32 + c.val) * 64 + r.val) * 16 + h.val) * 128 + e.val) % 2048) = 128 * h.val + e.val; omega

end Cert.Attn

end
-- ==== Proof.Attn.RefLogits.lean ====
/- The reference's logits of a chunk: the mask of the padding, the relative bias picked by its clipped distance, and the scaled products. -/
module

public import proofs.«01_k».proof.Proof.Attn.RefKeys

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators
open Cert.AttentionReferenceIdeal Cert.AttentionReferenceIdeal.Gen Cert.AttentionReferenceIdeal.Read

/-- The number of a bias, as the reference's words compute it from a distance. -/
def clipWord (w : BitVec 32) : BitVec 32 :=
  let a := IntOp.addi (IntOp.minsi 128#32 (IntOp.maxsi 4294967168#32 w)) 128#32
  Scalar.select (IntOp.cmpi .slt a 0#32) (IntOp.addi a 257#32) a

theorem clipWord_eq : ∀ k : Fin 640, clipWord (IntOp.subi (BitVec.ofNat 32 k.val) 64#32) = BitVec.ofNat 32 (rel k.val 64).val := by
  unfold clipWord rel; decide +kernel

theorem dist_word (r : Fin 64) (j : Fin 576) : IntOp.subi (IntOp.addi (BitVec.ofNat 32 r.val) 512#32) (BitVec.ofNat 32 j.val)
    = IntOp.subi (BitVec.ofNat 32 (r.val + 576 - j.val)) 64#32 := by
  unfold IntOp.subi IntOp.addi
  apply BitVec.eq_of_toNat_eq
  simp only [BitVec.toNat_sub, BitVec.toNat_add, BitVec.toNat_ofNat]
  omega

theorem pad_word : ∀ n : Fin 2560, IntOp.cmpi .sge (IntOp.subi (BitVec.ofNat 32 n.val) 512#32) 0#32 = if 512 ≤ n.val then 1#1 else 0#1 := by decide +kernel

theorem row_word (c : Fin 32) (j : Fin 576) : IntOp.addi (IntOp.subi (IntOp.muli (BitVec.ofNat 32 c.val) 64#32) 512#32) (BitVec.ofNat 32 j.val)
    = IntOp.subi (BitVec.ofNat 32 (64 * c.val + j.val)) 512#32 := by
  unfold IntOp.subi IntOp.addi IntOp.muli
  apply BitVec.eq_of_toNat_eq
  simp only [BitVec.toNat_sub, BitVec.toNat_add, BitVec.toNat_mul, BitVec.toNat_ofNat]
  omega

theorem clamp_word : ∀ n : Fin 257, min (BitVec.ofNat 32 n.val).toInt.toNat (257 - 1) = n.val := by decide +kernel

/-- The mask of the padding. -/
theorem mask_read (b : Fin 8) (c : Fin 32) (h : Fin 16) (r : Fin 64) (j : Fin 576) :
    val_main_call3_v1 (F := Ideal) (ix5 b c h r j) = if 512 ≤ 64 * c.val + j.val then 1#1 else 0#1 := by
  rw [val_main_call3_v1_apply, val_main_v69_apply, val_main_v62_apply, val_main_v60_apply, val_main_v58_apply, val_main_v56_apply, val_main_v54_apply,
    val_main_v52_apply, val_main_v51_apply, val_main_v53_apply, val_main_c_7_apply, val_main_v55_apply, val_main_c_8_apply, val_main_v59_apply,
    val_main_v57_apply, val_main_v32_apply, val_main_v61_apply, val_main_c_9_apply]
  refine (congrArg (IntOp.cmpi .sge · 0#32) (row_word c j)).trans ?_
  exact pad_word ⟨64 * c.val + j.val, by omega⟩

/-- The number of the bias that query `r` of a chunk takes for key `j`. -/
theorem pick_read (r : Fin 64) (j : Fin 576) : val_main_v49 (F := Ideal) (ix3 r j 0) = BitVec.ofNat 32 (rel (512 + r.val) j.val).val := by
  rw [val_main_v49_apply, val_main_v48_apply, val_main_v45_apply, val_main_v47_apply, val_main_v44_apply, val_main_c_5_apply, val_main_v46_apply, val_main_c_6_apply,
    val_main_v43_apply, val_main_v42_apply, val_main_c_4_apply, val_main_v41_apply, val_main_call2_v4_apply, val_main_call2_v3_apply, val_main_c_3_apply,
    val_main_call2_v2_apply, val_main_call2_v1_apply, val_main_call2_v0_apply, val_main_c_2_apply, val_main_v40_apply, val_main_v38_apply, val_main_v36_apply,
    val_main_v34_apply, val_main_v33_apply, val_main_v35_apply, val_main_c_1_apply, val_main_v39_apply, val_main_v37_apply, val_main_v32_apply]
  refine (congrArg clipWord (dist_word r j)).trans ?_
  refine (clipWord_eq ⟨r.val + 576 - j.val, by omega⟩).trans (congrArg (fun n : Fin 257 => BitVec.ofNat 32 n.val) (Fin.ext ?_))
  show (max 0 (min 256 (((r.val + 576 - j.val : ℕ) : ℤ) - (64 : ℕ) + 128))).toNat = (max 0 (min 256 (((512 + r.val : ℕ) : ℤ) - j.val + 128))).toNat
  congr 3
  omega

/-- Columns picked by number. -/
theorem pick_columns {α : Type} (x : S16x257.Idx → α) (idx : IVec S64x576x1 32) (h : Fin 16) (r : Fin 64) (j : Fin 576) (n : Fin 257)
    (hn : idx (ix3 r j 0) = BitVec.ofNat 32 n.val) :
    Host.gather gather_S16x257_S64x576x1_S16x64x576_0_1_n_n_1_2_161 x idx (ix3 h r j) = x (ix2 h n) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have h01 : a = (0 : Fin 2) ∨ a = (1 : Fin 2) := by
    match a with
    | ⟨0, _⟩ => exact .inl rfl
    | ⟨1, _⟩ => exact .inr rfl
  rcases h01 with rfl | rfl
  · unfold GatherDims.start GatherDims.offCoord
    rw [dif_neg (show (0 : Fin 2) ∉ gather_S16x257_S64x576x1_S16x64x576_0_1_n_n_1_2_161.startIndexMap from (by decide : (0 : Fin 2) ∉ [(1 : Fin 2)])),
      dif_pos ((GatherDims.mem_sKept _ _).mpr ⟨(by decide : (0 : Fin 2) ∉ [(1 : Fin 2)]), List.not_mem_nil⟩)]
    exact Nat.zero_add _
  · rw [GatherDims.offCoord_eq_zero _ _ _ (fun hm => ((GatherDims.mem_sKept _ _).mp hm).1 (List.mem_singleton.mpr rfl))]
    unfold GatherDims.start
    rw [dif_pos (show (1 : Fin 2) ∈ gather_S16x257_S64x576x1_S16x64x576_0_1_n_n_1_2_161.startIndexMap from List.mem_singleton.mpr rfl)]
    have hsi : gather_S16x257_S64x576x1_S16x64x576_0_1_n_n_1_2_161.siIdx (ix3 h r j) ⟨List.idxOf (1 : Fin 2) gather_S16x257_S64x576x1_S16x64x576_0_1_n_n_1_2_161.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi, hn]
    exact clamp_word n

/-- The scale of the logits, the number that its word is. -/
def refScale : EReal := FloatOps.ofBits (F := Ideal) .f32 0x3DB504F3#32

variable (x0 : (⟨S8x2048x6144, .bf16⟩ : BufTy).Contents (Elt Ideal)) (x1 : (⟨S1x16x257, .f32⟩ : BufTy).Contents (Elt Ideal))

theorem bias_read_ref (h : Fin 16) (r : Fin 64) (j : Fin 576) : val_main_v50 (F := Ideal) x1 (ix3 h r j) = x1 (ix3 0 h (rel (512 + r.val) j.val)) := by
  unfold val_main_v50
  rw [pick_columns _ _ h r j _ (pick_read r j), val_main_v0_apply]
  refine congrArg x1 (funext fun a => Fin.ext ?_)
  have hr := (rel (512 + r.val) j.val).isLt
  match a with
  | ⟨0, _⟩ => rfl
  | ⟨1, _⟩ => show (h.val * 257 + (rel (512 + r.val) j.val).val) / 257 % 16 = h.val; omega
  | ⟨2, _⟩ => show (h.val * 257 + (rel (512 + r.val) j.val).val) % 257 = (rel (512 + r.val) j.val).val; omega

/-- The logit of key `j` of chunk `c`, of its query `r`. -/
def chunkLogit (b : Fin 8) (c : Fin 32) (h : Fin 16) (r : Fin 64) (j : Fin 576) : EReal :=
  if 512 ≤ 64 * c.val + j.val then
    (∑ e : Fin 128, x0 (ix3 b ⟨64 * c.val + r.val, by omega⟩ ⟨128 * h.val + e.val, by omega⟩)
        * x0 (ix3 b ⟨64 * c.val + j.val - 512, by omega⟩ ⟨2048 + (128 * h.val + e.val), by omega⟩)) * refScale + x1 (ix3 0 h (rel (512 + r.val) j.val))
  else ⊥

theorem at_query (b : Fin 8) (c : Fin 32) (h : Fin 16) (r : Fin 64) (j : Fin 576) (e : Fin 128) : lidx_main_v63 (ix5 b c h r j) e = ix5 b c r h e := by
  funext a
  match a with
  | ⟨0, _⟩ => rfl
  | ⟨1, _⟩ => rfl
  | ⟨2, _⟩ => rfl
  | ⟨3, _⟩ => rfl
  | ⟨4, _⟩ => rfl

theorem at_key (b : Fin 8) (c : Fin 32) (h : Fin 16) (r : Fin 64) (j : Fin 576) (e : Fin 128) : ridx_main_v63 (ix5 b c h r j) e = ix5 b c j h e := by
  funext a
  match a with
  | ⟨0, _⟩ => rfl
  | ⟨1, _⟩ => rfl
  | ⟨2, _⟩ => rfl
  | ⟨3, _⟩ => rfl
  | ⟨4, _⟩ => rfl

theorem at_bias (b : Fin 8) (c : Fin 32) (h : Fin 16) (r : Fin 64) (j : Fin 576) : idx_main_v66 (idx_main_v67 (ix5 b c h r j)) = ix3 h r j := by
  funext a
  match a with
  | ⟨0, _⟩ => rfl
  | ⟨1, _⟩ => rfl
  | ⟨2, _⟩ => rfl

theorem logit_read (b : Fin 8) (c : Fin 32) (h : Fin 16) (r : Fin 64) (j : Fin 576) :
    val_main_v70 (F := Ideal) x0 x1 (ix5 b c h r j) = chunkLogit x0 x1 b c h r j := by
  rw [val_main_v70_apply, mask_read]
  unfold chunkLogit
  by_cases hj : 512 ≤ 64 * c.val + j.val
  · rw [if_pos hj, if_pos hj]
    show val_main_v68 (F := Ideal) x0 x1 (ix5 b c h r j) = _
    rw [val_main_v68_apply, val_main_v65_apply, val_main_v63_apply, val_main_v64_apply, val_main_cst_apply, val_main_v67_apply, val_main_v66_apply]
    refine congrArg₂ (fun a b : EReal => a + b) (congrArg (· * refScale) (Finset.sum_congr rfl fun e _ => congrArg₂ (fun a b : EReal => a * b) ?_ ?_)) ?_
    · rw [at_query]; exact query_read x0 b c r h e
    · rw [at_key]; exact key_read x0 b c j h e ⟨64 * c.val + j.val - 512, by omega⟩ (by show 64 * c.val + j.val - 512 + 512 = _; omega)
    · rw [at_bias]; exact bias_read_ref x1 h r j
  · rw [if_neg hj, if_neg hj]
    show val_main_call3_v2 (F := Ideal) (ix5 b c h r j) = _
    rw [val_main_call3_v2_apply, val_main_call3_v0_apply, val_main_cst_10_apply]
    exact negInf_word

end Cert.Attn

end
-- ==== Proof.Attn.Ref.lean ====
/- The reference's two results: softmax attention of every query over all keys, and the second half of the expert weights. -/
module

public import proofs.«01_k».proof.Proof.Attn.RefLogits

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe
open scoped BigOperators
open Cert.AttentionReferenceIdeal Cert.AttentionReferenceIdeal.Gen Cert.AttentionReferenceIdeal.Read

variable (x0 : (⟨S8x2048x6144, .bf16⟩ : BufTy).Contents (Elt Ideal)) (x1 : (⟨S1x16x257, .f32⟩ : BufTy).Contents (Elt Ideal))

theorem at_peak (b : Fin 8) (c : Fin 32) (h : Fin 16) (r : Fin 64) (j : Fin 576) : idx_main_v74 (idx_main_v75 (ix5 b c h r j)) = ix4 b c h r := by
  funext a
  match a with
  | ⟨0, _⟩ => rfl
  | ⟨1, _⟩ => rfl
  | ⟨2, _⟩ => rfl
  | ⟨3, _⟩ => rfl

theorem at_mass (b : Fin 8) (c : Fin 32) (h : Fin 16) (r : Fin 64) (j : Fin 576) : idx_main_v79 (idx_main_v80 (ix5 b c h r j)) = ix4 b c h r := by
  funext a
  match a with
  | ⟨0, _⟩ => rfl
  | ⟨1, _⟩ => rfl
  | ⟨2, _⟩ => rfl
  | ⟨3, _⟩ => rfl

theorem at_term (b : Fin 8) (c : Fin 32) (h : Fin 16) (r : Fin 64) (j : Fin 576) : idx_main_v78 (ix4 b c h r) j = ix5 b c h r j := by
  funext a
  match a with
  | ⟨0, _⟩ => rfl
  | ⟨1, _⟩ => rfl
  | ⟨2, _⟩ => rfl
  | ⟨3, _⟩ => rfl
  | ⟨4, _⟩ => rfl

theorem at_value (b : Fin 8) (c : Fin 32) (h : Fin 16) (r : Fin 64) (j : Fin 576) (d : Fin 128) : lidx_main_v82 (ix5 b c h d r) j = ix5 b c j h d := by
  funext a
  match a with
  | ⟨0, _⟩ => rfl
  | ⟨1, _⟩ => rfl
  | ⟨2, _⟩ => rfl
  | ⟨3, _⟩ => rfl
  | ⟨4, _⟩ => rfl

theorem at_weight (b : Fin 8) (c : Fin 32) (h : Fin 16) (r : Fin 64) (j : Fin 576) (d : Fin 128) : ridx_main_v82 (ix5 b c h d r) j = ix5 b c h r j := by
  funext a
  match a with
  | ⟨0, _⟩ => rfl
  | ⟨1, _⟩ => rfl
  | ⟨2, _⟩ => rfl
  | ⟨3, _⟩ => rfl
  | ⟨4, _⟩ => rfl

/-- A maximum over the last axis, from minus infinity. -/
theorem reduce_max (x : FVec Ideal S8x32x16x64x576 .f32) (b : Fin 8) (c : Fin 32) (h : Fin 16) (r : Fin 64) :
    Host.reduce FloatOps.maximumf x (constant (F := Ideal) S_ .f32 0xFF800000#32) reducesTo_S8x32x16x64x576_S8x32x16x64_d4 h_S_ (ix4 b c h r)
      = peak (fun j : Fin 576 => x (ix5 b c h r j)) := by
  have hr : S8x32x16x64x576.Reduces [4] S8x32x16x64 := by decide
  refine (congrFun (hostReduce_maximumf_eq_multiReduction (F := Ideal) x 0xFF800000#32 reducesTo_S8x32x16x64x576_S8x32x16x64_d4 h_S_ hr (.inl rfl) rfl) (ix4 b c h r)).trans ?_
  refine (Ideal.multiReduction_maximumf_single x 0xFF800000#32 hr (.inl rfl) rfl (ix4 b c h r)).trans ?_
  rw [negInf_word]
  refine (fold_max_eq (n := 576) _).trans ?_
  unfold peak
  refine congrArg (Finset.univ.sup) (funext fun j => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- The greatest logit of a query. -/
theorem peak_read (b : Fin 8) (c : Fin 32) (h : Fin 16) (r : Fin 64) : val_main_v71 (F := Ideal) x0 x1 (ix4 b c h r) = peak (chunkLogit x0 x1 b c h r) := by
  unfold val_main_v71 val_main_cst_11
  refine (reduce_max (val_main_v70 (F := Ideal) x0 x1) b c h r).trans ?_
  exact congrArg peak (funext fun j => logit_read x0 x1 b c h r j)

theorem shifted_read (b : Fin 8) (c : Fin 32) (h : Fin 16) (r : Fin 64) (j : Fin 576) :
    val_main_v77 (F := Ideal) x0 x1 (ix5 b c h r j) = Ideal.exp (chunkLogit x0 x1 b c h r j - peak (chunkLogit x0 x1 b c h r)) := by
  rw [val_main_v77_apply, val_main_v76_apply, val_main_v75_apply, val_main_v74_apply, val_main_v73_apply, val_main_v72_apply, val_main_cst_12_apply, logit_read]
  rw [at_peak, peak_read]
  refine congrArg (fun p : EReal => Ideal.exp (chunkLogit x0 x1 b c h r j - p)) ?_
  show max (FloatOps.ofBits (F := Ideal) .f32 0xFF800000#32 : EReal) _ = _
  rw [negInf_word]
  exact max_eq_right bot_le

theorem weight_read (b : Fin 8) (c : Fin 32) (h : Fin 16) (r : Fin 64) (j : Fin 576) :
    val_main_v81 (F := Ideal) x0 x1 (ix5 b c h r j)
      = Ideal.div (Ideal.exp (chunkLogit x0 x1 b c h r j - peak (chunkLogit x0 x1 b c h r))) (mass (chunkLogit x0 x1 b c h r)) := by
  rw [val_main_v81_apply, shifted_read, val_main_v80_apply, val_main_v79_apply, at_mass, val_main_v78_apply]
  refine congrArg (Ideal.div _) ?_
  unfold mass
  refine (congrArg₂ (fun a b : EReal => a + b) zero_word (Finset.sum_congr rfl fun k _ => (congrArg _ (at_term b c h r k)).trans (shifted_read x0 x1 b c h r k))).trans ?_
  exact zero_add _

section finite

variable (hq : ∀ (b : Fin 8) (s : Fin 2048) (n : Fin 6144), n.val < 4096 → ∃ r : ℝ, x0 (ix3 b s n) = (r : EReal)) (hb : ∀ x, ∃ r : ℝ, x1 x = (r : EReal))

theorem refScale_real : ∃ r : ℝ, refScale = (r : EReal) := by
  refine ⟨11863283 / 134217728, ?_⟩
  show Ideal.ofBits .f32 0x3DB504F3#32 = _
  simp [Ideal.ofBits, Ideal.ieee, -EReal.coe_mul]
  norm_num

theorem sum_real {n : ℕ} (f : Fin n → EReal) (hf : ∀ e, ∃ r : ℝ, f e = (r : EReal)) : ∃ r : ℝ, ∑ e, f e = (r : EReal) := by
  choose g hg using hf
  refine ⟨∑ e, g e, ?_⟩
  rw [Finset.sum_congr rfl fun e _ => hg e]
  induction (Finset.univ : Finset (Fin n)) using Finset.induction_on with
  | empty => simp
  | insert a s ha ih => rw [Finset.sum_insert ha, Finset.sum_insert ha, EReal.coe_add, ih]

include hq hb in
theorem chunkLogit_real (b : Fin 8) (c : Fin 32) (h : Fin 16) (r : Fin 64) (j : Fin 576) (hj : 512 ≤ 64 * c.val + j.val) :
    ∃ v : ℝ, chunkLogit x0 x1 b c h r j = (v : EReal) := by
  unfold chunkLogit
  rw [if_pos hj]
  obtain ⟨σ, hσ⟩ := refScale_real
  obtain ⟨β, hβ⟩ := hb (ix3 0 h (rel (512 + r.val) j.val))
  obtain ⟨u, hu⟩ := sum_real (fun e : Fin 128 => x0 (ix3 b ⟨64 * c.val + r.val, by omega⟩ ⟨128 * h.val + e.val, by omega⟩)
        * x0 (ix3 b ⟨64 * c.val + j.val - 512, by omega⟩ ⟨2048 + (128 * h.val + e.val), by omega⟩)) (fun e => by
    obtain ⟨a, ha⟩ := hq b ⟨64 * c.val + r.val, by omega⟩ ⟨128 * h.val + e.val, by omega⟩ (by show 128 * h.val + e.val < 4096; omega)
    obtain ⟨d, hd⟩ := hq b ⟨64 * c.val + j.val - 512, by omega⟩ ⟨2048 + (128 * h.val + e.val), by omega⟩ (by show 2048 + (128 * h.val + e.val) < 4096; omega)
    exact ⟨a * d, by rw [ha, hd, EReal.coe_mul]⟩)
  refine ⟨u * σ + β, ?_⟩
  rw [EReal.coe_add, EReal.coe_mul]
  exact congrArg₂ (fun a b : EReal => a + b) (congrArg₂ (fun a b : EReal => a * b) hu hσ) hβ

/-- The keys of a chunk are all keys from row `64 c - 512` on. -/
theorem chunk_shift (b : Fin 8) (c : Fin 32) (h : Fin 16) (r : Fin 64) :
    Shifted (chunkLogit x0 x1 b c h r) (headLogit refScale x0 x1 b h ⟨64 * c.val + r.val, by omega⟩) (64 * c.val - 512) where
  same j t ht := by
    have h1 : 512 ≤ 64 * c.val + j.val := by omega
    have h2 : Sees (⟨64 * c.val + r.val, by omega⟩ : Fin 2048).val t.val := by
      show t.val / 64 ≤ (64 * c.val + r.val) / 64 ∧ (64 * c.val + r.val) / 64 ≤ t.val / 64 + 8; omega
    have e1 : (⟨64 * c.val + j.val - 512, by omega⟩ : Fin 2048) = t := Fin.ext (by show 64 * c.val + j.val - 512 = t.val; omega)
    have e2 : rel (512 + r.val) j.val = rel (64 * c.val + r.val) t.val := by
      unfold rel
      refine Fin.ext ?_
      show (max 0 (min 256 (((512 + r.val : ℕ) : ℤ) - j.val + 128))).toNat = (max 0 (min 256 (((64 * c.val + r.val : ℕ) : ℤ) - t.val + 128))).toNat
      congr 3
      omega
    refine (if_pos h1).trans (Eq.trans ?_ (if_pos h2).symm)
    rw [e1, e2]
  left j hj := by
    by_cases h1 : 512 ≤ 64 * c.val + j.val
    · exact ⟨⟨64 * c.val + j.val - 512, by omega⟩, by show ((64 * c.val + j.val - 512 : ℕ) : ℤ) = _; omega⟩
    · exact absurd (if_neg h1) hj
  right t ht := by
    by_cases h1 : Sees (⟨64 * c.val + r.val, by omega⟩ : Fin 2048).val t.val
    · have h2 : t.val / 64 ≤ (64 * c.val + r.val) / 64 ∧ (64 * c.val + r.val) / 64 ≤ t.val / 64 + 8 := h1
      exact ⟨⟨t.val + 512 - 64 * c.val, by omega⟩, by show (t.val : ℤ) = ((t.val + 512 - 64 * c.val : ℕ) : ℤ) + _; omega⟩
    · exact absurd (if_neg h1) ht

include hq hb in
/-- One element of the product of the weights with the values. -/
theorem product_read (b : Fin 8) (c : Fin 32) (h : Fin 16) (d : Fin 128) (r : Fin 64) :
    val_main_v82 (F := Ideal) x0 x1 (ix5 b c h d r)
      = attend (headLogit refScale x0 x1 b h ⟨64 * c.val + r.val, by omega⟩) (fun t => x0 (ix3 b t ⟨4096 + (128 * h.val + d.val), by omega⟩)) := by
  rw [val_main_v82_apply]
  refine Eq.trans (b := ∑ j : Fin 576, Ideal.div (Ideal.exp (chunkLogit x0 x1 b c h r j - peak (chunkLogit x0 x1 b c h r))) (mass (chunkLogit x0 x1 b c h r))
      * val_main_v31 (F := Ideal) x0 (ix5 b c j h d)) (Finset.sum_congr rfl fun j _ => ?_) ?_
  · rw [at_value, at_weight, weight_read]
    exact mul_comm _ _
  · refine (attend_normalised (chunkLogit x0 x1 b c h r) (fun j => val_main_v31 (F := Ideal) x0 (ix5 b c j h d)) (fun j => ?_) ⟨⟨512 + r.val, by omega⟩, ?_⟩).trans ?_
    · by_cases h1 : 512 ≤ 64 * c.val + j.val
      · exact .inr (chunkLogit_real x0 x1 hq hb b c h r j h1)
      · left; unfold chunkLogit; rw [if_neg h1]
    · obtain ⟨v, hv⟩ := chunkLogit_real x0 x1 hq hb b c h r ⟨512 + r.val, by omega⟩ (by show 512 ≤ 64 * c.val + (512 + r.val); omega)
      rw [hv]; exact EReal.coe_ne_bot v
    · exact (chunk_shift x0 x1 b c h r).attend_eq _ _ fun j t ht => value_read x0 b c j h d t (by omega)

include hq hb in
/-- The first result. -/
theorem ref_first (b : Fin 8) (s n : Fin 2048) : val_main_v88 (F := Ideal) x0 x1 (ix3 b s n) = attnAt refScale x0 x1 b s n := by
  rw [val_main_v88_apply, val_main_v84_apply, val_main_v83_apply]
  have e : idx_main_v83 (idx_main_v84 (ix3 b s n)) = ix5 b (⟨s.val / 64, by omega⟩ : Fin 32) (⟨n.val / 128, by omega⟩ : Fin 16) (⟨n.val % 128, by omega⟩ : Fin 128) (⟨s.val % 64, by omega⟩ : Fin 64) := by
    funext a; refine Fin.ext ?_
    match a with
    | ⟨0, _⟩ => show ((b.val * 2048 + s.val) * 2048 + n.val) / 4194304 = b.val; omega
    | ⟨1, _⟩ => show ((b.val * 2048 + s.val) * 2048 + n.val) / 131072 % 32 = s.val / 64; omega
    | ⟨2, _⟩ => show ((b.val * 2048 + s.val) * 2048 + n.val) / 128 % 16 = n.val / 128; omega
    | ⟨3, _⟩ => show ((b.val * 2048 + s.val) * 2048 + n.val) % 128 = n.val % 128; omega
    | ⟨4, _⟩ => show ((b.val * 2048 + s.val) * 2048 + n.val) / 2048 % 64 = s.val % 64; omega
  rw [e]
  refine (product_read x0 x1 hq hb b _ _ _ _).trans ?_
  unfold attnAt
  have e1 : (⟨64 * (s.val / 64) + s.val % 64, by omega⟩ : Fin 2048) = s := Fin.ext (by show 64 * (s.val / 64) + s.val % 64 = s.val; omega)
  have e2 : (⟨4096 + (128 * (n.val / 128) + n.val % 128), by omega⟩ : Fin 6144) = ⟨4096 + n.val, by omega⟩ := Fin.ext (by show 4096 + (128 * (n.val / 128) + n.val % 128) = 4096 + n.val; omega)
  exact congrArg₂ (fun (s' : Fin 2048) (k : Fin 6144) => attend (headLogit refScale x0 x1 b ⟨n.val / 128, by omega⟩ s') (fun t => x0 (ix3 b t k))) e1 e2

end finite

/-- The second result. -/
theorem ref_second (x2 : (⟨S1x8x2048x14336, .f32⟩ : BufTy).Contents (Elt Ideal)) (r : Fin 16384) (j : Fin 7168) :
    val_main_v89 (F := Ideal) x2 (ix2 r j) = x2 (ix4 0 ⟨r.val / 2048, by omega⟩ ⟨r.val % 2048, by omega⟩ ⟨7168 + j.val, by omega⟩) := by
  rw [val_main_v89_apply, val_main_v87_apply, val_main_v86_apply, val_main_v85_apply]
  have e1 : (r.val * 7168 + j.val) / 14680064 = r.val / 2048 := by omega
  have e2 : (r.val * 7168 + j.val) / 7168 % 2048 = r.val % 2048 := by omega
  have e3 : (r.val * 7168 + j.val) % 7168 = j.val := by omega
  refine congrArg x2 (funext fun a => Fin.ext ?_)
  match a with
  | ⟨0, _⟩ => rfl
  | ⟨1, _⟩ =>
    show ((((r.val * 7168 + j.val) / 14680064) * 2048 + (r.val * 7168 + j.val) / 7168 % 2048) * 14336 + (7168 + (r.val * 7168 + j.val) % 7168)) / 29360128 % 8 = r.val / 2048
    rw [e1, e2, e3]; omega
  | ⟨2, _⟩ =>
    show ((((r.val * 7168 + j.val) / 14680064) * 2048 + (r.val * 7168 + j.val) / 7168 % 2048) * 14336 + (7168 + (r.val * 7168 + j.val) % 7168)) / 14336 % 2048 = r.val % 2048
    rw [e1, e2, e3]; omega
  | ⟨3, _⟩ =>
    show ((((r.val * 7168 + j.val) / 14680064) * 2048 + (r.val * 7168 + j.val) / 7168 % 2048) * 14336 + (7168 + (r.val * 7168 + j.val) % 7168)) % 14336 = 7168 + j.val
    rw [e1, e2, e3]; omega

end Cert.Attn

end
-- ==== Proof.Attn.Finite.lean ====
/- What the attention's precondition says: the queries, the keys and the relative biases are real numbers. -/
module

public import proofs.«01_k».proof.Defs
public import Idealize.ShloMosaic.Lib.ReduceAll
public import Idealize.ShloMosaic.Lib.Pipeline.Value
public import Idealize.ShloMosaic.PureOps.Ideal.Laws
public import Idealize.ShloMosaic.Lib.ValueIdx

@[expose] public section

set_option maxRecDepth 16384
set_option Elab.async false

noncomputable section
namespace Cert.Attn

open Idealize.ShloMosaic
open Idealize.ShloMosaic.ValueIdx
open Cert.Pre_finite_logits

/-- The precondition's side conditions. -/
instance finite_facts : Cert.Pre_finite_logits.Facts where
  slices_S8x2048x6144_S8x2048x4096_0_0_0 := by decide
  bitsLt_bf16_f32 := by decide
  bcast_S_S8x2048x4096 := by decide
  reducesTo_S8x2048x4096_S_d0_1_2 := by decide
  h_S_ := by decide
  bcast_S_S1x16x257 := by decide
  reducesTo_S1x16x257_S_d0_1_2 := by decide

/-- A value whose magnitude is below infinity is real. -/
theorem real_of_below (x : EReal) (h : Ideal.cmp .olt (max x (-x)) (FloatOps.ofBits (F := Ideal) .f32 0x7F800000#32) = 1#1) : ∃ r : ℝ, x = (r : EReal) := by
  have htop : (FloatOps.ofBits (F := Ideal) .f32 0x7F800000#32 : EReal) = ⊤ := by
    show Ideal.ofBits .f32 0x7F800000#32 = ⊤
    simp [Ideal.ofBits, Ideal.ieee]
  rw [htop] at h
  unfold Ideal.cmp at h
  induction x using EReal.rec with
  | bot => simp at h
  | coe r => exact ⟨r, rfl⟩
  | top => simp at h

theorem finite_both (x0 : FVec Ideal S8x2048x6144 .bf16) (x1 : FVec Ideal S1x16x257 .f32) (x2 : FVec Ideal S1x8x2048x14336 .f32) (i : S_.Idx)
    (h : Cert.Pre_finite_logits.fn (F := Ideal) x0 x1 x2 i = 1#1) :
    (∀ (b : Fin 8) (s : Fin 2048) (n : Fin 6144), n.val < 4096 → ∃ r : ℝ, x0 (ix3 b s n) = (r : EReal)) ∧ ∀ x, ∃ r : ℝ, x1 x = (r : EReal) := by
  unfold Cert.Pre_finite_logits.fn at h
  have : Subsingleton S_.Idx := ⟨fun a b => funext fun k => k.elim0⟩
  obtain ⟨h1, h2⟩ := IntOp.andi_eq_one.1 h
  refine ⟨fun b s n hn => ?_, fun x => ?_⟩
  · have g := Host.reduce_andi_all _ _ _ _ _ h1 (ix3 b s ⟨n.val, hn⟩)
    have e : extractStridedSlice S8x2048x4096 ![0, 0, 0] x0 Facts.slices_S8x2048x6144_S8x2048x4096_0_0_0 (ix3 b s ⟨n.val, hn⟩) = x0 (ix3 b s n) :=
      extractStridedSlice_apply _ x0 _ _ _ fun a => by
        match a with
        | ⟨0, _⟩ => exact (Nat.zero_add _).symm
        | ⟨1, _⟩ => exact (Nat.zero_add _).symm
        | ⟨2, _⟩ => exact (Nat.zero_add _).symm
    rw [← e]
    exact real_of_below _ g
  · exact real_of_below _ (Host.reduce_andi_all _ _ _ _ _ h2 x)

end Cert.Attn

end
-- ==== Proof.Attn.Equal.lean ====
/- The attention core and its reference end with equal results. -/
module

public import proofs.«01_k».proof.Proof.Attn.Value
public import proofs.«01_k».proof.Proof.Attn.Ref
public import proofs.«01_k».proof.Proof.Attn.Finite
public import proofs.«01_k».proof.Proof.Attn.Frames

@[expose] public section

set_option maxRecDepth 16384
set_option Elab.async false

noncomputable section
namespace Cert.Attn

open Idealize.ShloMosaic hiding ix1 ix2 ix3 ix4 ix5
open Idealize.ShloMosaic.ValueIdx Idealize.ShloMosaic.TcCoe Idealize.ShloMosaic.StableHlo
open Idealize.SL.Sem

theorem frame_ideal_finite : quiescent_AttentionIdeal_pre_finite_logits := fun m g _ => frame_ideal m g trivial

theorem frame_reference_finite : quiescent_AttentionReferenceIdeal_pre_finite_logits := fun m g _ => frame_reference m g trivial

section same

variable (m : (ℓ : Loc Cert.AttentionIdeal.nD Cert.AttentionIdeal.τ Cert.AttentionIdeal.sig) → Buf (Elt Ideal) ℓ) (c : Dev Cert.AttentionIdeal.nD)

/-- The first results are the same array. -/
theorem same_first (hpre : Pre_AttentionIdeal_finite_logits m) :
    Cert.AttentionReferenceIdeal.Read.val_main_v88 (F := Ideal) (qkv m c) (relBias m c) = Cert.AttentionIdeal.Value.G5 m c := by
  obtain ⟨hq, hb⟩ := finite_both (qkv m c) (relBias m c) (expertIn m c) (fun a => a.elim0) (congrFun (hpre c) _)
  funext i
  have hix : i = ix3 (i 0) (i 1) (i 2) := funext fun ax => by match ax with | ⟨0, _⟩ => rfl | ⟨1, _⟩ => rfl | ⟨2, _⟩ => rfl
  rw [hix]
  exact (ref_first (qkv m c) (relBias m c) hq hb (i 0) (i 1) (i 2)).trans (first_result m c hb (i 0) (i 1) (i 2)).symm

/-- The second results are the same array. -/
theorem same_second : Cert.AttentionReferenceIdeal.Read.val_main_v89 (F := Ideal) (expertIn m c) = Cert.AttentionIdeal.Value.G6 m c := by
  funext i
  have hix : i = ix2 (i 0) (i 1) := funext fun ax => by match ax with | ⟨0, _⟩ => rfl | ⟨1, _⟩ => rfl
  rw [hix]
  exact (ref_second (expertIn m c) (i 0) (i 1)).trans (second_result m c (i 0) (i 1)).symm

end same

/-- The two programs agree. -/
theorem agree : algebraic_AttentionIdeal_AttentionReferenceIdeal_pre_finite_logits := fun m g m' g' hpre hargs => by
  refine ⟨fun c => Cert.AttentionIdeal.Value.G5 m c, fun c => Cert.AttentionIdeal.Value.G6 m c, Cert.AttentionIdeal.Value.run m g,
    (θ_run _ _ _).mono (fun r h c => ⟨?_, ?_, (h c).2.2⟩) (Cert.AttentionReferenceIdeal.Value.run m' g')⟩
  · obtain ⟨a0, a1, a2⟩ := hargs c
    refine (h c).1.trans ?_
    rw [Cert.AttentionReferenceIdeal.Read.val_main_v88_eq]
    refine Eq.trans ?_ (same_first m c hpre)
    exact congrArg₂ (Cert.AttentionReferenceIdeal.Read.val_main_v88 (F := Ideal)) a0 a1
  · obtain ⟨a0, a1, a2⟩ := hargs c
    refine (h c).2.1.trans ?_
    rw [Cert.AttentionReferenceIdeal.Read.val_main_v89_eq]
    refine Eq.trans ?_ (same_second m c)
    exact congrArg (Cert.AttentionReferenceIdeal.Read.val_main_v89 (F := Ideal)) a2

end Cert.Attn

end
-- ==== Proof.Proj.Common.lean ====
/- Whole-block loads and stores, and a product of two blocks read at one place. -/
module

public import proofs.«01_k».proof.Defs
public import Idealize.ShloMosaic.Lib.MatmulPlain
public import Idealize.ShloMosaic.Lib.WholeRead
public import Idealize.ShloMosaic.Lib.Writes
public import Idealize.ShloMosaic.Lib.Pipeline.ReadBack
public import Idealize.ShloMosaic.Lib.Pipeline.ValueKit

@[expose] public section

set_option maxRecDepth 16384
set_option Elab.async false

noncomputable section
namespace Cert.Proj

open Idealize.ShloMosaic hiding ix1 ix2 ix3
open Idealize.ShloMosaic.ValueIdx
open scoped BigOperators

/-- The matrix shapes. -/
abbrev Mat (a b : ℕ) : Shape := ⟨2, ![a, b]⟩

/-- The rectangle that is the whole block names each place by itself. -/
theorem emb_whole {a b : ℕ} (inb : ∀ k, (![0, 0] : Fin 2 → ℕ) k + (![a, b] : Fin 2 → ℕ) k ≤ (Mat a b).size k) (x : (Mat a b).Idx) :
    (Rect.unit (s := Mat a b) ![0, 0] ![a, b] inb).emb x = x := by
  refine funext fun k => Fin.ext ((ValueKit.rect_emb_unit_val (s := Mat a b) ![0, 0] ![a, b] inb x k).trans ?_)
  match k with
  | ⟨0, _⟩ => exact Nat.zero_add _
  | ⟨1, _⟩ => exact Nat.zero_add _

/-- A load of a whole block. -/
theorem load_whole {sig : RefSig} {κ : Kind} {sp : Space} {e : EltTy} {a b : ℕ} {m : Memref sig κ sp (Mat a b) e} (hm : m.IsWhole) (x : Vec Ideal (Mat a b) e)
    (inb : ∀ k, (![0, 0] : Fin 2 → ℕ) k + (![a, b] : Fin 2 → ℕ) k ≤ (Mat a b).size k) :
    View.readAt (Elt Ideal) m.view (Rect.unit (s := Mat a b) ![0, 0] ![a, b] inb).toLoadRect (hm.unread x) = x :=
  funext fun i => (Memref.IsWhole.readAt_unread hm x _ i).trans (congrArg x (emb_whole inb i))

/-- A load of a whole block just stored. -/
theorem load_stored {sig : RefSig} {κ : Kind} {sp : Space} {e : EltTy} {a b : ℕ} (v : View sig κ sp (Mat a b) e) (f : Vec Ideal (Mat a b) e)
    (inb : ∀ k, (![0, 0] : Fin 2 → ℕ) k + (![a, b] : Fin 2 → ℕ) k ≤ (Mat a b).size k) :
    v.readCov (Val := Elt Ideal) [⟨Rect.unit (s := Mat a b) ![0, 0] ![a, b] inb, f⟩] (Rect.unit (s := Mat a b) ![0, 0] ![a, b] inb).toLoadRect = f := by
  rw [View.readCov_eq_canon']
  funext i
  refine (View.canon_apply_of_pieces (Val := Elt Ideal) f [⟨Rect.unit (s := Mat a b) ![0, 0] ![a, b] inb, f⟩] ?_ _ ?_).trans (congrArg f (emb_whole inb i))
  · intro p hp x
    obtain rfl := List.mem_singleton.mp hp
    exact congrArg f (emb_whole inb x).symm
  · refine ⟨_, List.mem_singleton.mpr rfl, ?_⟩
    show _ ∈ (Rect.unit (s := Mat a b) ![0, 0] ![a, b] inb).set
    rw [Rect.mem_set_unit]
    intro k
    match k with
    | ⟨0, _⟩ => exact ⟨Nat.zero_le _, (Fin.isLt _).trans_le (Nat.le_add_left _ _)⟩
    | ⟨1, _⟩ => exact ⟨Nat.zero_le _, (Fin.isLt _).trans_le (Nat.le_add_left _ _)⟩

theorem exists_ix2 {a b : ℕ} (y : (Mat a b).Idx) : ∃ (r : Fin a) (j : Fin b), y = ix2 r j := ⟨y 0, y 1, ValueIdx.eq_ix2 y⟩

/-- The word of the number zero. -/
theorem zero_word : (FloatOps.ofBits (F := Ideal) .f32 0x00000000#32 : EReal) = 0 := by
  show Ideal.ofBits .f32 0x00000000#32 = 0
  simp [Ideal.ofBits, Ideal.ieee]

/-- A product of two blocks, read at one place: a row times a column. -/
theorem dot_apply {a k b : ℕ} {φ₁ φ₂ : FTy} (x : FVec Ideal (Mat a k) φ₁) (w : FVec Ideal (Mat k b) φ₂) (r : Fin a) (j : Fin b) :
    FloatOps.matmul (F := Ideal) (DotDims.plain a k b) none x w (constant (Mat a b) .f32 0x00000000#32) (ix2 r j) = ∑ q : Fin k, x (ix2 r q) * w (ix2 q j) := by
  rw [Ideal.matmul_plain_apply]
  exact (congrArg (· + ∑ q : Fin k, x (ix2 r q) * w (ix2 q j)) zero_word).trans (zero_add _)

end Cert.Proj

end
-- ==== Proof.Proj.RetentionIn.lean ====
/- The retention in-projection: the call, its run read, and its reference end with equal results. -/
module

public import proofs.«01_k».proof.Proof.Proj.Common
public import proofs.«01_k».proof.Proof.Gen.RetentionIn.Frame
public import proofs.«01_k».proof.Proof.Gen.RetentionInIdeal.Value
public import proofs.«01_k».proof.Proof.Gen.RetentionInReferenceIdeal.Read
public import proofs.«01_k».proof.Proof.Gen.RetentionInReferenceIdeal.Run

@[expose] public section

set_option maxRecDepth 16384
set_option Elab.async false

noncomputable section
namespace Cert.Proj.RetentionIn

open Idealize.ShloMosaic hiding ix1 ix2 ix3 ix4
open Idealize.ShloMosaic.ValueIdx Idealize.ShloMosaic.TcCoe Idealize.ShloMosaic.StableHlo
open Idealize.SL.Sem
open scoped BigOperators

theorem frame_kernel : quiescent_RetentionIn := fun m g _ => Cert.RetentionIn.Gen.frame m g

theorem frame_ideal : quiescent_RetentionInIdeal := fun m g _ => Cert.RetentionInIdeal.Gen.frame m g

theorem frame_reference : quiescent_RetentionInReferenceIdeal := fun m g _ =>
  (θ_run _ _ _).mono (fun r h => ⟨fun c => (h c).2.2, sem_eq_zero_of_no_sems (by decide) r.2⟩) (Cert.RetentionInReferenceIdeal.Value.run m g)

section kernel

open Cert.RetentionInIdeal Cert.RetentionInIdeal.Gen Cert.RetentionInIdeal.Facts₀ Cert.RetentionInIdeal.Facts Cert.RetentionInIdeal.Value

section point

variable (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S128x7168 .f32) (harg4 : arg4.IsWhole) (arg5 : Memref sig .tc .vmem S1024x1024 .bf16) (harg5 : arg5.IsWhole) (arg6 : Memref sig .tc .vmem S128x7168 .bf16) (harg6 : arg6.IsWhole) (arg7 : Memref sig .tc .vmem S2048x1024 .bf16) (harg7 : arg7.IsWhole)
  (x0 : Vec Ideal S1024x2048 .bf16) (x1 : Vec Ideal S2048x1024 .f32) (x2 : Vec Ideal S128x7168 .f32) (xs : Vec Ideal S2048x1024 .bf16)

/-- A later point of a column block stores its rows' product with the weights it finds. -/
theorem out_later (hc0 : ¬cond0_0 i) : out0_B_3 (F := Ideal) c i arg2 harg2 arg3 harg3 arg4 harg4 arg5 harg5 arg6 harg6 arg7 harg7 hc0 x0 x1 x2 xs = k0_pay3 (F := Ideal) x0 xs := by
  funext y
  refine View.read_writes_apply_of_pieces (Val := Elt Ideal) VO0_3 VO0_3.junk (k0_pay3 (F := Ideal) x0 xs) _ (View.PiecesOf.mem ?_) y (cover0_B_3 c i arg2 harg2 arg3 harg3 arg4 harg4 arg5 harg5 arg6 harg6 arg7 harg7 hc0 x0 x1 x2 xs y)
  simp only [kernelRun0_B]
  refine ⟨fun x => ?_, trivial⟩
  refine (congrFun (congrArg₂ k0_pay3 (load_whole harg2 _ Gen.inb_S1024x2048_S1024x2048_0_0) (load_whole harg7 _ Gen.inb_S2048x1024_S2048x1024_0_0)) x).trans ?_
  exact congrArg (k0_pay3 (F := Ideal) x0 xs) (emb_whole Gen.inb_S1024x1024_S1024x1024_0_0 x).symm

/-- It leaves the weights it finds. -/
theorem scratch_later (hc0 : ¬cond0_0 i) : sout0_B_0 (F := Ideal) c i arg2 harg2 arg3 harg3 arg4 harg4 arg5 harg5 arg6 harg6 arg7 harg7 hc0 x0 x1 x2 xs = xs := rfl

/-- A column block's first point leaves the block of weights, rounded. -/
theorem scratch_first (hc0 : cond0_0 i) : sout0_A_0 (F := Ideal) c i arg2 harg2 arg3 harg3 arg4 harg4 arg5 harg5 arg6 harg6 arg7 harg7 hc0 x0 x1 x2 = k0_pay2 (F := Ideal) x1 := by
  funext y
  refine View.read_writes_apply_of_pieces (Val := Elt Ideal) VS0_0 VS0_0.junk (k0_pay2 (F := Ideal) x1) _ (View.PiecesOf.mem ?_) y (scover0_A_0 c i arg2 harg2 arg3 harg3 arg4 harg4 arg5 harg5 arg6 harg6 arg7 harg7 hc0 x0 x1 x2 y)
  simp only [kernelRun0_A]
  refine ⟨fun x => ?_, trivial⟩
  refine (congrFun (congrArg k0_pay2 (load_whole harg3 _ Gen.inb_S2048x1024_S2048x1024_0_0)) x).trans ?_
  exact congrArg (k0_pay2 (F := Ideal) x1) (emb_whole Gen.inb_S2048x1024_S2048x1024_0_0 x).symm

/-- What such a point loads of the weights it has just stored. -/
theorem kept_first : kernelRun0_A.sl.v8 (F := Ideal) c arg3 harg3 arg7 x1 = k0_pay2 (F := Ideal) x1 :=
  (load_stored arg7.view _ Gen.inb_S2048x1024_S2048x1024_0_0).trans (congrArg k0_pay2 (load_whole harg3 _ Gen.inb_S2048x1024_S2048x1024_0_0))

/-- It stores its rows' product with them. -/
theorem out_first (hc0 : cond0_0 i) : out0_A_3 (F := Ideal) c i arg2 harg2 arg3 harg3 arg4 harg4 arg5 harg5 arg6 harg6 arg7 harg7 hc0 x0 x1 x2 = k0_pay3 (F := Ideal) x0 (k0_pay2 (F := Ideal) x1) := by
  funext y
  refine View.read_writes_apply_of_pieces (Val := Elt Ideal) VO0_3 VO0_3.junk (k0_pay3 (F := Ideal) x0 (k0_pay2 (F := Ideal) x1)) _ (View.PiecesOf.mem ?_) y (cover0_A_3 c i arg2 harg2 arg3 harg3 arg4 harg4 arg5 harg5 arg6 harg6 arg7 harg7 hc0 x0 x1 x2 y)
  simp only [kernelRun0_A]
  refine ⟨fun x => ?_, trivial⟩
  refine (congrFun (congrArg₂ k0_pay3 (load_whole harg2 _ Gen.inb_S1024x2048_S1024x2048_0_0) (kept_first c arg3 harg3 arg7 x1)) x).trans ?_
  exact congrArg (k0_pay3 (F := Ideal) x0 (k0_pay2 (F := Ideal) x1)) (emb_whole Gen.inb_S1024x1024_S1024x1024_0_0 x).symm

/-- The block of expert weights a point casts. -/
theorem side_first (hc0 : cond0_0 i) : out0_A_4 (F := Ideal) c i arg2 harg2 arg3 harg3 arg4 harg4 arg5 harg5 arg6 harg6 arg7 harg7 hc0 x0 x1 x2 = k0_pay1 (F := Ideal) x2 := by
  funext y
  refine View.read_writes_apply_of_pieces (Val := Elt Ideal) VO0_4 VO0_4.junk (k0_pay1 (F := Ideal) x2) _ (View.PiecesOf.mem ?_) y (cover0_A_4 c i arg2 harg2 arg3 harg3 arg4 harg4 arg5 harg5 arg6 harg6 arg7 harg7 hc0 x0 x1 x2 y)
  simp only [kernelRun0_A]
  refine ⟨fun x => ?_, trivial⟩
  refine (congrFun (congrArg k0_pay1 (load_whole harg4 _ Gen.inb_S128x7168_S128x7168_0_0)) x).trans ?_
  exact congrArg (k0_pay1 (F := Ideal) x2) (emb_whole Gen.inb_S128x7168_S128x7168_0_0 x).symm

/-- The block of expert weights a point casts. -/
theorem side_later (hc0 : ¬cond0_0 i) : out0_B_4 (F := Ideal) c i arg2 harg2 arg3 harg3 arg4 harg4 arg5 harg5 arg6 harg6 arg7 harg7 hc0 x0 x1 x2 xs = k0_pay1 (F := Ideal) x2 := by
  funext y
  refine View.read_writes_apply_of_pieces (Val := Elt Ideal) VO0_4 VO0_4.junk (k0_pay1 (F := Ideal) x2) _ (View.PiecesOf.mem ?_) y (cover0_B_4 c i arg2 harg2 arg3 harg3 arg4 harg4 arg5 harg5 arg6 harg6 arg7 harg7 hc0 x0 x1 x2 xs y)
  simp only [kernelRun0_B]
  refine ⟨fun x => ?_, trivial⟩
  refine (congrFun (congrArg k0_pay1 (load_whole harg4 _ Gen.inb_S128x7168_S128x7168_0_0)) x).trans ?_
  exact congrArg (k0_pay1 (F := Ideal) x2) (emb_whole Gen.inb_S128x7168_S128x7168_0_0 x).symm

/-- The weights are stored as they are. -/
theorem weights_apply (y : S2048x1024.Idx) : k0_pay2 (F := Ideal) x1 y = x1 y := by
  unfold k0_pay2
  refine (shapeCast_apply _ Gen.shapeCasts_S2048x1024_S2048x1024 y y rfl).trans ?_
  exact shapeCast_apply x1 Gen.shapeCasts_S2048x1024_S2048x1024 y y rfl

/-- So are the expert weights. -/
theorem cast_apply (y : S128x7168.Idx) : k0_pay1 (F := Ideal) x2 y = x2 y := by
  unfold k0_pay1
  exact shapeCast_apply x2 Gen.shapeCasts_S128x7168_S128x7168 y y rfl

/-- A block of the product, read at one place. -/
theorem product_apply (r : Fin 1024) (j : Fin 1024) :
    k0_pay3 (F := Ideal) x0 xs (ix2 r j) = (∑ q : Fin 2048, x0 (ix2 r q) * xs (ix2 q j)) := by
  unfold k0_pay3
  exact dot_apply (φ₁ := .bf16) (φ₂ := .bf16) x0 xs r j

end point

variable (m : (ℓ : Loc nD τ sig) → Buf (Elt Ideal) ℓ) (c : Dev nD)

/-- The arguments. -/
def rows : S16384x2048.Idx → EReal := m ((c : Thread nD τ).loc main_arg0)
def weights : S1x2048x12288.Idx → EReal := m ((c : Thread nD τ).loc main_arg1)
def expertIn : S1x8x2048x14336.Idx → EReal := m ((c : Thread nD τ).loc main_arg2)

theorem point_lt (t : Fin cfg0.N) : t.val < 192 := lt_of_lt_of_eq t.isLt (show cfg0.N = 192 from N_0)

/-- Where the windows' blocks lie. -/
theorem where_rows : ∀ t : Fin cfg0.N, win0_0.index t (0 : Fin 2) = t.val % 16 ∧ win0_0.index t (1 : Fin 2) = 0 := by decide +kernel
theorem where_weights : ∀ t : Fin cfg0.N, win0_1.index t (0 : Fin 2) = 0 ∧ win0_1.index t (1 : Fin 2) = t.val / 16 := by decide +kernel
theorem where_out : ∀ t : Fin cfg0.N, win0_3.index t (0 : Fin 2) = t.val % 16 ∧ win0_3.index t (1 : Fin 2) = t.val / 16 := by decide +kernel
theorem where_in : ∀ t : Fin cfg0.N, win0_2.index t (0 : Fin 2) = t.val * 128 / 192 ∧ win0_2.index t (1 : Fin 2) = 0 := by decide +kernel
theorem where_cast : ∀ t : Fin cfg0.N, win0_4.index t (0 : Fin 2) = t.val * 128 / 192 ∧ win0_4.index t (1 : Fin 2) = 0 := by decide +kernel

/-- A block of rows. -/
theorem rows_apply (t : Fin cfg0.N) (r : Fin 1024) (q : Fin 2048) :
    iblk m c 0 t (ix2 r q) = rows m c (ix2 ⟨t.val % 16 * 1024 + r.val, by omega⟩ q) := by
  unfold iblk
  refine (View.read_apply _ _).trans ?_
  show V m c main_arg0 _ = _
  rw [V_main_arg0]
  refine congrArg (m ((c : Thread nD τ).loc main_arg0)) (funext fun ax => Fin.ext ?_)
  refine ((cfg0.win (0 : Fin 5)).rect_emb_val _ (ix2 r q) ax).trans ?_
  obtain ⟨e0, e1⟩ := where_rows t
  match ax with
  | ⟨0, _⟩ => exact congrArg (· * 1024 + r.val) e0
  | ⟨1, _⟩ => exact (congrArg (· * 2048 + q.val) e1).trans (by simp only [Nat.zero_mul, Nat.zero_add])

/-- The weights as the call finds them. -/
theorem weights_eq : V m c main_v2 = shapeCast S2048x12288 (weights m c) Gen.shapeCasts_S1x2048x12288_S2048x12288 := by
  show StableHlo.after hostOps0 (fun b => m (c, b)) main_v2 = _
  after_results
  rfl

/-- A block of columns of the weights. -/
theorem columns_apply (t : Fin cfg0.N) (q : Fin 2048) (j : Fin 1024) :
    iblk m c 1 t (ix2 q j) = weights m c (ix3 0 q ⟨t.val / 16 * 1024 + j.val, by have := point_lt t; omega⟩) := by
  have e : iblk m c 1 t (ix2 q j) = V m c main_v2 (ix2 q (⟨t.val / 16 * 1024 + j.val, by have := point_lt t; omega⟩ : Fin 12288)) := by
    unfold iblk
    refine (View.read_apply _ _).trans ?_
    show V m c main_v2 _ = _
    refine congrArg (V m c main_v2) (funext fun ax => Fin.ext ?_)
    refine ((cfg0.win (1 : Fin 5)).rect_emb_val _ (ix2 q j) ax).trans ?_
    obtain ⟨e0, e1⟩ := where_weights t
    match ax with
    | ⟨0, _⟩ => exact (congrArg (· * 2048 + q.val) e0).trans (by simp only [Nat.zero_mul, Nat.zero_add])
    | ⟨1, _⟩ => exact congrArg (· * 1024 + j.val) e1
  rw [e, weights_eq]
  refine shapeCast_apply (weights m c) Gen.shapeCasts_S1x2048x12288_S2048x12288 _ (ix3 0 q ⟨t.val / 16 * 1024 + j.val, by have := point_lt t; omega⟩) ?_
  rw [Shape.rowMajor_val_two, Shape.rowMajor_val_three]
  show (0 * 2048 + q.val) * 12288 + (t.val / 16 * 1024 + j.val) = q.val * 12288 + (t.val / 16 * 1024 + j.val)
  simp only [Nat.zero_mul, Nat.zero_add]

/-- The experts' weights, one expert's rows after another's. -/
theorem stacked_eq : V m c main_v1 = shapeCast S16384x14336 (shapeCast S8x2048x14336 (expertIn m c) Gen.shapeCasts_S1x8x2048x14336_S8x2048x14336) Gen.shapeCasts_S8x2048x14336_S16384x14336 := by
  show StableHlo.after hostOps0 (fun b => m (c, b)) main_v1 = _
  after_results
  rfl

/-- Read at one place. -/
theorem stacked_apply (z : Fin 16384) (j : Fin 14336) :
    V m c main_v1 (ix2 z j) = expertIn m c (ix4 0 ⟨z.val / 2048, by omega⟩ ⟨z.val % 2048, by omega⟩ j) := by
  rw [stacked_eq]
  refine (shapeCast_apply _ Gen.shapeCasts_S8x2048x14336_S16384x14336 _ (ix3 (⟨z.val / 2048, by omega⟩ : Fin 8) (⟨z.val % 2048, by omega⟩ : Fin 2048) j) ?_).trans ?_
  · rw [Shape.rowMajor_val_two, Shape.rowMajor_val_three]
    show (z.val / 2048 * 2048 + z.val % 2048) * 14336 + j.val = z.val * 14336 + j.val
    rw [Nat.div_add_mod']
  · refine shapeCast_apply (expertIn m c) Gen.shapeCasts_S1x8x2048x14336_S8x2048x14336 _ (ix4 0 (⟨z.val / 2048, by omega⟩ : Fin 8) (⟨z.val % 2048, by omega⟩ : Fin 2048) j) ?_
    rw [Shape.rowMajor_val_four, Shape.rowMajor_val_three]
    show ((0 * 8 + z.val / 2048) * 2048 + z.val % 2048) * 14336 + j.val = (z.val / 2048 * 2048 + z.val % 2048) * 14336 + j.val
    simp only [Nat.zero_mul, Nat.zero_add]

/-- A block of the expert weights' lower halves. -/
theorem half_apply (t : Fin cfg0.N) (r : Fin 128) (j : Fin 7168) :
    iblk m c 2 t (ix2 r j) = expertIn m c (ix4 0 ⟨(t.val * 128 / 192 * 128 + r.val) / 2048, by have := point_lt t; omega⟩ ⟨(t.val * 128 / 192 * 128 + r.val) % 2048, by omega⟩ ⟨j.val, by omega⟩) := by
  have e : iblk m c 2 t (ix2 r j) = V m c main_v1 (ix2 (⟨t.val * 128 / 192 * 128 + r.val, by have := point_lt t; omega⟩ : Fin 16384) (⟨j.val, by omega⟩ : Fin 14336)) := by
    unfold iblk
    refine (View.read_apply _ _).trans ?_
    show V m c main_v1 _ = _
    refine congrArg (V m c main_v1) (funext fun ax => Fin.ext ?_)
    refine ((cfg0.win (2 : Fin 5)).rect_emb_val _ (ix2 r j) ax).trans ?_
    obtain ⟨e0, e1⟩ := where_in t
    match ax with
    | ⟨0, _⟩ => exact congrArg (· * 128 + r.val) e0
    | ⟨1, _⟩ => exact (congrArg (· * 7168 + j.val) e1).trans (by simp only [Nat.zero_mul, Nat.zero_add])
  rw [e]
  exact stacked_apply m c _ _

theorem outs_congr (n n' : ℕ) (h : n < cfg0.N) (h' : n' < cfg0.N) (e : n = n') : outsAt0 m c n h = outsAt0 m c n' h' := by
  subst e; rfl

/-- The points of a column block read the same weights. -/
theorem columns_congr (t t' : Fin cfg0.N) (h : t'.val / 16 = t.val / 16) : k0_pay2 (F := Ideal) (iblk m c 1 t') = k0_pay2 (F := Ideal) (iblk m c 1 t) := by
  funext y
  obtain ⟨q, j, rfl⟩ := exists_ix2 y
  refine (weights_apply (iblk m c 1 t') (ix2 q j)).trans (Eq.trans ?_ (weights_apply (iblk m c 1 t) (ix2 q j)).symm)
  refine (columns_apply m c t' q j).trans (Eq.trans ?_ (columns_apply m c t q j).symm)
  exact congrArg (fun z => weights m c (ix3 0 q z)) (Fin.ext (congrArg (· * 1024 + j.val) h))

/-- What a point leaves: the product of its blocks, and its weights in the scratch. -/
def Holds (t : Fin cfg0.N) : Prop :=
  (outsAt0 m c t.val t.isLt).1 = k0_pay3 (F := Ideal) (iblk m c 0 t) (k0_pay2 (F := Ideal) (iblk m c 1 t)) ∧ (outsAt0 m c t.val t.isLt).2.2 = k0_pay2 (F := Ideal) (iblk m c 1 t)

theorem holds_first (t : Fin cfg0.N) (h0 : t.val % 16 = 0) : Holds m c t := by
  refine ⟨?_, ?_⟩
  · have g := congrArg (fun p => p.1) (outsAt0_A m c t h0)
    dsimp only at g
    exact g.trans (out_first c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) ((hcond0_0 t).mpr h0))
  · have g := congrArg (fun p => p.2.2) (outsAt0_A m c t h0)
    dsimp only at g
    exact g.trans (scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) ((hcond0_0 t).mpr h0))

theorem holds_later (t t' : Fin cfg0.N) (h0 : ¬t.val % 16 = 0) (ht : t'.val = t.val - 1) (ih : Holds m c t') : Holds m c t := by
  have hs : (outsAt0 m c (t.val - 1) (Nat.lt_of_le_of_lt (Nat.sub_le _ _) t.isLt)).2.2 = k0_pay2 (F := Ideal) (iblk m c 1 t) := by
    rw [outs_congr m c _ _ _ t'.isLt ht.symm, ih.2]
    exact columns_congr m c t t' (by omega)
  refine ⟨(congrArg (fun p => p.1) (outsAt0_B m c t h0)).trans ((out_later c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ (fun h => h0 ((hcond0_0 t).mp h))).trans ?_),
    (congrArg (fun p => p.2.2) (outsAt0_B m c t h0)).trans ((scratch_later c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ (fun h => h0 ((hcond0_0 t).mp h))).trans hs)⟩
  rw [hs]

theorem holds (n : ℕ) : ∀ h : n < cfg0.N, Holds m c ⟨n, h⟩ := by
  induction n with
  | zero => exact fun h => holds_first m c ⟨0, h⟩ rfl
  | succ n ih =>
    intro h
    by_cases h0 : (n + 1) % 16 = 0
    · exact holds_first m c ⟨n + 1, h⟩ h0
    · exact holds_later m c ⟨n + 1, h⟩ ⟨n, by omega⟩ h0 rfl (ih _)

/-- The product of the arrays. -/
def product : S16384x12288.Idx → EReal := fun i => (∑ q : Fin 2048, rows m c (ix2 (i 0) q) * weights m c (ix3 0 q (i 1)))

/-- A point's block of it. -/
theorem block_apply (t : Fin cfg0.N) (r : Fin 1024) (j : Fin 1024) :
    (outsAt0 m c t.val t.isLt).1 (ix2 r j) = product m c (ix2 ⟨t.val % 16 * 1024 + r.val, by omega⟩ ⟨t.val / 16 * 1024 + j.val, by have := point_lt t; omega⟩) := by
  refine (congrFun (holds m c t.val t.isLt).1 (ix2 r j)).trans ?_
  refine (product_apply (iblk m c 0 t) (k0_pay2 (F := Ideal) (iblk m c 1 t)) r j).trans ?_

  refine Finset.sum_congr rfl fun q _ => ?_
  exact congrArg₂ (fun a b : EReal => a * b) (rows_apply m c t r q) ((weights_apply (iblk m c 1 t) (ix2 q j)).trans (columns_apply m c t q j))

/-- Every point writes its block back. -/
theorem writes_back : ∀ t : Fin cfg0.N, (cfg0.win 3).flush t = true := (by decide +kernel : ∀ t : Fin grid0.N, win0_3.flush t = true)

/-- The result array after the run. -/
theorem final_product : (dats m 0 c).arrAt 3 cfg0.N = product m c := by
  refine (dats m 0 c).arrAt_eq_of_cover 3 (product m c) (fun t _ => ?_) (fun i => ?_)
  · rw [flushed3]
    funext y
    obtain ⟨e0, e1⟩ := where_out t
    have hy0 : (y 0).val < 1024 := (y 0).isLt
    have hy1 : (y 1).val < 1024 := (y 1).isLt
    have hx : (cfg0.win 3).xinj (grid0.coords t) y = ix2 (⟨(y 0).val, hy0⟩ : Fin 1024) (⟨(y 1).val, hy1⟩ : Fin 1024) := by
      funext a
      match a with
      | ⟨0, _⟩ => rfl
      | ⟨1, _⟩ => rfl
    show (outsAt0 m c t.val t.isLt).1 ((cfg0.win 3).xinj (grid0.coords t) y) = product m c (((cfg0.win 3).blk t).view.emb y)
    refine (congrArg (outsAt0 m c t.val t.isLt).1 hx).trans ((block_apply m c t _ _).trans ?_)
    refine congrArg (product m c) (funext fun a => Fin.ext ?_)
    have hb0 : (((cfg0.win 3).blk t).view.emb y 0).val = win0_3.index t (0 : Fin 2) * 1024 + 1 * (y 0).val := rfl
    have hb1 : (((cfg0.win 3).blk t).view.emb y 1).val = win0_3.index t (1 : Fin 2) * 1024 + 1 * (y 1).val := rfl
    match a with
    | ⟨0, _⟩ => exact Eq.trans (by rw [e0, Nat.one_mul]) hb0.symm
    | ⟨1, _⟩ => exact Eq.trans (by rw [e1, Nat.one_mul]) hb1.symm
  · have h0 : (i 0).val < 16384 := (i 0).isLt
    have h1 : (i 1).val < 12288 := (i 1).isLt
    obtain ⟨t, ht⟩ : ∃ t : Fin cfg0.N, t.val = (i 0).val / 1024 + 16 * ((i 1).val / 1024) :=
      ⟨⟨(i 0).val / 1024 + 16 * ((i 1).val / 1024), by rw [show cfg0.N = 192 from N_0]; omega⟩, rfl⟩
    obtain ⟨e0, e1⟩ := where_out t
    refine ⟨t, writes_back t, ?_⟩
    show i ∈ ((View.whole main_v3_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-- The experts' lower halves, one expert's rows after another's. -/
def halves : S16384x7168.Idx → EReal := fun i => expertIn m c (ix4 0 ⟨(i 0).val / 2048, by have h : (i 0).val < 16384 := (i 0).isLt; omega⟩ ⟨(i 0).val % 2048, by omega⟩ ⟨(i 1).val, by have h : (i 1).val < 7168 := (i 1).isLt; omega⟩)

/-- What a point leaves in the second output. -/
theorem side_block (t : Fin cfg0.N) (r : Fin 128) (j : Fin 7168) : (outsAt0 m c t.val t.isLt).2.1 (ix2 r j) = halves m c (ix2 ⟨t.val * 128 / 192 * 128 + r.val, by have := point_lt t; omega⟩ j) := by
  refine Eq.trans ?_ (half_apply m c t r j)
  refine Eq.trans ?_ (cast_apply (iblk m c 2 t) (ix2 r j))
  by_cases h0 : t.val % 16 = 0
  · have g := congrArg (fun p => p.2.1) (outsAt0_A m c t h0)
    dsimp only at g
    exact congrFun (g.trans (side_first c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) ((hcond0_0 t).mpr h0))) (ix2 r j)
  · have g := congrArg (fun p => p.2.1) (outsAt0_B m c t h0)
    dsimp only at g
    exact congrFun (g.trans (side_later c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ (fun h => h0 ((hcond0_0 t).mp h)))) (ix2 r j)

/-- Each block of the second result is written back at the last point that holds it. -/
theorem casts_back : ∀ q : Fin 128, (cfg0.win 4).flush ⟨(3 * q.val + 2) / 2, lt_of_lt_of_eq (by omega) (show cfg0.N = 192 from N_0).symm⟩ = true :=
  (by decide +kernel : ∀ q : Fin 128, win0_4.flush (⟨(3 * q.val + 2) / 2, lt_of_lt_of_eq (by omega) N_0.symm⟩ : Fin grid0.N) = true)

/-- The second result array after the run. -/
theorem final_halves : (dats m 0 c).arrAt 4 cfg0.N = halves m c := by
  refine (dats m 0 c).arrAt_eq_of_cover 4 (halves m c) (fun t _ => ?_) (fun i => ?_)
  · rw [flushed4]
    funext y
    obtain ⟨e0, e1⟩ := where_cast t
    have hy0 : (y 0).val < 128 := (y 0).isLt
    have hy1 : (y 1).val < 7168 := (y 1).isLt
    have hx : (cfg0.win 4).xinj (grid0.coords t) y = ix2 (⟨(y 0).val, hy0⟩ : Fin 128) (⟨(y 1).val, hy1⟩ : Fin 7168) := by
      funext a
      match a with
      | ⟨0, _⟩ => rfl
      | ⟨1, _⟩ => rfl
    show (outsAt0 m c t.val t.isLt).2.1 ((cfg0.win 4).xinj (grid0.coords t) y) = halves m c (((cfg0.win 4).blk t).view.emb y)
    refine (congrArg (outsAt0 m c t.val t.isLt).2.1 hx).trans ((side_block m c t _ _).trans ?_)
    refine congrArg (halves m c) (funext fun a => Fin.ext ?_)
    have hb0 : (((cfg0.win 4).blk t).view.emb y 0).val = win0_4.index t (0 : Fin 2) * 128 + 1 * (y 0).val := rfl
    have hb1 : (((cfg0.win 4).blk t).view.emb y 1).val = win0_4.index t (1 : Fin 2) * 7168 + 1 * (y 1).val := rfl
    match a with
    | ⟨0, _⟩ => exact Eq.trans (by rw [e0, Nat.one_mul]) hb0.symm
    | ⟨1, _⟩ => exact Eq.trans (by rw [e1, Nat.one_mul, Nat.zero_mul, Nat.zero_add]) hb1.symm
  · have h0 : (i 0).val < 16384 := (i 0).isLt
    have h1 : (i 1).val < 7168 := (i 1).isLt
    obtain ⟨t, hf, ht⟩ : ∃ t : Fin cfg0.N, (cfg0.win 4).flush t = true ∧ t.val = (3 * ((i 0).val / 128) + 2) / 2 :=
      ⟨_, casts_back ⟨(i 0).val / 128, by omega⟩, rfl⟩
    obtain ⟨e0, e1⟩ := where_cast t
    refine ⟨t, hf, ?_⟩
    show i ∈ ((View.whole main_v3_1).slice (win0_4.rect t)).set
    rw [View.set_slice_whole, Rect.mem_set_unit]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 7168 ≤ (i 1).val ∧ (i 1).val < win0_4.index t (1 : Fin 2) * 7168 + 7168; omega

/-- The reference's array is the same. -/
theorem same_product : Cert.RetentionInReferenceIdeal.Read.val_main_v6 (F := Ideal) (rows m c) (weights m c) = product m c := by
  funext i
  have h0 : (i 0).val < 16384 := (i 0).isLt
  have h1 : (i 1).val < 12288 := (i 1).isLt
  rw [Cert.RetentionInReferenceIdeal.Read.val_main_v6_apply]
  have e : Cert.RetentionInReferenceIdeal.Read.val_main_v2 (F := Ideal) (rows m c) (weights m c) i = ∑ q : Fin 2048, rows m c (ix2 (i 0) q) * weights m c (ix3 0 q (i 1)) := by
    rw [Cert.RetentionInReferenceIdeal.Read.val_main_v2_apply]
    refine Finset.sum_congr rfl fun q _ => ?_
    rw [Cert.RetentionInReferenceIdeal.Read.val_main_v0_apply, Cert.RetentionInReferenceIdeal.Read.val_main_v1_apply]
    refine congrArg₂ (fun a b : EReal => a * b) ?_ ?_
    · refine congrArg (rows m c) (funext fun a => ?_)
      match a with
      | ⟨0, _⟩ => rfl
      | ⟨1, _⟩ => rfl
    · refine congrArg (weights m c) (funext fun a => Fin.ext ?_)
      match a with
      | ⟨0, _⟩ => rfl
      | ⟨1, _⟩ => show (q.val * 12288 + (i 1).val) / 12288 % 2048 = q.val; omega
      | ⟨2, _⟩ => show (q.val * 12288 + (i 1).val) % 12288 = (i 1).val; omega
  exact e

theorem same_halves : Cert.RetentionInReferenceIdeal.Read.val_main_v7 (F := Ideal) (expertIn m c) = halves m c := by
  funext i
  have h0 : (i 0).val < 16384 := (i 0).isLt
  have h1 : (i 1).val < 7168 := (i 1).isLt
  have e5 : Cert.RetentionInReferenceIdeal.Read.idx_main_v5 i = ix3 (⟨(i 0).val / 2048, by omega⟩ : Fin 8) (⟨(i 0).val % 2048, by omega⟩ : Fin 2048) (⟨(i 1).val, h1⟩ : Fin 7168) := by
    funext a
    match a with
    | ⟨0, _⟩ => exact Fin.ext (by show ((i 0).val * 7168 + (i 1).val) / 14680064 = (i 0).val / 2048; omega)
    | ⟨1, _⟩ => exact Fin.ext (by show ((i 0).val * 7168 + (i 1).val) / 7168 % 2048 = (i 0).val % 2048; omega)
    | ⟨2, _⟩ => exact Fin.ext (by show ((i 0).val * 7168 + (i 1).val) % 7168 = (i 1).val; omega)
  rw [Cert.RetentionInReferenceIdeal.Read.val_main_v7_apply, Cert.RetentionInReferenceIdeal.Read.val_main_v5_apply, e5, Cert.RetentionInReferenceIdeal.Read.val_main_v4_apply, Cert.RetentionInReferenceIdeal.Read.val_main_v3_apply]
  have g : (i 0).val / 2048 * 2048 + (i 0).val % 2048 = (i 0).val := Nat.div_add_mod' _ _
  refine congrArg (expertIn m c) (funext fun a => Fin.ext ?_)
  match a with
  | ⟨0, _⟩ => rfl
  | ⟨1, _⟩ => show (((i 0).val / 2048 * 2048 + (i 0).val % 2048) * 14336 + (i 1).val) / 29360128 % 8 = (i 0).val / 2048; rw [g]; omega
  | ⟨2, _⟩ => show (((i 0).val / 2048 * 2048 + (i 0).val % 2048) * 14336 + (i 1).val) / 14336 % 2048 = (i 0).val % 2048; rw [g]; omega
  | ⟨3, _⟩ => show (((i 0).val / 2048 * 2048 + (i 0).val % 2048) * 14336 + (i 1).val) % 14336 = (i 1).val; rw [g]; omega

end kernel

/-- The two programs agree. -/
theorem agree : algebraic_RetentionInIdeal_RetentionInReferenceIdeal := fun m g m' g' _ hargs => by
  refine ⟨fun c => product m c, fun c => halves m c,
    (θ_run _ _ _).mono (fun r h c => ⟨(h c).1.trans (final_product m c), (h c).2.1.trans (final_halves m c), (h c).2.2⟩) (Cert.RetentionInIdeal.Value.run_blocks m g),
    (θ_run _ _ _).mono (fun r h c => ⟨?_, ?_, (h c).2.2⟩) (Cert.RetentionInReferenceIdeal.Value.run m' g')⟩
  · obtain ⟨a0, a1, a2⟩ := hargs c
    refine (h c).1.trans ?_
    rw [Cert.RetentionInReferenceIdeal.Read.val_main_v6_eq]
    exact Eq.trans (congrArg₂ (Cert.RetentionInReferenceIdeal.Read.val_main_v6 (F := Ideal)) a0 a1) (same_product m c)
  · obtain ⟨a0, a1, a2⟩ := hargs c
    refine (h c).2.1.trans ?_
    rw [Cert.RetentionInReferenceIdeal.Read.val_main_v7_eq]
    exact Eq.trans (congrArg (Cert.RetentionInReferenceIdeal.Read.val_main_v7 (F := Ideal)) a2) (same_halves m c)

end Cert.Proj.RetentionIn

end
-- ==== Proof.Proj.RetentionOut.lean ====
/- The retention out-projection: the call, its run read, and its reference end with equal results. -/
module

public import proofs.«01_k».proof.Proof.Proj.Common
public import proofs.«01_k».proof.Proof.Gen.RetentionOut.Frame
public import proofs.«01_k».proof.Proof.Gen.RetentionOutIdeal.Value
public import proofs.«01_k».proof.Proof.Gen.RetentionOutReferenceIdeal.Read
public import proofs.«01_k».proof.Proof.Gen.RetentionOutReferenceIdeal.Run

@[expose] public section

set_option maxRecDepth 16384
set_option Elab.async false

noncomputable section
namespace Cert.Proj.RetentionOut

open Idealize.ShloMosaic hiding ix1 ix2 ix3 ix4
open Idealize.ShloMosaic.ValueIdx Idealize.ShloMosaic.TcCoe Idealize.ShloMosaic.StableHlo
open Idealize.SL.Sem
open scoped BigOperators

theorem frame_kernel : quiescent_RetentionOut := fun m g _ => Cert.RetentionOut.Gen.frame m g

theorem frame_ideal : quiescent_RetentionOutIdeal := fun m g _ => Cert.RetentionOutIdeal.Gen.frame m g

theorem frame_reference : quiescent_RetentionOutReferenceIdeal := fun m g _ =>
  (θ_run _ _ _).mono (fun r h => ⟨fun c => (h c).2, sem_eq_zero_of_no_sems (by decide) r.2⟩) (Cert.RetentionOutReferenceIdeal.Value.run m g)

section kernel

open Cert.RetentionOutIdeal Cert.RetentionOutIdeal.Gen Cert.RetentionOutIdeal.Facts₀ Cert.RetentionOutIdeal.Facts Cert.RetentionOutIdeal.Value

section point

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S4096x512 .f32) (x2 : Vec Ideal S1024x512 .f32) (xs : Vec Ideal S4096x512 .bf16)

/-- A later point of a column block stores its rows' product with the weights it finds. -/
theorem out_later (hc0 : ¬cond0_0 i) : out0_B_3 (F := Ideal) c i arg2 harg2 arg3 harg3 arg4 harg4 arg5 harg5 arg6 harg6 hc0 x0 x1 x2 xs = k0_pay2 (F := Ideal) x0 xs x2 := by
  funext y
  refine View.read_writes_apply_of_pieces (Val := Elt Ideal) VO0_3 VO0_3.junk (k0_pay2 (F := Ideal) x0 xs x2) _ (View.PiecesOf.mem ?_) y (cover0_B_3 c i arg2 harg2 arg3 harg3 arg4 harg4 arg5 harg5 arg6 harg6 hc0 x0 x1 x2 xs y)
  simp only [kernelRun0_B]
  refine ⟨fun x => ?_, trivial⟩
  refine (congrFun (congr (congrArg₂ k0_pay2 (load_whole harg2 _ Gen.inb_S1024x4096_S1024x4096_0_0) (load_whole harg6 _ Gen.inb_S4096x512_S4096x512_0_0)) (load_whole harg4 _ Gen.inb_S1024x512_S1024x512_0_0)) x).trans ?_
  exact congrArg (k0_pay2 (F := Ideal) x0 xs x2) (emb_whole Gen.inb_S1024x512_S1024x512_0_0 x).symm

/-- It leaves the weights it finds. -/
theorem scratch_later (hc0 : ¬cond0_0 i) : sout0_B_0 (F := Ideal) c i arg2 harg2 arg3 harg3 arg4 harg4 arg5 harg5 arg6 harg6 hc0 x0 x1 x2 xs = xs := rfl

/-- A column block's first point leaves the block of weights, rounded. -/
theorem scratch_first (hc0 : cond0_0 i) : sout0_A_0 (F := Ideal) c i arg2 harg2 arg3 harg3 arg4 harg4 arg5 harg5 arg6 harg6 hc0 x0 x1 x2 = k0_pay1 (F := Ideal) x1 := by
  funext y
  refine View.read_writes_apply_of_pieces (Val := Elt Ideal) VS0_0 VS0_0.junk (k0_pay1 (F := Ideal) x1) _ (View.PiecesOf.mem ?_) y (scover0_A_0 c i arg2 harg2 arg3 harg3 arg4 harg4 arg5 harg5 arg6 harg6 hc0 x0 x1 x2 y)
  simp only [kernelRun0_A]
  refine ⟨fun x => ?_, trivial⟩
  refine (congrFun (congrArg k0_pay1 (load_whole harg3 _ Gen.inb_S4096x512_S4096x512_0_0)) x).trans ?_
  exact congrArg (k0_pay1 (F := Ideal) x1) (emb_whole Gen.inb_S4096x512_S4096x512_0_0 x).symm

/-- What such a point loads of the weights it has just stored. -/
theorem kept_first : kernelRun0_A.sl.v4 (F := Ideal) c arg3 harg3 arg6 x1 = k0_pay1 (F := Ideal) x1 :=
  (load_stored arg6.view _ Gen.inb_S4096x512_S4096x512_0_0).trans (congrArg k0_pay1 (load_whole harg3 _ Gen.inb_S4096x512_S4096x512_0_0))

/-- It stores its rows' product with them. -/
theorem out_first (hc0 : cond0_0 i) : out0_A_3 (F := Ideal) c i arg2 harg2 arg3 harg3 arg4 harg4 arg5 harg5 arg6 harg6 hc0 x0 x1 x2 = k0_pay2 (F := Ideal) x0 (k0_pay1 (F := Ideal) x1) x2 := by
  funext y
  refine View.read_writes_apply_of_pieces (Val := Elt Ideal) VO0_3 VO0_3.junk (k0_pay2 (F := Ideal) x0 (k0_pay1 (F := Ideal) x1) x2) _ (View.PiecesOf.mem ?_) y (cover0_A_3 c i arg2 harg2 arg3 harg3 arg4 harg4 arg5 harg5 arg6 harg6 hc0 x0 x1 x2 y)
  simp only [kernelRun0_A]
  refine ⟨fun x => ?_, trivial⟩
  refine (congrFun (congr (congrArg₂ k0_pay2 (load_whole harg2 _ Gen.inb_S1024x4096_S1024x4096_0_0) (kept_first c arg3 harg3 arg6 x1)) (load_whole harg4 _ Gen.inb_S1024x512_S1024x512_0_0)) x).trans ?_
  exact congrArg (k0_pay2 (F := Ideal) x0 (k0_pay1 (F := Ideal) x1) x2) (emb_whole Gen.inb_S1024x512_S1024x512_0_0 x).symm

/-- The weights are stored as they are. -/
theorem weights_apply (y : S4096x512.Idx) : k0_pay1 (F := Ideal) x1 y = x1 y := by
  unfold k0_pay1
  refine (shapeCast_apply _ Gen.shapeCasts_S4096x512_S4096x512 y y rfl).trans ?_
  exact shapeCast_apply x1 Gen.shapeCasts_S4096x512_S4096x512 y y rfl

/-- A block of the product, read at one place. -/
theorem product_apply (r : Fin 1024) (j : Fin 512) :
    k0_pay2 (F := Ideal) x0 xs x2 (ix2 r j) = (∑ q : Fin 4096, x0 (ix2 r q) * xs (ix2 q j)) + x2 (ix2 r j) := by
  unfold k0_pay2
  exact congrArg (· + x2 (ix2 r j)) (dot_apply (φ₁ := .bf16) (φ₂ := .bf16) x0 xs r j)

end point

variable (m : (ℓ : Loc nD τ sig) → Buf (Elt Ideal) ℓ) (c : Dev nD)

/-- The arguments. -/
def rows : S16384x4096.Idx → EReal := m ((c : Thread nD τ).loc main_arg0)
def weights : S1x4096x2048.Idx → EReal := m ((c : Thread nD τ).loc main_arg1)
def residual : S16384x2048.Idx → EReal := m ((c : Thread nD τ).loc main_arg2)

theorem point_lt (t : Fin cfg0.N) : t.val < 64 := lt_of_lt_of_eq t.isLt (show cfg0.N = 64 from N_0)

/-- Where the windows' blocks lie. -/
theorem where_rows : ∀ t : Fin cfg0.N, win0_0.index t (0 : Fin 2) = t.val % 16 ∧ win0_0.index t (1 : Fin 2) = 0 := by decide +kernel
theorem where_weights : ∀ t : Fin cfg0.N, win0_1.index t (0 : Fin 2) = 0 ∧ win0_1.index t (1 : Fin 2) = t.val / 16 := by decide +kernel
theorem where_out : ∀ t : Fin cfg0.N, win0_3.index t (0 : Fin 2) = t.val % 16 ∧ win0_3.index t (1 : Fin 2) = t.val / 16 := by decide +kernel
theorem where_residual : ∀ t : Fin cfg0.N, win0_2.index t (0 : Fin 2) = t.val % 16 ∧ win0_2.index t (1 : Fin 2) = t.val / 16 := by decide +kernel

/-- A block of rows. -/
theorem rows_apply (t : Fin cfg0.N) (r : Fin 1024) (q : Fin 4096) :
    iblk m c 0 t (ix2 r q) = rows m c (ix2 ⟨t.val % 16 * 1024 + r.val, by omega⟩ q) := by
  unfold iblk
  refine (View.read_apply _ _).trans ?_
  show V m c main_arg0 _ = _
  rw [V_main_arg0]
  refine congrArg (m ((c : Thread nD τ).loc main_arg0)) (funext fun ax => Fin.ext ?_)
  refine ((cfg0.win (0 : Fin 4)).rect_emb_val _ (ix2 r q) ax).trans ?_
  obtain ⟨e0, e1⟩ := where_rows t
  match ax with
  | ⟨0, _⟩ => exact congrArg (· * 1024 + r.val) e0
  | ⟨1, _⟩ => exact (congrArg (· * 4096 + q.val) e1).trans (by simp only [Nat.zero_mul, Nat.zero_add])

/-- The weights as the call finds them. -/
theorem weights_eq : V m c main_v0 = shapeCast S4096x2048 (weights m c) Gen.shapeCasts_S1x4096x2048_S4096x2048 := by
  show StableHlo.after hostOps0 (fun b => m (c, b)) main_v0 = _
  after_results
  rfl

/-- A block of columns of the weights. -/
theorem columns_apply (t : Fin cfg0.N) (q : Fin 4096) (j : Fin 512) :
    iblk m c 1 t (ix2 q j) = weights m c (ix3 0 q ⟨t.val / 16 * 512 + j.val, by have := point_lt t; omega⟩) := by
  have e : iblk m c 1 t (ix2 q j) = V m c main_v0 (ix2 q (⟨t.val / 16 * 512 + j.val, by have := point_lt t; omega⟩ : Fin 2048)) := by
    unfold iblk
    refine (View.read_apply _ _).trans ?_
    show V m c main_v0 _ = _
    refine congrArg (V m c main_v0) (funext fun ax => Fin.ext ?_)
    refine ((cfg0.win (1 : Fin 4)).rect_emb_val _ (ix2 q j) ax).trans ?_
    obtain ⟨e0, e1⟩ := where_weights t
    match ax with
    | ⟨0, _⟩ => exact (congrArg (· * 4096 + q.val) e0).trans (by simp only [Nat.zero_mul, Nat.zero_add])
    | ⟨1, _⟩ => exact congrArg (· * 512 + j.val) e1
  rw [e, weights_eq]
  refine shapeCast_apply (weights m c) Gen.shapeCasts_S1x4096x2048_S4096x2048 _ (ix3 0 q ⟨t.val / 16 * 512 + j.val, by have := point_lt t; omega⟩) ?_
  rw [Shape.rowMajor_val_two, Shape.rowMajor_val_three]
  show (0 * 4096 + q.val) * 2048 + (t.val / 16 * 512 + j.val) = q.val * 2048 + (t.val / 16 * 512 + j.val)
  simp only [Nat.zero_mul, Nat.zero_add]

/-- A block of the residual. -/
theorem residual_apply (t : Fin cfg0.N) (r : Fin 1024) (j : Fin 512) :
    iblk m c 2 t (ix2 r j) = residual m c (ix2 ⟨t.val % 16 * 1024 + r.val, by omega⟩ ⟨t.val / 16 * 512 + j.val, by have := point_lt t; omega⟩) := by
  unfold iblk
  refine (View.read_apply _ _).trans ?_
  show V m c main_arg2 _ = _
  rw [V_main_arg2]
  refine congrArg (m ((c : Thread nD τ).loc main_arg2)) (funext fun ax => Fin.ext ?_)
  refine ((cfg0.win (2 : Fin 4)).rect_emb_val _ (ix2 r j) ax).trans ?_
  obtain ⟨e0, e1⟩ := where_residual t
  match ax with
  | ⟨0, _⟩ => exact congrArg (· * 1024 + r.val) e0
  | ⟨1, _⟩ => exact congrArg (· * 512 + j.val) e1

theorem outs_congr (n n' : ℕ) (h : n < cfg0.N) (h' : n' < cfg0.N) (e : n = n') : outsAt0 m c n h = outsAt0 m c n' h' := by
  subst e; rfl

/-- The points of a column block read the same weights. -/
theorem columns_congr (t t' : Fin cfg0.N) (h : t'.val / 16 = t.val / 16) : k0_pay1 (F := Ideal) (iblk m c 1 t') = k0_pay1 (F := Ideal) (iblk m c 1 t) := by
  funext y
  obtain ⟨q, j, rfl⟩ := exists_ix2 y
  refine (weights_apply (iblk m c 1 t') (ix2 q j)).trans (Eq.trans ?_ (weights_apply (iblk m c 1 t) (ix2 q j)).symm)
  refine (columns_apply m c t' q j).trans (Eq.trans ?_ (columns_apply m c t q j).symm)
  exact congrArg (fun z => weights m c (ix3 0 q z)) (Fin.ext (congrArg (· * 512 + j.val) h))

/-- What a point leaves: the product of its blocks, and its weights in the scratch. -/
def Holds (t : Fin cfg0.N) : Prop :=
  (outsAt0 m c t.val t.isLt).1 = k0_pay2 (F := Ideal) (iblk m c 0 t) (k0_pay1 (F := Ideal) (iblk m c 1 t)) (iblk m c 2 t) ∧ (outsAt0 m c t.val t.isLt).2 = k0_pay1 (F := Ideal) (iblk m c 1 t)

theorem holds_first (t : Fin cfg0.N) (h0 : t.val % 16 = 0) : Holds m c t := by
  refine ⟨?_, ?_⟩
  · have g := congrArg (fun p => p.1) (outsAt0_A m c t h0)
    dsimp only at g
    exact g.trans (out_first c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0))
  · have g := congrArg (fun p => p.2) (outsAt0_A m c t h0)
    dsimp only at g
    exact g.trans (scratch_first c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0))

theorem holds_later (t t' : Fin cfg0.N) (h0 : ¬t.val % 16 = 0) (ht : t'.val = t.val - 1) (ih : Holds m c t') : Holds m c t := by
  have hs : (outsAt0 m c (t.val - 1) (Nat.lt_of_le_of_lt (Nat.sub_le _ _) t.isLt)).2 = k0_pay1 (F := Ideal) (iblk m c 1 t) := by
    rw [outs_congr m c _ _ _ t'.isLt ht.symm, ih.2]
    exact columns_congr m c t t' (by omega)
  refine ⟨(congrArg (fun p => p.1) (outsAt0_B m c t h0)).trans ((out_later c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ (fun h => h0 ((hcond0_0 t).mp h))).trans ?_),
    (congrArg (fun p => p.2) (outsAt0_B m c t h0)).trans ((scratch_later c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ (fun h => h0 ((hcond0_0 t).mp h))).trans hs)⟩
  rw [hs]

theorem holds (n : ℕ) : ∀ h : n < cfg0.N, Holds m c ⟨n, h⟩ := by
  induction n with
  | zero => exact fun h => holds_first m c ⟨0, h⟩ rfl
  | succ n ih =>
    intro h
    by_cases h0 : (n + 1) % 16 = 0
    · exact holds_first m c ⟨n + 1, h⟩ h0
    · exact holds_later m c ⟨n + 1, h⟩ ⟨n, by omega⟩ h0 rfl (ih _)

/-- The product of the arrays, on top of the residual. -/
def product : S16384x2048.Idx → EReal := fun i => (∑ q : Fin 4096, rows m c (ix2 (i 0) q) * weights m c (ix3 0 q (i 1))) + residual m c i

/-- A point's block of it. -/
theorem block_apply (t : Fin cfg0.N) (r : Fin 1024) (j : Fin 512) :
    (outsAt0 m c t.val t.isLt).1 (ix2 r j) = product m c (ix2 ⟨t.val % 16 * 1024 + r.val, by omega⟩ ⟨t.val / 16 * 512 + j.val, by have := point_lt t; omega⟩) := by
  refine (congrFun (holds m c t.val t.isLt).1 (ix2 r j)).trans ?_
  refine (product_apply (iblk m c 0 t) (iblk m c 2 t) (k0_pay1 (F := Ideal) (iblk m c 1 t)) r j).trans ?_
  refine congrArg₂ (fun a b : EReal => a + b) ?_ (residual_apply m c t r j)
  refine Finset.sum_congr rfl fun q _ => ?_
  exact congrArg₂ (fun a b : EReal => a * b) (rows_apply m c t r q) ((weights_apply (iblk m c 1 t) (ix2 q j)).trans (columns_apply m c t q j))

/-- Every point writes its block back. -/
theorem writes_back : ∀ t : Fin cfg0.N, (cfg0.win 3).flush t = true := (by decide +kernel : ∀ t : Fin grid0.N, win0_3.flush t = true)

/-- The result array after the run. -/
theorem final_product : (dats m 0 c).arrAt 3 cfg0.N = product m c := by
  refine (dats m 0 c).arrAt_eq_of_cover 3 (product m c) (fun t _ => ?_) (fun i => ?_)
  · rw [flushed3]
    funext y
    obtain ⟨e0, e1⟩ := where_out t
    have hy0 : (y 0).val < 1024 := (y 0).isLt
    have hy1 : (y 1).val < 512 := (y 1).isLt
    have hx : (cfg0.win 3).xinj (grid0.coords t) y = ix2 (⟨(y 0).val, hy0⟩ : Fin 1024) (⟨(y 1).val, hy1⟩ : Fin 512) := by
      funext a
      match a with
      | ⟨0, _⟩ => rfl
      | ⟨1, _⟩ => rfl
    show (outsAt0 m c t.val t.isLt).1 ((cfg0.win 3).xinj (grid0.coords t) y) = product m c (((cfg0.win 3).blk t).view.emb y)
    refine (congrArg (outsAt0 m c t.val t.isLt).1 hx).trans ((block_apply m c t _ _).trans ?_)
    refine congrArg (product m c) (funext fun a => Fin.ext ?_)
    have hb0 : (((cfg0.win 3).blk t).view.emb y 0).val = win0_3.index t (0 : Fin 2) * 1024 + 1 * (y 0).val := rfl
    have hb1 : (((cfg0.win 3).blk t).view.emb y 1).val = win0_3.index t (1 : Fin 2) * 512 + 1 * (y 1).val := rfl
    match a with
    | ⟨0, _⟩ => exact Eq.trans (by rw [e0, Nat.one_mul]) hb0.symm
    | ⟨1, _⟩ => exact Eq.trans (by rw [e1, Nat.one_mul]) hb1.symm
  · have h0 : (i 0).val < 16384 := (i 0).isLt
    have h1 : (i 1).val < 2048 := (i 1).isLt
    obtain ⟨t, ht⟩ : ∃ t : Fin cfg0.N, t.val = (i 0).val / 1024 + 16 * ((i 1).val / 512) :=
      ⟨⟨(i 0).val / 1024 + 16 * ((i 1).val / 512), by rw [show cfg0.N = 64 from N_0]; omega⟩, rfl⟩
    obtain ⟨e0, e1⟩ := where_out t
    refine ⟨t, writes_back t, ?_⟩
    show i ∈ ((View.whole main_v1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega

/-- The reference's array is the same (the two additions in the other order). -/
theorem same_product : Cert.RetentionOutReferenceIdeal.Read.val_main_v3 (F := Ideal) (rows m c) (weights m c) (residual m c) = product m c := by
  funext i
  have h0 : (i 0).val < 16384 := (i 0).isLt
  have h1 : (i 1).val < 2048 := (i 1).isLt
  rw [Cert.RetentionOutReferenceIdeal.Read.val_main_v3_apply]
  have e : Cert.RetentionOutReferenceIdeal.Read.val_main_v2 (F := Ideal) (rows m c) (weights m c) i = ∑ q : Fin 4096, rows m c (ix2 (i 0) q) * weights m c (ix3 0 q (i 1)) := by
    rw [Cert.RetentionOutReferenceIdeal.Read.val_main_v2_apply]
    refine Finset.sum_congr rfl fun q _ => ?_
    rw [Cert.RetentionOutReferenceIdeal.Read.val_main_v0_apply, Cert.RetentionOutReferenceIdeal.Read.val_main_v1_apply]
    refine congrArg₂ (fun a b : EReal => a * b) ?_ ?_
    · refine congrArg (rows m c) (funext fun a => ?_)
      match a with
      | ⟨0, _⟩ => rfl
      | ⟨1, _⟩ => rfl
    · refine congrArg (weights m c) (funext fun a => Fin.ext ?_)
      match a with
      | ⟨0, _⟩ => rfl
      | ⟨1, _⟩ => show (q.val * 2048 + (i 1).val) / 2048 % 4096 = q.val; omega
      | ⟨2, _⟩ => show (q.val * 2048 + (i 1).val) % 2048 = (i 1).val; omega
  exact (congrArg (fun z : EReal => residual m c i + z) e).trans (add_comm _ _)

end kernel

/-- The two programs agree. -/
theorem agree : algebraic_RetentionOutIdeal_RetentionOutReferenceIdeal := fun m g m' g' _ hargs => by
  refine ⟨fun c => product m c,
    (θ_run _ _ _).mono (fun r h c => ⟨(h c).1.trans (final_product m c), (h c).2⟩) (Cert.RetentionOutIdeal.Value.run_blocks m g),
    (θ_run _ _ _).mono (fun r h c => ⟨?_, (h c).2⟩) (Cert.RetentionOutReferenceIdeal.Value.run m' g')⟩
  obtain ⟨a0, a1, a2⟩ := hargs c
  refine (h c).1.trans ?_
  rw [Cert.RetentionOutReferenceIdeal.Read.val_main_v3_eq]
  exact Eq.trans (congr (congrArg₂ (Cert.RetentionOutReferenceIdeal.Read.val_main_v3 (F := Ideal)) a0 a1) a2) (same_product m c)

end Cert.Proj.RetentionOut

end
-- ==== Proof.Proj.AttentionIn.lean ====
/- The attention in-projection: the call, its run read, and its reference end with equal results. -/
module

public import proofs.«01_k».proof.Proof.Proj.Common
public import proofs.«01_k».proof.Proof.Gen.AttentionIn.Frame
public import proofs.«01_k».proof.Proof.Gen.AttentionInIdeal.Value
public import proofs.«01_k».proof.Proof.Gen.AttentionInReferenceIdeal.Read
public import proofs.«01_k».proof.Proof.Gen.AttentionInReferenceIdeal.Run

@[expose] public section

set_option maxRecDepth 16384
set_option Elab.async false

noncomputable section
namespace Cert.Proj.AttentionIn

open Idealize.ShloMosaic hiding ix1 ix2 ix3 ix4
open Idealize.ShloMosaic.ValueIdx Idealize.ShloMosaic.TcCoe Idealize.ShloMosaic.StableHlo
open Idealize.SL.Sem
open scoped BigOperators

theorem frame_kernel : quiescent_AttentionIn := fun m g _ => Cert.AttentionIn.Gen.frame m g

theorem frame_ideal : quiescent_AttentionInIdeal := fun m g _ => Cert.AttentionInIdeal.Gen.frame m g

theorem frame_reference : quiescent_AttentionInReferenceIdeal := fun m g _ =>
  (θ_run _ _ _).mono (fun r h => ⟨fun c => (h c).2, sem_eq_zero_of_no_sems (by decide) r.2⟩) (Cert.AttentionInReferenceIdeal.Value.run m g)

section kernel

open Cert.AttentionInIdeal Cert.AttentionInIdeal.Gen Cert.AttentionInIdeal.Facts₀ Cert.AttentionInIdeal.Facts Cert.AttentionInIdeal.Value

section point

variable (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1024x1024 .bf16) (harg4 : arg4.IsWhole) (arg5 : Memref sig .tc .vmem S2048x1024 .bf16) (harg5 : arg5.IsWhole)
  (x0 : Vec Ideal S1024x2048 .bf16) (x1 : Vec Ideal S2048x1024 .f32) (xs : Vec Ideal S2048x1024 .bf16)

/-- A later point of a column block stores its rows' product with the weights it finds. -/
theorem out_later (hc0 : ¬cond0_0 i) : out0_B_2 (F := Ideal) c i arg2 harg2 arg3 harg3 arg4 harg4 arg5 harg5 hc0 x0 x1 xs = k0_pay2 (F := Ideal) x0 xs := by
  funext y
  refine View.read_writes_apply_of_pieces (Val := Elt Ideal) VO0_2 VO0_2.junk (k0_pay2 (F := Ideal) x0 xs) _ (View.PiecesOf.mem ?_) y (cover0_B_2 c i arg2 harg2 arg3 harg3 arg4 harg4 arg5 harg5 hc0 x0 x1 xs y)
  simp only [kernelRun0_B]
  refine ⟨fun x => ?_, trivial⟩
  refine (congrFun (congrArg₂ k0_pay2 (load_whole harg2 _ Gen.inb_S1024x2048_S1024x2048_0_0) (load_whole harg5 _ Gen.inb_S2048x1024_S2048x1024_0_0)) x).trans ?_
  exact congrArg (k0_pay2 (F := Ideal) x0 xs) (emb_whole Gen.inb_S1024x1024_S1024x1024_0_0 x).symm

/-- It leaves the weights it finds. -/
theorem scratch_later (hc0 : ¬cond0_0 i) : sout0_B_0 (F := Ideal) c i arg2 harg2 arg3 harg3 arg4 harg4 arg5 harg5 hc0 x0 x1 xs = xs := rfl

/-- A column block's first point leaves the block of weights, rounded. -/
theorem scratch_first (hc0 : cond0_0 i) : sout0_A_0 (F := Ideal) c i arg2 harg2 arg3 harg3 arg4 harg4 arg5 harg5 hc0 x0 x1 = k0_pay1 (F := Ideal) x1 := by
  funext y
  refine View.read_writes_apply_of_pieces (Val := Elt Ideal) VS0_0 VS0_0.junk (k0_pay1 (F := Ideal) x1) _ (View.PiecesOf.mem ?_) y (scover0_A_0 c i arg2 harg2 arg3 harg3 arg4 harg4 arg5 harg5 hc0 x0 x1 y)
  simp only [kernelRun0_A]
  refine ⟨fun x => ?_, trivial⟩
  refine (congrFun (congrArg k0_pay1 (load_whole harg3 _ Gen.inb_S2048x1024_S2048x1024_0_0)) x).trans ?_
  exact congrArg (k0_pay1 (F := Ideal) x1) (emb_whole Gen.inb_S2048x1024_S2048x1024_0_0 x).symm

/-- What such a point loads of the weights it has just stored. -/
theorem kept_first : kernelRun0_A.sl.v4 (F := Ideal) c arg3 harg3 arg5 x1 = k0_pay1 (F := Ideal) x1 :=
  (load_stored arg5.view _ Gen.inb_S2048x1024_S2048x1024_0_0).trans (congrArg k0_pay1 (load_whole harg3 _ Gen.inb_S2048x1024_S2048x1024_0_0))

/-- It stores its rows' product with them. -/
theorem out_first (hc0 : cond0_0 i) : out0_A_2 (F := Ideal) c i arg2 harg2 arg3 harg3 arg4 harg4 arg5 harg5 hc0 x0 x1 = k0_pay2 (F := Ideal) x0 (k0_pay1 (F := Ideal) x1) := by
  funext y
  refine View.read_writes_apply_of_pieces (Val := Elt Ideal) VO0_2 VO0_2.junk (k0_pay2 (F := Ideal) x0 (k0_pay1 (F := Ideal) x1)) _ (View.PiecesOf.mem ?_) y (cover0_A_2 c i arg2 harg2 arg3 harg3 arg4 harg4 arg5 harg5 hc0 x0 x1 y)
  simp only [kernelRun0_A]
  refine ⟨fun x => ?_, trivial⟩
  refine (congrFun (congrArg₂ k0_pay2 (load_whole harg2 _ Gen.inb_S1024x2048_S1024x2048_0_0) (kept_first c arg3 harg3 arg5 x1)) x).trans ?_
  exact congrArg (k0_pay2 (F := Ideal) x0 (k0_pay1 (F := Ideal) x1)) (emb_whole Gen.inb_S1024x1024_S1024x1024_0_0 x).symm

/-- The weights are stored as they are. -/
theorem weights_apply (y : S2048x1024.Idx) : k0_pay1 (F := Ideal) x1 y = x1 y := by
  unfold k0_pay1
  refine (shapeCast_apply _ Gen.shapeCasts_S2048x1024_S2048x1024 y y rfl).trans ?_
  exact shapeCast_apply x1 Gen.shapeCasts_S2048x1024_S2048x1024 y y rfl

/-- A block of the product, read at one place. -/
theorem product_apply (r : Fin 1024) (j : Fin 1024) :
    k0_pay2 (F := Ideal) x0 xs (ix2 r j) = (∑ q : Fin 2048, x0 (ix2 r q) * xs (ix2 q j)) := by
  unfold k0_pay2
  exact dot_apply (φ₁ := .bf16) (φ₂ := .bf16) x0 xs r j

end point

variable (m : (ℓ : Loc nD τ sig) → Buf (Elt Ideal) ℓ) (c : Dev nD)

/-- The arguments. -/
def rows : S16384x2048.Idx → EReal := m ((c : Thread nD τ).loc main_arg0)
def weights : S1x2048x6144.Idx → EReal := m ((c : Thread nD τ).loc main_arg1)

theorem point_lt (t : Fin cfg0.N) : t.val < 96 := lt_of_lt_of_eq t.isLt (show cfg0.N = 96 from N_0)

/-- Where the windows' blocks lie. -/
theorem where_rows : ∀ t : Fin cfg0.N, win0_0.index t (0 : Fin 2) = t.val % 16 ∧ win0_0.index t (1 : Fin 2) = 0 := by decide +kernel
theorem where_weights : ∀ t : Fin cfg0.N, win0_1.index t (0 : Fin 2) = 0 ∧ win0_1.index t (1 : Fin 2) = t.val / 16 := by decide +kernel
theorem where_out : ∀ t : Fin cfg0.N, win0_2.index t (0 : Fin 2) = t.val % 16 ∧ win0_2.index t (1 : Fin 2) = t.val / 16 := by decide +kernel

/-- A block of rows. -/
theorem rows_apply (t : Fin cfg0.N) (r : Fin 1024) (q : Fin 2048) :
    iblk m c 0 t (ix2 r q) = rows m c (ix2 ⟨t.val % 16 * 1024 + r.val, by omega⟩ q) := by
  unfold iblk
  refine (View.read_apply _ _).trans ?_
  show V m c main_arg0 _ = _
  rw [V_main_arg0]
  refine congrArg (m ((c : Thread nD τ).loc main_arg0)) (funext fun ax => Fin.ext ?_)
  refine ((cfg0.win (0 : Fin 3)).rect_emb_val _ (ix2 r q) ax).trans ?_
  obtain ⟨e0, e1⟩ := where_rows t
  match ax with
  | ⟨0, _⟩ => exact congrArg (· * 1024 + r.val) e0
  | ⟨1, _⟩ => exact (congrArg (· * 2048 + q.val) e1).trans (by simp only [Nat.zero_mul, Nat.zero_add])

/-- The weights as the call finds them. -/
theorem weights_eq : V m c main_v0 = shapeCast S2048x6144 (weights m c) Gen.shapeCasts_S1x2048x6144_S2048x6144 := by
  show StableHlo.after hostOps0 (fun b => m (c, b)) main_v0 = _
  after_results
  rfl

/-- A block of columns of the weights. -/
theorem columns_apply (t : Fin cfg0.N) (q : Fin 2048) (j : Fin 1024) :
    iblk m c 1 t (ix2 q j) = weights m c (ix3 0 q ⟨t.val / 16 * 1024 + j.val, by have := point_lt t; omega⟩) := by
  have e : iblk m c 1 t (ix2 q j) = V m c main_v0 (ix2 q (⟨t.val / 16 * 1024 + j.val, by have := point_lt t; omega⟩ : Fin 6144)) := by
    unfold iblk
    refine (View.read_apply _ _).trans ?_
    show V m c main_v0 _ = _
    refine congrArg (V m c main_v0) (funext fun ax => Fin.ext ?_)
    refine ((cfg0.win (1 : Fin 3)).rect_emb_val _ (ix2 q j) ax).trans ?_
    obtain ⟨e0, e1⟩ := where_weights t
    match ax with
    | ⟨0, _⟩ => exact (congrArg (· * 2048 + q.val) e0).trans (by simp only [Nat.zero_mul, Nat.zero_add])
    | ⟨1, _⟩ => exact congrArg (· * 1024 + j.val) e1
  rw [e, weights_eq]
  refine shapeCast_apply (weights m c) Gen.shapeCasts_S1x2048x6144_S2048x6144 _ (ix3 0 q ⟨t.val / 16 * 1024 + j.val, by have := point_lt t; omega⟩) ?_
  rw [Shape.rowMajor_val_two, Shape.rowMajor_val_three]
  show (0 * 2048 + q.val) * 6144 + (t.val / 16 * 1024 + j.val) = q.val * 6144 + (t.val / 16 * 1024 + j.val)
  simp only [Nat.zero_mul, Nat.zero_add]

theorem outs_congr (n n' : ℕ) (h : n < cfg0.N) (h' : n' < cfg0.N) (e : n = n') : outsAt0 m c n h = outsAt0 m c n' h' := by
  subst e; rfl

/-- The points of a column block read the same weights. -/
theorem columns_congr (t t' : Fin cfg0.N) (h : t'.val / 16 = t.val / 16) : k0_pay1 (F := Ideal) (iblk m c 1 t') = k0_pay1 (F := Ideal) (iblk m c 1 t) := by
  funext y
  obtain ⟨q, j, rfl⟩ := exists_ix2 y
  refine (weights_apply (iblk m c 1 t') (ix2 q j)).trans (Eq.trans ?_ (weights_apply (iblk m c 1 t) (ix2 q j)).symm)
  refine (columns_apply m c t' q j).trans (Eq.trans ?_ (columns_apply m c t q j).symm)
  exact congrArg (fun z => weights m c (ix3 0 q z)) (Fin.ext (congrArg (· * 1024 + j.val) h))

/-- What a point leaves: the product of its blocks, and its weights in the scratch. -/
def Holds (t : Fin cfg0.N) : Prop :=
  (outsAt0 m c t.val t.isLt).1 = k0_pay2 (F := Ideal) (iblk m c 0 t) (k0_pay1 (F := Ideal) (iblk m c 1 t)) ∧ (outsAt0 m c t.val t.isLt).2 = k0_pay1 (F := Ideal) (iblk m c 1 t)

theorem holds_first (t : Fin cfg0.N) (h0 : t.val % 16 = 0) : Holds m c t := by
  refine ⟨?_, ?_⟩
  · have g := congrArg (fun p => p.1) (outsAt0_A m c t h0)
    dsimp only at g
    exact g.trans (out_first c (grid0.coords t) (ms0_0 t) (hs0_0 t) (ms0_1 t) (hs0_1 t) (ms0_2 t) (hs0_2 t) scM0_0 (Memref.isWhole_whole _) (iblk m c 0 t) (iblk m c 1 t) ((hcond0_0 t).mpr h0))
  · have g := congrArg (fun p => p.2) (outsAt0_A m c t h0)
    dsimp only at g
    exact g.trans (scratch_first c (grid0.coords t) (ms0_0 t) (hs0_0 t) (ms0_1 t) (hs0_1 t) (ms0_2 t) (hs0_2 t) scM0_0 (Memref.isWhole_whole _) (iblk m c 0 t) (iblk m c 1 t) ((hcond0_0 t).mpr h0))

theorem holds_later (t t' : Fin cfg0.N) (h0 : ¬t.val % 16 = 0) (ht : t'.val = t.val - 1) (ih : Holds m c t') : Holds m c t := by
  have hs : (outsAt0 m c (t.val - 1) (Nat.lt_of_le_of_lt (Nat.sub_le _ _) t.isLt)).2 = k0_pay1 (F := Ideal) (iblk m c 1 t) := by
    rw [outs_congr m c _ _ _ t'.isLt ht.symm, ih.2]
    exact columns_congr m c t t' (by omega)
  refine ⟨(congrArg (fun p => p.1) (outsAt0_B m c t h0)).trans ((out_later c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h))).trans ?_),
    (congrArg (fun p => p.2) (outsAt0_B m c t h0)).trans ((scratch_later c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h))).trans hs)⟩
  rw [hs]

theorem holds (n : ℕ) : ∀ h : n < cfg0.N, Holds m c ⟨n, h⟩ := by
  induction n with
  | zero => exact fun h => holds_first m c ⟨0, h⟩ rfl
  | succ n ih =>
    intro h
    by_cases h0 : (n + 1) % 16 = 0
    · exact holds_first m c ⟨n + 1, h⟩ h0
    · exact holds_later m c ⟨n + 1, h⟩ ⟨n, by omega⟩ h0 rfl (ih _)

/-- The product of the arrays. -/
def product : S16384x6144.Idx → EReal := fun i => (∑ q : Fin 2048, rows m c (ix2 (i 0) q) * weights m c (ix3 0 q (i 1)))

/-- A point's block of it. -/
theorem block_apply (t : Fin cfg0.N) (r : Fin 1024) (j : Fin 1024) :
    (outsAt0 m c t.val t.isLt).1 (ix2 r j) = product m c (ix2 ⟨t.val % 16 * 1024 + r.val, by omega⟩ ⟨t.val / 16 * 1024 + j.val, by have := point_lt t; omega⟩) := by
  refine (congrFun (holds m c t.val t.isLt).1 (ix2 r j)).trans ?_
  refine (product_apply (iblk m c 0 t) (k0_pay1 (F := Ideal) (iblk m c 1 t)) r j).trans ?_

  refine Finset.sum_congr rfl fun q _ => ?_
  exact congrArg₂ (fun a b : EReal => a * b) (rows_apply m c t r q) ((weights_apply (iblk m c 1 t) (ix2 q j)).trans (columns_apply m c t q j))

/-- Every point writes its block back. -/
theorem writes_back : ∀ t : Fin cfg0.N, (cfg0.win 2).flush t = true := (by decide +kernel : ∀ t : Fin grid0.N, win0_2.flush t = true)

/-- The result array after the run. -/
theorem final_product : (dats m 0 c).arrAt 2 cfg0.N = product m c := by
  refine (dats m 0 c).arrAt_eq_of_cover 2 (product m c) (fun t _ => ?_) (fun i => ?_)
  · rw [flushed2]
    funext y
    obtain ⟨e0, e1⟩ := where_out t
    have hy0 : (y 0).val < 1024 := (y 0).isLt
    have hy1 : (y 1).val < 1024 := (y 1).isLt
    have hx : (cfg0.win 2).xinj (grid0.coords t) y = ix2 (⟨(y 0).val, hy0⟩ : Fin 1024) (⟨(y 1).val, hy1⟩ : Fin 1024) := by
      funext a
      match a with
      | ⟨0, _⟩ => rfl
      | ⟨1, _⟩ => rfl
    show (outsAt0 m c t.val t.isLt).1 ((cfg0.win 2).xinj (grid0.coords t) y) = product m c (((cfg0.win 2).blk t).view.emb y)
    refine (congrArg (outsAt0 m c t.val t.isLt).1 hx).trans ((block_apply m c t _ _).trans ?_)
    refine congrArg (product m c) (funext fun a => Fin.ext ?_)
    have hb0 : (((cfg0.win 2).blk t).view.emb y 0).val = win0_2.index t (0 : Fin 2) * 1024 + 1 * (y 0).val := rfl
    have hb1 : (((cfg0.win 2).blk t).view.emb y 1).val = win0_2.index t (1 : Fin 2) * 1024 + 1 * (y 1).val := rfl
    match a with
    | ⟨0, _⟩ => exact Eq.trans (by rw [e0, Nat.one_mul]) hb0.symm
    | ⟨1, _⟩ => exact Eq.trans (by rw [e1, Nat.one_mul]) hb1.symm
  · have h0 : (i 0).val < 16384 := (i 0).isLt
    have h1 : (i 1).val < 6144 := (i 1).isLt
    obtain ⟨t, ht⟩ : ∃ t : Fin cfg0.N, t.val = (i 0).val / 1024 + 16 * ((i 1).val / 1024) :=
      ⟨⟨(i 0).val / 1024 + 16 * ((i 1).val / 1024), by rw [show cfg0.N = 96 from N_0]; omega⟩, rfl⟩
    obtain ⟨e0, e1⟩ := where_out t
    refine ⟨t, writes_back t, ?_⟩
    show i ∈ ((View.whole main_v1).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-- The reference's array is the same. -/
theorem same_product : Cert.AttentionInReferenceIdeal.Read.val_main_v3 (F := Ideal) (rows m c) (weights m c) = product m c := by
  funext i
  have h0 : (i 0).val < 16384 := (i 0).isLt
  have h1 : (i 1).val < 6144 := (i 1).isLt
  rw [Cert.AttentionInReferenceIdeal.Read.val_main_v3_apply]
  have e : Cert.AttentionInReferenceIdeal.Read.val_main_v2 (F := Ideal) (rows m c) (weights m c) i = ∑ q : Fin 2048, rows m c (ix2 (i 0) q) * weights m c (ix3 0 q (i 1)) := by
    rw [Cert.AttentionInReferenceIdeal.Read.val_main_v2_apply]
    refine Finset.sum_congr rfl fun q _ => ?_
    rw [Cert.AttentionInReferenceIdeal.Read.val_main_v0_apply, Cert.AttentionInReferenceIdeal.Read.val_main_v1_apply]
    refine congrArg₂ (fun a b : EReal => a * b) ?_ ?_
    · refine congrArg (rows m c) (funext fun a => ?_)
      match a with
      | ⟨0, _⟩ => rfl
      | ⟨1, _⟩ => rfl
    · refine congrArg (weights m c) (funext fun a => Fin.ext ?_)
      match a with
      | ⟨0, _⟩ => rfl
      | ⟨1, _⟩ => show (q.val * 6144 + (i 1).val) / 6144 % 2048 = q.val; omega
      | ⟨2, _⟩ => show (q.val * 6144 + (i 1).val) % 6144 = (i 1).val; omega
  exact e

end kernel

/-- The two programs agree. -/
theorem agree : algebraic_AttentionInIdeal_AttentionInReferenceIdeal := fun m g m' g' _ hargs => by
  refine ⟨fun c => product m c,
    (θ_run _ _ _).mono (fun r h c => ⟨(h c).1.trans (final_product m c), (h c).2⟩) (Cert.AttentionInIdeal.Value.run_blocks m g),
    (θ_run _ _ _).mono (fun r h c => ⟨?_, (h c).2⟩) (Cert.AttentionInReferenceIdeal.Value.run m' g')⟩
  obtain ⟨a0, a1⟩ := hargs c
  refine (h c).1.trans ?_
  rw [Cert.AttentionInReferenceIdeal.Read.val_main_v3_eq]
  exact Eq.trans (congrArg₂ (Cert.AttentionInReferenceIdeal.Read.val_main_v3 (F := Ideal)) a0 a1) (same_product m c)

end Cert.Proj.AttentionIn

end
-- ==== Proof.Proj.AttentionOut.lean ====
/- The attention out-projection: the call, its run read, and its reference end with equal results. -/
module

public import proofs.«01_k».proof.Proof.Proj.Common
public import proofs.«01_k».proof.Proof.Gen.AttentionOut.Frame
public import proofs.«01_k».proof.Proof.Gen.AttentionOutIdeal.Value
public import proofs.«01_k».proof.Proof.Gen.AttentionOutReferenceIdeal.Read
public import proofs.«01_k».proof.Proof.Gen.AttentionOutReferenceIdeal.Run

@[expose] public section

set_option maxRecDepth 16384
set_option Elab.async false

noncomputable section
namespace Cert.Proj.AttentionOut

open Idealize.ShloMosaic hiding ix1 ix2 ix3 ix4
open Idealize.ShloMosaic.ValueIdx Idealize.ShloMosaic.TcCoe Idealize.ShloMosaic.StableHlo
open Idealize.SL.Sem
open scoped BigOperators

theorem frame_kernel : quiescent_AttentionOut := fun m g _ => Cert.AttentionOut.Gen.frame m g

theorem frame_ideal : quiescent_AttentionOutIdeal := fun m g _ => Cert.AttentionOutIdeal.Gen.frame m g

theorem frame_reference : quiescent_AttentionOutReferenceIdeal := fun m g _ =>
  (θ_run _ _ _).mono (fun r h => ⟨fun c => (h c).2, sem_eq_zero_of_no_sems (by decide) r.2⟩) (Cert.AttentionOutReferenceIdeal.Value.run m g)

section kernel

open Cert.AttentionOutIdeal Cert.AttentionOutIdeal.Gen Cert.AttentionOutIdeal.Facts₀ Cert.AttentionOutIdeal.Facts Cert.AttentionOutIdeal.Value

section point

variable (c : Dev nD) (i : grid0.Coords) (arg2 : Memref sig .tc .vmem S1024x2048 .bf16) (harg2 : arg2.IsWhole) (arg3 : Memref sig .tc .vmem S2048x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S2048x1024 .bf16) (harg6 : arg6.IsWhole)
  (x0 : Vec Ideal S1024x2048 .bf16) (x1 : Vec Ideal S2048x1024 .f32) (x2 : Vec Ideal S1024x1024 .f32) (xs : Vec Ideal S2048x1024 .bf16)

/-- A later point of a column block stores its rows' product with the weights it finds. -/
theorem out_later (hc0 : ¬cond0_0 i) : out0_B_3 (F := Ideal) c i arg2 harg2 arg3 harg3 arg4 harg4 arg5 harg5 arg6 harg6 hc0 x0 x1 x2 xs = k0_pay2 (F := Ideal) x0 xs x2 := by
  funext y
  refine View.read_writes_apply_of_pieces (Val := Elt Ideal) VO0_3 VO0_3.junk (k0_pay2 (F := Ideal) x0 xs x2) _ (View.PiecesOf.mem ?_) y (cover0_B_3 c i arg2 harg2 arg3 harg3 arg4 harg4 arg5 harg5 arg6 harg6 hc0 x0 x1 x2 xs y)
  simp only [kernelRun0_B]
  refine ⟨fun x => ?_, trivial⟩
  refine (congrFun (congr (congrArg₂ k0_pay2 (load_whole harg2 _ Gen.inb_S1024x2048_S1024x2048_0_0) (load_whole harg6 _ Gen.inb_S2048x1024_S2048x1024_0_0)) (load_whole harg4 _ Gen.inb_S1024x1024_S1024x1024_0_0)) x).trans ?_
  exact congrArg (k0_pay2 (F := Ideal) x0 xs x2) (emb_whole Gen.inb_S1024x1024_S1024x1024_0_0 x).symm

/-- It leaves the weights it finds. -/
theorem scratch_later (hc0 : ¬cond0_0 i) : sout0_B_0 (F := Ideal) c i arg2 harg2 arg3 harg3 arg4 harg4 arg5 harg5 arg6 harg6 hc0 x0 x1 x2 xs = xs := rfl

/-- A column block's first point leaves the block of weights, rounded. -/
theorem scratch_first (hc0 : cond0_0 i) : sout0_A_0 (F := Ideal) c i arg2 harg2 arg3 harg3 arg4 harg4 arg5 harg5 arg6 harg6 hc0 x0 x1 x2 = k0_pay1 (F := Ideal) x1 := by
  funext y
  refine View.read_writes_apply_of_pieces (Val := Elt Ideal) VS0_0 VS0_0.junk (k0_pay1 (F := Ideal) x1) _ (View.PiecesOf.mem ?_) y (scover0_A_0 c i arg2 harg2 arg3 harg3 arg4 harg4 arg5 harg5 arg6 harg6 hc0 x0 x1 x2 y)
  simp only [kernelRun0_A]
  refine ⟨fun x => ?_, trivial⟩
  refine (congrFun (congrArg k0_pay1 (load_whole harg3 _ Gen.inb_S2048x1024_S2048x1024_0_0)) x).trans ?_
  exact congrArg (k0_pay1 (F := Ideal) x1) (emb_whole Gen.inb_S2048x1024_S2048x1024_0_0 x).symm

/-- What such a point loads of the weights it has just stored. -/
theorem kept_first : kernelRun0_A.sl.v4 (F := Ideal) c arg3 harg3 arg6 x1 = k0_pay1 (F := Ideal) x1 :=
  (load_stored arg6.view _ Gen.inb_S2048x1024_S2048x1024_0_0).trans (congrArg k0_pay1 (load_whole harg3 _ Gen.inb_S2048x1024_S2048x1024_0_0))

/-- It stores its rows' product with them. -/
theorem out_first (hc0 : cond0_0 i) : out0_A_3 (F := Ideal) c i arg2 harg2 arg3 harg3 arg4 harg4 arg5 harg5 arg6 harg6 hc0 x0 x1 x2 = k0_pay2 (F := Ideal) x0 (k0_pay1 (F := Ideal) x1) x2 := by
  funext y
  refine View.read_writes_apply_of_pieces (Val := Elt Ideal) VO0_3 VO0_3.junk (k0_pay2 (F := Ideal) x0 (k0_pay1 (F := Ideal) x1) x2) _ (View.PiecesOf.mem ?_) y (cover0_A_3 c i arg2 harg2 arg3 harg3 arg4 harg4 arg5 harg5 arg6 harg6 hc0 x0 x1 x2 y)
  simp only [kernelRun0_A]
  refine ⟨fun x => ?_, trivial⟩
  refine (congrFun (congr (congrArg₂ k0_pay2 (load_whole harg2 _ Gen.inb_S1024x2048_S1024x2048_0_0) (kept_first c arg3 harg3 arg6 x1)) (load_whole harg4 _ Gen.inb_S1024x1024_S1024x1024_0_0)) x).trans ?_
  exact congrArg (k0_pay2 (F := Ideal) x0 (k0_pay1 (F := Ideal) x1) x2) (emb_whole Gen.inb_S1024x1024_S1024x1024_0_0 x).symm

/-- The weights are stored as they are. -/
theorem weights_apply (y : S2048x1024.Idx) : k0_pay1 (F := Ideal) x1 y = x1 y := by
  unfold k0_pay1
  refine (shapeCast_apply _ Gen.shapeCasts_S2048x1024_S2048x1024 y y rfl).trans ?_
  exact shapeCast_apply x1 Gen.shapeCasts_S2048x1024_S2048x1024 y y rfl

/-- A block of the product, read at one place. -/
theorem product_apply (r : Fin 1024) (j : Fin 1024) :
    k0_pay2 (F := Ideal) x0 xs x2 (ix2 r j) = (∑ q : Fin 2048, x0 (ix2 r q) * xs (ix2 q j)) + x2 (ix2 r j) := by
  unfold k0_pay2
  exact congrArg (· + x2 (ix2 r j)) (dot_apply (φ₁ := .bf16) (φ₂ := .bf16) x0 xs r j)

end point

variable (m : (ℓ : Loc nD τ sig) → Buf (Elt Ideal) ℓ) (c : Dev nD)

/-- The arguments. -/
def rows : S16384x2048.Idx → EReal := m ((c : Thread nD τ).loc main_arg0)
def weights : S1x2048x2048.Idx → EReal := m ((c : Thread nD τ).loc main_arg1)
def residual : S16384x2048.Idx → EReal := m ((c : Thread nD τ).loc main_arg2)

theorem point_lt (t : Fin cfg0.N) : t.val < 32 := lt_of_lt_of_eq t.isLt (show cfg0.N = 32 from N_0)

/-- Where the windows' blocks lie. -/
theorem where_rows : ∀ t : Fin cfg0.N, win0_0.index t (0 : Fin 2) = t.val % 16 ∧ win0_0.index t (1 : Fin 2) = 0 := by decide +kernel
theorem where_weights : ∀ t : Fin cfg0.N, win0_1.index t (0 : Fin 2) = 0 ∧ win0_1.index t (1 : Fin 2) = t.val / 16 := by decide +kernel
theorem where_out : ∀ t : Fin cfg0.N, win0_3.index t (0 : Fin 2) = t.val % 16 ∧ win0_3.index t (1 : Fin 2) = t.val / 16 := by decide +kernel
theorem where_residual : ∀ t : Fin cfg0.N, win0_2.index t (0 : Fin 2) = t.val % 16 ∧ win0_2.index t (1 : Fin 2) = t.val / 16 := by decide +kernel

/-- A block of rows. -/
theorem rows_apply (t : Fin cfg0.N) (r : Fin 1024) (q : Fin 2048) :
    iblk m c 0 t (ix2 r q) = rows m c (ix2 ⟨t.val % 16 * 1024 + r.val, by omega⟩ q) := by
  unfold iblk
  refine (View.read_apply _ _).trans ?_
  show V m c main_arg0 _ = _
  rw [V_main_arg0]
  refine congrArg (m ((c : Thread nD τ).loc main_arg0)) (funext fun ax => Fin.ext ?_)
  refine ((cfg0.win (0 : Fin 4)).rect_emb_val _ (ix2 r q) ax).trans ?_
  obtain ⟨e0, e1⟩ := where_rows t
  match ax with
  | ⟨0, _⟩ => exact congrArg (· * 1024 + r.val) e0
  | ⟨1, _⟩ => exact (congrArg (· * 2048 + q.val) e1).trans (by simp only [Nat.zero_mul, Nat.zero_add])

/-- The weights as the call finds them. -/
theorem weights_eq : V m c main_v0 = shapeCast S2048x2048 (weights m c) Gen.shapeCasts_S1x2048x2048_S2048x2048 := by
  show StableHlo.after hostOps0 (fun b => m (c, b)) main_v0 = _
  after_results
  rfl

/-- A block of columns of the weights. -/
theorem columns_apply (t : Fin cfg0.N) (q : Fin 2048) (j : Fin 1024) :
    iblk m c 1 t (ix2 q j) = weights m c (ix3 0 q ⟨t.val / 16 * 1024 + j.val, by have := point_lt t; omega⟩) := by
  have e : iblk m c 1 t (ix2 q j) = V m c main_v0 (ix2 q (⟨t.val / 16 * 1024 + j.val, by have := point_lt t; omega⟩ : Fin 2048)) := by
    unfold iblk
    refine (View.read_apply _ _).trans ?_
    show V m c main_v0 _ = _
    refine congrArg (V m c main_v0) (funext fun ax => Fin.ext ?_)
    refine ((cfg0.win (1 : Fin 4)).rect_emb_val _ (ix2 q j) ax).trans ?_
    obtain ⟨e0, e1⟩ := where_weights t
    match ax with
    | ⟨0, _⟩ => exact (congrArg (· * 2048 + q.val) e0).trans (by simp only [Nat.zero_mul, Nat.zero_add])
    | ⟨1, _⟩ => exact congrArg (· * 1024 + j.val) e1
  rw [e, weights_eq]
  refine shapeCast_apply (weights m c) Gen.shapeCasts_S1x2048x2048_S2048x2048 _ (ix3 0 q ⟨t.val / 16 * 1024 + j.val, by have := point_lt t; omega⟩) ?_
  rw [Shape.rowMajor_val_two, Shape.rowMajor_val_three]
  show (0 * 2048 + q.val) * 2048 + (t.val / 16 * 1024 + j.val) = q.val * 2048 + (t.val / 16 * 1024 + j.val)
  simp only [Nat.zero_mul, Nat.zero_add]

/-- A block of the residual. -/
theorem residual_apply (t : Fin cfg0.N) (r : Fin 1024) (j : Fin 1024) :
    iblk m c 2 t (ix2 r j) = residual m c (ix2 ⟨t.val % 16 * 1024 + r.val, by omega⟩ ⟨t.val / 16 * 1024 + j.val, by have := point_lt t; omega⟩) := by
  unfold iblk
  refine (View.read_apply _ _).trans ?_
  show V m c main_arg2 _ = _
  rw [V_main_arg2]
  refine congrArg (m ((c : Thread nD τ).loc main_arg2)) (funext fun ax => Fin.ext ?_)
  refine ((cfg0.win (2 : Fin 4)).rect_emb_val _ (ix2 r j) ax).trans ?_
  obtain ⟨e0, e1⟩ := where_residual t
  match ax with
  | ⟨0, _⟩ => exact congrArg (· * 1024 + r.val) e0
  | ⟨1, _⟩ => exact congrArg (· * 1024 + j.val) e1

theorem outs_congr (n n' : ℕ) (h : n < cfg0.N) (h' : n' < cfg0.N) (e : n = n') : outsAt0 m c n h = outsAt0 m c n' h' := by
  subst e; rfl

/-- The points of a column block read the same weights. -/
theorem columns_congr (t t' : Fin cfg0.N) (h : t'.val / 16 = t.val / 16) : k0_pay1 (F := Ideal) (iblk m c 1 t') = k0_pay1 (F := Ideal) (iblk m c 1 t) := by
  funext y
  obtain ⟨q, j, rfl⟩ := exists_ix2 y
  refine (weights_apply (iblk m c 1 t') (ix2 q j)).trans (Eq.trans ?_ (weights_apply (iblk m c 1 t) (ix2 q j)).symm)
  refine (columns_apply m c t' q j).trans (Eq.trans ?_ (columns_apply m c t q j).symm)
  exact congrArg (fun z => weights m c (ix3 0 q z)) (Fin.ext (congrArg (· * 1024 + j.val) h))

/-- What a point leaves: the product of its blocks, and its weights in the scratch. -/
def Holds (t : Fin cfg0.N) : Prop :=
  (outsAt0 m c t.val t.isLt).1 = k0_pay2 (F := Ideal) (iblk m c 0 t) (k0_pay1 (F := Ideal) (iblk m c 1 t)) (iblk m c 2 t) ∧ (outsAt0 m c t.val t.isLt).2 = k0_pay1 (F := Ideal) (iblk m c 1 t)

theorem holds_first (t : Fin cfg0.N) (h0 : t.val % 16 = 0) : Holds m c t := by
  refine ⟨?_, ?_⟩
  · have g := congrArg (fun p => p.1) (outsAt0_A m c t h0)
    dsimp only at g
    exact g.trans (out_first c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0))
  · have g := congrArg (fun p => p.2) (outsAt0_A m c t h0)
    dsimp only at g
    exact g.trans (scratch_first c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0))

theorem holds_later (t t' : Fin cfg0.N) (h0 : ¬t.val % 16 = 0) (ht : t'.val = t.val - 1) (ih : Holds m c t') : Holds m c t := by
  have hs : (outsAt0 m c (t.val - 1) (Nat.lt_of_le_of_lt (Nat.sub_le _ _) t.isLt)).2 = k0_pay1 (F := Ideal) (iblk m c 1 t) := by
    rw [outs_congr m c _ _ _ t'.isLt ht.symm, ih.2]
    exact columns_congr m c t t' (by omega)
  refine ⟨(congrArg (fun p => p.1) (outsAt0_B m c t h0)).trans ((out_later c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ (fun h => h0 ((hcond0_0 t).mp h))).trans ?_),
    (congrArg (fun p => p.2) (outsAt0_B m c t h0)).trans ((scratch_later c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ (fun h => h0 ((hcond0_0 t).mp h))).trans hs)⟩
  rw [hs]

theorem holds (n : ℕ) : ∀ h : n < cfg0.N, Holds m c ⟨n, h⟩ := by
  induction n with
  | zero => exact fun h => holds_first m c ⟨0, h⟩ rfl
  | succ n ih =>
    intro h
    by_cases h0 : (n + 1) % 16 = 0
    · exact holds_first m c ⟨n + 1, h⟩ h0
    · exact holds_later m c ⟨n + 1, h⟩ ⟨n, by omega⟩ h0 rfl (ih _)

/-- The product of the arrays, on top of the residual. -/
def product : S16384x2048.Idx → EReal := fun i => (∑ q : Fin 2048, rows m c (ix2 (i 0) q) * weights m c (ix3 0 q (i 1))) + residual m c i

/-- A point's block of it. -/
theorem block_apply (t : Fin cfg0.N) (r : Fin 1024) (j : Fin 1024) :
    (outsAt0 m c t.val t.isLt).1 (ix2 r j) = product m c (ix2 ⟨t.val % 16 * 1024 + r.val, by omega⟩ ⟨t.val / 16 * 1024 + j.val, by have := point_lt t; omega⟩) := by
  refine (congrFun (holds m c t.val t.isLt).1 (ix2 r j)).trans ?_
  refine (product_apply (iblk m c 0 t) (iblk m c 2 t) (k0_pay1 (F := Ideal) (iblk m c 1 t)) r j).trans ?_
  refine congrArg₂ (fun a b : EReal => a + b) ?_ (residual_apply m c t r j)
  refine Finset.sum_congr rfl fun q _ => ?_
  exact congrArg₂ (fun a b : EReal => a * b) (rows_apply m c t r q) ((weights_apply (iblk m c 1 t) (ix2 q j)).trans (columns_apply m c t q j))

/-- Every point writes its block back. -/
theorem writes_back : ∀ t : Fin cfg0.N, (cfg0.win 3).flush t = true := (by decide +kernel : ∀ t : Fin grid0.N, win0_3.flush t = true)

/-- The result array after the run. -/
theorem final_product : (dats m 0 c).arrAt 3 cfg0.N = product m c := by
  refine (dats m 0 c).arrAt_eq_of_cover 3 (product m c) (fun t _ => ?_) (fun i => ?_)
  · rw [flushed3]
    funext y
    obtain ⟨e0, e1⟩ := where_out t
    have hy0 : (y 0).val < 1024 := (y 0).isLt
    have hy1 : (y 1).val < 1024 := (y 1).isLt
    have hx : (cfg0.win 3).xinj (grid0.coords t) y = ix2 (⟨(y 0).val, hy0⟩ : Fin 1024) (⟨(y 1).val, hy1⟩ : Fin 1024) := by
      funext a
      match a with
      | ⟨0, _⟩ => rfl
      | ⟨1, _⟩ => rfl
    show (outsAt0 m c t.val t.isLt).1 ((cfg0.win 3).xinj (grid0.coords t) y) = product m c (((cfg0.win 3).blk t).view.emb y)
    refine (congrArg (outsAt0 m c t.val t.isLt).1 hx).trans ((block_apply m c t _ _).trans ?_)
    refine congrArg (product m c) (funext fun a => Fin.ext ?_)
    have hb0 : (((cfg0.win 3).blk t).view.emb y 0).val = win0_3.index t (0 : Fin 2) * 1024 + 1 * (y 0).val := rfl
    have hb1 : (((cfg0.win 3).blk t).view.emb y 1).val = win0_3.index t (1 : Fin 2) * 1024 + 1 * (y 1).val := rfl
    match a with
    | ⟨0, _⟩ => exact Eq.trans (by rw [e0, Nat.one_mul]) hb0.symm
    | ⟨1, _⟩ => exact Eq.trans (by rw [e1, Nat.one_mul]) hb1.symm
  · have h0 : (i 0).val < 16384 := (i 0).isLt
    have h1 : (i 1).val < 2048 := (i 1).isLt
    obtain ⟨t, ht⟩ : ∃ t : Fin cfg0.N, t.val = (i 0).val / 1024 + 16 * ((i 1).val / 1024) :=
      ⟨⟨(i 0).val / 1024 + 16 * ((i 1).val / 1024), by rw [show cfg0.N = 32 from N_0]; omega⟩, rfl⟩
    obtain ⟨e0, e1⟩ := where_out t
    refine ⟨t, writes_back t, ?_⟩
    show i ∈ ((View.whole main_v1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-- The reference's array is the same (the two additions in the other order). -/
theorem same_product : Cert.AttentionOutReferenceIdeal.Read.val_main_v3 (F := Ideal) (rows m c) (weights m c) (residual m c) = product m c := by
  funext i
  have h0 : (i 0).val < 16384 := (i 0).isLt
  have h1 : (i 1).val < 2048 := (i 1).isLt
  rw [Cert.AttentionOutReferenceIdeal.Read.val_main_v3_apply]
  have e : Cert.AttentionOutReferenceIdeal.Read.val_main_v2 (F := Ideal) (rows m c) (weights m c) i = ∑ q : Fin 2048, rows m c (ix2 (i 0) q) * weights m c (ix3 0 q (i 1)) := by
    rw [Cert.AttentionOutReferenceIdeal.Read.val_main_v2_apply]
    refine Finset.sum_congr rfl fun q _ => ?_
    rw [Cert.AttentionOutReferenceIdeal.Read.val_main_v0_apply, Cert.AttentionOutReferenceIdeal.Read.val_main_v1_apply]
    refine congrArg₂ (fun a b : EReal => a * b) ?_ ?_
    · refine congrArg (rows m c) (funext fun a => ?_)
      match a with
      | ⟨0, _⟩ => rfl
      | ⟨1, _⟩ => rfl
    · refine congrArg (weights m c) (funext fun a => Fin.ext ?_)
      match a with
      | ⟨0, _⟩ => rfl
      | ⟨1, _⟩ => show (q.val * 2048 + (i 1).val) / 2048 % 2048 = q.val; omega
      | ⟨2, _⟩ => show (q.val * 2048 + (i 1).val) % 2048 = (i 1).val; omega
  exact (congrArg (fun z : EReal => residual m c i + z) e).trans (add_comm _ _)

end kernel

/-- The two programs agree. -/
theorem agree : algebraic_AttentionOutIdeal_AttentionOutReferenceIdeal := fun m g m' g' _ hargs => by
  refine ⟨fun c => product m c,
    (θ_run _ _ _).mono (fun r h c => ⟨(h c).1.trans (final_product m c), (h c).2⟩) (Cert.AttentionOutIdeal.Value.run_blocks m g),
    (θ_run _ _ _).mono (fun r h c => ⟨?_, (h c).2⟩) (Cert.AttentionOutReferenceIdeal.Value.run m' g')⟩
  obtain ⟨a0, a1, a2⟩ := hargs c
  refine (h c).1.trans ?_
  rw [Cert.AttentionOutReferenceIdeal.Read.val_main_v3_eq]
  exact Eq.trans (congr (congrArg₂ (Cert.AttentionOutReferenceIdeal.Read.val_main_v3 (F := Ideal)) a0 a1) a2) (same_product m c)

end Cert.Proj.AttentionOut

end
-- ==== Proof.RmsNorm.lean ====
/- The norm before the retention: the call, its run read, and its reference end with equal results. -/
module

public import proofs.«01_k».proof.Proof.Proj.Common
public import proofs.«01_k».proof.Proof.Gen.Norm.Frame
public import proofs.«01_k».proof.Proof.Gen.NormIdeal.Value
public import proofs.«01_k».proof.Proof.Gen.NormReferenceIdeal.Read
public import proofs.«01_k».proof.Proof.Gen.NormReferenceIdeal.Run

@[expose] public section

set_option maxRecDepth 16384
set_option Elab.async false

noncomputable section
namespace Cert.RmsNorm

open Idealize.ShloMosaic hiding ix1 ix2 ix3 ix4
open Idealize.ShloMosaic.ValueIdx Idealize.ShloMosaic.TcCoe Idealize.ShloMosaic.StableHlo
open Idealize.SL.Sem
open scoped BigOperators

theorem frame_kernel : quiescent_Norm := fun m g _ => Cert.Norm.Gen.frame m g

theorem frame_ideal : quiescent_NormIdeal := fun m g _ => Cert.NormIdeal.Gen.frame m g

theorem frame_reference : quiescent_NormReferenceIdeal := fun m g _ =>
  (θ_run _ _ _).mono (fun r h => ⟨fun c => (h c).2, sem_eq_zero_of_no_sems (by decide) r.2⟩) (Cert.NormReferenceIdeal.Value.run m g)

/-- An entry of a row over the root of the row's mean square (and a small number), times its gain. -/
def scaled (row : Fin 2048 → EReal) (j : Fin 2048) (gain : EReal) : EReal :=
  row j * Ideal.rsqrt (Ideal.div (∑ q : Fin 2048, row q * row q) (Ideal.ofBits .f32 0x45000000#32) + Ideal.ofBits .f32 0x358637BD#32) * gain

section kernel

open Cert.NormIdeal Cert.NormIdeal.Gen Cert.NormIdeal.Facts₀ Cert.NormIdeal.Facts Cert.NormIdeal.Value

/-- A block's stores, read at one place. -/
theorem stored_apply (x0 : Vec Ideal S512x2048 .f32) (x1 : Vec Ideal S1x2048 .f32) (r : Fin 512) (j : Fin 2048) :
    out0_2 (F := Ideal) x0 x1 (ix2 r j) = scaled (fun q => x0 (ix2 r q)) j (x1 (ix2 0 j)) := by
  have l0 : View.ld (Val := Elt Ideal) (e' := .f32) x0 r0_0 = x0 := funext fun y => congrArg x0 (Cert.Proj.emb_whole Gen.inb_S512x2048_S512x2048_0_0 y)
  have l1 : View.ld (Val := Elt Ideal) (e' := .f32) x1 r0_1 = x1 := funext fun y => congrArg x1 (Cert.Proj.emb_whole Gen.inb_S1x2048_S1x2048_0_0 y)
  unfold out0_2
  refine (canon2_eq _ _ (ix2 r j)).trans ?_
  rw [l0, l1]
  have e0 : ix2_0 (ix2 r j) = ix2 r j := by
    funext a
    match a with
    | ⟨0, _⟩ => rfl
    | ⟨1, _⟩ => rfl
  have e1 : ix2_1 (ix2 r j) = ix1 r := by
    funext a
    match a with
    | ⟨0, _⟩ => rfl
  have e2 : ix2_2 (ix2 r j) = ix2 0 j := by
    funext a
    match a with
    | ⟨0, _⟩ => rfl
    | ⟨1, _⟩ => rfl
  have s : multiReduction (F := Ideal) .add [1] S512 (mulf (shapeCast S512x2048 x0 Gen.shapeCasts_S512x2048_S512x2048) (shapeCast S512x2048 x0 Gen.shapeCasts_S512x2048_S512x2048)) 0x00000000#32 Gen.reduces_S512x2048_S512 (.inl rfl) rfl (ix1 r)
      = ∑ q : Fin 2048, x0 (ix2 r q) * x0 (ix2 r q) := by
    refine (Ideal.multiReduction_add_single _ 0x00000000#32 Gen.reduces_S512x2048_S512 (.inl rfl) rfl (ix1 r)).trans (Finset.sum_congr rfl fun q _ => ?_)
    have c0 : ∀ y, shapeCast S512x2048 x0 Gen.shapeCasts_S512x2048_S512x2048 y = x0 y := fun y => shapeCast_apply x0 Gen.shapeCasts_S512x2048_S512x2048 y y rfl
    have l : Gen.reduces_S512x2048_S512.lift (ix1 r) q = ix2 r q := by
      funext a
      match a with
      | ⟨0, _⟩ => rfl
      | ⟨1, _⟩ => rfl
    refine (congrArg _ l).trans ?_
    exact congrArg₂ (fun a b : EReal => a * b) (c0 _) (c0 _)
  unfold E2
  rw [e0, e1, e2, s]
  rfl

variable (m : (ℓ : Loc nD τ sig) → Buf (Elt Ideal) ℓ) (c : Dev nD)

/-- The arguments: the tokens of the sequences, and the gains. -/
def tokens : S8x2048x2048.Idx → EReal := m ((c : Thread nD τ).loc main_arg0)
def gains : S2x2048.Idx → EReal := m ((c : Thread nD τ).loc main_arg1)

theorem point_lt (t : Fin cfg0.N) : t.val < 32 := lt_of_lt_of_eq t.isLt (show cfg0.N = 32 from N_0)

/-- Where the windows' blocks lie. -/
theorem where_rows : ∀ t : Fin cfg0.N, win0_0.index t (0 : Fin 2) = t.val ∧ win0_0.index t (1 : Fin 2) = 0 := by decide +kernel
theorem where_gains : ∀ t : Fin cfg0.N, win0_1.index t (0 : Fin 2) = 0 ∧ win0_1.index t (1 : Fin 2) = 0 := by decide +kernel
theorem where_out : ∀ t : Fin cfg0.N, win0_2.index t (0 : Fin 2) = t.val ∧ win0_2.index t (1 : Fin 2) = 0 := by decide +kernel

/-- The rows and the gains as the call finds them. -/
theorem rows_eq : V m c main_v0 = shapeCast S16384x2048 (tokens m c) Gen.shapeCasts_S8x2048x2048_S16384x2048 := by
  show StableHlo.after hostOps0 (fun b => m (c, b)) main_v0 = _
  after_results
  rfl

theorem gains_eq : V m c main_v3 = shapeCast S1x2048 (shapeCast S2048 (extractStridedSlice S1x2048 ![0, 0] (gains m c) Gen.slices_S2x2048_S1x2048_0_0) Gen.shapeCasts_S1x2048_S2048) Gen.shapeCasts_S2048_S1x2048 := by
  show StableHlo.after hostOps0 (fun b => m (c, b)) main_v3 = _
  after_results
  rfl

/-- A row of the flattened sequences. -/
def tokenOf (z : Fin 16384) : Fin 2048 → EReal := fun q => tokens m c (ix3 ⟨z.val / 2048, by omega⟩ ⟨z.val % 2048, by omega⟩ q)

/-- A block of rows. -/
theorem rows_apply (t : Fin cfg0.N) (r : Fin 512) (q : Fin 2048) :
    iblk m c 0 t (ix2 r q) = tokenOf m c ⟨t.val * 512 + r.val, by have := point_lt t; omega⟩ q := by
  have e : iblk m c 0 t (ix2 r q) = V m c main_v0 (ix2 (⟨t.val * 512 + r.val, by have := point_lt t; omega⟩ : Fin 16384) q) := by
    unfold iblk
    refine (View.read_apply _ _).trans ?_
    show V m c main_v0 _ = _
    refine congrArg (V m c main_v0) (funext fun ax => Fin.ext ?_)
    refine ((cfg0.win (0 : Fin 3)).rect_emb_val _ (ix2 r q) ax).trans ?_
    obtain ⟨e0, e1⟩ := where_rows t
    match ax with
    | ⟨0, _⟩ => exact congrArg (· * 512 + r.val) e0
    | ⟨1, _⟩ => exact (congrArg (· * 2048 + q.val) e1).trans (by simp only [Nat.zero_mul, Nat.zero_add])
  rw [e, rows_eq]
  unfold tokenOf
  refine shapeCast_apply (tokens m c) Gen.shapeCasts_S8x2048x2048_S16384x2048 _ _ ?_
  rw [Shape.rowMajor_val_two, Shape.rowMajor_val_three]
  show ((t.val * 512 + r.val) / 2048 * 2048 + (t.val * 512 + r.val) % 2048) * 2048 + q.val = (t.val * 512 + r.val) * 2048 + q.val
  rw [Nat.div_add_mod']

/-- The block of gains. -/
theorem gains_apply (t : Fin cfg0.N) (j : Fin 2048) : iblk m c 1 t (ix2 0 j) = gains m c (ix2 0 j) := by
  have e : iblk m c 1 t (ix2 0 j) = V m c main_v3 (ix2 (0 : Fin 1) j) := by
    unfold iblk
    refine (View.read_apply _ _).trans ?_
    show V m c main_v3 _ = _
    refine congrArg (V m c main_v3) (funext fun ax => Fin.ext ?_)
    refine ((cfg0.win (1 : Fin 3)).rect_emb_val _ (ix2 0 j) ax).trans ?_
    obtain ⟨e0, e1⟩ := where_gains t
    match ax with
    | ⟨0, _⟩ => exact (congrArg (· * 1 + 0) e0)
    | ⟨1, _⟩ => exact (congrArg (· * 2048 + j.val) e1).trans (by simp only [Nat.zero_mul, Nat.zero_add])
  rw [e, gains_eq]
  refine (shapeCast_apply _ Gen.shapeCasts_S2048_S1x2048 _ (ix1 j) ?_).trans ((shapeCast_apply _ Gen.shapeCasts_S1x2048_S2048 _ (ix2 (0 : Fin 1) j) ?_).trans ?_)
  · rw [Shape.rowMajor_val_one, Shape.rowMajor_val_two]
    show j.val = 0 * 2048 + j.val
    simp only [Nat.zero_mul, Nat.zero_add]
  · rw [Shape.rowMajor_val_one, Shape.rowMajor_val_two]
    show 0 * 2048 + j.val = j.val
    simp only [Nat.zero_mul, Nat.zero_add]
  · refine extractStridedSlice_apply ![0, 0] (gains m c) Gen.slices_S2x2048_S1x2048_0_0 (ix2 (0 : Fin 1) j) (ix2 0 j) (fun a => ?_)
    match a with
    | ⟨0, _⟩ => rfl
    | ⟨1, _⟩ => exact (Nat.zero_add _).symm

/-- The normed rows. -/
def normed : S16384x2048.Idx → EReal := fun i => scaled (tokenOf m c (i 0)) (i 1) (gains m c (ix2 0 (i 1)))

/-- A point's block of them. -/
theorem block_apply (t : Fin cfg0.N) (r : Fin 512) (j : Fin 2048) :
    out0_2 (F := Ideal) (iblk m c 0 t) (iblk m c 1 t) (ix2 r j) = normed m c (ix2 ⟨t.val * 512 + r.val, by have := point_lt t; omega⟩ j) := by
  refine (stored_apply (iblk m c 0 t) (iblk m c 1 t) r j).trans ?_
  exact congrArg₂ (fun row gain => scaled row j gain) (funext fun q => rows_apply m c t r q) (gains_apply m c t j)

/-- Every point writes its block back. -/
theorem writes_back : ∀ t : Fin cfg0.N, (cfg0.win 2).flush t = true := (by decide +kernel : ∀ t : Fin grid0.N, win0_2.flush t = true)

/-- The result array after the run. -/
theorem final_normed : (dats m 0 c).arrAt 2 cfg0.N = normed m c := by
  refine (dats m 0 c).arrAt_eq_of_cover 2 (normed m c) (fun t _ => ?_) (fun i => ?_)
  · rw [flushed2]
    funext y
    obtain ⟨e0, e1⟩ := where_out t
    have hy0 : (y 0).val < 512 := (y 0).isLt
    have hy1 : (y 1).val < 2048 := (y 1).isLt
    have hx : (cfg0.win 2).xinj (grid0.coords t) y = ix2 (⟨(y 0).val, hy0⟩ : Fin 512) (⟨(y 1).val, hy1⟩ : Fin 2048) := by
      funext a
      match a with
      | ⟨0, _⟩ => rfl
      | ⟨1, _⟩ => rfl
    show out0_2 (F := Ideal) (iblk m c 0 t) (iblk m c 1 t) ((cfg0.win 2).xinj (grid0.coords t) y) = normed m c (((cfg0.win 2).blk t).view.emb y)
    refine (congrArg (out0_2 (F := Ideal) (iblk m c 0 t) (iblk m c 1 t)) hx).trans ((block_apply m c t _ _).trans ?_)
    refine congrArg (normed m c) (funext fun a => Fin.ext ?_)
    have hb0 : (((cfg0.win 2).blk t).view.emb y 0).val = win0_2.index t (0 : Fin 2) * 512 + 1 * (y 0).val := rfl
    have hb1 : (((cfg0.win 2).blk t).view.emb y 1).val = win0_2.index t (1 : Fin 2) * 2048 + 1 * (y 1).val := rfl
    match a with
    | ⟨0, _⟩ => exact Eq.trans (by rw [e0, Nat.one_mul]) hb0.symm
    | ⟨1, _⟩ => exact Eq.trans (by rw [e1, Nat.one_mul, Nat.zero_mul, Nat.zero_add]) hb1.symm
  · have h0 : (i 0).val < 16384 := (i 0).isLt
    have h1 : (i 1).val < 2048 := (i 1).isLt
    obtain ⟨t, ht⟩ : ∃ t : Fin cfg0.N, t.val = (i 0).val / 512 :=
      ⟨⟨(i 0).val / 512, lt_of_lt_of_eq (by omega) (show cfg0.N = 32 from N_0).symm⟩, rfl⟩
    obtain ⟨e0, e1⟩ := where_out t
    refine ⟨t, writes_back t, ?_⟩
    show i ∈ ((View.whole main_v4).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 2048 ≤ (i 1).val ∧ (i 1).val < win0_2.index t (1 : Fin 2) * 2048 + 2048; omega

/-- The reference's root of a token's mean square. -/
theorem root_apply (b : Fin 8) (s : Fin 2048) :
    Cert.NormReferenceIdeal.Read.val_main_v9 (F := Ideal) (tokens m c) (ix3 b s 0)
      = Ideal.rsqrt (Ideal.div (∑ q : Fin 2048, tokens m c (ix3 b s q) * tokens m c (ix3 b s q)) (Ideal.ofBits .f32 0x45000000#32) + Ideal.ofBits .f32 0x358637BD#32) := by
  rw [Cert.NormReferenceIdeal.Read.val_main_v9_apply, Cert.NormReferenceIdeal.Read.val_main_v8_apply, Cert.NormReferenceIdeal.Read.val_main_v6_apply,
    Cert.NormReferenceIdeal.Read.val_main_v7_apply, Cert.NormReferenceIdeal.Read.val_main_v5_apply, Cert.NormReferenceIdeal.Read.val_main_v4_apply, Cert.NormReferenceIdeal.Read.val_main_v3_apply]
  have z : Cert.NormReferenceIdeal.Read.val_main_cst (F := Ideal) (Shape.Idx.first Cert.NormReferenceIdeal.Gen.h_S_) = (0 : EReal) := Cert.Proj.zero_word
  rw [z, zero_add]
  have s : ∀ q : Fin 2048, Cert.NormReferenceIdeal.Read.val_main_v2 (F := Ideal) (tokens m c) (Cert.NormReferenceIdeal.Read.idx_main_v3 (Cert.NormReferenceIdeal.Read.idx_main_v4 (ix3 b s 0)) q)
      = tokens m c (ix3 b s q) * tokens m c (ix3 b s q) := fun q => by
    rw [Cert.NormReferenceIdeal.Read.val_main_v2_apply]
    have e : Cert.NormReferenceIdeal.Read.idx_main_v3 (Cert.NormReferenceIdeal.Read.idx_main_v4 (ix3 b s 0)) q = ix3 b s q := by
      funext a
      match a with
      | ⟨0, _⟩ => rfl
      | ⟨1, _⟩ => rfl
      | ⟨2, _⟩ => rfl
    rw [e]
    rfl
  rw [Finset.sum_congr rfl fun q _ => s q]
  rfl

/-- The reference's array is the same. -/
theorem same_normed : Cert.NormReferenceIdeal.Read.val_main_v16 (F := Ideal) (tokens m c) (gains m c) = normed m c := by
  funext i
  have h0 : (i 0).val < 16384 := (i 0).isLt
  have h1 : (i 1).val < 2048 := (i 1).isLt
  have e : Cert.NormReferenceIdeal.Read.idx_main_v15 i = ix3 (⟨(i 0).val / 2048, by omega⟩ : Fin 8) (⟨(i 0).val % 2048, by omega⟩ : Fin 2048) (⟨(i 1).val, h1⟩ : Fin 2048) := by
    funext a
    match a with
    | ⟨0, _⟩ => exact Fin.ext (by show ((i 0).val * 2048 + (i 1).val) / 4194304 = (i 0).val / 2048; omega)
    | ⟨1, _⟩ => exact Fin.ext (by show ((i 0).val * 2048 + (i 1).val) / 2048 % 2048 = (i 0).val % 2048; omega)
    | ⟨2, _⟩ => exact Fin.ext (by show ((i 0).val * 2048 + (i 1).val) % 2048 = (i 1).val; omega)
  rw [Cert.NormReferenceIdeal.Read.val_main_v16_apply, Cert.NormReferenceIdeal.Read.val_main_v15_apply, e, Cert.NormReferenceIdeal.Read.val_main_v14_apply, Cert.NormReferenceIdeal.Read.val_main_v11_apply,
    Cert.NormReferenceIdeal.Read.val_main_v10_apply, Cert.NormReferenceIdeal.Read.val_main_v13_apply, Cert.NormReferenceIdeal.Read.val_main_v12_apply, Cert.NormReferenceIdeal.Read.val_main_v1_apply, Cert.NormReferenceIdeal.Read.val_main_v0_apply]
  unfold normed scaled tokenOf
  refine congrArg₂ (fun a b : EReal => a * b) (congrArg₂ (fun a b : EReal => a * b) rfl ?_) ?_
  · refine Eq.trans (congrArg _ (funext fun a => ?_)) (root_apply m c ⟨(i 0).val / 2048, by omega⟩ ⟨(i 0).val % 2048, by omega⟩)
    match a with
    | ⟨0, _⟩ => rfl
    | ⟨1, _⟩ => rfl
    | ⟨2, _⟩ => rfl
  · refine congrArg (gains m c) (funext fun a => Fin.ext ?_)
    match a with
    | ⟨0, _⟩ => rfl
    | ⟨1, _⟩ => exact Nat.mod_eq_of_lt h1

end kernel

/-- The two programs agree. -/
theorem agree : algebraic_NormIdeal_NormReferenceIdeal := fun m g m' g' _ hargs => by
  refine ⟨fun c => normed m c,
    (θ_run _ _ _).mono (fun r h c => ⟨(h c).1.trans (final_normed m c), (h c).2⟩) (Cert.NormIdeal.Value.run_blocks m g),
    (θ_run _ _ _).mono (fun r h c => ⟨?_, (h c).2⟩) (Cert.NormReferenceIdeal.Value.run m' g')⟩
  obtain ⟨a0, a1⟩ := hargs c
  refine (h c).1.trans ?_
  rw [Cert.NormReferenceIdeal.Read.val_main_v16_eq]
  exact Eq.trans (congrArg₂ (Cert.NormReferenceIdeal.Read.val_main_v16 (F := Ideal)) a0 a1) (same_normed m c)

end Cert.RmsNorm

end
-- ==== Proof.Dense.Math.lean ====
/- The dense SwiGLU between its two norms, as functions of its arrays. -/
module

public import proofs.«01_k».proof.Proof.Swiglu
public import proofs.«01_k».proof.Proof.RmsNorm

@[expose] public section

set_option maxRecDepth 16384
set_option Elab.async false

noncomputable section
namespace Cert.DenseMath

open Cert.Swiglu Cert.RmsNorm
open Idealize.ShloMosaic hiding ix1 ix2 ix3 ix4
open Idealize.ShloMosaic.ValueIdx
open scoped BigOperators

variable (x : (⟨2, ![16384, 2048]⟩ : Shape).Idx → EReal) (g g' : (⟨2, ![2, 2048]⟩ : Shape).Idx → EReal)
  (wg wu : (⟨2, ![2048, 5632]⟩ : Shape).Idx → EReal) (wo : (⟨2, ![5632, 2048]⟩ : Shape).Idx → EReal)

/-- A token's normed entries. -/
def hidden (n : Fin 16384) (k : Fin 2048) : EReal := scaled (fun q => x (ix2 n q)) k (g (ix2 0 k))

/-- What hidden column `f` adds to a token's entry. -/
def part (n : Fin 16384) (d : Fin 2048) (f : Fin 5632) : EReal :=
  gated (∑ k : Fin 2048, hidden x g n k * wg (ix2 k f)) (∑ k : Fin 2048, hidden x g n k * wu (ix2 k f)) * wo (ix2 f d)

/-- A token's entry after the layer. -/
def sums (n : Fin 16384) (d : Fin 2048) : EReal := x (ix2 n d) + ∑ f : Fin 5632, part x g wg wu wo n d f

/-- And the entry of its norm. -/
def normed (n : Fin 16384) (d : Fin 2048) : EReal := scaled (fun q => sums x g wg wu wo n q) d (g' (ix2 1 d))

/-- A sum over 5632 columns is the sum over eleven steps of 512 columns. -/
theorem sum_steps (f : Fin 5632 → EReal) :
    ∑ k : Fin 5632, f k = ∑ s : Fin 11, ∑ k : Fin 512, f ⟨s.val * 512 + k.val, by omega⟩ := by
  rw [← Equiv.sum_comp (finProdFinEquiv (m := 11) (n := 512)), Fintype.sum_prod_type]
  refine Finset.sum_congr rfl fun s _ => Finset.sum_congr rfl fun k _ => ?_
  refine congrArg f (Fin.ext ?_)
  show k.val + 512 * s.val = s.val * 512 + k.val
  omega

end Cert.DenseMath

end
-- ==== Proof.Dense.Ref.lean ====
/- The reference of the dense SwiGLU, read entry by entry. -/
module

public import proofs.«01_k».proof.Proof.Dense.Math
public import proofs.«01_k».proof.Proof.RefValue
public import proofs.«01_k».proof.Proof.Gen.DenseReferenceIdeal.Run
public import proofs.«01_k».proof.Proof.Gen.DenseReferenceIdeal.Read

@[expose] public section

set_option maxRecDepth 16384
set_option Elab.async false

noncomputable section
namespace Cert.DenseReferenceIdeal.Layer

open Cert.DenseReferenceIdeal Cert.DenseReferenceIdeal.Gen Cert.DenseReferenceIdeal.Read Cert.Swiglu Cert.RmsNorm Cert.DenseMath
open Idealize.ShloMosaic hiding ix1 ix2 ix3 ix4
open Idealize.ShloMosaic.ValueIdx
open scoped BigOperators

/-- A row over the root of its mean square. -/
theorem rooted_apply (y : S16384x2048.Idx → EReal) (n : Fin 16384) (j : Fin 2048) :
    val_main_v11 (F := Ideal) y (ix2 n j)
      = y (ix2 n j) * Ideal.rsqrt (Ideal.div (∑ q : Fin 2048, y (ix2 n q) * y (ix2 n q)) (Ideal.ofBits .f32 0x45000000#32) + Ideal.ofBits .f32 0x358637BD#32) := by
  rw [val_main_v11_apply, val_main_v10_apply, val_main_v9_apply, val_main_v8_apply, val_main_v6_apply, val_main_v7_apply, val_main_v5_apply, val_main_v4_apply, val_main_v3_apply]
  have z : val_main_cst (F := Ideal) (Shape.Idx.first h_S_) = (0 : EReal) := zero_bits
  rw [z, zero_add]
  have s : ∀ q : Fin 2048, val_main_v2 (F := Ideal) y (idx_main_v3 (idx_main_v4 (idx_main_v10 (ix2 n j))) q) = y (ix2 n q) * y (ix2 n q) := fun q => by
    rw [val_main_v2_apply]
    have e : idx_main_v3 (idx_main_v4 (idx_main_v10 (ix2 n j))) q = ix2 n q := by
      funext a
      match a with
      | ⟨0, _⟩ => rfl
      | ⟨1, _⟩ => rfl
    rw [e]
    rfl
  rw [Finset.sum_congr rfl fun q _ => s q]
  rfl

/-- The gains over the rows. -/
theorem gain_apply (g : S2x2048.Idx → EReal) (n : Fin 16384) (j : Fin 2048) : val_main_v13 (F := Ideal) g (ix2 n j) = g (ix2 0 j) := by
  rw [val_main_v13_apply, val_main_v12_apply, val_main_v1_apply, val_main_v0_apply]
  refine congrArg g (funext fun a => Fin.ext ?_)
  match a with
  | ⟨0, _⟩ => rfl
  | ⟨1, _⟩ => exact Nat.mod_eq_of_lt j.isLt

theorem next_gain_apply (g : S2x2048.Idx → EReal) (n : Fin 16384) (j : Fin 2048) : val_main_v37 (F := Ideal) g (ix2 n j) = g (ix2 1 j) := by
  rw [val_main_v37_apply, val_main_v36_apply, val_main_v25_apply, val_main_v24_apply]
  refine congrArg g (funext fun a => Fin.ext ?_)
  match a with
  | ⟨0, _⟩ => rfl
  | ⟨1, _⟩ => exact Nat.mod_eq_of_lt j.isLt

variable (x : S16384x2048.Idx → EReal) (g g' : S2x2048.Idx → EReal) (wg wu : S2048x5632.Idx → EReal) (wo : S5632x2048.Idx → EReal)

theorem hidden_apply (n : Fin 16384) (j : Fin 2048) : val_main_v14 (F := Ideal) x g (ix2 n j) = hidden x g n j := by
  rw [val_main_v14_apply, rooted_apply, gain_apply]
  rfl

theorem sums_apply (n : Fin 16384) (d : Fin 2048) : val_main_v23 (F := Ideal) x g wg wu wo (ix2 n d) = sums x g wg wu wo n d := by
  rw [val_main_v23_apply]
  refine congrArg (fun b : EReal => x (ix2 n d) + b) ?_
  refine (Cert.ReferenceIdeal.Expert.swiglu_apply (M := 16384) (K := 2048) (N := 5632) (D := 2048) (val_main_v14 (F := Ideal) x g) (val_main_v15 (F := Ideal) wg)
    (val_main_v17 (F := Ideal) wu) (val_main_v21 (F := Ideal) wo) (val_main_call0_v4 (F := Ideal)) (fun i => one_bits) n d).trans ?_
  refine Finset.sum_congr rfl fun f _ => ?_
  simp only [hidden_apply]
  rfl

theorem normed_apply (n : Fin 16384) (d : Fin 2048) : val_main_v41 (F := Ideal) x g g' wg wu wo (ix2 n d) = normed x g g' wg wu wo n d := by
  have h : val_main_v35 (F := Ideal) x g wg wu wo = val_main_v11 (F := Ideal) (val_main_v23 (F := Ideal) x g wg wu wo) := rfl
  rw [val_main_v41_apply]
  show val_main_v38 (F := Ideal) x g g' wg wu wo (ix2 n d) = _
  rw [val_main_v38_apply, h, rooted_apply, next_gain_apply]
  simp only [sums_apply]
  rfl

end Cert.DenseReferenceIdeal.Layer

end
-- ==== Proof.Dense.Body.lean ====
/- One grid point of the dense SwiGLU: what the body leaves in every buffer it writes. -/
module

public import proofs.«01_k».proof.Defs
public import proofs.«01_k».proof.Proof.Gen.DenseIdeal
public import proofs.«01_k».proof.Proof.Gen.DenseIdeal.Skeleton
public import proofs.«01_k».proof.Proof.Gen.DenseIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Pipeline.ValueKit
public import Idealize.ShloMosaic.Lib.WordCmp
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.DenseIdeal.Layer

open Cert.DenseIdeal Cert.DenseIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The prefetched tables and the scratch buffer, whole. -/
abbrev tileExpert : Memref sig .tc .smem S32 .i32 := Memref.whole main_v9
abbrev usedTiles : Memref sig .tc .smem S1 .i32 := Memref.whole main_v10
abbrev tileRows : Memref sig .tc .smem S32 .i32 := Memref.whole main_v11
abbrev normedRows : Memref sig .tc .vmem S512x2048 .bf16 := Memref.whole cc0_scratch0

/-- The word of the row counts that the body reads at a grid point. -/
abbrev rowsAt (i : grid0.Coords) (T2 : S32.Idx → Elt F .i32) : Elt F .i32 :=
  View.readAt (Elt F) (tileRows).view (Rect.unit (s := S32) (k0_off1 i) S1.size (k0_off1_inb i)).toLoadRect T2 (Shape.Idx.first (numel1_S1.symm ▸ Nat.one_pos))

/-- The normed rows a grid point works with: normed afresh at the first column step, kept at the others. -/
def newH (i : grid0.Coords) (x0 : S512x2048.Idx → Elt F .f32) (x1 : S1x2048.Idx → Elt F .f32) (xb : S512x2048.Idx → Elt F .bf16) : S512x2048.Idx → Elt F .bf16 :=
  if k0_cond1 i = 1#1 then k0_pay2 x0 x1 else xb

/-- The running sum a grid point adds to: the rows themselves at the first column step. -/
def oldX (i : grid0.Coords) (x0 y : S512x2048.Idx → Elt F .f32) : S512x2048.Idx → Elt F .f32 :=
  if k0_cond1 i = 1#1 then x0 else y

/-- What a grid point leaves in the block of sums that held `y`. -/
def newX (i : grid0.Coords) (x0 : S512x2048.Idx → Elt F .f32) (x1 : S1x2048.Idx → Elt F .f32) (x3 x4 : S1x2048x512.Idx → Elt F .bf16)
    (x5 : S1x512x2048.Idx → Elt F .bf16) (y : S512x2048.Idx → Elt F .f32) (xb : S512x2048.Idx → Elt F .bf16) : S512x2048.Idx → Elt F .f32 :=
  k0_pay3 (newH i x0 x1 xb) x3 x4 (oldX i x0 y) x5

/-- What it leaves in the block of normed sums that held `z`: their norm at the last column step. -/
def newN (i : grid0.Coords) (X : S512x2048.Idx → Elt F .f32) (x2 : S1x2048.Idx → Elt F .f32) (z : S512x2048.Idx → Elt F .bf16) : S512x2048.Idx → Elt F .bf16 :=
  if k0_cond3 i = 1#1 then k0_pay4 X x2 else z

/-- A flag widened to a word and compared with zero is the flag. -/
theorem flag_word (b : BitVec 1) : Scalar.cmpi .ne (Scalar.extui b) 0#32 = b := by
  revert b; decide

/-- The first branch runs at the first column step. -/
theorem cond1_iff (i : grid0.Coords) : k0_cond1 i = 1#1 ↔ (i 1).val = 0 := by
  have h7 : (i 1).val < 11 := (i 1).isLt
  show Scalar.cmpi .ne (Scalar.extui (Scalar.cmpi .eq (BitVec.ofNat 32 (i 1).val) 0#32)) 0#32 = 1#1 ↔ _
  rw [flag_word]
  show IntOp.cmpi .eq (BitVec.ofNat 32 (i 1).val) (BitVec.ofNat 32 0) = 1#1 ↔ _
  exact WordCmp.cmpi_eq_ofNat_eq_one_iff (by omega) (by omega)

/-- The last branch runs at the last column step. -/
theorem cond3_iff (i : grid0.Coords) : k0_cond3 i = 1#1 ↔ (i 1).val = 10 := by
  have h7 : (i 1).val < 11 := (i 1).isLt
  show Scalar.cmpi .ne (Scalar.extui (Scalar.cmpi .eq (BitVec.ofNat 32 (i 1).val) 10#32)) 0#32 = 1#1 ↔ _
  rw [flag_word]
  show IntOp.cmpi .eq (BitVec.ofNat 32 (i 1).val) (BitVec.ofNat 32 10) = 1#1 ↔ _
  exact WordCmp.cmpi_eq_ofNat_eq_one_iff (by omega) (by omega)

/-- The three ways through the body. -/
theorem paths (i : grid0.Coords) : (k0_cond1 i = 1#1 ∧ ¬ k0_cond3 i = 1#1) ∨ (¬ k0_cond1 i = 1#1 ∧ ¬ k0_cond3 i = 1#1) ∨ (¬ k0_cond1 i = 1#1 ∧ k0_cond3 i = 1#1) := by
  rw [cond1_iff, cond3_iff]; omega

/-- No offset. -/
theorem zero2 : ∀ a : Fin 2, (![0, 0] : Fin 2 → Nat) a = 0 := by decide

theorem zero3 : ∀ a : Fin 3, (![0, 0, 0] : Fin 3 → Nat) a = 0 := by decide

/-- A whole block, as the body's loads and stores name it. -/
abbrev wholeBlock : Rect S512x2048 := Rect.unit (s := S512x2048) ![0, 0] S512x2048.size inb_S512x2048_S512x2048_0_0
abbrev wholeSide : Rect S224x2048 := Rect.unit (s := S224x2048) ![0, 0] S224x2048.size inb_S224x2048_S224x2048_0_0

theorem canon_block {e : EltTy} (w : S512x2048.Idx → Elt F e) (L : List (View.Piece (Elt F) S512x2048 e)) :
    View.canon ((⟨wholeBlock, w⟩ : View.Piece (Elt F) S512x2048 e) :: L) = w :=
  View.canon_cons_unit_lit (S := S512x2048) inb_S512x2048_S512x2048_0_0 w L zero2

theorem canon_side {e : EltTy} (w : S224x2048.Idx → Elt F e) (L : List (View.Piece (Elt F) S224x2048 e)) :
    View.canon ((⟨wholeSide, w⟩ : View.Piece (Elt F) S224x2048 e) :: L) = w :=
  View.canon_cons_unit_lit (S := S224x2048) inb_S224x2048_S224x2048_0_0 w L zero2

/-- A load of a whole block reads what the buffer holds. -/
theorem ld_rep {sp : Space} {e : EltTy} (v : View sig .tc sp S512x2048 e) (X : S512x2048.Idx → Elt F e) :
    View.readAt (Elt F) v wholeBlock.toLoadRect (v.rep X) = X := by
  rw [View.readAt_eq_ld, View.read_rep]
  exact View.ld_unit_lit (S := S512x2048) _ X zero2

theorem ld_rep_gain {sp : Space} {e : EltTy} (v : View sig .tc sp S1x2048 e) (X : S1x2048.Idx → Elt F e) :
    View.readAt (Elt F) v (Rect.unit (s := S1x2048) ![0, 0] S1x2048.size inb_S1x2048_S1x2048_0_0).toLoadRect (v.rep X) = X := by
  rw [View.readAt_eq_ld, View.read_rep]
  exact View.ld_unit_lit (S := S1x2048) _ X zero2

theorem ld_rep_side {sp : Space} {e : EltTy} (v : View sig .tc sp S224x2048 e) (X : S224x2048.Idx → Elt F e) :
    View.readAt (Elt F) v wholeSide.toLoadRect (v.rep X) = X := by
  rw [View.readAt_eq_ld, View.read_rep]
  exact View.ld_unit_lit (S := S224x2048) _ X zero2

theorem ld_rep_in {sp : Space} {e : EltTy} (v : View sig .tc sp S1x2048x512 e) (X : S1x2048x512.Idx → Elt F e) :
    View.readAt (Elt F) v (Rect.unit (s := S1x2048x512) ![0, 0, 0] S1x2048x512.size inb_S1x2048x512_S1x2048x512_0_0_0).toLoadRect (v.rep X) = X := by
  rw [View.readAt_eq_ld, View.read_rep]
  exact View.ld_unit_lit (S := S1x2048x512) _ X zero3

theorem ld_rep_out {sp : Space} {e : EltTy} (v : View sig .tc sp S1x512x2048 e) (X : S1x512x2048.Idx → Elt F e) :
    View.readAt (Elt F) v (Rect.unit (s := S1x512x2048) ![0, 0, 0] S1x512x2048.size inb_S1x512x2048_S1x512x2048_0_0_0).toLoadRect (v.rep X) = X := by
  rw [View.readAt_eq_ld, View.read_rep]
  exact View.ld_unit_lit (S := S1x512x2048) _ X zero3

theorem ld_unread {sp : Space} {e : EltTy} {a : Memref sig .tc sp S512x2048 e} (ha : a.IsWhole) (X : S512x2048.Idx → Elt F e) :
    View.readAt (Elt F) a.view wholeBlock.toLoadRect (ha.unread X) = X := by
  rw [View.readAt_eq_ld, ha.read_unread]
  exact View.ld_unit_lit (S := S512x2048) _ X zero2

theorem sum_args {a a' : S512x2048.Idx → Elt F .bf16} {b b' d d' : S1x2048x512.Idx → Elt F .bf16} {g g' : S512x2048.Idx → Elt F .f32}
    {k k' : S1x512x2048.Idx → Elt F .bf16} (ha : a = a') (hb : b = b') (hd : d = d') (hg : g = g') (hk : k = k') :
    k0_pay3 a b d g k = k0_pay3 a' b' d' g' k' := by
  rw [ha, hb, hd, hg, hk]

set_option backward.proofsInPublic true in
set_option maxHeartbeats 4000000 in
/-- The body's run at a point whose tile has rows. -/
theorem body_run (c : Dev nD) (i : grid0.Coords) (arg5 : Memref sig .tc .vmem S512x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S224x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S224x2048 .bf16) (harg14 : arg14.IsWhole) (T0 : S32.Idx → Elt F .i32) (T1 : S1.Idx → Elt F .i32) (T2 : S32.Idx → Elt F .i32)
    (k0_h2 : k0_cond2 (rowsAt i T2) = 1#1) (x0 : S512x2048.Idx → Elt F .f32) (x1 : S1x2048.Idx → Elt F .f32) (x2 : S1x2048.Idx → Elt F .f32) (x3 : S1x2048x512.Idx → Elt F .bf16) (x4 : S1x2048x512.Idx → Elt F .bf16) (x5 : S1x512x2048.Idx → Elt F .bf16) (x6 : S224x2048.Idx → Elt F .f32)
    (y : S512x2048.Idx → Elt F .f32) (z : S512x2048.Idx → Elt F .bf16) (s : S224x2048.Idx → Elt F .bf16) (xb : S512x2048.Idx → Elt F .bf16)
    (K : PUnit → sProp 𝕄) :
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tileExpert.view.loc (c : Thread nD τ) ↦{fullShare.right} T0)
          ∗ (usedTiles.view.loc (c : Thread nD τ) ↦{fullShare.right} T1)
          ∗ (tileRows.view.loc (c : Thread nD τ) ↦{fullShare.right} T2)
          ∗ owns (c : Thread nD τ) arg12 fullShare y
          ∗ owns (c : Thread nD τ) arg13 fullShare z
          ∗ owns (c : Thread nD τ) arg14 fullShare s
          ∗ owns (c : Thread nD τ) normedRows fullShare xb
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tileExpert.view.loc (c : Thread nD τ) ↦{fullShare.right} T0)
          ∗ (usedTiles.view.loc (c : Thread nD τ) ↦{fullShare.right} T1)
          ∗ (tileRows.view.loc (c : Thread nD τ) ↦{fullShare.right} T2)
          ∗ owns (c : Thread nD τ) arg12 fullShare (newX i x0 x1 x3 x4 x5 y xb)
          ∗ owns (c : Thread nD τ) arg13 fullShare (newN i (newX i x0 x1 x3 x4 x5 y xb) x2 z)
          ∗ owns (c : Thread nD τ) arg14 fullShare (k0_pay1 x6)
          ∗ owns (c : Thread nD τ) normedRows fullShare (newH i x0 x1 xb)) -∗ K ⟨⟩))
          ⊢ wp frame (wpE (defs₀ (F := F)) Variants.none c none) Set.univ (cc0_dense_swiglu i tileExpert (Memref.isWhole_whole _) usedTiles (Memref.isWhole_whole _) tileRows (Memref.isWhole_whole _) arg5 harg5 arg6 harg6 arg7 harg7 arg8 harg8 arg9 harg9 arg10 harg10 arg11 harg11 arg12 harg12 arg13 harg13 arg14 harg14 normedRows (Memref.isWhole_whole _)) K := by
    unfold owns
    rw [cc0_dense_swiglu_eq_skeleton]; unfold cc0_dense_swiglu_skel
    have hS0 : normedRows.IsWhole := Memref.isWhole_whole _
    have hT0 : tileExpert.IsWhole := Memref.isWhole_whole _
    have hT1 : usedTiles.IsWhole := Memref.isWhole_whole _
    have hT2 : tileRows.IsWhole := Memref.isWhole_whole _
    iintro ⟨H0, H1, H2, H3, H4, H5, H6, HT0, HT1, HT2, ⟨%f7, %hf7, HO7⟩, ⟨%f8, %hf8, HO8⟩, ⟨%f9, %hf9, HO9⟩, ⟨%fs, %hfs, HS0⟩, Hk⟩
    obtain rfl := harg12.eq_unread hf7
    obtain rfl := harg13.eq_unread hf8
    obtain rfl := harg14.eq_unread hf9
    obtain rfl := hS0.eq_unread hfs
    rcases paths i with ⟨k0_h1, k0_h3⟩ | ⟨k0_h1, k0_h3⟩ | ⟨k0_h1, k0_h3⟩
    · sl_exec! (disch := first | (guard_target = k0_cond1 _ = _; exact k0_h1) | (guard_target = ¬(k0_cond1 _ = _); exact k0_h1) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [HT2]; · iexact HT2
      isplitl [HO7]
      · iexists _; isplitr; swap; · iexact HO7
        ipureintro
        simp only [newX, newH, oldX, newN, k0_h1, k0_h3, if_true, if_false]
        sl_unfold_run_names
        rw [View.read_writes_junk_eq_canon, canon_block]; exact sum_args (by rw [View.readCov_cons_toLoadRect, ld_rep, ld_rep_gain]) (ld_rep_in _ _) (ld_rep_in _ _) (by rw [View.readCov_cons_toLoadRect, ld_rep]) (ld_rep_out _ _)
      isplitl [HO8]
      · iexists _; isplitr; swap; · iexact HO8
        ipureintro
        simp only [newX, newH, oldX, newN, k0_h1, k0_h3, if_true, if_false]
        exact harg13.read_unread _
      isplitl [HO9]
      · iexists _; isplitr; swap; · iexact HO9
        ipureintro
        sl_unfold_run_names
        rw [View.read_writes_junk_eq_canon, canon_side, ld_rep_side]
      iexists _; isplitr; swap
      · iexact HS0
      ipureintro
      simp only [newX, newH, oldX, newN, k0_h1, k0_h3, if_true, if_false]
      sl_unfold_run_names
      rw [View.read_writes_junk_eq_canon, canon_block, ld_rep, ld_rep_gain]
    · sl_exec! (disch := first | (guard_target = k0_cond1 _ = _; exact k0_h1) | (guard_target = ¬(k0_cond1 _ = _); exact k0_h1) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [HT2]; · iexact HT2
      isplitl [HO7]
      · iexists _; isplitr; swap; · iexact HO7
        ipureintro
        simp only [newX, newH, oldX, newN, k0_h1, k0_h3, if_true, if_false]
        sl_unfold_run_names
        rw [View.read_writes_junk_eq_canon, canon_block]; exact sum_args (ld_unread hS0 _) (ld_rep_in _ _) (ld_rep_in _ _) (ld_unread harg12 _) (ld_rep_out _ _)
      isplitl [HO8]
      · iexists _; isplitr; swap; · iexact HO8
        ipureintro
        simp only [newX, newH, oldX, newN, k0_h1, k0_h3, if_true, if_false]
        exact harg13.read_unread _
      isplitl [HO9]
      · iexists _; isplitr; swap; · iexact HO9
        ipureintro
        sl_unfold_run_names
        rw [View.read_writes_junk_eq_canon, canon_side, ld_rep_side]
      iexists _; isplitr; swap
      · iexact HS0
      ipureintro
      simp only [newX, newH, oldX, newN, k0_h1, k0_h3, if_true, if_false]
      exact hS0.read_unread _
    · sl_exec! (disch := first | (guard_target = k0_cond1 _ = _; exact k0_h1) | (guard_target = ¬(k0_cond1 _ = _); exact k0_h1) | (guard_target = k0_cond2 _ = _; exact k0_h2) | (guard_target = (k0_cond3 _ = _); exact k0_h3) | (guard_target = ¬(k0_cond3 _ = _); exact k0_h3))
      sl_step
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [HT2]; · iexact HT2
      isplitl [HO7]
      · iexists _; isplitr; swap; · iexact HO7
        ipureintro
        simp only [newX, newH, oldX, newN, k0_h1, k0_h3, if_true, if_false]
        sl_unfold_run_names
        rw [View.read_writes_junk_eq_canon, canon_block]; exact sum_args (ld_unread hS0 _) (ld_rep_in _ _) (ld_rep_in _ _) (ld_unread harg12 _) (ld_rep_out _ _)
      isplitl [HO8]
      · iexists _; isplitr; swap; · iexact HO8
        ipureintro
        simp only [newX, newH, oldX, newN, k0_h1, k0_h3, if_true, if_false]
        sl_unfold_run_names
        rw [View.read_writes_junk_eq_canon, canon_block, View.readCov_cons_toLoadRect, ld_rep_gain]; exact congrArg (k0_pay4 · x2) (sum_args (ld_unread hS0 _) (ld_rep_in _ _) (ld_rep_in _ _) (ld_unread harg12 _) (ld_rep_out _ _))
      isplitl [HO9]
      · iexists _; isplitr; swap; · iexact HO9
        ipureintro
        sl_unfold_run_names
        rw [View.read_writes_junk_eq_canon, canon_side, ld_rep_side]
      iexists _; isplitr; swap
      · iexact HS0
      ipureintro
      simp only [newX, newH, oldX, newN, k0_h1, k0_h3, if_true, if_false]
      exact hS0.read_unread _

end Cert.DenseIdeal.Layer

end
-- ==== Proof.Dense.Pipe.lean ====
/- The dense SwiGLU over its grid: the data of the pipeline, the body's obligation, the launch, and the frame. -/
module

public import proofs.«01_k».proof.Defs
public import proofs.«01_k».proof.Proof.Dense.Body
public import proofs.«01_k».proof.Proof.Gen.DenseIdeal
public import proofs.«01_k».proof.Proof.Gen.DenseIdeal.Skeleton
public import proofs.«01_k».proof.Proof.Gen.DenseIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Pipeline.Value
public import Idealize.ShloMosaic.Lib.Pipeline.ValueKit
public import Idealize.ShloMosaic.Lib.WordCmp
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.DenseIdeal.Layer

open Cert.DenseIdeal Cert.DenseIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)

/-- The pipeline at tables `a`. -/
abbrev cfgA : Pipeline.Cfg sig Λ₀ := cfg0 (F := F) a
abbrev pcs : Fin 1 → Pipeline.Cfg sig Λ₀ := Pipeline.pin (pcfgs (F := F)) fun _ => a

variable (hr : ∀ e : S32.Idx, (show BitVec 32 from a.1 2 e) = 512#32)

variable (m : (ℓ : Loc nD τ sig) → Buf (Elt F) ℓ) (ρ : Dev nD → PrngReg)

/-- The buffers as the pipeline finds them. -/
abbrev V (c : Dev nD) (b : Ref sig .tc) : Buf (Elt F) ((c : Thread nD τ).loc b) := StableHlo.after hostOps0 (fun b => m (c, b)) b

/-- The coordinates of a point, and the staging buffers the windows use there. -/
abbrev crd (t : Fin (cfgA a).N) : grid0.Coords := (cfgA a).grid.coords t
abbrev ms0_0 (t : Fin (cfgA a).N) : Memref sig .tc .vmem S512x2048 .f32 := spec0_0.stage ((cfgA a).slots t (0 : Fin 10))
abbrev hs0_0 (t : Fin (cfgA a).N) : (ms0_0 a t).IsWhole := hstage0_0 (((cfgA a).slots t (0 : Fin 10)).cast nbuf0_0)
abbrev ms0_1 (t : Fin (cfgA a).N) : Memref sig .tc .vmem S1x2048 .f32 := spec0_1.stage ((cfgA a).slots t (1 : Fin 10))
abbrev hs0_1 (t : Fin (cfgA a).N) : (ms0_1 a t).IsWhole := hstage0_1 (((cfgA a).slots t (1 : Fin 10)).cast nbuf0_1)
abbrev ms0_2 (t : Fin (cfgA a).N) : Memref sig .tc .vmem S1x2048 .f32 := spec0_2.stage ((cfgA a).slots t (2 : Fin 10))
abbrev hs0_2 (t : Fin (cfgA a).N) : (ms0_2 a t).IsWhole := hstage0_2 (((cfgA a).slots t (2 : Fin 10)).cast nbuf0_2)
abbrev ms0_3 (t : Fin (cfgA a).N) : Memref sig .tc .vmem S1x2048x512 .bf16 := spec0_3.stage ((cfgA a).slots t (3 : Fin 10))
abbrev hs0_3 (t : Fin (cfgA a).N) : (ms0_3 a t).IsWhole := hstage0_3 (((cfgA a).slots t (3 : Fin 10)).cast nbuf0_3)
abbrev ms0_4 (t : Fin (cfgA a).N) : Memref sig .tc .vmem S1x2048x512 .bf16 := spec0_4.stage ((cfgA a).slots t (4 : Fin 10))
abbrev hs0_4 (t : Fin (cfgA a).N) : (ms0_4 a t).IsWhole := hstage0_4 (((cfgA a).slots t (4 : Fin 10)).cast nbuf0_4)
abbrev ms0_5 (t : Fin (cfgA a).N) : Memref sig .tc .vmem S1x512x2048 .bf16 := spec0_5.stage ((cfgA a).slots t (5 : Fin 10))
abbrev hs0_5 (t : Fin (cfgA a).N) : (ms0_5 a t).IsWhole := hstage0_5 (((cfgA a).slots t (5 : Fin 10)).cast nbuf0_5)
abbrev ms0_6 (t : Fin (cfgA a).N) : Memref sig .tc .vmem S224x2048 .f32 := spec0_6.stage ((cfgA a).slots t (6 : Fin 10))
abbrev hs0_6 (t : Fin (cfgA a).N) : (ms0_6 a t).IsWhole := hstage0_6 (((cfgA a).slots t (6 : Fin 10)).cast nbuf0_6)
abbrev ms0_7 (t : Fin (cfgA a).N) : Memref sig .tc .vmem S512x2048 .f32 := spec0_7.stage ((cfgA a).slots t (7 : Fin 10))
abbrev hs0_7 (t : Fin (cfgA a).N) : (ms0_7 a t).IsWhole := hstage0_7 (((cfgA a).slots t (7 : Fin 10)).cast nbuf0_7)
abbrev ms0_8 (t : Fin (cfgA a).N) : Memref sig .tc .vmem S512x2048 .bf16 := spec0_8.stage ((cfgA a).slots t (8 : Fin 10))
abbrev hs0_8 (t : Fin (cfgA a).N) : (ms0_8 a t).IsWhole := hstage0_8 (((cfgA a).slots t (8 : Fin 10)).cast nbuf0_8)
abbrev ms0_9 (t : Fin (cfgA a).N) : Memref sig .tc .vmem S224x2048 .bf16 := spec0_9.stage ((cfgA a).slots t (9 : Fin 10))
abbrev hs0_9 (t : Fin (cfgA a).N) : (ms0_9 a t).IsWhole := hstage0_9 (((cfgA a).slots t (9 : Fin 10)).cast nbuf0_9)

/-- A window's block at a point, read off its array. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

/-- The inputs' blocks, with their shapes written out. -/
abbrev rowsBlk (c : Dev nD) (t : Fin (cfgA a).N) : S512x2048.Idx → Elt F .f32 := iblk a m c (0 : Fin 10) t
abbrev gainBlk (c : Dev nD) (t : Fin (cfgA a).N) : S1x2048.Idx → Elt F .f32 := iblk a m c (1 : Fin 10) t
abbrev nextGain (c : Dev nD) (t : Fin (cfgA a).N) : S1x2048.Idx → Elt F .f32 := iblk a m c (2 : Fin 10) t
abbrev gateBlk (c : Dev nD) (t : Fin (cfgA a).N) : S1x2048x512.Idx → Elt F .bf16 := iblk a m c (3 : Fin 10) t
abbrev upBlk (c : Dev nD) (t : Fin (cfgA a).N) : S1x2048x512.Idx → Elt F .bf16 := iblk a m c (4 : Fin 10) t
abbrev outBlk (c : Dev nD) (t : Fin (cfgA a).N) : S1x512x2048.Idx → Elt F .bf16 := iblk a m c (5 : Fin 10) t
abbrev sideBlk (c : Dev nD) (t : Fin (cfgA a).N) : S224x2048.Idx → Elt F .f32 := iblk a m c (6 : Fin 10) t

include hr in
/-- The tile of every point has rows. -/
theorem has_rows (t : Fin (cfgA a).N) : k0_cond2 (rowsAt (crd a t) (a.1 2)) = 1#1 := by
  have h : (rowsAt (crd a t) (a.1 2) : BitVec 32) = 512#32 := hr _
  rw [h]
  decide

/-- The coordinates of point `t`: tile `t / 11`, column step `t % 11`. -/
theorem crd_tile (t : Fin (cfgA a).N) : ((crd a t) 0).val = t.val / 11 := by
  have h : t.val < 352 := t.isLt
  show t.val / grid0.stride 0 % 32 = _
  rw [show grid0.stride 0 = 11 from by decide +kernel]
  omega

theorem crd_step (t : Fin (cfgA a).N) : ((crd a t) 1).val = t.val % 11 := by
  have h : t.val < 352 := t.isLt
  show t.val / grid0.stride 1 % 11 = _
  rw [show grid0.stride 1 = 1 from by decide +kernel]
  omega

theorem first_iff (t : Fin (cfgA a).N) : k0_cond1 (crd a t) = 1#1 ↔ t.val % 11 = 0 := by
  rw [cond1_iff, crd_step]

theorem last_iff (t : Fin (cfgA a).N) : k0_cond3 (crd a t) = 1#1 ↔ t.val % 11 = 10 := by
  rw [cond3_iff, crd_step]

/-- The blocks of rows and of gains do not change within a tile. -/
theorem rowsBlk_next (c : Dev nD) (t : Fin (cfgA a).N) (h : t.val + 1 < (cfgA a).N) (h7 : (t.val + 1) % 11 ≠ 0) :
    rowsBlk a m c ⟨t.val + 1, h⟩ = rowsBlk a m c t := by
  have hi : ((cfgA a).win (0 : Fin 10)).index ⟨t.val + 1, h⟩ = ((cfgA a).win (0 : Fin 10)).index t := by
    refine hreads0_0 a.1 _ _ fun ax hax => ?_
    have h0 : ax = 0 := by revert hax; revert ax; decide
    subst h0
    apply Fin.ext
    rw [crd_tile, crd_tile]
    show (t.val + 1) / 11 = t.val / 11
    omega
  unfold rowsBlk iblk
  generalize V m c (Pipeline.arrRef spec0 (0 : Fin 10)) = X
  funext x
  refine (View.read_apply _ _).trans (Eq.trans ?_ (View.read_apply _ _).symm)
  show X _ = X _
  refine congrArg X ?_
  funext ax
  apply Fin.ext
  refine (((cfgA a).win (0 : Fin 10)).rect_emb_val ⟨t.val + 1, h⟩ x ax).trans (Eq.trans ?_ (((cfgA a).win (0 : Fin 10)).rect_emb_val t x ax).symm)
  rw [hi]

theorem gainBlk_next (c : Dev nD) (t : Fin (cfgA a).N) (h : t.val + 1 < (cfgA a).N) (h7 : (t.val + 1) % 11 ≠ 0) :
    gainBlk a m c ⟨t.val + 1, h⟩ = gainBlk a m c t := by
  have hi : ((cfgA a).win (1 : Fin 10)).index ⟨t.val + 1, h⟩ = ((cfgA a).win (1 : Fin 10)).index t := by
    rfl
  unfold gainBlk iblk
  generalize V m c (Pipeline.arrRef spec0 (1 : Fin 10)) = X
  funext x
  refine (View.read_apply _ _).trans (Eq.trans ?_ (View.read_apply _ _).symm)
  show X _ = X _
  refine congrArg X ?_
  funext ax
  apply Fin.ext
  refine (((cfgA a).win (1 : Fin 10)).rect_emb_val ⟨t.val + 1, h⟩ x ax).trans (Eq.trans ?_ (((cfgA a).win (1 : Fin 10)).rect_emb_val t x ax).symm)
  rw [hi]

/-- The normed rows of the tile at hand. -/
def xbAt (c : Dev nD) (t : Fin (cfgA a).N) : S512x2048.Idx → Elt F .bf16 := k0_pay2 (rowsBlk a m c t) (gainBlk a m c t)

/-- One point's addition to the sum `y` left by the point before. -/
def step (c : Dev nD) (t : Fin (cfgA a).N) (y : S512x2048.Idx → Elt F .f32) : S512x2048.Idx → Elt F .f32 :=
  k0_pay3 (xbAt a m c t) (gateBlk a m c t) (upBlk a m c t) (oldX (crd a t) (rowsBlk a m c t) y) (outBlk a m c t)

/-- The block of sums after point `n`. -/
def accAt (c : Dev nD) : (n : ℕ) → n < (cfgA a).N → S512x2048.Idx → Elt F .f32
  | 0, h => step a m c ⟨0, h⟩ (rowsBlk a m c ⟨0, h⟩)
  | n + 1, h => step a m c ⟨n + 1, h⟩ (accAt c n (Nat.lt_of_succ_lt h))

/-- The block of sums before point `t` (anything before the first). -/
def accBefore (c : Dev nD) (t : Fin (cfgA a).N) : S512x2048.Idx → Elt F .f32 :=
  if h : t.val = 0 then rowsBlk a m c t else accAt a m c (t.val - 1) (by omega)

theorem accAt_eq (c : Dev nD) (t : Fin (cfgA a).N) : accAt a m c t.val t.isLt = step a m c t (accBefore a m c t) := by
  obtain ⟨n, hn⟩ := t
  cases n with
  | zero => rfl
  | succ n => unfold accBefore; simp only [Nat.add_one_ne_zero, dif_neg, not_false_eq_true]; rfl

/-- At a tile's first point the sum before does not matter. -/
theorem step_first (c : Dev nD) (t : Fin (cfgA a).N) (h : t.val % 11 = 0) (y y' : S512x2048.Idx → Elt F .f32) :
    step a m c t y = step a m c t y' := by
  unfold step oldX
  rw [if_pos ((first_iff a t).2 h), if_pos ((first_iff a t).2 h)]

/-- The norm of the sums, as the last point of a tile stores it. -/
def normAt (c : Dev nD) (t : Fin (cfgA a).N) : S512x2048.Idx → Elt F .bf16 := k0_pay4 (accAt a m c t.val t.isLt) (nextGain a m c t)

/-- The rounded block of the side array. -/
def sideAt (c : Dev nD) (t : Fin (cfgA a).N) : S224x2048.Idx → Elt F .bf16 := k0_pay1 (sideBlk a m c t)

/-- What the body leaves is the step, where the scratch holds the tile's normed rows. -/
theorem newX_eq_step (c : Dev nD) (t : Fin (cfgA a).N) (y : S512x2048.Idx → Elt F .f32) (xb : S512x2048.Idx → Elt F .bf16)
    (hxb : t.val % 11 ≠ 0 → xb = xbAt a m c t) :
    newH (crd a t) (rowsBlk a m c t) (gainBlk a m c t) xb = xbAt a m c t
      ∧ newX (crd a t) (rowsBlk a m c t) (gainBlk a m c t) (gateBlk a m c t) (upBlk a m c t) (outBlk a m c t) y xb = step a m c t y := by
  have h : newH (crd a t) (rowsBlk a m c t) (gainBlk a m c t) xb = xbAt a m c t := by
    unfold newH
    by_cases h1 : k0_cond1 (crd a t) = 1#1
    · rw [if_pos h1]; rfl
    · rw [if_neg h1, hxb fun h0 => h1 ((first_iff a t).2 h0)]
  exact ⟨h, by unfold newX step; rw [h]⟩

/-- The invariant before point `t`: inside a tile the scratch holds its normed rows; the body's halves of the tables. -/
def Phi (c : Dev nD) (t : Fin ((cfgA a).N + 1)) : sProp 𝕄 :=
  iprop((∃ X, ⌜∀ h : t.val < (cfgA a).N, t.val % 11 ≠ 0 → X = xbAt a m c ⟨t.val, h⟩⌝ ∗ owns (c : Thread nD τ) normedRows fullShare X)
    ∗ (tileExpert.view.loc (c : Thread nD τ) ↦{fullShare.right} a.1 0) ∗ (usedTiles.view.loc (c : Thread nD τ) ↦{fullShare.right} a.1 1)
    ∗ (tileRows.view.loc (c : Thread nD τ) ↦{fullShare.right} a.1 2) ∗ (∃ r, prngReg c r))

/-- The pipeline's data on core `c`. -/
def dats (_ : Fin 1) (c : Dev nD) : Dat τ (Elt F) Unit ℕ (UR sig nD τ) ℕ (cfgA a) c where
  A w := V m c (Pipeline.arrRef spec0 w)
  after w t := match w with
    | ⟨0, _⟩ => iblk a m c (0 : Fin 10) t
    | ⟨1, _⟩ => iblk a m c (1 : Fin 10) t
    | ⟨2, _⟩ => iblk a m c (2 : Fin 10) t
    | ⟨3, _⟩ => iblk a m c (3 : Fin 10) t
    | ⟨4, _⟩ => iblk a m c (4 : Fin 10) t
    | ⟨5, _⟩ => iblk a m c (5 : Fin 10) t
    | ⟨6, _⟩ => iblk a m c (6 : Fin 10) t
    | ⟨7, _⟩ => accAt a m c t.val t.isLt
    | ⟨8, _⟩ => normAt a m c t
    | ⟨9, _⟩ => sideAt a m c t
  Φ t := Phi a m c t
  q _ := fullShare
  owed _ := 0

theorem A_eq (c : Dev nD) (w : Fin (cfgA a).W) : (dats a m 0 c).A w = V m c (Pipeline.arrRef spec0 w) := by
  dsimp only [dats]

theorem after0_0 (c : Dev nD) (t : Fin (cfgA a).N) : (dats a m 0 c).after (0 : Fin 10) t = iblk a m c (0 : Fin 10) t := rfl
theorem after0_1 (c : Dev nD) (t : Fin (cfgA a).N) : (dats a m 0 c).after (1 : Fin 10) t = iblk a m c (1 : Fin 10) t := rfl
theorem after0_2 (c : Dev nD) (t : Fin (cfgA a).N) : (dats a m 0 c).after (2 : Fin 10) t = iblk a m c (2 : Fin 10) t := rfl
theorem after0_3 (c : Dev nD) (t : Fin (cfgA a).N) : (dats a m 0 c).after (3 : Fin 10) t = iblk a m c (3 : Fin 10) t := rfl
theorem after0_4 (c : Dev nD) (t : Fin (cfgA a).N) : (dats a m 0 c).after (4 : Fin 10) t = iblk a m c (4 : Fin 10) t := rfl
theorem after0_5 (c : Dev nD) (t : Fin (cfgA a).N) : (dats a m 0 c).after (5 : Fin 10) t = iblk a m c (5 : Fin 10) t := rfl
theorem after0_6 (c : Dev nD) (t : Fin (cfgA a).N) : (dats a m 0 c).after (6 : Fin 10) t = iblk a m c (6 : Fin 10) t := rfl
theorem after0_7 (c : Dev nD) (t : Fin (cfgA a).N) : (dats a m 0 c).after (7 : Fin 10) t = accAt a m c t.val t.isLt := rfl
theorem after0_8 (c : Dev nD) (t : Fin (cfgA a).N) : (dats a m 0 c).after (8 : Fin 10) t = normAt a m c t := rfl
theorem after0_9 (c : Dev nD) (t : Fin (cfgA a).N) : (dats a m 0 c).after (9 : Fin 10) t = sideAt a m c t := rfl

/-- An input's staging buffer holds its block when the body runs. -/
theorem before0_0 (c : Dev nD) (t : Fin (cfgA a).N) (d) : (dats a m 0 c).before (0 : Fin 10) t d = iblk a m c (0 : Fin 10) t :=
  ((dats a m 0 c).before_in_eq_fetched (0 : Fin 10) rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin (cfgA a).N) (d) : (dats a m 0 c).before (1 : Fin 10) t d = iblk a m c (1 : Fin 10) t :=
  ((dats a m 0 c).before_in_eq_fetched (1 : Fin 10) rfl (fun _ => rfl) (fun _ _ _ => rfl) (fun t => by rw [after0_1]; unfold Dat.blockOf iblk; rw [A_eq]) t d).trans
    (by unfold Dat.fetched Dat.blockOf iblk; rw [A_eq]; rfl)
theorem before0_2 (c : Dev nD) (t : Fin (cfgA a).N) (d) : (dats a m 0 c).before (2 : Fin 10) t d = iblk a m c (2 : Fin 10) t :=
  ((dats a m 0 c).before_in_eq_fetched (2 : Fin 10) rfl (fun _ => rfl) (fun _ _ _ => rfl) (fun t => by rw [after0_2]; unfold Dat.blockOf iblk; rw [A_eq]) t d).trans
    (by unfold Dat.fetched Dat.blockOf iblk; rw [A_eq]; rfl)
theorem before0_3 (c : Dev nD) (t : Fin (cfgA a).N) (d) : (dats a m 0 c).before (3 : Fin 10) t d = iblk a m c (3 : Fin 10) t :=
  ((dats a m 0 c).before_in_eq_fetched (3 : Fin 10) rfl (fun _ => rfl) (fun _ _ _ => rfl) (fun t => by rw [after0_3]; unfold Dat.blockOf iblk; rw [A_eq]) t d).trans
    (by unfold Dat.fetched Dat.blockOf iblk; rw [A_eq]; rfl)
theorem before0_4 (c : Dev nD) (t : Fin (cfgA a).N) (d) : (dats a m 0 c).before (4 : Fin 10) t d = iblk a m c (4 : Fin 10) t :=
  ((dats a m 0 c).before_in_eq_fetched (4 : Fin 10) rfl (fun _ => rfl) (fun _ _ _ => rfl) (fun t => by rw [after0_4]; unfold Dat.blockOf iblk; rw [A_eq]) t d).trans
    (by unfold Dat.fetched Dat.blockOf iblk; rw [A_eq]; rfl)
theorem before0_5 (c : Dev nD) (t : Fin (cfgA a).N) (d) : (dats a m 0 c).before (5 : Fin 10) t d = iblk a m c (5 : Fin 10) t :=
  ((dats a m 0 c).before_in_eq_fetched (5 : Fin 10) rfl (fun _ => rfl) (fun _ _ _ => rfl) (fun t => by rw [after0_5]; unfold Dat.blockOf iblk; rw [A_eq]) t d).trans
    (by unfold Dat.fetched Dat.blockOf iblk; rw [A_eq]; rfl)
theorem before0_6 (c : Dev nD) (t : Fin (cfgA a).N) (d) : (dats a m 0 c).before (6 : Fin 10) t d = iblk a m c (6 : Fin 10) t :=
  ((dats a m 0 c).before_in_eq_fetched (6 : Fin 10) rfl (fun _ => rfl) (fun _ _ _ => rfl) (fun t => by rw [after0_6]; unfold Dat.blockOf iblk; rw [A_eq]) t d).trans
    (by unfold Dat.fetched Dat.blockOf iblk; rw [A_eq]; rfl)

/-- The block of sums is written back at a tile's last point. -/
theorem flush7_eq (t : Fin (cfgA a).N) : ((cfgA a).win (7 : Fin 10)).flush t = decide ((t.val + 1) % 11 = 0) := by
  have hN : t.val < 352 := t.isLt
  have hix : ∀ s : Fin (cfgA a).N, ((cfgA a).win (7 : Fin 10)).index s 0 = s.val / 11 := fun s => by
    have hs : s.val < 352 := s.isLt
    show (BitVec.ofNat 32 ((crd a s) 0).val).toNat = _
    rw [crd_tile, BitVec.toNat_ofNat]; omega
  have hix1 : ∀ s : Fin (cfgA a).N, ((cfgA a).win (7 : Fin 10)).index s 1 = 0 := fun s => rfl
  unfold Window.flush
  rw [show ((cfgA a).win (7 : Fin 10)).isOut = true from rfl, Bool.true_and]
  by_cases h7 : (t.val + 1) % 11 = 0
  · simp only [h7, decide_true]
    by_cases hl : t.val + 1 = (cfgA a).N
    · simp [hl]
    · have hl' : t.val + 1 < 352 := Nat.lt_of_le_of_ne hN hl
      rw [Bool.or_eq_true]; right
      rw [decide_eq_true_eq]
      refine ⟨hl', fun e => ?_⟩
      have := congrFun e 0
      rw [hix, hix] at this
      simp only at this
      omega
  · simp only [h7, decide_false]
    rw [Bool.or_eq_false_iff]
    refine ⟨decide_eq_false fun e => h7 (by
      have e' : t.val + 1 = 352 := e
      rw [e']), decide_eq_false ?_⟩
    rintro ⟨hl, hne⟩
    refine hne (funext fun ax => ?_)
    match ax with
    | ⟨0, _⟩ => exact (hix _).trans (Eq.trans (by show (t.val + 1) / 11 = t.val / 11; omega) (hix t).symm)
    | ⟨1, _⟩ => exact (hix1 _).trans (hix1 t).symm

/-- The block of normed sums is written back at a tile's last point. -/
theorem flush8_eq (t : Fin (cfgA a).N) : ((cfgA a).win (8 : Fin 10)).flush t = decide ((t.val + 1) % 11 = 0) := by
  have hN : t.val < 352 := t.isLt
  have hix : ∀ s : Fin (cfgA a).N, ((cfgA a).win (8 : Fin 10)).index s 0 = s.val / 11 := fun s => by
    have hs : s.val < 352 := s.isLt
    show (BitVec.ofNat 32 ((crd a s) 0).val).toNat = _
    rw [crd_tile, BitVec.toNat_ofNat]; omega
  have hix1 : ∀ s : Fin (cfgA a).N, ((cfgA a).win (8 : Fin 10)).index s 1 = 0 := fun s => rfl
  unfold Window.flush
  rw [show ((cfgA a).win (8 : Fin 10)).isOut = true from rfl, Bool.true_and]
  by_cases h7 : (t.val + 1) % 11 = 0
  · simp only [h7, decide_true]
    by_cases hl : t.val + 1 = (cfgA a).N
    · simp [hl]
    · have hl' : t.val + 1 < 352 := Nat.lt_of_le_of_ne hN hl
      rw [Bool.or_eq_true]; right
      rw [decide_eq_true_eq]
      refine ⟨hl', fun e => ?_⟩
      have := congrFun e 0
      rw [hix, hix] at this
      simp only at this
      omega
  · simp only [h7, decide_false]
    rw [Bool.or_eq_false_iff]
    refine ⟨decide_eq_false fun e => h7 (by
      have e' : t.val + 1 = 352 := e
      rw [e']), decide_eq_false ?_⟩
    rintro ⟨hl, hne⟩
    refine hne (funext fun ax => ?_)
    match ax with
    | ⟨0, _⟩ => exact (hix _).trans (Eq.trans (by show (t.val + 1) / 11 = t.val / 11; omega) (hix t).symm)
    | ⟨1, _⟩ => exact (hix1 _).trans (hix1 t).symm

/-- The block of sums is stored at every point; the block of normed sums only at a tile's last. -/
theorem idle7_eq (t : Fin (cfgA a).N) (hc : k0_cond2 (rowsAt (crd a t) (a.1 2)) = 1#1) : (cfgA a).idle (7 : Fin 10) ((cfgA a).grid.coords t) = false := by
  have hr : Pipeline.Prefetch.Contents.atD a.1 2 (k0_off1 (crd a t)) = rowsAt (crd a t) (a.1 2) := by
    unfold Pipeline.Prefetch.Contents.atD
    have hin : ∀ ax : Fin 1, k0_off1 (crd a t) ax + 1 ≤ S32.size ax := fun ax => by
      match ax with
      | ⟨0, _⟩ => exact k0_off1_inb (crd a t) 0
    refine (dif_pos hin).trans ?_
    show a.1 2 _ = a.1 2 _
    congr 1
  show (!(k0_cond1 (crd a t) == 1#1) && !(k0_cond2 (Pipeline.Prefetch.Contents.atD a.1 2 (k0_off1 (crd a t))) == 1#1)) = false
  rw [hr, hc]
  simp

theorem idle8_iff (t : Fin (cfgA a).N) : (cfgA a).idle (8 : Fin 10) ((cfgA a).grid.coords t) = true ↔ ¬ k0_cond3 (crd a t) = 1#1 := by
  show (!(k0_cond3 (crd a t) == 1#1)) = true ↔ _
  simp

include hr in
/-- The block of sums holds nothing exactly before a tile's first point. -/
theorem fresh_eq (t : Fin (cfgA a).N) : (cfgA a).fresh (7 : Fin 10) t.val = decide (t.val % 11 = 0) :=
  Pipeline.Cfg.fresh_tab (cfgA a) (7 : Fin 10) (fun n => decide (n % 11 = 0)) rfl (fun t => by
    rw [flush7_eq, idle7_eq a t (has_rows a hr t), Bool.false_and, Bool.or_false]) t.val (Nat.le_of_lt t.isLt)

include hr in
theorem hcarry0_7 (c : Dev nD) : ∀ (t : Fin (cfgA a).N) (ht : t.val ≠ 0), (cfgA a).idle (7 : Fin 10) ((cfgA a).grid.coords t) = true → (cfgA a).fresh (7 : Fin 10) t.val = false →
    (dats a m 0 c).after (7 : Fin 10) t = (dats a m 0 c).after (7 : Fin 10) ⟨t.val - 1, by omega⟩ := by
  intro t ht hi hf
  rw [idle7_eq a t (has_rows a hr t)] at hi
  exact absurd hi Bool.false_ne_true

include hr in
/-- Its staging buffer holds the running sum when the body runs, or anything at a tile's first point. -/
theorem before0_7 (c : Dev nD) (t : Fin (cfgA a).N) (d) :
    (dats a m 0 c).before (7 : Fin 10) t d = if t.val % 11 = 0 then d else accBefore a m c t := by
  rw [(dats a m 0 c).before_out_traj (7 : Fin 10) rfl (fun _ _ => rfl) (hcarry0_7 a hr m c) t.val t rfl d, fresh_eq a hr]
  by_cases h : t.val % 11 = 0
  · simp only [h, decide_true, ↓reduceIte]
  · have h0 : t.val ≠ 0 := fun h0 => h (by rw [h0])
    simp only [h, decide_false, Bool.false_eq_true, ↓reduceIte, after0_7]; unfold accBefore; rw [dif_neg h0]

include hr in
/-- The step on what the buffer holds is the step on the running sum. -/
theorem step_before (c : Dev nD) (t : Fin (cfgA a).N) (d) :
    step a m c t ((dats a m 0 c).before (7 : Fin 10) t d) = accAt a m c t.val t.isLt := by
  rw [before0_7 a hr, accAt_eq]
  by_cases h : t.val % 11 = 0
  · exact step_first a m c t h _ _
  · rw [if_neg h]

/-- The body at point `t`, as the pipeline calls it. -/
abbrev bodyAt0 (t : Fin (cfgA a).N) : Prog (TpuEff nD τ sig (Elt F) Λ₀ .tc) PUnit :=
  cc0_dense_swiglu (crd a t) tileExpert (Memref.isWhole_whole _) usedTiles (Memref.isWhole_whole _) tileRows (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) normedRows (Memref.isWhole_whole _)

set_option maxHeartbeats 8000000 in
include hr in
/-- The body's obligation at a point. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 10) t d))
        ∗ (∃ d, owns (c : Thread nD τ) (ms0_1 a t) fullShare ((dats a m 0 c).before (1 : Fin 10) t d))
        ∗ (∃ d, owns (c : Thread nD τ) (ms0_2 a t) fullShare ((dats a m 0 c).before (2 : Fin 10) t d))
        ∗ (∃ d, owns (c : Thread nD τ) (ms0_3 a t) fullShare ((dats a m 0 c).before (3 : Fin 10) t d))
        ∗ (∃ d, owns (c : Thread nD τ) (ms0_4 a t) fullShare ((dats a m 0 c).before (4 : Fin 10) t d))
        ∗ (∃ d, owns (c : Thread nD τ) (ms0_5 a t) fullShare ((dats a m 0 c).before (5 : Fin 10) t d))
        ∗ (∃ d, owns (c : Thread nD τ) (ms0_6 a t) fullShare ((dats a m 0 c).before (6 : Fin 10) t d))
        ∗ (∃ d, owns (c : Thread nD τ) (ms0_7 a t) fullShare ((dats a m 0 c).before (7 : Fin 10) t d))
        ∗ (∃ d, owns (c : Thread nD τ) (ms0_8 a t) fullShare ((dats a m 0 c).before (8 : Fin 10) t d))
        ∗ (∃ d, owns (c : Thread nD τ) (ms0_9 a t) fullShare ((dats a m 0 c).before (9 : Fin 10) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hpost7 : (owns (c : Thread nD τ) (ms0_7 a t) fullShare (accAt a m c t.val t.isLt) : sProp 𝕄)
      ⊢ match (cfgA a).idle (7 : Fin 10) ((cfgA a).grid.coords t) with
                | true =>
                  match ((cfgA a).win (7 : Fin 10)).flush t with
                  | false => iprop(∃ d, owns (c : Thread nD τ) (((cfgA a).win (7 : Fin 10)).stage ((cfgA a).slots t (7 : Fin 10))) fullShare ((dats a m 0 c).before (7 : Fin 10) t d))
                  | true => owns (c : Thread nD τ) (((cfgA a).win (7 : Fin 10)).stage ((cfgA a).slots t (7 : Fin 10))) fullShare ((dats a m 0 c).after (7 : Fin 10) t)
                | false => owns (c : Thread nD τ) (((cfgA a).win (7 : Fin 10)).stage ((cfgA a).slots t (7 : Fin 10))) fullShare ((dats a m 0 c).after (7 : Fin 10) t) := by
    rw [idle7_eq a t (has_rows a hr t)]
    exact .rfl
  have hpost8 : ∀ d, (owns (c : Thread nD τ) (ms0_8 a t) fullShare (newN (crd a t) (accAt a m c t.val t.isLt) (nextGain a m c t) ((dats a m 0 c).before (8 : Fin 10) t d)) : sProp 𝕄)
      ⊢ match (cfgA a).idle (8 : Fin 10) ((cfgA a).grid.coords t) with
                | true =>
                  match ((cfgA a).win (8 : Fin 10)).flush t with
                  | false => iprop(∃ d, owns (c : Thread nD τ) (((cfgA a).win (8 : Fin 10)).stage ((cfgA a).slots t (8 : Fin 10))) fullShare ((dats a m 0 c).before (8 : Fin 10) t d))
                  | true => owns (c : Thread nD τ) (((cfgA a).win (8 : Fin 10)).stage ((cfgA a).slots t (8 : Fin 10))) fullShare ((dats a m 0 c).after (8 : Fin 10) t)
                | false => owns (c : Thread nD τ) (((cfgA a).win (8 : Fin 10)).stage ((cfgA a).slots t (8 : Fin 10))) fullShare ((dats a m 0 c).after (8 : Fin 10) t) := fun d => by
    cases hi : (cfgA a).idle (8 : Fin 10) ((cfgA a).grid.coords t) with
    | false =>
      simp only
      have h3 : k0_cond3 (crd a t) = 1#1 := by
        by_contra h
        rw [(idle8_iff a t).2 h] at hi
        exact absurd hi Bool.true_eq_false_eq_False
      unfold newN; rw [if_pos h3]; exact .rfl
    | true =>
      have h3 := (idle8_iff a t).1 hi
      cases hf : ((cfgA a).win (8 : Fin 10)).flush t with
      | true =>
        rw [flush8_eq, decide_eq_true_eq] at hf
        exact absurd ((last_iff a t).2 (by omega)) h3
      | false => simp only; unfold newN; rw [if_neg h3]; iintro H; iexists d; iexact H
  simp only [before0_0, before0_1, before0_2, before0_3, before0_4, before0_5, before0_6, after0_0, after0_1, after0_2, after0_3, after0_4, after0_5, after0_6]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨⟨%a0, %ha0, HS0⟩, HT0, HT1, HT2, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨hx, hy⟩ := newX_eq_step a m c t ((dats a m 0 c).before (7 : Fin 10) t d7) a0 (ha0 t.isLt)
  iapply (body_run c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (a.1 0) (a.1 1) (a.1 2) (has_rows a hr t) (rowsBlk a m c t) (gainBlk a m c t) (nextGain a m c t) (gateBlk a m c t) (upBlk a m c t) (outBlk a m c t) (sideBlk a m c t) ((dats a m 0 c).before (7 : Fin 10) t d7) ((dats a m 0 c).before (8 : Fin 10) t d8) ((dats a m 0 c).before (9 : Fin 10) t d9) a0 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [H8]; · iexact H8
  isplitl [H9]; · iexact H9
  isplitl [HS0]; · iexact HS0
  rw [hx, hy, step_before a hr]
  iintro ⟨H0, H1, H2, H3, H4, H5, H6, HT0, HT1, HT2, H7, H8, H9, HS0⟩
  isplitl [HS0 HT0 HT1 HT2 HR]
  · isplitl [HS0]
    · iexists _; isplitr; swap
      · iexact HS0
      · ipureintro
        intro h h7
        show xbAt a m c t = xbAt a m c ⟨t.val + 1, h⟩
        unfold xbAt
        rw [rowsBlk_next a m c t h h7, gainBlk_next a m c t h h7]
    isplitl [HT0]
    · iexact HT0
    isplitl [HT1]
    · iexact HT1
    isplitl [HT2]
    · iexact HT2
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  isplitl [H7]
  · iapply hpost7; iexact H7
  isplitl [H8]
  · iapply (hpost8 d8); iexact H8
  iexact H9

include hr in
/-- The body's obligation at every point. -/
theorem body_obligation (c : Dev nD) : BodyObligation (dats a m 0 c) (defs₀ (F := F)) Variants.none () Set.univ := fun t => by
  rw [bigSep_W0]
  exact sound_body a hr m c t

/-! ## The launch -/

theorem share_eq (c : Dev nD) (w : Fin (cfgA a).W) : (dats a m 0 c).share w = fullShare := by unfold Dat.share; split <;> rfl

/-- The tables, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v9) ↦{q 0} v 0) ∗ (((c : Thread nD τ).loc main_v10) ↦{q 1} v 1) ∗ (((c : Thread nD τ).loc main_v11) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant before the first point, from the scratch, the generator's register and the tables; -/
theorem phi0_intro (c : Dev nD) :
    iprop(Pipeline.ΦA spec0 c ∗ Pipeline.ΦT pre0 a.1 c) ⊢ (dats a m 0 c).Φ 0 := by
  unfold Pipeline.ΦA Pipeline.ΦT
  rw [prefHeld_eq, scopedRest0_eq, show (dats a m 0 c).Φ 0 = Phi a m c 0 from rfl]
  unfold Phi
  simp only [owns_whole]
  iintro ⟨⟨⟨%a0, HS0⟩, HR⟩, HT0, HT1, HT2⟩
  isplitl [HS0]
  · iexists a0; isplitr; swap
    · iexact HS0
    · ipureintro; intro _ h; exact absurd rfl h
  isplitl [HT0]
  · iexact HT0
  isplitl [HT1]
  · iexact HT1
  isplitl [HT2]
  · iexact HT2
  iexact HR

/-- and after the last it gives scratch and register back. -/
theorem phiN_exit (c : Dev nD) : (dats a m 0 c).Φ (Fin.last (cfgA a).N) ⊢ Pipeline.ΦA spec0 c := by
  unfold Pipeline.ΦA
  rw [scopedRest0_eq, show (dats a m 0 c).Φ (Fin.last (cfgA a).N) = Phi a m c (Fin.last _) from rfl]
  unfold Phi
  simp only [owns_whole]
  iintro ⟨⟨%a0, -, HS0⟩, -, -, -, HR⟩
  isplitl [HS0]
  · iexists a0; iexact HS0
  iexact HR

theorem hostOps0_fresh : (hostOps0 : List (HloOp τ sig (Elt F))).Forall fun op => op.fresh = ∅ := by
  simp only [List.Forall]; repeat' constructor

set_option maxHeartbeats 1000000 in
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub hostOps0_fresh main_chain

include hr in
set_option backward.isDefEq.respectTransparency.types false in
set_option maxHeartbeats 4000000 in
/-- Every execution of the program ends, every array at what the points wrote back, every counter at zero. -/
theorem run_main_quiescent (hp : ∀ (c : Dev nD) (j : Fin 3), V m c (pre0.ref j) = a.1 j) :
    θ_run (defs (F := F)) (onTc (τ := τ) (main (F := F))) ⟨m, fun _ => 0, ρ⟩ (fun r => Pipeline.FramePost (pcs a) (dats a m) 0 (V m) r ∧ r.2.sem = fun _ => 0) :=
  Pipeline.θ_run_frameP_track (pcfgs (F := F)) (fun _ => a) (dats a m) (0 : Fin 1) launch0 defs₀ Variants.none m ρ main
    (hbody := fun c => (body_obligation a hr m c).loose) (hshare := share_eq a m) (howed := fun _ _ => rfl)
    (V := V m) (hmain := hmain m) (hA := A_eq a m) (hpf := hp) (hin := phi0_intro a m) (hout := phiN_exit a m)
    (Q' := _) (hQ' := fun _ h => h)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))

include hr in
/-- The result arrays and the arguments after the program. -/
theorem run_value (hp : ∀ (c : Dev nD) (j : Fin 3), V m c (pre0.ref j) = a.1 j) :
    θ_run (defs (F := F)) (onTc (τ := τ) (main (F := F))) ⟨m, fun _ => 0, ρ⟩ (fun r => (∀ c : Dev nD,
      r.2.mem ((c.tc : Thread nD τ).loc main_v14_0) = (dats a m 0 c).arrAt (7 : Fin 10) (cfgA a).N
      ∧ r.2.mem ((c.tc : Thread nD τ).loc main_v14_1) = (dats a m 0 c).arrAt (8 : Fin 10) (cfgA a).N
      ∧ r.2.mem ((c.tc : Thread nD τ).loc main_v14_2) = (dats a m 0 c).arrAt (9 : Fin 10) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => by
    obtain ⟨h, hz⟩ := hh
    exact ⟨fun c => ⟨(h c).1 (7 : Fin 10), (h c).1 (8 : Fin 10), (h c).1 (9 : Fin 10),
      (((h c).1 (0 : Fin 10)).trans (((dats a m 0 c).arrAt_in (0 : Fin 10) rfl _).trans (A_eq a m c 0))).trans (V_main_arg0 m c),
      ((h c).2 main_arg1 (show main_arg1 ∈ Pipeline.restRefs sig spec0 from Pipeline.mem_restRefs_of main_arg1 (by decide) (by decide))).trans (V_main_arg1 m c),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c),
      ((h c).2 main_arg4 (show main_arg4 ∈ Pipeline.restRefs sig spec0 from Pipeline.mem_restRefs_of main_arg4 (by decide) (by decide))).trans (V_main_arg4 m c),
      ((h c).2 main_arg5 (show main_arg5 ∈ Pipeline.restRefs sig spec0 from Pipeline.mem_restRefs_of main_arg5 (by decide) (by decide))).trans (V_main_arg5 m c),
      ((h c).2 main_arg6 (show main_arg6 ∈ Pipeline.restRefs sig spec0 from Pipeline.mem_restRefs_of main_arg6 (by decide) (by decide))).trans (V_main_arg6 m c)⟩, hz⟩) (run_main_quiescent a hr m ρ hp)

/-! ## The tables the host writes -/

/-- The tables as the pipeline finds them. -/
def tabs : pre0.Contents (Elt F) := fun k => V m (0 : Dev nD) (pre0.ref k)

theorem tabs_held (c : Dev nD) (j : Fin 3) : V m c (pre0.ref j) = tabs m j := by
  have hc : c = 0 := Subsingleton.elim _ _
  subst hc; rfl

/-- Every tile is of expert zero, all 32 are used, and each has 512 rows. -/
theorem tabs0 (e : S32.Idx) : (show BitVec 32 from tabs (F := F) m 0 e) = 0#32 := by
  have h : V m (0 : Dev nD) main_v9 = fun _ => 0#32 := by
    show StableHlo.after hostOps0 (fun b => m (0, b)) main_v9 = _
    after_results
    rfl
  exact congrFun h e

theorem tabs1 (e : S1.Idx) : (show BitVec 32 from tabs (F := F) m 1 e) = 32#32 := by
  have h : V m (0 : Dev nD) main_v10 = fun _ => 32#32 := by
    show StableHlo.after hostOps0 (fun b => m (0, b)) main_v10 = _
    after_results
    rfl
  exact congrFun h e

theorem tabs2 (e : S32.Idx) : (show BitVec 32 from tabs (F := F) m 2 e) = 512#32 := by
  have h : V m (0 : Dev nD) main_v11 = fun _ => 512#32 := by
    show StableHlo.after hostOps0 (fun b => m (0, b)) main_v11 = _
    after_results
    rfl
  exact congrFun h e

theorem inb2 {b n : Fin 2 → Nat} {s : Fin 2 → Nat} (h0 : (b 0 + 1) * n 0 ≤ s 0) (h1 : (b 1 + 1) * n 1 ≤ s 1) : ∀ ax, (b ax + 1) * n ax ≤ s ax := by
  intro ax
  match ax with
  | ⟨0, _⟩ => exact h0
  | ⟨1, _⟩ => exact h1

theorem inb3 {b n : Fin 3 → Nat} {s : Fin 3 → Nat} (h0 : (b 0 + 1) * n 0 ≤ s 0) (h1 : (b 1 + 1) * n 1 ≤ s 1) (h2 : (b 2 + 1) * n 2 ≤ s 2) :
    ∀ ax, (b ax + 1) * n ax ≤ s ax := by
  intro ax
  match ax with
  | ⟨0, _⟩ => exact h0
  | ⟨1, _⟩ => exact h1
  | ⟨2, _⟩ => exact h2

/-- A tile number limited by the last used tile is a tile number. -/
theorem tile_lt (n : Nat) (hn : n < 32) (v : BitVec 32) : (Scalar.maxsi (Scalar.minsi (BitVec.ofNat 32 n) v) 0#32).toNat < 32 := by
  have h : (BitVec.ofNat 32 n).toInt = n := by
    rw [BitVec.toInt_eq_toNat_of_lt (by rw [BitVec.toNat_ofNat]; omega), BitVec.toNat_ofNat]; omega
  have hw : (Scalar.minsi (BitVec.ofNat 32 n) v).toInt < 32 := by
    rw [Scalar.minsi, IntOp.minsi]
    by_cases hs : (BitVec.ofNat 32 n).slt v
    · rw [if_pos hs]; omega
    · rw [if_neg hs]; rw [BitVec.slt_iff_toInt_lt] at hs; omega
  generalize Scalar.minsi (BitVec.ofNat 32 n) v = w at hw
  rw [Scalar.maxsi, IntOp.maxsi]
  by_cases hs : (0#32).slt w
  · rw [if_pos hs]
    rw [BitVec.slt_iff_toInt_lt, show (0#32 : BitVec 32).toInt = 0 from by decide] at hs
    have := BitVec.toInt_eq_toNat_cond w
    have := w.isLt
    split at * <;> omega
  · rw [if_neg hs]; decide

/-- A column step, or the last one, is below eleven. -/
theorem step_lt (n : Nat) (hn : n < 11) (b : BitVec 1) : (Scalar.select b (BitVec.ofNat 32 n) 10#32 : BitVec 32).toNat < 11 := by
  show (if b = 1#1 then BitVec.ofNat 32 n else 10#32 : BitVec 32).toNat < 11
  split
  · rw [BitVec.toNat_ofNat]; omega
  · decide

/-- Tables of expert zero keep every block inside its array. -/
theorem ok_tabs (pf : pre0.Contents (Elt F)) (h : ∀ e : S32.Idx, (show BitVec 32 from pf 0 e).toNat < 1) : ok0 (F := F) pf := by
  refine ⟨fun i => ⟨inb2 ?_ ?_, .inl rfl⟩, fun i => ⟨inb3 ?_ ?_ ?_, .inr (Affine.block_words_dvd (s := S1x2048x5632) (p := EltTy.packing .bf16) (by decide) (by decide))⟩,
    fun i => ⟨inb3 ?_ ?_ ?_, .inr (Affine.block_words_dvd (s := S1x2048x5632) (p := EltTy.packing .bf16) (by decide) (by decide))⟩,
    fun i => ⟨inb3 ?_ ?_ ?_, .inr (Affine.block_words_dvd (s := S1x5632x2048) (p := EltTy.packing .bf16) (by decide) (by decide))⟩⟩
  · have := tile_lt (i 0).val (i 0).isLt (Scalar.subi (show BitVec 32 from pf.at 1 (Rect.unit (s := S1) ![0] S1.size inb_S1_S1_0) numel1_S1) 1#32)
    show ((Scalar.maxsi (Scalar.minsi (BitVec.ofNat 32 (i 0).val) _) 0#32 : BitVec 32).toNat + 1) * 512 ≤ 16384
    exact (Nat.mul_le_mul_right 512 this).trans (by decide)
  · show (0 + 1) * 2048 ≤ 2048; decide
  · exact (Nat.mul_le_mul_right 1 (h _)).trans (by decide)
  · show (0 + 1) * 2048 ≤ 2048; decide
  · exact (Nat.mul_le_mul_right 512 (step_lt (i 1).val (i 1).isLt _)).trans (by decide)
  · exact (Nat.mul_le_mul_right 1 (h _)).trans (by decide)
  · show (0 + 1) * 2048 ≤ 2048; decide
  · exact (Nat.mul_le_mul_right 512 (step_lt (i 1).val (i 1).isLt _)).trans (by decide)
  · exact (Nat.mul_le_mul_right 1 (h _)).trans (by decide)
  · exact (Nat.mul_le_mul_right 512 (step_lt (i 1).val (i 1).isLt _)).trans (by decide)
  · show (0 + 1) * 2048 ≤ 2048; decide

theorem ok_held : ok0 (F := F) (tabs m) := ok_tabs _ fun e => by rw [tabs0 m e]; decide

/-- The tables, with the proof that the pipeline can run at them. -/
def adm : (pcfg0 (F := F)).Adm := ⟨tabs m, ok_held m⟩

/-- The arguments end unchanged and every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2.2.2, h.2⟩) (run_value (adm m) (tabs2 m) m ρ (tabs_held m))

end Cert.DenseIdeal.Layer

end
-- ==== Proof.Dense.Value.lean ====
/- What the dense SwiGLU leaves in its three result arrays. -/
module

public import proofs.«01_k».proof.Proof.Dense.Pipe
public import proofs.«01_k».proof.Proof.Dense.Math
public import proofs.«01_k».proof.Proof.KernelIdeal.Blocks

@[expose] public section

set_option maxRecDepth 16384
set_option Elab.async false

noncomputable section
namespace Cert.DenseIdeal.Layer

open Cert.DenseIdeal Cert.DenseIdeal.Gen Cert.Swiglu Cert.RmsNorm Cert.DenseMath
open Cert.KernelIdeal.Expert (drop_lead same_shape limit_used toInt_small)
open Idealize.ShloMosaic hiding ix1 ix2 ix3 ix4
open Idealize.ShloMosaic.ValueIdx Idealize.ShloMosaic.TcCoe
open Idealize.ShloMosaic.Pipeline (Dat Cfg Window)
open scoped BigOperators

/-! ## The body's arithmetic -/

/-- The norm of a block's rows, at one place. -/
theorem norm_apply (x : FVec Ideal S512x2048 .f32) (g : FVec Ideal S1x2048 .f32) (r : Fin 512) (j : Fin 2048) :
    mulf (F := Ideal) (mulf x (broadcastTo S512x2048 (rsqrt (addf (divf (shapeCast S512x1 (multiReduction .add [1] S512 (mulf x x) 0x00000000#32 reduces_S512x2048_S512 (.inl rfl) rfl) shapeCasts_S512_S512x1)
        (broadcast S512x1 (Scalar.ofBits .f32 0x45000000#32))) (broadcast S512x1 (Scalar.ofBits .f32 0x358637BD#32)))) broadcasts_S512x1_S512x2048))
      (broadcastTo S512x2048 (shapeCast S1x2048 g shapeCasts_S1x2048_S1x2048) broadcasts_S1x2048_S512x2048) (ix2 r j)
      = scaled (fun q => x (ix2 r q)) j (g (ix2 0 j)) := by
  have hs : shapeCast S512x1 (multiReduction (F := Ideal) .add [1] S512 (mulf x x) 0x00000000#32 reduces_S512x2048_S512 (.inl rfl) rfl) shapeCasts_S512_S512x1 (ix2 r 0)
      = ∑ q : Fin 2048, x (ix2 r q) * x (ix2 r q) := by
    refine (shapeCast_apply _ shapeCasts_S512_S512x1 (ix2 r 0) (ix1 r) (by
      rw [Shape.rowMajor_val_one, Shape.rowMajor_val_two]
      show r.val = r.val * 1 + 0
      omega)).trans ?_
    refine (Ideal.multiReduction_add_single _ 0x00000000#32 reduces_S512x2048_S512 (.inl rfl) rfl (ix1 r)).trans (Finset.sum_congr rfl fun q _ => ?_)
    have l : reduces_S512x2048_S512.lift (ix1 r) q = ix2 r q := by
      funext a
      match a with
      | ⟨0, _⟩ => rfl
      | ⟨1, _⟩ => rfl
    exact congrArg (fun y => x y * x y) l
  show x (ix2 r j) * _ * _ = _
  unfold scaled
  refine congrArg₂ (fun a b : EReal => x (ix2 r j) * a * b) ?_ ?_
  · refine (broadcastTo_apply _ _ (ix2 r j) (ix2 r 0) (fun a => by
      match a with
      | ⟨0, _⟩ => show r.val = (if (512 : Nat) = 1 then 0 else r.val); rw [if_neg (by decide)]
      | ⟨1, _⟩ => rfl)).trans ?_
    rw [← hs]
    rfl
  · refine (broadcastTo_apply _ _ (ix2 r j) (ix2 0 j) (fun a => by
      match a with
      | ⟨0, _⟩ => rfl
      | ⟨1, _⟩ => show j.val = (if (2048 : Nat) = 1 then 0 else j.val); rw [if_neg (by decide)])).trans ?_
    rw [same_shape]

theorem pay2_apply (x : S512x2048.Idx → EReal) (g : S1x2048.Idx → EReal) (r : Fin 512) (j : Fin 2048) :
    k0_pay2 (F := Ideal) x g (ix2 r j) = scaled (fun q => x (ix2 r q)) j (g (ix2 0 j)) :=
  (congrFun (same_shape _ shapeCasts_S512x2048_S512x2048) _).trans (norm_apply x g r j)

theorem pay4_apply (x : S512x2048.Idx → EReal) (g : S1x2048.Idx → EReal) (r : Fin 512) (j : Fin 2048) :
    k0_pay4 (F := Ideal) x g (ix2 r j) = scaled (fun q => x (ix2 r q)) j (g (ix2 0 j)) := by
  have h := norm_apply (shapeCast S512x2048 x shapeCasts_S512x2048_S512x2048) g r j
  rw [same_shape x shapeCasts_S512x2048_S512x2048] at h
  refine Eq.trans ?_ h
  unfold k0_pay4
  dsimp only
  rw [same_shape x shapeCasts_S512x2048_S512x2048]
  rfl

/-- What one column step adds to a row, from the row's entries and the step's weights. -/
def rowChunk (xr : Fin 2048 → EReal) (x1 x2 : S1x2048x512.Idx → EReal) (x3 : S1x512x2048.Idx → EReal) (d : Fin 2048) : EReal :=
  ∑ k : Fin 512, gated (∑ c : Fin 2048, xr c * x1 (ix3 0 c k)) (∑ c : Fin 2048, xr c * x2 (ix3 0 c k)) * x3 (ix3 0 k d)

theorem pay3_apply (xb : FVec Ideal S512x2048 .bf16) (x1 x2 : FVec Ideal S1x2048x512 .bf16) (acc : FVec Ideal S512x2048 .f32) (x3 : FVec Ideal S1x512x2048 .bf16)
    (r : Fin 512) (d : Fin 2048) :
    k0_pay3 (F := Ideal) xb x1 x2 acc x3 (ix2 r d) = acc (ix2 r d) + rowChunk (fun c => xb (ix2 r c)) x1 x2 x3 d := by
  have hp : ∀ (x : FVec Ideal S1x2048x512 .bf16) (k : Fin 512), matmul (F := Ideal) (DotDims.plain 512 2048 512) none xb (shapeCast S2048x512 x shapeCasts_S1x2048x512_S2048x512)
      (constant ⟨2, ![512, 512]⟩ .f32 0x00000000#32) (ix2 r k) = ∑ c : Fin 2048, xb (ix2 r c) * x (ix3 0 c k) := fun x k => by
    rw [prod_apply]
    exact Finset.sum_congr rfl fun c _ => congrArg (xb (ix2 r c) * ·) (drop_lead x shapeCasts_S1x2048x512_S2048x512 c k)
  show addf (F := Ideal) (shapeCast S512x2048 acc shapeCasts_S512x2048_S512x2048) (matmul (DotDims.plain 512 512 2048) none
      (truncf .bf16 (mulf (mulf (matmul (DotDims.plain 512 2048 512) none xb (shapeCast S2048x512 x1 shapeCasts_S1x2048x512_S2048x512) (constant ⟨2, ![512, 512]⟩ .f32 0x00000000#32))
          (divf (broadcast ⟨2, ![512, 512]⟩ (Scalar.ofBits .f32 0x3F800000#32)) (addf (broadcast ⟨2, ![512, 512]⟩ (Scalar.ofBits .f32 0x3F800000#32))
            (exp (subf (broadcast ⟨2, ![512, 512]⟩ (Scalar.ofBits .f32 0x00000000#32))
              (matmul (DotDims.plain 512 2048 512) none xb (shapeCast S2048x512 x1 shapeCasts_S1x2048x512_S2048x512) (constant ⟨2, ![512, 512]⟩ .f32 0x00000000#32)))))))
        (matmul (DotDims.plain 512 2048 512) none xb (shapeCast S2048x512 x2 shapeCasts_S1x2048x512_S2048x512) (constant ⟨2, ![512, 512]⟩ .f32 0x00000000#32))) bitsLt_bf16_f32)
      (shapeCast S512x2048 x3 shapeCasts_S1x512x2048_S512x2048) (constant ⟨2, ![512, 2048]⟩ .f32 0x00000000#32)) (ix2 r d) = _
  rw [same_shape]
  unfold rowChunk
  show acc (ix2 r d) + _ = _
  rw [prod_apply]
  refine congrArg (acc (ix2 r d) + ·) (Finset.sum_congr rfl fun k _ => ?_)
  refine congrArg₂ (· * ·) ?_ (drop_lead x3 _ k d)
  rw [← hp x1 k, ← hp x2 k]
  generalize matmul (F := Ideal) (DotDims.plain 512 2048 512) none xb (shapeCast S2048x512 x1 shapeCasts_S1x2048x512_S2048x512) (constant ⟨2, ![512, 512]⟩ .f32 0x00000000#32) = g
  generalize matmul (F := Ideal) (DotDims.plain 512 2048 512) none xb (shapeCast S2048x512 x2 shapeCasts_S1x2048x512_S2048x512) (constant ⟨2, ![512, 512]⟩ .f32 0x00000000#32) = u
  show (g (ix2 r k) * Ideal.div (FloatOps.ofBits (F := Ideal) .f32 0x3F800000#32)
    (FloatOps.ofBits (F := Ideal) .f32 0x3F800000#32 + Ideal.exp (FloatOps.ofBits (F := Ideal) .f32 0x00000000#32 - g (ix2 r k)))) * u (ix2 r k) = _
  rw [one_bits, zero_bits, zero_sub]
  rfl

/-! ## The arrays as the pipeline finds them -/

variable (a : (pcfg0 (F := Ideal)).Adm) (h0 : ∀ e : S32.Idx, (show BitVec 32 from a.1 0 e) = 0#32) (h1 : ∀ e : S1.Idx, (show BitVec 32 from a.1 1 e) = 32#32)
  (m : (ℓ : Loc nD τ sig) → Buf (Elt Ideal) ℓ) (c : Dev nD)

/-- The arguments. -/
abbrev tokens : S16384x2048.Idx → EReal := m ((c : Thread nD τ).loc main_arg0)
abbrev gains : S2x2048.Idx → EReal := m ((c : Thread nD τ).loc main_arg1)
abbrev nextGains : S2x2048.Idx → EReal := m ((c : Thread nD τ).loc main_arg2)
abbrev gates : S2048x5632.Idx → EReal := m ((c : Thread nD τ).loc main_arg3)
abbrev ups : S2048x5632.Idx → EReal := m ((c : Thread nD τ).loc main_arg4)
abbrev outs : S5632x2048.Idx → EReal := m ((c : Thread nD τ).loc main_arg5)

/-- The side array, flattened to rows. -/
def side : S57344x2048.Idx → EReal :=
  shapeCast S57344x2048 (shapeCast S8x7168x2048 (m ((c : Thread nD τ).loc main_arg6)) shapeCasts_S1x8x7168x2048_S8x7168x2048) shapeCasts_S8x7168x2048_S57344x2048

theorem side_eq : V m c main_v1 = side m c := by
  show StableHlo.after hostOps0 (fun b => m (c, b)) main_v1 = _
  after_results
  rfl

theorem gains_eq : V m c main_v12 = shapeCast S1x2048 (shapeCast S2048 (extractStridedSlice S1x2048 ![0, 0] (gains m c) slices_S2x2048_S1x2048_0_0) shapeCasts_S1x2048_S2048) shapeCasts_S2048_S1x2048 := by
  show StableHlo.after hostOps0 (fun b => m (c, b)) main_v12 = _
  after_results
  rfl

theorem next_gains_eq : V m c main_v13 = shapeCast S1x2048 (shapeCast S2048 (extractStridedSlice S1x2048 ![1, 0] (nextGains m c) slices_S2x2048_S1x2048_1_0) shapeCasts_S1x2048_S2048) shapeCasts_S2048_S1x2048 := by
  show StableHlo.after hostOps0 (fun b => m (c, b)) main_v13 = _
  after_results
  rfl

theorem gates_eq : V m c main_v6 = broadcastInDim S1x2048x5632 ![1, 2] bcast_S2048x5632_S1x2048x5632_1_2 (gates m c) := by
  show StableHlo.after hostOps0 (fun b => m (c, b)) main_v6 = _
  after_results

theorem ups_eq : V m c main_v7 = broadcastInDim S1x2048x5632 ![1, 2] bcast_S2048x5632_S1x2048x5632_1_2 (ups m c) := by
  show StableHlo.after hostOps0 (fun b => m (c, b)) main_v7 = _
  after_results

theorem outs_eq : V m c main_v8 = broadcastInDim S1x5632x2048 ![1, 2] bcast_S5632x2048_S1x5632x2048_1_2 (outs m c) := by
  show StableHlo.after hostOps0 (fun b => m (c, b)) main_v8 = _
  after_results

/-- A row of gains cut out and given a leading axis. -/
theorem cut_gain (o : Fin 2) (y : S2x2048.Idx → EReal) (hs : S2x2048.Slices ![o.val, 0] S1x2048) (j : Fin 2048) :
    shapeCast S1x2048 (shapeCast S2048 (extractStridedSlice S1x2048 ![o.val, 0] y hs) shapeCasts_S1x2048_S2048) shapeCasts_S2048_S1x2048 (ix2 (0 : Fin 1) j) = y (ix2 o j) := by
  refine (shapeCast_apply _ shapeCasts_S2048_S1x2048 _ (ix1 j) ?_).trans ((shapeCast_apply _ shapeCasts_S1x2048_S2048 _ (ix2 (0 : Fin 1) j) ?_).trans ?_)
  · rw [Shape.rowMajor_val_one, Shape.rowMajor_val_two]
    show j.val = 0 * 2048 + j.val
    simp only [Nat.zero_mul, Nat.zero_add]
  · rw [Shape.rowMajor_val_one, Shape.rowMajor_val_two]
    show 0 * 2048 + j.val = j.val
    simp only [Nat.zero_mul, Nat.zero_add]
  · refine extractStridedSlice_apply ![o.val, 0] y hs (ix2 (0 : Fin 1) j) (ix2 o j) (fun ax => ?_)
    match ax with
    | ⟨0, _⟩ => rfl
    | ⟨1, _⟩ => exact (Nat.zero_add _).symm

/-! ## Where the blocks lie -/

include h1 in
theorem used_read (hb) (h : S1.numel = 1) : (a.1.at 1 (Rect.unit (s := S1) ![0] S1.size hb) h : BitVec 32) = 32#32 := h1 _

variable (t : Fin (cfgA a).N)

include h1 in
theorem index0 : ((cfgA a).win (0 : Fin 10)).index t 0 = t.val / 11 := by
  have h : t.val < 352 := t.isLt
  show (Scalar.maxsi (Scalar.minsi (BitVec.ofNat 32 ((crd a t) 0).val) (Scalar.subi (a.1.at 1 _ _ : BitVec 32) 1#32)) 0#32 : BitVec 32).toNat = _
  rw [used_read a h1, crd_tile]
  exact limit_used _ (by omega) _ (by rw [show (32#32 : BitVec 32).toInt = 32 from by decide]; omega)

include h1 in
/-- Every tile is used, so the column step is the point's own. -/
theorem column : (Scalar.select (Scalar.cmpi .slt (BitVec.ofNat 32 ((crd a t) 0).val) (a.1.at 1 (Rect.unit (s := S1) ![0] S1.size inb_S1_S1_0) numel1_S1 : BitVec 32))
    (BitVec.ofNat 32 ((crd a t) 1).val) 10#32 : BitVec 32).toNat = t.val % 11 := by
  have h : t.val < 352 := t.isLt
  rw [used_read a h1, crd_tile, crd_step]
  have hc : Scalar.cmpi .slt (BitVec.ofNat 32 (t.val / 11)) 32#32 = 1#1 :=
    IntOp.cmpi_slt.2 (by rw [toInt_small _ (by omega), show (32#32 : BitVec 32).toInt = 32 from by decide]; omega)
  rw [hc]
  show (BitVec.ofNat 32 (t.val % 11)).toNat = _
  rw [BitVec.toNat_ofNat]; omega

include h0 in
theorem index3_0 : ((cfgA a).win (3 : Fin 10)).index t 0 = 0 := congrArg BitVec.toNat (h0 _)
include h0 in
theorem index4_0 : ((cfgA a).win (4 : Fin 10)).index t 0 = 0 := congrArg BitVec.toNat (h0 _)
include h0 in
theorem index5_0 : ((cfgA a).win (5 : Fin 10)).index t 0 = 0 := congrArg BitVec.toNat (h0 _)
include h1 in
theorem index3_2 : ((cfgA a).win (3 : Fin 10)).index t 2 = t.val % 11 := column a h1 t
include h1 in
theorem index4_2 : ((cfgA a).win (4 : Fin 10)).index t 2 = t.val % 11 := column a h1 t
include h1 in
theorem index5_1 : ((cfgA a).win (5 : Fin 10)).index t 1 = t.val % 11 := column a h1 t

theorem index7_0 : ((cfgA a).win (7 : Fin 10)).index t 0 = t.val / 11 := by
  have h : t.val < 352 := t.isLt
  show (BitVec.ofNat 32 ((crd a t) 0).val).toNat = _
  rw [crd_tile, BitVec.toNat_ofNat]; omega

theorem index8_0 : ((cfgA a).win (8 : Fin 10)).index t 0 = t.val / 11 := by
  have h : t.val < 352 := t.isLt
  show (BitVec.ofNat 32 ((crd a t) 0).val).toNat = _
  rw [crd_tile, BitVec.toNat_ofNat]; omega

/-- The side blocks a point reads and writes. -/
theorem side_in : ∀ t : Fin grid0.N, cc0_transform_6 (grid0.coords t) 0 = t.val * 256 / 352 := by decide +kernel
theorem side_out : ∀ t : Fin grid0.N, cc0_transform_9 (grid0.coords t) 0 = t.val * 256 / 352 := by decide +kernel

theorem index6_0 : ((cfgA a).win (6 : Fin 10)).index t 0 = t.val * 256 / 352 := side_in t
theorem index9_0 : ((cfgA a).win (9 : Fin 10)).index t 0 = t.val * 256 / 352 := side_out t

/-! ## The blocks -/

/-- The token of a row of a point's tile. -/
def tokenAt (r : Fin 512) : Fin 16384 := ⟨t.val / 11 * 512 + r.val, by have h : t.val < 352 := t.isLt; omega⟩

/-- The hidden column of a column of a point's step. -/
def colAt (k : Fin 512) : Fin 5632 := ⟨t.val % 11 * 512 + k.val, by omega⟩

include h1 in
theorem rowsBlk_apply (r : Fin 512) (k : Fin 2048) : rowsBlk a m c t (ix2 r k) = tokens m c (ix2 (tokenAt a t r) k) := by
  refine Eq.trans ?_ (congrFun (V_main_arg0 m c) (ix2 (tokenAt a t r) k))
  unfold rowsBlk iblk
  refine (View.read_apply _ _).trans ?_
  show V m c main_arg0 _ = _
  refine congrArg (V m c main_arg0) (funext fun ax => Fin.ext ?_)
  refine (((cfgA a).win (0 : Fin 10)).rect_emb_val t (ix2 r k) ax).trans ?_
  match ax with
  | ⟨0, _⟩ => exact congrArg (· * 512 + r.val) (index0 a h1 t)
  | ⟨1, _⟩ => exact Nat.zero_add _

theorem gainBlk_apply (j : Fin 2048) : gainBlk a m c t (ix2 0 j) = gains m c (ix2 0 j) := by
  have e : gainBlk a m c t (ix2 0 j) = V m c main_v12 (ix2 (0 : Fin 1) j) := by
    unfold gainBlk iblk
    refine (View.read_apply _ _).trans ?_
    show V m c main_v12 _ = _
    refine congrArg (V m c main_v12) (funext fun ax => Fin.ext ?_)
    refine (((cfgA a).win (1 : Fin 10)).rect_emb_val t (ix2 0 j) ax).trans ?_
    match ax with
    | ⟨0, _⟩ => rfl
    | ⟨1, _⟩ => exact Nat.zero_add _
  rw [e, gains_eq]
  exact cut_gain 0 (gains m c) slices_S2x2048_S1x2048_0_0 j

theorem nextGain_apply (j : Fin 2048) : nextGain a m c t (ix2 0 j) = nextGains m c (ix2 1 j) := by
  have e : nextGain a m c t (ix2 0 j) = V m c main_v13 (ix2 (0 : Fin 1) j) := by
    unfold nextGain iblk
    refine (View.read_apply _ _).trans ?_
    show V m c main_v13 _ = _
    refine congrArg (V m c main_v13) (funext fun ax => Fin.ext ?_)
    refine (((cfgA a).win (2 : Fin 10)).rect_emb_val t (ix2 0 j) ax).trans ?_
    match ax with
    | ⟨0, _⟩ => rfl
    | ⟨1, _⟩ => exact Nat.zero_add _
  rw [e, next_gains_eq]
  exact cut_gain 1 (nextGains m c) slices_S2x2048_S1x2048_1_0 j

include h0 h1 in
theorem gateBlk_apply (k : Fin 2048) (f : Fin 512) : gateBlk a m c t (ix3 0 k f) = gates m c (ix2 k (colAt a t f)) := by
  have e : gateBlk a m c t (ix3 0 k f) = V m c main_v6 (ix3 (0 : Fin 1) k (colAt a t f)) := by
    unfold gateBlk iblk
    refine (View.read_apply _ _).trans ?_
    show V m c main_v6 _ = _
    refine congrArg (V m c main_v6) (funext fun ax => Fin.ext ?_)
    refine (((cfgA a).win (3 : Fin 10)).rect_emb_val t (ix3 0 k f) ax).trans ?_
    match ax with
    | ⟨0, _⟩ => exact congrArg (· * 1 + 0) (index3_0 a h0 t)
    | ⟨1, _⟩ => exact Nat.zero_add _
    | ⟨2, _⟩ => exact congrArg (· * 512 + f.val) (index3_2 a h1 t)
  rw [e, gates_eq]
  exact broadcastInDim_apply _ _ _ _ (ix2 k (colAt a t f)) (fun ax => by match ax with | ⟨0, _⟩ => rfl | ⟨1, _⟩ => rfl)

include h0 h1 in
theorem upBlk_apply (k : Fin 2048) (f : Fin 512) : upBlk a m c t (ix3 0 k f) = ups m c (ix2 k (colAt a t f)) := by
  have e : upBlk a m c t (ix3 0 k f) = V m c main_v7 (ix3 (0 : Fin 1) k (colAt a t f)) := by
    unfold upBlk iblk
    refine (View.read_apply _ _).trans ?_
    show V m c main_v7 _ = _
    refine congrArg (V m c main_v7) (funext fun ax => Fin.ext ?_)
    refine (((cfgA a).win (4 : Fin 10)).rect_emb_val t (ix3 0 k f) ax).trans ?_
    match ax with
    | ⟨0, _⟩ => exact congrArg (· * 1 + 0) (index4_0 a h0 t)
    | ⟨1, _⟩ => exact Nat.zero_add _
    | ⟨2, _⟩ => exact congrArg (· * 512 + f.val) (index4_2 a h1 t)
  rw [e, ups_eq]
  exact broadcastInDim_apply _ _ _ _ (ix2 k (colAt a t f)) (fun ax => by match ax with | ⟨0, _⟩ => rfl | ⟨1, _⟩ => rfl)

include h0 h1 in
theorem outBlk_apply (f : Fin 512) (d : Fin 2048) : outBlk a m c t (ix3 0 f d) = outs m c (ix2 (colAt a t f) d) := by
  have e : outBlk a m c t (ix3 0 f d) = V m c main_v8 (ix3 (0 : Fin 1) (colAt a t f) d) := by
    unfold outBlk iblk
    refine (View.read_apply _ _).trans ?_
    show V m c main_v8 _ = _
    refine congrArg (V m c main_v8) (funext fun ax => Fin.ext ?_)
    refine (((cfgA a).win (5 : Fin 10)).rect_emb_val t (ix3 0 f d) ax).trans ?_
    match ax with
    | ⟨0, _⟩ => exact congrArg (· * 1 + 0) (index5_0 a h0 t)
    | ⟨1, _⟩ => exact congrArg (· * 512 + f.val) (index5_1 a h1 t)
    | ⟨2, _⟩ => exact Nat.zero_add _
  rw [e, outs_eq]
  exact broadcastInDim_apply _ _ _ _ (ix2 (colAt a t f) d) (fun ax => by match ax with | ⟨0, _⟩ => rfl | ⟨1, _⟩ => rfl)

/-! ## The running sum -/

/-- The layer's functions of this launch's arrays. -/
abbrev partAt : Fin 16384 → Fin 2048 → Fin 5632 → EReal := part (tokens m c) (gains m c) (gates m c) (ups m c) (outs m c)
abbrev sumsAt : Fin 16384 → Fin 2048 → EReal := sums (tokens m c) (gains m c) (gates m c) (ups m c) (outs m c)
abbrev normedAt : Fin 16384 → Fin 2048 → EReal := normed (tokens m c) (gains m c) (nextGains m c) (gates m c) (ups m c) (outs m c)

include h1 in
theorem xbAt_apply (r : Fin 512) (k : Fin 2048) : xbAt a m c t (ix2 r k) = hidden (tokens m c) (gains m c) (tokenAt a t r) k := by
  unfold xbAt
  refine (pay2_apply _ _ r k).trans ?_
  unfold Cert.DenseMath.hidden
  exact congrArg₂ (fun row gain => scaled row k gain) (funext fun q => rowsBlk_apply a h1 m c t r q) (gainBlk_apply a m c t k)

include h0 h1 in
/-- One point adds the parts of its 512 hidden columns. -/
theorem step_apply (y : S512x2048.Idx → EReal) (r : Fin 512) (d : Fin 2048) :
    step a m c t y (ix2 r d) = oldX (F := Ideal) (crd a t) (rowsBlk a m c t) y (ix2 r d) + ∑ k : Fin 512, partAt m c (tokenAt a t r) d (colAt a t k) := by
  unfold step
  refine (pay3_apply _ _ _ _ _ r d).trans (congrArg (_ + ·) ?_)
  unfold rowChunk
  refine Finset.sum_congr rfl fun k _ => ?_
  rw [outBlk_apply a h0 h1 m c t k d]
  simp only [xbAt_apply a h1 m c t, gateBlk_apply a h0 h1 m c t, upBlk_apply a h0 h1 m c t]
  rfl

include h0 h1 in
/-- After step `j` of tile `i` a row holds its token's entry and the parts of the steps so far. -/
theorem acc_apply (i : Fin 32) (r : Fin 512) (d : Fin 2048) : ∀ (j : ℕ) (hj : j < 11) (h : i.val * 11 + j < (cfgA a).N),
    accAt a m c (i.val * 11 + j) h (ix2 r d) = tokens m c (ix2 ⟨i.val * 512 + r.val, by omega⟩ d)
      + ∑ s ∈ (Finset.univ : Finset (Fin 11)).filter (fun s => s.val ≤ j), ∑ k : Fin 512, partAt m c ⟨i.val * 512 + r.val, by omega⟩ d ⟨s.val * 512 + k.val, by omega⟩ := by
  have hstep : ∀ (j : ℕ) (hj : j < 11) (h : i.val * 11 + j < (cfgA a).N) (y : S512x2048.Idx → EReal),
      step a m c ⟨i.val * 11 + j, h⟩ y (ix2 r d) = oldX (F := Ideal) (crd a ⟨i.val * 11 + j, h⟩) (rowsBlk a m c ⟨i.val * 11 + j, h⟩) y (ix2 r d)
        + ∑ k : Fin 512, partAt m c ⟨i.val * 512 + r.val, by omega⟩ d ⟨j * 512 + k.val, by omega⟩ := by
    intro j hj h y
    have ht : tokenAt a ⟨i.val * 11 + j, h⟩ r = ⟨i.val * 512 + r.val, by omega⟩ :=
      Fin.ext (by show (i.val * 11 + j) / 11 * 512 + r.val = i.val * 512 + r.val; omega)
    have hm : (i.val * 11 + j) % 11 = j := by omega
    rw [step_apply a h0 h1 m c ⟨i.val * 11 + j, h⟩ y r d, ht]
    refine congrArg (_ + ·) (Finset.sum_congr rfl fun k _ => ?_)
    exact congrArg (partAt m c _ d) (Fin.ext (congrArg (· * 512 + k.val) hm))
  intro j
  induction j with
  | zero =>
    intro hj h
    rw [accAt_eq a m c ⟨i.val * 11 + 0, h⟩, hstep 0 hj h]
    unfold oldX
    rw [if_pos ((first_iff a _).2 (by show (i.val * 11 + 0) % 11 = 0; omega)), rowsBlk_apply a h1]
    rw [show (Finset.univ : Finset (Fin 11)).filter (fun s => s.val ≤ 0) = {0} from by decide, Finset.sum_singleton]
    refine congrArg (fun b : EReal => b + _) (congrArg (fun z => tokens m c (ix2 z d)) (Fin.ext ?_))
    show (i.val * 11 + 0) / 11 * 512 + r.val = i.val * 512 + r.val
    omega
  | succ j ih =>
    intro hj h
    have ih' := ih (by omega) (by omega)
    show accAt a m c (⟨i.val * 11 + (j + 1), h⟩ : Fin (cfgA a).N).val _ (ix2 r d) = _
    rw [accAt_eq a m c ⟨i.val * 11 + (j + 1), h⟩, hstep (j + 1) hj h]
    unfold oldX
    rw [if_neg (fun h1 => by have h2 := (first_iff a _).1 h1; have h3 : (i.val * 11 + (j + 1)) % 11 = 0 := h2; omega)]
    unfold accBefore
    rw [dif_neg (by show ¬ i.val * 11 + (j + 1) = 0; omega)]
    have hb : accAt a m c (i.val * 11 + (j + 1) - 1) (by omega) (ix2 r d) = accAt a m c (i.val * 11 + j) (by omega) (ix2 r d) := rfl
    refine (congrArg (· + _) (hb.trans ih')).trans ?_
    rw [show (Finset.univ : Finset (Fin 11)).filter (fun s => s.val ≤ j + 1) = insert ⟨j + 1, hj⟩ ((Finset.univ : Finset (Fin 11)).filter (fun s => s.val ≤ j)) from by
      ext s; simp only [Finset.mem_filter, Finset.mem_univ, true_and, Finset.mem_insert, Fin.ext_iff]; omega]
    rw [Finset.sum_insert (by simp), add_assoc, add_comm (∑ s ∈ _, _)]

include h0 h1 in
/-- At a tile's last point a row holds its layer's sum. -/
theorem acc_last (ht : t.val % 11 = 10) (r : Fin 512) (d : Fin 2048) : accAt a m c t.val t.isLt (ix2 r d) = sumsAt m c (tokenAt a t r) d := by
  have hN : t.val < 352 := t.isLt
  have hi : t.val / 11 < 32 := by omega
  have hv : t.val / 11 * 11 + 10 = t.val := by omega
  have key : ∀ (n : ℕ) (hn : n < (cfgA a).N), n = t.val / 11 * 11 + 10 → accAt a m c n hn (ix2 r d) = sumsAt m c (tokenAt a t r) d := by
    intro n hn e
    subst e
    refine (acc_apply a h0 h1 m c ⟨t.val / 11, hi⟩ r d 10 (by omega) hn).trans ?_
    unfold sumsAt sums
    refine congrArg₂ (fun b e : EReal => b + e) rfl ?_
    rw [Cert.DenseMath.sum_steps]
    exact Finset.sum_congr (Finset.filter_true_of_mem fun s _ => by omega) fun s _ => rfl
  exact key t.val t.isLt hv.symm

include h0 h1 in
theorem norm_last (ht : t.val % 11 = 10) (r : Fin 512) (d : Fin 2048) : normAt a m c t (ix2 r d) = normedAt m c (tokenAt a t r) d := by
  unfold normAt
  refine (pay4_apply _ _ r d).trans ?_
  unfold normedAt Cert.DenseMath.normed
  exact congrArg₂ (fun row gain => scaled row d gain) (funext fun q => acc_last a h0 h1 m c t ht r q) (nextGain_apply a m c t d)

/-! ## The arrays after the run -/

include h0 h1 in
/-- The sums. -/
theorem final_sums : (dats a m 0 c).arrAt (7 : Fin 10) (cfgA a).N = fun i : S16384x2048.Idx => sumsAt m c ⟨(i 0).val, (i 0).isLt⟩ ⟨(i 1).val, (i 1).isLt⟩ := by
  refine (dats a m 0 c).arrAt_eq_of_cover (7 : Fin 10) (fun i : S16384x2048.Idx => sumsAt m c ⟨(i 0).val, (i 0).isLt⟩ ⟨(i 1).val, (i 1).isLt⟩) (fun t hf => ?_) (fun i => ?_)
  · rw [flush7_eq, decide_eq_true_eq] at hf
    have ht : t.val % 11 = 10 := by omega
    funext y
    have hy0 : (y 0).val < 512 := (y 0).isLt
    have hy1 : (y 1).val < 2048 := (y 1).isLt
    have hx : ((cfgA a).win (7 : Fin 10)).xinj (grid0.coords t) y = ix2 (⟨(y 0).val, hy0⟩ : Fin 512) (⟨(y 1).val, hy1⟩ : Fin 2048) := by
      funext ax
      match ax with
      | ⟨0, _⟩ => rfl
      | ⟨1, _⟩ => rfl
    show accAt a m c t.val t.isLt (((cfgA a).win (7 : Fin 10)).xinj (grid0.coords t) y) = sumsAt m c ⟨((((cfgA a).win (7 : Fin 10)).blk t).view.emb y 0).val, _⟩ ⟨((((cfgA a).win (7 : Fin 10)).blk t).view.emb y 1).val, _⟩
    refine (congrArg (accAt a m c t.val t.isLt) hx).trans ((acc_last a h0 h1 m c t ht _ _).trans ?_)
    have hb0 : ((((cfgA a).win (7 : Fin 10)).blk t).view.emb y 0).val = ((cfgA a).win (7 : Fin 10)).index t 0 * 512 + 1 * (y 0).val := rfl
    have hb1 : ((((cfgA a).win (7 : Fin 10)).blk t).view.emb y 1).val = 0 * 2048 + 1 * (y 1).val := rfl
    refine congrArg₂ (sumsAt m c) (Fin.ext ?_) (Fin.ext ?_)
    · exact Eq.trans (by show t.val / 11 * 512 + (y 0).val = _; rw [index7_0, Nat.one_mul]) hb0.symm
    · exact Eq.trans (by show (y 1).val = _; rw [Nat.one_mul, Nat.zero_mul, Nat.zero_add]) hb1.symm
  · have h0 : (i 0).val < 16384 := (i 0).isLt
    have h1 : (i 1).val < 2048 := (i 1).isLt
    have hlt : (i 0).val / 512 * 11 + 10 < 352 := by omega
    refine ⟨⟨(i 0).val / 512 * 11 + 10, hlt⟩, ?_, ?_⟩
    · rw [flush7_eq, decide_eq_true_eq]
      show ((i 0).val / 512 * 11 + 10 + 1) % 11 = 0
      omega
    · have e0 := index7_0 a ⟨(i 0).val / 512 * 11 + 10, hlt⟩
      have e0' : ((cfgA a).win (7 : Fin 10)).index ⟨(i 0).val / 512 * 11 + 10, hlt⟩ 0 = (i 0).val / 512 := e0.trans (by show ((i 0).val / 512 * 11 + 10) / 11 = _; omega)
      show i ∈ ((View.whole main_v14_0).slice (((cfgA a).win (7 : Fin 10)).rect ⟨(i 0).val / 512 * 11 + 10, hlt⟩)).set
      rw [View.set_slice_whole, Rect.mem_set_unit]
      intro ax
      match ax with
      | ⟨0, _⟩ =>
        show ((cfgA a).win (7 : Fin 10)).index ⟨(i 0).val / 512 * 11 + 10, hlt⟩ 0 * 512 ≤ (i 0).val ∧ (i 0).val < ((cfgA a).win (7 : Fin 10)).index ⟨(i 0).val / 512 * 11 + 10, hlt⟩ 0 * 512 + 512
        rw [e0']; omega
      | ⟨1, _⟩ => show 0 * 2048 ≤ (i 1).val ∧ (i 1).val < 0 * 2048 + 2048; omega

include h0 h1 in
/-- The normed sums. -/
theorem final_normed : (dats a m 0 c).arrAt (8 : Fin 10) (cfgA a).N = fun i : S16384x2048.Idx => normedAt m c ⟨(i 0).val, (i 0).isLt⟩ ⟨(i 1).val, (i 1).isLt⟩ := by
  refine (dats a m 0 c).arrAt_eq_of_cover (8 : Fin 10) (fun i : S16384x2048.Idx => normedAt m c ⟨(i 0).val, (i 0).isLt⟩ ⟨(i 1).val, (i 1).isLt⟩) (fun t hf => ?_) (fun i => ?_)
  · rw [flush8_eq, decide_eq_true_eq] at hf
    have ht : t.val % 11 = 10 := by omega
    funext y
    have hy0 : (y 0).val < 512 := (y 0).isLt
    have hy1 : (y 1).val < 2048 := (y 1).isLt
    have hx : ((cfgA a).win (8 : Fin 10)).xinj (grid0.coords t) y = ix2 (⟨(y 0).val, hy0⟩ : Fin 512) (⟨(y 1).val, hy1⟩ : Fin 2048) := by
      funext ax
      match ax with
      | ⟨0, _⟩ => rfl
      | ⟨1, _⟩ => rfl
    show normAt a m c t (((cfgA a).win (8 : Fin 10)).xinj (grid0.coords t) y) = normedAt m c ⟨((((cfgA a).win (8 : Fin 10)).blk t).view.emb y 0).val, _⟩ ⟨((((cfgA a).win (8 : Fin 10)).blk t).view.emb y 1).val, _⟩
    refine (congrArg (normAt a m c t) hx).trans ((norm_last a h0 h1 m c t ht _ _).trans ?_)
    have hb0 : ((((cfgA a).win (8 : Fin 10)).blk t).view.emb y 0).val = ((cfgA a).win (8 : Fin 10)).index t 0 * 512 + 1 * (y 0).val := rfl
    have hb1 : ((((cfgA a).win (8 : Fin 10)).blk t).view.emb y 1).val = 0 * 2048 + 1 * (y 1).val := rfl
    refine congrArg₂ (normedAt m c) (Fin.ext ?_) (Fin.ext ?_)
    · exact Eq.trans (by show t.val / 11 * 512 + (y 0).val = _; rw [index8_0, Nat.one_mul]) hb0.symm
    · exact Eq.trans (by show (y 1).val = _; rw [Nat.one_mul, Nat.zero_mul, Nat.zero_add]) hb1.symm
  · have h0 : (i 0).val < 16384 := (i 0).isLt
    have h1 : (i 1).val < 2048 := (i 1).isLt
    have hlt : (i 0).val / 512 * 11 + 10 < 352 := by omega
    refine ⟨⟨(i 0).val / 512 * 11 + 10, hlt⟩, ?_, ?_⟩
    · rw [flush8_eq, decide_eq_true_eq]
      show ((i 0).val / 512 * 11 + 10 + 1) % 11 = 0
      omega
    · have e0 := index8_0 a ⟨(i 0).val / 512 * 11 + 10, hlt⟩
      have e0' : ((cfgA a).win (8 : Fin 10)).index ⟨(i 0).val / 512 * 11 + 10, hlt⟩ 0 = (i 0).val / 512 := e0.trans (by show ((i 0).val / 512 * 11 + 10) / 11 = _; omega)
      show i ∈ ((View.whole main_v14_1).slice (((cfgA a).win (8 : Fin 10)).rect ⟨(i 0).val / 512 * 11 + 10, hlt⟩)).set
      rw [View.set_slice_whole, Rect.mem_set_unit]
      intro ax
      match ax with
      | ⟨0, _⟩ =>
        show ((cfgA a).win (8 : Fin 10)).index ⟨(i 0).val / 512 * 11 + 10, hlt⟩ 0 * 512 ≤ (i 0).val ∧ (i 0).val < ((cfgA a).win (8 : Fin 10)).index ⟨(i 0).val / 512 * 11 + 10, hlt⟩ 0 * 512 + 512
        rw [e0']; omega
      | ⟨1, _⟩ => show 0 * 2048 ≤ (i 1).val ∧ (i 1).val < 0 * 2048 + 2048; omega

/-- The body's copy of a side block is the block. -/
theorem pay1_apply (v : FVec Ideal S224x2048 .f32) (y : S224x2048.Idx) : k0_pay1 (F := Ideal) v y = v y := by
  unfold k0_pay1
  exact congrFun (same_shape v shapeCasts_S224x2048_S224x2048) y

/-- The side row of a row of a point's side block. -/
def sideRow (r : Fin 224) : Fin 57344 := ⟨t.val * 256 / 352 * 224 + r.val, by have h : t.val < 352 := t.isLt; omega⟩

theorem sideBlk_apply (r : Fin 224) (k : Fin 2048) : sideBlk a m c t (ix2 r k) = side m c (ix2 (sideRow a t r) k) := by
  refine Eq.trans ?_ (congrFun (side_eq m c) (ix2 (sideRow a t r) k))
  unfold sideBlk iblk
  refine (View.read_apply _ _).trans ?_
  show V m c main_v1 _ = _
  refine congrArg (V m c main_v1) (funext fun ax => Fin.ext ?_)
  refine (((cfgA a).win (6 : Fin 10)).rect_emb_val t (ix2 r k) ax).trans ?_
  match ax with
  | ⟨0, _⟩ => exact congrArg (· * 224 + r.val) (index6_0 a t)
  | ⟨1, _⟩ => exact Nat.zero_add _

theorem sideAt_apply (r : Fin 224) (k : Fin 2048) : sideAt a m c t (ix2 r k) = side m c (ix2 (sideRow a t r) k) := by
  unfold sideAt
  exact (pay1_apply _ _).trans (sideBlk_apply a m c t r k)

/-- The last grid point of a side block, and the point after it. -/
theorem last_point (k : Nat) : ((k + 1) * 352 - 1) / 256 * 256 / 352 = k := by omega

theorem next_point (k : Nat) : (((k + 1) * 352 - 1) / 256 + 1) * 256 / 352 ≠ k := by omega

/-- The side array's rounded copy: at extended reals, the side array. -/
theorem final_side : (dats a m 0 c).arrAt (9 : Fin 10) (cfgA a).N = side m c := by
  generalize hX : side m c = X
  refine (dats a m 0 c).arrAt_eq_of_cover (9 : Fin 10) X (fun t _ => ?_) (fun i => ?_)
  · funext y
    have hy0 : (y 0).val < 224 := (y 0).isLt
    have hy1 : (y 1).val < 2048 := (y 1).isLt
    have hx : ((cfgA a).win (9 : Fin 10)).xinj (grid0.coords t) y = ix2 (⟨(y 0).val, hy0⟩ : Fin 224) (⟨(y 1).val, hy1⟩ : Fin 2048) := by
      funext ax
      match ax with
      | ⟨0, _⟩ => rfl
      | ⟨1, _⟩ => rfl
    show sideAt a m c t (((cfgA a).win (9 : Fin 10)).xinj (grid0.coords t) y) = X ((((cfgA a).win (9 : Fin 10)).blk t).view.emb y)
    refine (congrArg (sideAt a m c t) hx).trans ((sideAt_apply a m c t _ _).trans ?_)
    rw [hX]
    have hb0 : ((((cfgA a).win (9 : Fin 10)).blk t).view.emb y 0).val = ((cfgA a).win (9 : Fin 10)).index t 0 * 224 + 1 * (y 0).val := rfl
    have hb1 : ((((cfgA a).win (9 : Fin 10)).blk t).view.emb y 1).val = 0 * 2048 + 1 * (y 1).val := rfl
    refine congrArg X (funext fun ax => Fin.ext ?_)
    match ax with
    | ⟨0, _⟩ => exact Eq.trans (by show t.val * 256 / 352 * 224 + (y 0).val = _; rw [index9_0, Nat.one_mul]) hb0.symm
    | ⟨1, _⟩ => exact Eq.trans (by show (y 1).val = _; rw [Nat.one_mul, Nat.zero_mul, Nat.zero_add]) hb1.symm
  · have h0 : (i 0).val < 57344 := (i 0).isLt
    have h1 : (i 1).val < 2048 := (i 1).isLt
    have hlt : (((i 0).val / 224 + 1) * 352 - 1) / 256 < 352 := by omega
    have e0 : ∀ t : Fin (cfgA a).N, ((cfgA a).win (9 : Fin 10)).index t 0 = t.val * 256 / 352 := fun t => index9_0 a t
    refine ⟨⟨(((i 0).val / 224 + 1) * 352 - 1) / 256, hlt⟩, ?_, ?_⟩
    · unfold Window.flush
      rw [show ((cfgA a).win (9 : Fin 10)).isOut = true from rfl, Bool.true_and, Bool.or_eq_true]
      by_cases hl : (((i 0).val / 224 + 1) * 352 - 1) / 256 + 1 = 352
      · left
        exact decide_eq_true hl
      · right
        have hl' : (((i 0).val / 224 + 1) * 352 - 1) / 256 + 1 < 352 := by omega
        rw [decide_eq_true_eq]
        refine ⟨hl', fun e => ?_⟩
        have hn := (e0 _).symm.trans ((congrFun e 0).trans (e0 _))
        have hn' : ((((i 0).val / 224 + 1) * 352 - 1) / 256 + 1) * 256 / 352 = (((i 0).val / 224 + 1) * 352 - 1) / 256 * 256 / 352 := by
          first | exact hn | exact hn.symm
        exact absurd (hn'.trans (last_point _)) (next_point _)
    · have e0' : ((cfgA a).win (9 : Fin 10)).index ⟨(((i 0).val / 224 + 1) * 352 - 1) / 256, hlt⟩ 0 = (i 0).val / 224 :=
        (e0 _).trans (last_point _)
      show i ∈ ((View.whole main_v14_2).slice (((cfgA a).win (9 : Fin 10)).rect ⟨(((i 0).val / 224 + 1) * 352 - 1) / 256, hlt⟩)).set
      rw [View.set_slice_whole, Rect.mem_set_unit]
      intro ax
      match ax with
      | ⟨0, _⟩ =>
        show ((cfgA a).win (9 : Fin 10)).index ⟨(((i 0).val / 224 + 1) * 352 - 1) / 256, hlt⟩ 0 * 224 ≤ (i 0).val ∧ (i 0).val < ((cfgA a).win (9 : Fin 10)).index ⟨(((i 0).val / 224 + 1) * 352 - 1) / 256, hlt⟩ 0 * 224 + 224
        rw [e0']; omega
      | ⟨1, _⟩ => show 0 * 2048 ≤ (i 1).val ∧ (i 1).val < 0 * 2048 + 2048; omega

end Cert.DenseIdeal.Layer

end
-- ==== Proof.Dense.Equal.lean ====
/- The dense SwiGLU between its two norms: the call, its run read, and its reference end with equal results. -/
module

public import proofs.«01_k».proof.Proof.Dense.Ref
public import proofs.«01_k».proof.Proof.Dense.Value
public import proofs.«01_k».proof.Proof.Gen.Dense
public import proofs.«01_k».proof.Proof.Gen.DenseReferenceIdeal.Run

@[expose] public section

set_option maxRecDepth 16384
set_option Elab.async false

noncomputable section
namespace Cert.DenseLayer

open Idealize.ShloMosaic hiding ix1 ix2 ix3 ix4
open Idealize.ShloMosaic.ValueIdx Idealize.ShloMosaic.TcCoe
open Idealize.SL.Sem

section written

variable {F : FTy → Type} [FloatOps F]

/-- The two programs' body tables run the same body. -/
theorem bodies_eq : Cert.Dense.defs₀ (F := F) = Cert.DenseIdeal.defs₀ (F := F) := by
  unfold Cert.Dense.defs₀ Cert.DenseIdeal.defs₀
  congr 1
  funext c l
  match c, l with
  | 0, (t, s) => rfl
  | ⟨_ + 1, h⟩, _ => exact absurd h (Nat.not_lt.2 (Nat.le_add_left _ _))

/-- The two programs have the same definitions. -/
theorem defs_eq : Cert.Dense.defs (F := F) = Cert.DenseIdeal.defs (F := F) :=
  congrArg (Pipeline.defs Cert.DenseIdeal.pcfgs) bodies_eq

end written

set_option maxHeartbeats 2000000 in
/-- The program as written has the text of the one read at extended reals, so its frame is that one's. -/
theorem frame_kernel : quiescent_Dense := fun m g _ => by
  rw [defs_eq]
  exact Cert.DenseIdeal.Layer.frame m g

theorem frame_ideal : quiescent_DenseIdeal := fun m g _ => Cert.DenseIdeal.Layer.frame m g

theorem frame_reference : quiescent_DenseReferenceIdeal := fun m g _ =>
  (θ_run _ _ _).mono (fun r h => ⟨fun c => (h c).2.2.2, sem_eq_zero_of_no_sems (by decide) r.2⟩) (Cert.DenseReferenceIdeal.Value.run m g)

/-- The arrays the layer ends with. -/
def sumsArr (x : (⟨2, ![16384, 2048]⟩ : Shape).Idx → EReal) (g : (⟨2, ![2, 2048]⟩ : Shape).Idx → EReal)
    (wg wu : (⟨2, ![2048, 5632]⟩ : Shape).Idx → EReal) (wo : (⟨2, ![5632, 2048]⟩ : Shape).Idx → EReal) : (⟨2, ![16384, 2048]⟩ : Shape).Idx → EReal :=
  fun i => Cert.DenseMath.sums x g wg wu wo ⟨(i 0).val, (i 0).isLt⟩ ⟨(i 1).val, (i 1).isLt⟩

def normedArr (x : (⟨2, ![16384, 2048]⟩ : Shape).Idx → EReal) (g g' : (⟨2, ![2, 2048]⟩ : Shape).Idx → EReal)
    (wg wu : (⟨2, ![2048, 5632]⟩ : Shape).Idx → EReal) (wo : (⟨2, ![5632, 2048]⟩ : Shape).Idx → EReal) : (⟨2, ![16384, 2048]⟩ : Shape).Idx → EReal :=
  fun i => Cert.DenseMath.normed x g g' wg wu wo ⟨(i 0).val, (i 0).isLt⟩ ⟨(i 1).val, (i 1).isLt⟩

section reference

open Cert.DenseReferenceIdeal Cert.DenseReferenceIdeal.Read Cert.DenseReferenceIdeal.Layer

variable (x : FVec Ideal S16384x2048 .f32) (g g' : FVec Ideal S2x2048 .f32) (wg wu : FVec Ideal S2048x5632 .bf16) (wo : FVec Ideal S5632x2048 .bf16)

theorem ref_sums : val_main_v23 (F := Ideal) x g wg wu wo = sumsArr x g wg wu wo := by
  funext i
  rw [ValueIdx.eq_ix2 i]
  exact sums_apply x g wg wu wo _ _

theorem ref_normed : val_main_v41 (F := Ideal) x g g' wg wu wo = normedArr x g g' wg wu wo := by
  funext i
  rw [ValueIdx.eq_ix2 i]
  exact normed_apply x g g' wg wu wo _ _

end reference

open Cert.DenseIdeal.Layer in
/-- The two programs agree. -/
theorem agree : algebraic_DenseIdeal_DenseReferenceIdeal := fun m g m' g' _ hargs => by
  refine ⟨fun c => sumsArr (tokens m c) (gains m c) (gates m c) (ups m c) (outs m c),
    fun c => normedArr (tokens m c) (gains m c) (nextGains m c) (gates m c) (ups m c) (outs m c),
    fun c => side m c,
    (θ_run _ _ _).mono (fun r h c => ?_) (run_value (adm m) (tabs2 m) m g (tabs_held m)),
    (θ_run _ _ _).mono (fun r h c => ?_) (Cert.DenseReferenceIdeal.Value.run m' g')⟩
  · obtain ⟨r0, r1, r2, hr⟩ := h.1 c
    exact ⟨r0.trans (final_sums (adm m) (tabs0 m) (tabs1 m) m c), r1.trans (final_normed (adm m) (tabs0 m) (tabs1 m) m c), r2.trans (final_side (adm m) m c), hr⟩
  · obtain ⟨a0, a1, a2, a3, a4, a5, a6⟩ := hargs c
    obtain ⟨r0, r1, r2, hr⟩ := h c
    refine ⟨r0.trans ?_, r1.trans ?_, r2.trans ?_, hr⟩
    · rw [Cert.DenseReferenceIdeal.Read.val_main_v23_eq, a0, a1, a3, a4, a5]
      exact ref_sums _ _ _ _ _
    · rw [Cert.DenseReferenceIdeal.Read.val_main_v41_eq, a0, a1, a2, a3, a4, a5]
      exact ref_normed _ _ _ _ _ _
    · rw [a6]
      rfl

end Cert.DenseLayer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_in_range
public import proofs.«01_k».proof.Proof.Gen.On_live_rows
public import proofs.«01_k».proof.Proof.Equal
public import proofs.«01_k».proof.Proof.Attn.Frames
public import proofs.«01_k».proof.Proof.Attn.Equal
public import proofs.«01_k».proof.Proof.Proj.RetentionIn
public import proofs.«01_k».proof.Proof.Proj.RetentionOut
public import proofs.«01_k».proof.Proof.Proj.AttentionIn
public import proofs.«01_k».proof.Proof.Proj.AttentionOut
public import proofs.«01_k».proof.Proof.RmsNorm
public import proofs.«01_k».proof.Proof.Dense.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Attention.Gen.facts, Cert.AttentionIdeal.Gen.facts, Cert.AttentionReferenceIdeal.Gen.facts,
  Cert.RetentionIn.Gen.facts, Cert.RetentionInIdeal.Gen.facts, Cert.RetentionInReferenceIdeal.Gen.facts,
  Cert.RetentionOut.Gen.facts, Cert.RetentionOutIdeal.Gen.facts, Cert.RetentionOutReferenceIdeal.Gen.facts,
  Cert.AttentionIn.Gen.facts, Cert.AttentionInIdeal.Gen.facts, Cert.AttentionInReferenceIdeal.Gen.facts,
  Cert.AttentionOut.Gen.facts, Cert.AttentionOutIdeal.Gen.facts, Cert.AttentionOutReferenceIdeal.Gen.facts,
  Cert.Norm.Gen.facts, Cert.NormIdeal.Gen.facts, Cert.NormReferenceIdeal.Gen.facts,
  Cert.Dense.Gen.facts, Cert.DenseIdeal.Gen.facts, Cert.DenseReferenceIdeal.Gen.facts,
  Cert.Pre_experts_in_range.Gen.facts, Cert.Attn.finite_facts, Cert.On_live_rows.Gen.facts,
  Cert.Equal.frame_kernel, Cert.Equal.frame_ideal, Cert.Equal.frame_reference,
  Cert.Attn.frame_kernel, Cert.Attn.frame_ideal, Cert.Attn.frame_ideal_finite, Cert.Attn.frame_reference, Cert.Attn.frame_reference_finite,
  Cert.Proj.RetentionIn.frame_kernel, Cert.Proj.RetentionIn.frame_ideal, Cert.Proj.RetentionIn.frame_reference,
  Cert.Proj.RetentionOut.frame_kernel, Cert.Proj.RetentionOut.frame_ideal, Cert.Proj.RetentionOut.frame_reference,
  Cert.Proj.AttentionIn.frame_kernel, Cert.Proj.AttentionIn.frame_ideal, Cert.Proj.AttentionIn.frame_reference,
  Cert.Proj.AttentionOut.frame_kernel, Cert.Proj.AttentionOut.frame_ideal, Cert.Proj.AttentionOut.frame_reference,
  Cert.RmsNorm.frame_kernel, Cert.RmsNorm.frame_ideal, Cert.RmsNorm.frame_reference,
  Cert.DenseLayer.frame_kernel, Cert.DenseLayer.frame_ideal, Cert.DenseLayer.frame_reference,
  trivial, Cert.Equal.agree, Cert.Attn.preserves, Cert.Attn.agree,
  trivial, Cert.Proj.RetentionIn.agree,
  trivial, Cert.Proj.RetentionOut.agree,
  trivial, Cert.Proj.AttentionIn.agree,
  trivial, Cert.Proj.AttentionOut.agree,
  trivial, Cert.RmsNorm.agree,
  trivial, Cert.DenseLayer.agree⟩

end Cert.Proof

end
